-- ==== Defs.lean ====
def Pre_Kernel [hPre_in_range : Cert.Pre_in_range.Facts] (m : (ℓ : Loc Cert.Kernel.nD Cert.Kernel.τ Cert.Kernel.sig) → Buf (Elt Bits) ℓ) : Prop :=
  ∀ c : Dev Cert.Kernel.nD,
    (Cert.Pre_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))).1 = (fun _ => 1#1)
    ∧ (Cert.Pre_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))).2.1 = (fun _ => 1#1)
    ∧ (Cert.Pre_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))).2.2 = (fun _ => 1#1)

def Pre_KernelIdeal [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).1 = (fun _ => 1#1)
    ∧ (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.1 = (fun _ => 1#1)
    ∧ (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_range [hPre_in_range : Cert.Pre_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).1 = (fun _ => 1#1)
    ∧ (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.1 = (fun _ => 1#1)
    ∧ (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2 = (fun _ => 1#1)

def Pre_Sampler (m : (ℓ : Loc Cert.Sampler.nD Cert.Sampler.τ Cert.Sampler.sig) → Buf (Elt Bits) ℓ) : Prop :=
  True

def Pre_SamplerIdeal (m : (ℓ : Loc Cert.SamplerIdeal.nD Cert.SamplerIdeal.τ Cert.SamplerIdeal.sig) → Buf (Elt Ideal) ℓ) : Prop :=
  True

def Pre_SamplerReferenceIdeal (m : (ℓ : Loc Cert.SamplerReferenceIdeal.nD Cert.SamplerReferenceIdeal.τ Cert.SamplerReferenceIdeal.sig) → Buf (Elt Ideal) ℓ) : Prop :=
  True

def Pre_Intersect (m : (ℓ : Loc Cert.Intersect.nD Cert.Intersect.τ Cert.Intersect.sig) → Buf (Elt Bits) ℓ) : Prop :=
  True

def Pre_IntersectIdeal (m : (ℓ : Loc Cert.IntersectIdeal.nD Cert.IntersectIdeal.τ Cert.IntersectIdeal.sig) → Buf (Elt Ideal) ℓ) : Prop :=
  True

def Pre_IntersectReferenceIdeal (m : (ℓ : Loc Cert.IntersectReferenceIdeal.nD Cert.IntersectReferenceIdeal.τ Cert.IntersectReferenceIdeal.sig) → Buf (Elt Ideal) ℓ) : Prop :=
  True

def quiescent_Kernel [hKernel : Cert.Kernel.Facts] [hPre_in_range : Cert.Pre_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_in_range [hReferenceIdeal : Cert.ReferenceIdeal.Facts] [hPre_in_range : Cert.Pre_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Sampler [hSampler : Cert.Sampler.Facts] : Prop :=
  ∀ (m : (ℓ : Loc Cert.Sampler.nD Cert.Sampler.τ Cert.Sampler.sig) → Buf (Elt Bits) ℓ) (g : Dev Cert.Sampler.nD → PrngReg), Pre_Sampler m →
    θ_run (Cert.Sampler.defs (F := Bits)) (onTc (τ := Cert.Sampler.τ) (Cert.Sampler.main (F := Bits))) ⟨m, fun _ => 0, g⟩ (fun r => (∀ c : Dev Cert.Sampler.nD,
      r.2.mem ((c.tc : Thread Cert.Sampler.nD Cert.Sampler.τ).loc Cert.Sampler.main_arg0) = m ((c.tc : Thread Cert.Sampler.nD Cert.Sampler.τ).loc Cert.Sampler.main_arg0)
      ∧ r.2.mem ((c.tc : Thread Cert.Sampler.nD Cert.Sampler.τ).loc Cert.Sampler.main_arg1) = m ((c.tc : Thread Cert.Sampler.nD Cert.Sampler.τ).loc Cert.Sampler.main_arg1)
      ∧ r.2.mem ((c.tc : Thread Cert.Sampler.nD Cert.Sampler.τ).loc Cert.Sampler.main_arg2) = m ((c.tc : Thread Cert.Sampler.nD Cert.Sampler.τ).loc Cert.Sampler.main_arg2)
      ∧ r.2.mem ((c.tc : Thread Cert.Sampler.nD Cert.Sampler.τ).loc Cert.Sampler.main_arg3) = m ((c.tc : Thread Cert.Sampler.nD Cert.Sampler.τ).loc Cert.Sampler.main_arg3)
      ∧ r.2.mem ((c.tc : Thread Cert.Sampler.nD Cert.Sampler.τ).loc Cert.Sampler.main_arg4) = m ((c.tc : Thread Cert.Sampler.nD Cert.Sampler.τ).loc Cert.Sampler.main_arg4))
      ∧ r.2.sem = fun _ => 0)

def quiescent_SamplerIdeal [hSamplerIdeal : Cert.SamplerIdeal.Facts] : Prop :=
  ∀ (m : (ℓ : Loc Cert.SamplerIdeal.nD Cert.SamplerIdeal.τ Cert.SamplerIdeal.sig) → Buf (Elt Ideal) ℓ) (g : Dev Cert.SamplerIdeal.nD → PrngReg), Pre_SamplerIdeal m →
    θ_run (Cert.SamplerIdeal.defs (F := Ideal)) (onTc (τ := Cert.SamplerIdeal.τ) (Cert.SamplerIdeal.main (F := Ideal))) ⟨m, fun _ => 0, g⟩ (fun r => (∀ c : Dev Cert.SamplerIdeal.nD,
      r.2.mem ((c.tc : Thread Cert.SamplerIdeal.nD Cert.SamplerIdeal.τ).loc Cert.SamplerIdeal.main_arg0) = m ((c.tc : Thread Cert.SamplerIdeal.nD Cert.SamplerIdeal.τ).loc Cert.SamplerIdeal.main_arg0)
      ∧ r.2.mem ((c.tc : Thread Cert.SamplerIdeal.nD Cert.SamplerIdeal.τ).loc Cert.SamplerIdeal.main_arg1) = m ((c.tc : Thread Cert.SamplerIdeal.nD Cert.SamplerIdeal.τ).loc Cert.SamplerIdeal.main_arg1)
      ∧ r.2.mem ((c.tc : Thread Cert.SamplerIdeal.nD Cert.SamplerIdeal.τ).loc Cert.SamplerIdeal.main_arg2) = m ((c.tc : Thread Cert.SamplerIdeal.nD Cert.SamplerIdeal.τ).loc Cert.SamplerIdeal.main_arg2)
      ∧ r.2.mem ((c.tc : Thread Cert.SamplerIdeal.nD Cert.SamplerIdeal.τ).loc Cert.SamplerIdeal.main_arg3) = m ((c.tc : Thread Cert.SamplerIdeal.nD Cert.SamplerIdeal.τ).loc Cert.SamplerIdeal.main_arg3)
      ∧ r.2.mem ((c.tc : Thread Cert.SamplerIdeal.nD Cert.SamplerIdeal.τ).loc Cert.SamplerIdeal.main_arg4) = m ((c.tc : Thread Cert.SamplerIdeal.nD Cert.SamplerIdeal.τ).loc Cert.SamplerIdeal.main_arg4))
      ∧ r.2.sem = fun _ => 0)

def quiescent_SamplerReferenceIdeal [hSamplerReferenceIdeal : Cert.SamplerReferenceIdeal.Facts] : Prop :=
  ∀ (m : (ℓ : Loc Cert.SamplerReferenceIdeal.nD Cert.SamplerReferenceIdeal.τ Cert.SamplerReferenceIdeal.sig) → Buf (Elt Ideal) ℓ) (g : Dev Cert.SamplerReferenceIdeal.nD → PrngReg), Pre_SamplerReferenceIdeal m →
    θ_run (Cert.SamplerReferenceIdeal.defs (F := Ideal)) (onTc (τ := Cert.SamplerReferenceIdeal.τ) (Cert.SamplerReferenceIdeal.main (F := Ideal))) ⟨m, fun _ => 0, g⟩ (fun r => (∀ c : Dev Cert.SamplerReferenceIdeal.nD,
      r.2.mem ((c.tc : Thread Cert.SamplerReferenceIdeal.nD Cert.SamplerReferenceIdeal.τ).loc Cert.SamplerReferenceIdeal.main_arg0) = m ((c.tc : Thread Cert.SamplerReferenceIdeal.nD Cert.SamplerReferenceIdeal.τ).loc Cert.SamplerReferenceIdeal.main_arg0)
      ∧ r.2.mem ((c.tc : Thread Cert.SamplerReferenceIdeal.nD Cert.SamplerReferenceIdeal.τ).loc Cert.SamplerReferenceIdeal.main_arg1) = m ((c.tc : Thread Cert.SamplerReferenceIdeal.nD Cert.SamplerReferenceIdeal.τ).loc Cert.SamplerReferenceIdeal.main_arg1)
      ∧ r.2.mem ((c.tc : Thread Cert.SamplerReferenceIdeal.nD Cert.SamplerReferenceIdeal.τ).loc Cert.SamplerReferenceIdeal.main_arg2) = m ((c.tc : Thread Cert.SamplerReferenceIdeal.nD Cert.SamplerReferenceIdeal.τ).loc Cert.SamplerReferenceIdeal.main_arg2)
      ∧ r.2.mem ((c.tc : Thread Cert.SamplerReferenceIdeal.nD Cert.SamplerReferenceIdeal.τ).loc Cert.SamplerReferenceIdeal.main_arg3) = m ((c.tc : Thread Cert.SamplerReferenceIdeal.nD Cert.SamplerReferenceIdeal.τ).loc Cert.SamplerReferenceIdeal.main_arg3)
      ∧ r.2.mem ((c.tc : Thread Cert.SamplerReferenceIdeal.nD Cert.SamplerReferenceIdeal.τ).loc Cert.SamplerReferenceIdeal.main_arg4) = m ((c.tc : Thread Cert.SamplerReferenceIdeal.nD Cert.SamplerReferenceIdeal.τ).loc Cert.SamplerReferenceIdeal.main_arg4))
      ∧ r.2.sem = fun _ => 0)

def quiescent_Intersect [hIntersect : Cert.Intersect.Facts] : Prop :=
  ∀ (m : (ℓ : Loc Cert.Intersect.nD Cert.Intersect.τ Cert.Intersect.sig) → Buf (Elt Bits) ℓ) (g : Dev Cert.Intersect.nD → PrngReg), Pre_Intersect m →
    θ_run (Cert.Intersect.defs (F := Bits)) (onTc (τ := Cert.Intersect.τ) (Cert.Intersect.main (F := Bits))) ⟨m, fun _ => 0, g⟩ (fun r => (∀ c : Dev Cert.Intersect.nD,
      r.2.mem ((c.tc : Thread Cert.Intersect.nD Cert.Intersect.τ).loc Cert.Intersect.main_arg0) = m ((c.tc : Thread Cert.Intersect.nD Cert.Intersect.τ).loc Cert.Intersect.main_arg0)
      ∧ r.2.mem ((c.tc : Thread Cert.Intersect.nD Cert.Intersect.τ).loc Cert.Intersect.main_arg1) = m ((c.tc : Thread Cert.Intersect.nD Cert.Intersect.τ).loc Cert.Intersect.main_arg1)
      ∧ r.2.mem ((c.tc : Thread Cert.Intersect.nD Cert.Intersect.τ).loc Cert.Intersect.main_arg2) = m ((c.tc : Thread Cert.Intersect.nD Cert.Intersect.τ).loc Cert.Intersect.main_arg2))
      ∧ r.2.sem = fun _ => 0)

def quiescent_IntersectIdeal [hIntersectIdeal : Cert.IntersectIdeal.Facts] : Prop :=
  ∀ (m : (ℓ : Loc Cert.IntersectIdeal.nD Cert.IntersectIdeal.τ Cert.IntersectIdeal.sig) → Buf (Elt Ideal) ℓ) (g : Dev Cert.IntersectIdeal.nD → PrngReg), Pre_IntersectIdeal m →
    θ_run (Cert.IntersectIdeal.defs (F := Ideal)) (onTc (τ := Cert.IntersectIdeal.τ) (Cert.IntersectIdeal.main (F := Ideal))) ⟨m, fun _ => 0, g⟩ (fun r => (∀ c : Dev Cert.IntersectIdeal.nD,
      r.2.mem ((c.tc : Thread Cert.IntersectIdeal.nD Cert.IntersectIdeal.τ).loc Cert.IntersectIdeal.main_arg0) = m ((c.tc : Thread Cert.IntersectIdeal.nD Cert.IntersectIdeal.τ).loc Cert.IntersectIdeal.main_arg0)
      ∧ r.2.mem ((c.tc : Thread Cert.IntersectIdeal.nD Cert.IntersectIdeal.τ).loc Cert.IntersectIdeal.main_arg1) = m ((c.tc : Thread Cert.IntersectIdeal.nD Cert.IntersectIdeal.τ).loc Cert.IntersectIdeal.main_arg1)
      ∧ r.2.mem ((c.tc : Thread Cert.IntersectIdeal.nD Cert.IntersectIdeal.τ).loc Cert.IntersectIdeal.main_arg2) = m ((c.tc : Thread Cert.IntersectIdeal.nD Cert.IntersectIdeal.τ).loc Cert.IntersectIdeal.main_arg2))
      ∧ r.2.sem = fun _ => 0)

def quiescent_IntersectReferenceIdeal [hIntersectReferenceIdeal : Cert.IntersectReferenceIdeal.Facts] : Prop :=
  ∀ (m : (ℓ : Loc Cert.IntersectReferenceIdeal.nD Cert.IntersectReferenceIdeal.τ Cert.IntersectReferenceIdeal.sig) → Buf (Elt Ideal) ℓ) (g : Dev Cert.IntersectReferenceIdeal.nD → PrngReg), Pre_IntersectReferenceIdeal m →
    θ_run (Cert.IntersectReferenceIdeal.defs (F := Ideal)) (onTc (τ := Cert.IntersectReferenceIdeal.τ) (Cert.IntersectReferenceIdeal.main (F := Ideal))) ⟨m, fun _ => 0, g⟩ (fun r => (∀ c : Dev Cert.IntersectReferenceIdeal.nD,
      r.2.mem ((c.tc : Thread Cert.IntersectReferenceIdeal.nD Cert.IntersectReferenceIdeal.τ).loc Cert.IntersectReferenceIdeal.main_arg0) = m ((c.tc : Thread Cert.IntersectReferenceIdeal.nD Cert.IntersectReferenceIdeal.τ).loc Cert.IntersectReferenceIdeal.main_arg0)
      ∧ r.2.mem ((c.tc : Thread Cert.IntersectReferenceIdeal.nD Cert.IntersectReferenceIdeal.τ).loc Cert.IntersectReferenceIdeal.main_arg1) = m ((c.tc : Thread Cert.IntersectReferenceIdeal.nD Cert.IntersectReferenceIdeal.τ).loc Cert.IntersectReferenceIdeal.main_arg1)
      ∧ r.2.mem ((c.tc : Thread Cert.IntersectReferenceIdeal.nD Cert.IntersectReferenceIdeal.τ).loc Cert.IntersectReferenceIdeal.main_arg2) = m ((c.tc : Thread Cert.IntersectReferenceIdeal.nD Cert.IntersectReferenceIdeal.τ).loc Cert.IntersectReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v16)) (v1 : (c : Dev Cert.KernelIdeal.nD) → Buf (Elt Ideal) ((c.tc : Thread Cert.KernelIdeal.nD Cert.KernelIdeal.τ).loc Cert.KernelIdeal.main_v15_0)) (v2 : (c : Dev Cert.KernelIdeal.nD) → Buf (Elt Ideal) ((c.tc : Thread Cert.KernelIdeal.nD Cert.KernelIdeal.τ).loc Cert.KernelIdeal.main_v17)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v16) = v0 c
          ∧ r.2.mem ((c.tc : Thread Cert.KernelIdeal.nD Cert.KernelIdeal.τ).loc Cert.KernelIdeal.main_v15_0) = v1 c
          ∧ r.2.mem ((c.tc : Thread Cert.KernelIdeal.nD Cert.KernelIdeal.τ).loc Cert.KernelIdeal.main_v17) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v57) = v0 c
          ∧ r.2.mem ((c.tc : Thread Cert.ReferenceIdeal.nD Cert.ReferenceIdeal.τ).loc Cert.ReferenceIdeal.main_v27) = v1 c
          ∧ r.2.mem ((c.tc : Thread Cert.ReferenceIdeal.nD Cert.ReferenceIdeal.τ).loc Cert.ReferenceIdeal.main_v58) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Sampler_SamplerIdeal : Prop :=
  True

def algebraic_SamplerIdeal_SamplerReferenceIdeal [hSamplerIdeal : Cert.SamplerIdeal.Facts] [hSamplerReferenceIdeal : Cert.SamplerReferenceIdeal.Facts] : Prop :=
  ∀ (m : (ℓ : Loc Cert.SamplerIdeal.nD Cert.SamplerIdeal.τ Cert.SamplerIdeal.sig) → Buf (Elt Ideal) ℓ) (g : Dev Cert.SamplerIdeal.nD → PrngReg)
    (m' : (ℓ : Loc Cert.SamplerReferenceIdeal.nD Cert.SamplerReferenceIdeal.τ Cert.SamplerReferenceIdeal.sig) → Buf (Elt Ideal) ℓ) (g' : Dev Cert.SamplerReferenceIdeal.nD → PrngReg), Pre_SamplerIdeal m →
    (∀ c : Dev Cert.SamplerIdeal.nD,
      m' ((c.tc : Thread Cert.SamplerReferenceIdeal.nD Cert.SamplerReferenceIdeal.τ).loc Cert.SamplerReferenceIdeal.main_arg0) = m ((c.tc : Thread Cert.SamplerIdeal.nD Cert.SamplerIdeal.τ).loc Cert.SamplerIdeal.main_arg0)
      ∧ m' ((c.tc : Thread Cert.SamplerReferenceIdeal.nD Cert.SamplerReferenceIdeal.τ).loc Cert.SamplerReferenceIdeal.main_arg1) = m ((c.tc : Thread Cert.SamplerIdeal.nD Cert.SamplerIdeal.τ).loc Cert.SamplerIdeal.main_arg1)
      ∧ m' ((c.tc : Thread Cert.SamplerReferenceIdeal.nD Cert.SamplerReferenceIdeal.τ).loc Cert.SamplerReferenceIdeal.main_arg2) = m ((c.tc : Thread Cert.SamplerIdeal.nD Cert.SamplerIdeal.τ).loc Cert.SamplerIdeal.main_arg2)
      ∧ m' ((c.tc : Thread Cert.SamplerReferenceIdeal.nD Cert.SamplerReferenceIdeal.τ).loc Cert.SamplerReferenceIdeal.main_arg3) = m ((c.tc : Thread Cert.SamplerIdeal.nD Cert.SamplerIdeal.τ).loc Cert.SamplerIdeal.main_arg3)
      ∧ m' ((c.tc : Thread Cert.SamplerReferenceIdeal.nD Cert.SamplerReferenceIdeal.τ).loc Cert.SamplerReferenceIdeal.main_arg4) = m ((c.tc : Thread Cert.SamplerIdeal.nD Cert.SamplerIdeal.τ).loc Cert.SamplerIdeal.main_arg4)) →
    ∃ (v0 : (c : Dev Cert.SamplerIdeal.nD) → Buf (Elt Ideal) ((c.tc : Thread Cert.SamplerIdeal.nD Cert.SamplerIdeal.τ).loc Cert.SamplerIdeal.main_v4_0)) (v1 : (c : Dev Cert.SamplerIdeal.nD) → Buf (Elt Ideal) ((c.tc : Thread Cert.SamplerIdeal.nD Cert.SamplerIdeal.τ).loc Cert.SamplerIdeal.main_v4_1)) (v2 : (c : Dev Cert.SamplerIdeal.nD) → Buf (Elt Ideal) ((c.tc : Thread Cert.SamplerIdeal.nD Cert.SamplerIdeal.τ).loc Cert.SamplerIdeal.main_v9)) (v3 : (c : Dev Cert.SamplerIdeal.nD) → Buf (Elt Ideal) ((c.tc : Thread Cert.SamplerIdeal.nD Cert.SamplerIdeal.τ).loc Cert.SamplerIdeal.main_v4_2)) (v4 : (c : Dev Cert.SamplerIdeal.nD) → Buf (Elt Ideal) ((c.tc : Thread Cert.SamplerIdeal.nD Cert.SamplerIdeal.τ).loc Cert.SamplerIdeal.main_v4_3)) (v5 : (c : Dev Cert.SamplerIdeal.nD) → Buf (Elt Ideal) ((c.tc : Thread Cert.SamplerIdeal.nD Cert.SamplerIdeal.τ).loc Cert.SamplerIdeal.main_v13)),
      θ_run (Cert.SamplerIdeal.defs (F := Ideal)) (onTc (τ := Cert.SamplerIdeal.τ) (Cert.SamplerIdeal.main (F := Ideal))) ⟨m, fun _ => 0, g⟩ (fun r => ∀ c : Dev Cert.SamplerIdeal.nD,
          r.2.mem ((c.tc : Thread Cert.SamplerIdeal.nD Cert.SamplerIdeal.τ).loc Cert.SamplerIdeal.main_v4_0) = v0 c
          ∧ r.2.mem ((c.tc : Thread Cert.SamplerIdeal.nD Cert.SamplerIdeal.τ).loc Cert.SamplerIdeal.main_v4_1) = v1 c
          ∧ r.2.mem ((c.tc : Thread Cert.SamplerIdeal.nD Cert.SamplerIdeal.τ).loc Cert.SamplerIdeal.main_v9) = v2 c
          ∧ r.2.mem ((c.tc : Thread Cert.SamplerIdeal.nD Cert.SamplerIdeal.τ).loc Cert.SamplerIdeal.main_v4_2) = v3 c
          ∧ r.2.mem ((c.tc : Thread Cert.SamplerIdeal.nD Cert.SamplerIdeal.τ).loc Cert.SamplerIdeal.main_v4_3) = v4 c
          ∧ r.2.mem ((c.tc : Thread Cert.SamplerIdeal.nD Cert.SamplerIdeal.τ).loc Cert.SamplerIdeal.main_v13) = v5 c
          ∧ r.2.mem ((c.tc : Thread Cert.SamplerIdeal.nD Cert.SamplerIdeal.τ).loc Cert.SamplerIdeal.main_arg0) = m ((c.tc : Thread Cert.SamplerIdeal.nD Cert.SamplerIdeal.τ).loc Cert.SamplerIdeal.main_arg0)
          ∧ r.2.mem ((c.tc : Thread Cert.SamplerIdeal.nD Cert.SamplerIdeal.τ).loc Cert.SamplerIdeal.main_arg1) = m ((c.tc : Thread Cert.SamplerIdeal.nD Cert.SamplerIdeal.τ).loc Cert.SamplerIdeal.main_arg1)
          ∧ r.2.mem ((c.tc : Thread Cert.SamplerIdeal.nD Cert.SamplerIdeal.τ).loc Cert.SamplerIdeal.main_arg2) = m ((c.tc : Thread Cert.SamplerIdeal.nD Cert.SamplerIdeal.τ).loc Cert.SamplerIdeal.main_arg2)
          ∧ r.2.mem ((c.tc : Thread Cert.SamplerIdeal.nD Cert.SamplerIdeal.τ).loc Cert.SamplerIdeal.main_arg3) = m ((c.tc : Thread Cert.SamplerIdeal.nD Cert.SamplerIdeal.τ).loc Cert.SamplerIdeal.main_arg3)
          ∧ r.2.mem ((c.tc : Thread Cert.SamplerIdeal.nD Cert.SamplerIdeal.τ).loc Cert.SamplerIdeal.main_arg4) = m ((c.tc : Thread Cert.SamplerIdeal.nD Cert.SamplerIdeal.τ).loc Cert.SamplerIdeal.main_arg4))
      ∧ θ_run (Cert.SamplerReferenceIdeal.defs (F := Ideal)) (onTc (τ := Cert.SamplerReferenceIdeal.τ) (Cert.SamplerReferenceIdeal.main (F := Ideal))) ⟨m', fun _ => 0, g'⟩ (fun r => ∀ c : Dev Cert.SamplerReferenceIdeal.nD,
          r.2.mem ((c.tc : Thread Cert.SamplerReferenceIdeal.nD Cert.SamplerReferenceIdeal.τ).loc Cert.SamplerReferenceIdeal.main_v163) = v0 c
          ∧ r.2.mem ((c.tc : Thread Cert.SamplerReferenceIdeal.nD Cert.SamplerReferenceIdeal.τ).loc Cert.SamplerReferenceIdeal.main_v164) = v1 c
          ∧ r.2.mem ((c.tc : Thread Cert.SamplerReferenceIdeal.nD Cert.SamplerReferenceIdeal.τ).loc Cert.SamplerReferenceIdeal.main_v159) = v2 c
          ∧ r.2.mem ((c.tc : Thread Cert.SamplerReferenceIdeal.nD Cert.SamplerReferenceIdeal.τ).loc Cert.SamplerReferenceIdeal.main_v4) = v3 c
          ∧ r.2.mem ((c.tc : Thread Cert.SamplerReferenceIdeal.nD Cert.SamplerReferenceIdeal.τ).loc Cert.SamplerReferenceIdeal.main_v167) = v4 c
          ∧ r.2.mem ((c.tc : Thread Cert.SamplerReferenceIdeal.nD Cert.SamplerReferenceIdeal.τ).loc Cert.SamplerReferenceIdeal.main_v161) = v5 c
          ∧ r.2.mem ((c.tc : Thread Cert.SamplerReferenceIdeal.nD Cert.SamplerReferenceIdeal.τ).loc Cert.SamplerReferenceIdeal.main_arg0) = m' ((c.tc : Thread Cert.SamplerReferenceIdeal.nD Cert.SamplerReferenceIdeal.τ).loc Cert.SamplerReferenceIdeal.main_arg0)
          ∧ r.2.mem ((c.tc : Thread Cert.SamplerReferenceIdeal.nD Cert.SamplerReferenceIdeal.τ).loc Cert.SamplerReferenceIdeal.main_arg1) = m' ((c.tc : Thread Cert.SamplerReferenceIdeal.nD Cert.SamplerReferenceIdeal.τ).loc Cert.SamplerReferenceIdeal.main_arg1)
          ∧ r.2.mem ((c.tc : Thread Cert.SamplerReferenceIdeal.nD Cert.SamplerReferenceIdeal.τ).loc Cert.SamplerReferenceIdeal.main_arg2) = m' ((c.tc : Thread Cert.SamplerReferenceIdeal.nD Cert.SamplerReferenceIdeal.τ).loc Cert.SamplerReferenceIdeal.main_arg2)
          ∧ r.2.mem ((c.tc : Thread Cert.SamplerReferenceIdeal.nD Cert.SamplerReferenceIdeal.τ).loc Cert.SamplerReferenceIdeal.main_arg3) = m' ((c.tc : Thread Cert.SamplerReferenceIdeal.nD Cert.SamplerReferenceIdeal.τ).loc Cert.SamplerReferenceIdeal.main_arg3)
          ∧ r.2.mem ((c.tc : Thread Cert.SamplerReferenceIdeal.nD Cert.SamplerReferenceIdeal.τ).loc Cert.SamplerReferenceIdeal.main_arg4) = m' ((c.tc : Thread Cert.SamplerReferenceIdeal.nD Cert.SamplerReferenceIdeal.τ).loc Cert.SamplerReferenceIdeal.main_arg4))

def preserves_Intersect_IntersectIdeal : Prop :=
  True

def algebraic_IntersectIdeal_IntersectReferenceIdeal [hIntersectIdeal : Cert.IntersectIdeal.Facts] [hIntersectReferenceIdeal : Cert.IntersectReferenceIdeal.Facts] : Prop :=
  ∀ (m : (ℓ : Loc Cert.IntersectIdeal.nD Cert.IntersectIdeal.τ Cert.IntersectIdeal.sig) → Buf (Elt Ideal) ℓ) (g : Dev Cert.IntersectIdeal.nD → PrngReg)
    (m' : (ℓ : Loc Cert.IntersectReferenceIdeal.nD Cert.IntersectReferenceIdeal.τ Cert.IntersectReferenceIdeal.sig) → Buf (Elt Ideal) ℓ) (g' : Dev Cert.IntersectReferenceIdeal.nD → PrngReg), Pre_IntersectIdeal m →
    (∀ c : Dev Cert.IntersectIdeal.nD,
      m' ((c.tc : Thread Cert.IntersectReferenceIdeal.nD Cert.IntersectReferenceIdeal.τ).loc Cert.IntersectReferenceIdeal.main_arg0) = m ((c.tc : Thread Cert.IntersectIdeal.nD Cert.IntersectIdeal.τ).loc Cert.IntersectIdeal.main_arg0)
      ∧ m' ((c.tc : Thread Cert.IntersectReferenceIdeal.nD Cert.IntersectReferenceIdeal.τ).loc Cert.IntersectReferenceIdeal.main_arg1) = m ((c.tc : Thread Cert.IntersectIdeal.nD Cert.IntersectIdeal.τ).loc Cert.IntersectIdeal.main_arg1)
      ∧ m' ((c.tc : Thread Cert.IntersectReferenceIdeal.nD Cert.IntersectReferenceIdeal.τ).loc Cert.IntersectReferenceIdeal.main_arg2) = m ((c.tc : Thread Cert.IntersectIdeal.nD Cert.IntersectIdeal.τ).loc Cert.IntersectIdeal.main_arg2)) →
    ∃ (v0 : (c : Dev Cert.IntersectIdeal.nD) → Buf (Elt Ideal) ((c.tc : Thread Cert.IntersectIdeal.nD Cert.IntersectIdeal.τ).loc Cert.IntersectIdeal.main_v7)) (v1 : (c : Dev Cert.IntersectIdeal.nD) → Buf (Elt Ideal) ((c.tc : Thread Cert.IntersectIdeal.nD Cert.IntersectIdeal.τ).loc Cert.IntersectIdeal.main_v8)),
      θ_run (Cert.IntersectIdeal.defs (F := Ideal)) (onTc (τ := Cert.IntersectIdeal.τ) (Cert.IntersectIdeal.main (F := Ideal))) ⟨m, fun _ => 0, g⟩ (fun r => ∀ c : Dev Cert.IntersectIdeal.nD,
          r.2.mem ((c.tc : Thread Cert.IntersectIdeal.nD Cert.IntersectIdeal.τ).loc Cert.IntersectIdeal.main_v7) = v0 c
          ∧ r.2.mem ((c.tc : Thread Cert.IntersectIdeal.nD Cert.IntersectIdeal.τ).loc Cert.IntersectIdeal.main_v8) = v1 c
          ∧ r.2.mem ((c.tc : Thread Cert.IntersectIdeal.nD Cert.IntersectIdeal.τ).loc Cert.IntersectIdeal.main_arg0) = m ((c.tc : Thread Cert.IntersectIdeal.nD Cert.IntersectIdeal.τ).loc Cert.IntersectIdeal.main_arg0)
          ∧ r.2.mem ((c.tc : Thread Cert.IntersectIdeal.nD Cert.IntersectIdeal.τ).loc Cert.IntersectIdeal.main_arg1) = m ((c.tc : Thread Cert.IntersectIdeal.nD Cert.IntersectIdeal.τ).loc Cert.IntersectIdeal.main_arg1)
          ∧ r.2.mem ((c.tc : Thread Cert.IntersectIdeal.nD Cert.IntersectIdeal.τ).loc Cert.IntersectIdeal.main_arg2) = m ((c.tc : Thread Cert.IntersectIdeal.nD Cert.IntersectIdeal.τ).loc Cert.IntersectIdeal.main_arg2))
      ∧ θ_run (Cert.IntersectReferenceIdeal.defs (F := Ideal)) (onTc (τ := Cert.IntersectReferenceIdeal.τ) (Cert.IntersectReferenceIdeal.main (F := Ideal))) ⟨m', fun _ => 0, g'⟩ (fun r => ∀ c : Dev Cert.IntersectReferenceIdeal.nD,
          r.2.mem ((c.tc : Thread Cert.IntersectReferenceIdeal.nD Cert.IntersectReferenceIdeal.τ).loc Cert.IntersectReferenceIdeal.main_v128) = v0 c
          ∧ r.2.mem ((c.tc : Thread Cert.IntersectReferenceIdeal.nD Cert.IntersectReferenceIdeal.τ).loc Cert.IntersectReferenceIdeal.main_v129) = v1 c
          ∧ r.2.mem ((c.tc : Thread Cert.IntersectReferenceIdeal.nD Cert.IntersectReferenceIdeal.τ).loc Cert.IntersectReferenceIdeal.main_arg0) = m' ((c.tc : Thread Cert.IntersectReferenceIdeal.nD Cert.IntersectReferenceIdeal.τ).loc Cert.IntersectReferenceIdeal.main_arg0)
          ∧ r.2.mem ((c.tc : Thread Cert.IntersectReferenceIdeal.nD Cert.IntersectReferenceIdeal.τ).loc Cert.IntersectReferenceIdeal.main_arg1) = m' ((c.tc : Thread Cert.IntersectReferenceIdeal.nD Cert.IntersectReferenceIdeal.τ).loc Cert.IntersectReferenceIdeal.main_arg1)
          ∧ r.2.mem ((c.tc : Thread Cert.IntersectReferenceIdeal.nD Cert.IntersectReferenceIdeal.τ).loc Cert.IntersectReferenceIdeal.main_arg2) = m' ((c.tc : Thread Cert.IntersectReferenceIdeal.nD Cert.IntersectReferenceIdeal.τ).loc Cert.IntersectReferenceIdeal.main_arg2))

def Claim : Prop :=
  ∃ (hKernel : Cert.Kernel.Facts) (hKernelIdeal : Cert.KernelIdeal.Facts) (hReferenceIdeal : Cert.ReferenceIdeal.Facts) (hSampler : Cert.Sampler.Facts) (hSamplerIdeal : Cert.SamplerIdeal.Facts) (hSamplerReferenceIdeal : Cert.SamplerReferenceIdeal.Facts) (hIntersect : Cert.Intersect.Facts) (hIntersectIdeal : Cert.IntersectIdeal.Facts) (hIntersectReferenceIdeal : Cert.IntersectReferenceIdeal.Facts) (hPre_in_range : Cert.Pre_in_range.Facts),
    quiescent_Kernel (hKernel := hKernel) (hPre_in_range := hPre_in_range)
    ∧ quiescent_KernelIdeal (hKernelIdeal := hKernelIdeal) (hPre_in_range := hPre_in_range)
    ∧ quiescent_ReferenceIdeal (hReferenceIdeal := hReferenceIdeal)
    ∧ quiescent_ReferenceIdeal_pre_in_range (hReferenceIdeal := hReferenceIdeal) (hPre_in_range := hPre_in_range)
    ∧ quiescent_Sampler (hSampler := hSampler)
    ∧ quiescent_SamplerIdeal (hSamplerIdeal := hSamplerIdeal)
    ∧ quiescent_SamplerReferenceIdeal (hSamplerReferenceIdeal := hSamplerReferenceIdeal)
    ∧ quiescent_Intersect (hIntersect := hIntersect)
    ∧ quiescent_IntersectIdeal (hIntersectIdeal := hIntersectIdeal)
    ∧ quiescent_IntersectReferenceIdeal (hIntersectReferenceIdeal := hIntersectReferenceIdeal)
    ∧ preserves_Kernel_KernelIdeal
    ∧ algebraic_KernelIdeal_ReferenceIdeal (hKernelIdeal := hKernelIdeal) (hReferenceIdeal := hReferenceIdeal) (hPre_in_range := hPre_in_range)
    ∧ preserves_Sampler_SamplerIdeal
    ∧ algebraic_SamplerIdeal_SamplerReferenceIdeal (hSamplerIdeal := hSamplerIdeal) (hSamplerReferenceIdeal := hSamplerReferenceIdeal)
    ∧ preserves_Intersect_IntersectIdeal
    ∧ algebraic_IntersectIdeal_IntersectReferenceIdeal (hIntersectIdeal := hIntersectIdeal) (hIntersectReferenceIdeal := hIntersectReferenceIdeal)
-- ==== Pre_in_range.lean ====
abbrev S1x8000x3 : Shape := ⟨3, ![1, 8000, 3]⟩
abbrev S10000x4x3 : Shape := ⟨3, ![10000, 4, 3]⟩
abbrev S40000 : Shape := ⟨1, ![40000]⟩
abbrev S4096 : Shape := ⟨1, ![4096]⟩
abbrev S_ : Shape := ⟨0, ![]⟩

class Facts : Prop where
  bcast_S_S10000x4x3 : S_.BroadcastsInDim S10000x4x3 (![] : Fin 0 → Fin S10000x4x3.rank)
  bcast_S_S40000 : S_.BroadcastsInDim S40000 (![] : Fin 0 → Fin S40000.rank)
  bcast_S_S4096 : S_.BroadcastsInDim S4096 (![] : Fin 0 → Fin S4096.rank)

variable [Facts]

def fn {F : FTy → Type} [FloatOps F] (main_arg0 : FVec F S1x8000x3 .f32) (main_arg1 : IVec S10000x4x3 32) (main_arg2 : IVec S40000 32) (main_arg3 : IVec S4096 32) : IVec S10000x4x3 1 × IVec S40000 1 × IVec S4096 1 :=
  let main_c : IVec S_ 32 := constantI S_ 32 0#32
  let main_v0 : IVec S10000x4x3 32 := broadcastInDim S10000x4x3 ![] bcast_S_S10000x4x3 main_c
  let main_v1 : IVec S10000x4x3 1 := cmpi .sge main_arg1 main_v0
  let main_c_0 : IVec S_ 32 := constantI S_ 32 8000#32
  let main_v2 : IVec S10000x4x3 32 := broadcastInDim S10000x4x3 ![] bcast_S_S10000x4x3 main_c_0
  let main_v3 : IVec S10000x4x3 1 := cmpi .slt main_arg1 main_v2
  let main_v4 : IVec S10000x4x3 1 := andi main_v1 main_v3
  let main_c_1 : IVec S_ 32 := constantI S_ 32 0#32
  let main_v5 : IVec S40000 32 := broadcastInDim S40000 ![] bcast_S_S40000 main_c_1
  let main_v6 : IVec S40000 1 := cmpi .sge main_arg2 main_v5
  let main_c_2 : IVec S_ 32 := constantI S_ 32 10000#32
  let main_v7 : IVec S40000 32 := broadcastInDim S40000 ![] bcast_S_S40000 main_c_2
  let main_v8 : IVec S40000 1 := cmpi .slt main_arg2 main_v7
  let main_v9 : IVec S40000 1 := andi main_v6 main_v8
  let main_c_3 : IVec S_ 32 := constantI S_ 32 0#32
  let main_v10 : IVec S4096 32 := broadcastInDim S4096 ![] bcast_S_S4096 main_c_3
  let main_v11 : IVec S4096 1 := cmpi .sge main_arg3 main_v10
  let main_c_4 : IVec S_ 32 := constantI S_ 32 40000#32
  let main_v12 : IVec S4096 32 := broadcastInDim S4096 ![] bcast_S_S4096 main_c_4
  let main_v13 : IVec S4096 1 := cmpi .slt main_arg3 main_v12
  let main_v14 : IVec S4096 1 := andi main_v11 main_v13
  (main_v4, main_v9, main_v14)
-- ==== Kernel.lean ====
abbrev S1x8000x3 : Shape := ⟨3, ![1, 8000, 3]⟩
abbrev S10000x4x3 : Shape := ⟨3, ![10000, 4, 3]⟩
abbrev S40000 : Shape := ⟨1, ![40000]⟩
abbrev S4096 : Shape := ⟨1, ![4096]⟩
abbrev S8000x3 : Shape := ⟨2, ![8000, 3]⟩
abbrev S24000 : Shape := ⟨1, ![24000]⟩
abbrev S40000x3 : Shape := ⟨2, ![40000, 3]⟩
abbrev S3x40000 : Shape := ⟨2, ![3, 40000]⟩
abbrev S_ : Shape := ⟨0, ![]⟩
abbrev S3x40960 : Shape := ⟨2, ![3, 40960]⟩
abbrev S16x40960 : Shape := ⟨2, ![16, 40960]⟩
abbrev S3x1280 : Shape := ⟨2, ![3, 1280]⟩
abbrev S16x1280 : Shape := ⟨2, ![16, 1280]⟩
abbrev S16 : Shape := ⟨1, ![16]⟩
abbrev S1x16 : Shape := ⟨2, ![1, 16]⟩
abbrev S10000x1x1 : Shape := ⟨3, ![10000, 1, 1]⟩
abbrev S10000 : Shape := ⟨1, ![10000]⟩
abbrev S4096x16 : Shape := ⟨2, ![4096, 16]⟩
abbrev S128 : Shape := ⟨1, ![128]⟩
abbrev S128x16 : Shape := ⟨2, ![128, 16]⟩
abbrev S9x40000 : Shape := ⟨2, ![9, 40000]⟩
abbrev S4096x12 : Shape := ⟨2, ![4096, 12]⟩

abbrev nBuf : Table → Nat
  | .hbm => 25
  | .local .scVector .vmem => 9
  | _ => 0

abbrev bufTy : (tb : Table) → Fin (nBuf tb) → BufTy
  | .hbm, ⟨0, _⟩ => ⟨S1x8000x3, .f32⟩
  | .hbm, ⟨1, _⟩ => ⟨S10000x4x3, .i32⟩
  | .hbm, ⟨2, _⟩ => ⟨S40000, .i32⟩
  | .hbm, ⟨3, _⟩ => ⟨S4096, .i32⟩
  | .hbm, ⟨4, _⟩ => ⟨S8000x3, .f32⟩
  | .hbm, ⟨5, _⟩ => ⟨S24000, .f32⟩
  | .hbm, ⟨6, _⟩ => ⟨S40000x3, .i32⟩
  | .hbm, ⟨7, _⟩ => ⟨S3x40000, .i32⟩
  | .hbm, ⟨8, _⟩ => ⟨S_, .i32⟩
  | .hbm, ⟨9, _⟩ => ⟨S_, .i32⟩
  | .hbm, ⟨10, _⟩ => ⟨S3x40960, .i32⟩
  | .hbm, ⟨11, _⟩ => ⟨S16x40960, .f32⟩
  | .hbm, ⟨12, _⟩ => ⟨S10000x1x1, .i32⟩
  | .hbm, ⟨13, _⟩ => ⟨S10000, .i32⟩
  | .hbm, ⟨14, _⟩ => ⟨S10000x1x1, .i32⟩
  | .hbm, ⟨15, _⟩ => ⟨S10000, .i32⟩
  | .hbm, ⟨16, _⟩ => ⟨S10000x1x1, .i32⟩
  | .hbm, ⟨17, _⟩ => ⟨S10000, .i32⟩
  | .hbm, ⟨18, _⟩ => ⟨S10000x1x1, .i32⟩
  | .hbm, ⟨19, _⟩ => ⟨S10000, .i32⟩
  | .hbm, ⟨20, _⟩ => ⟨S40000, .i32⟩
  | .hbm, ⟨21, _⟩ => ⟨S4096, .i32⟩
  | .hbm, ⟨22, _⟩ => ⟨S4096x16, .f32⟩
  | .hbm, ⟨23, _⟩ => ⟨S9x40000, .f32⟩
  | .hbm, ⟨24, _⟩ => ⟨S4096x12, .f32⟩
  | .local .scVector .vmem, ⟨0, _⟩ => ⟨S24000, .f32⟩
  | .local .scVector .vmem, ⟨1, _⟩ => ⟨S3x1280, .i32⟩
  | .local .scVector .vmem, ⟨2, _⟩ => ⟨S16x1280, .f32⟩
  | .local .scVector .vmem, ⟨3, _⟩ => ⟨S40000, .i32⟩
  | .local .scVector .vmem, ⟨4, _⟩ => ⟨S40000, .i32⟩
  | .local .scVector .vmem, ⟨5, _⟩ => ⟨S24000, .f32⟩
  | .local .scVector .vmem, ⟨6, _⟩ => ⟨S128, .i32⟩
  | .local .scVector .vmem, ⟨7, _⟩ => ⟨S128, .i32⟩
  | .local .scVector .vmem, ⟨8, _⟩ => ⟨S128x16, .f32⟩
  | _, _ => ⟨S1x8000x3, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 9 → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => false
  | ⟨8, _⟩ => false
  | _ => false

abbrev sig : RefSig :=
  ofTables nBuf rfl bufTy 4 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_c : Ref sig .tc := ⟨.hbm, 8, rfl⟩
abbrev main_call0_v0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15_0 : Ref sig .tc := ⟨.hbm, 21, rfl⟩
abbrev main_v15_1 : Ref sig .tc := ⟨.hbm, 22, rfl⟩
abbrev main_v16 : Ref sig .tc := ⟨.hbm, 23, rfl⟩
abbrev main_v17 : Ref sig .tc := ⟨.hbm, 24, rfl⟩
abbrev main_v1_scv : Ref sig .scVector := ⟨.hbm, 5, rfl⟩
abbrev main_v4_scv : Ref sig .scVector := ⟨.hbm, 10, rfl⟩
abbrev main_v5_scv : Ref sig .scVector := ⟨.hbm, 11, rfl⟩
abbrev main_arg3_scv : Ref sig .scVector := ⟨.hbm, 3, rfl⟩
abbrev main_arg2_scv : Ref sig .scVector := ⟨.hbm, 2, rfl⟩
abbrev main_v14_scv : Ref sig .scVector := ⟨.hbm, 20, rfl⟩
abbrev main_v15_0_scv : Ref sig .scVector := ⟨.hbm, 21, rfl⟩
abbrev main_v15_1_scv : Ref sig .scVector := ⟨.hbm, 22, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc1_scratch0 : Ref sig .scVector := ⟨.vmem, 3, rfl⟩
abbrev cc1_scratch1 : Ref sig .scVector := ⟨.vmem, 4, rfl⟩
abbrev cc1_scratch2 : Ref sig .scVector := ⟨.vmem, 5, rfl⟩
abbrev cc1_scratch3 : Ref sig .scVector := ⟨.vmem, 6, rfl⟩
abbrev cc1_scratch4 : Ref sig .scVector := ⟨.vmem, 7, rfl⟩
abbrev cc1_scratch5 : Ref sig .scVector := ⟨.vmem, 8, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 2 → Nat :=
  let c0_i32_2_r1 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1280_i32 : BitVec 32 := 1280#32
  let v2 : BitVec 32 := Scalar.muli v1 c1280_i32
  ![0, v2.toNat]
@[reducible] def k0_t1_loop : Scf.Loop 32 :=
  let c0_i32_0 : BitVec 32 := 0#32
  let c80_i32 : BitVec 32 := 80#32
  let v3 : BitVec 32 := Scalar.addi c0_i32_0 c80_i32
  let c1_i32 : BitVec 32 := 1#32
  ⟨c0_i32_0, v3, c1_i32⟩
def k0_off2 (k0_t1 : Fin k0_t1_loop.trips) : Fin 2 → Nat :=
  let c0_i32_2 : BitVec 32 := 0#32
  let v6 : Index := Scalar.indexCast c0_i32_2
  let c0_i32_0 : BitVec 32 := 0#32
  let c1_i32 : BitVec 32 := 1#32
  let arg8 : BitVec 32 := Scf.iv c0_i32_0 c1_i32 k0_t1
  let c16_i32 : BitVec 32 := 16#32
  let v5 : BitVec 32 := Scalar.muli arg8 c16_i32
  let v7 : Index := Scalar.indexCast v5
  ![0, v7.toNat]
def k0_off3 (k0_t1 : Fin k0_t1_loop.trips) : Fin 2 → Nat :=
  let c1_i32_3 : BitVec 32 := 1#32
  let v11 : Index := Scalar.indexCast c1_i32_3
  let c0_i32_0 : BitVec 32 := 0#32
  let c1_i32 : BitVec 32 := 1#32
  let arg8 : BitVec 32 := Scf.iv c0_i32_0 c1_i32 k0_t1
  let c16_i32 : BitVec 32 := 16#32
  let v5 : BitVec 32 := Scalar.muli arg8 c16_i32
  let v12 : Index := Scalar.indexCast v5
  ![1, v12.toNat]
def k0_off4 (k0_t1 : Fin k0_t1_loop.trips) : Fin 2 → Nat :=
  let c2_i32_5 : BitVec 32 := 2#32
  let v16 : Index := Scalar.indexCast c2_i32_5
  let c0_i32_0 : BitVec 32 := 0#32
  let c1_i32 : BitVec 32 := 1#32
  let arg8 : BitVec 32 := Scf.iv c0_i32_0 c1_i32 k0_t1
  let c16_i32 : BitVec 32 := 16#32
  let v5 : BitVec 32 := Scalar.muli arg8 c16_i32
  let v17 : Index := Scalar.indexCast v5
  ![2, v17.toNat]

def k0_chk1 (v22 : IVec S16 32) : Prop :=
  (∀ a x, ((![v22] : Fin 1 → IVec S16 32) a x).toNat < S24000.size a)
theorem k0_idx1_inb : ∀ (v22 : IVec S16 32) (k0_hw1 : k0_chk1 v22), ∀ a x, ((![v22] : Fin 1 → IVec S16 32) a x).toNat < S24000.size a := fun v22 k0_hw1 => k0_hw1

def k0_chk2 (v25 : IVec S16 32) : Prop :=
  (∀ a x, ((![v25] : Fin 1 → IVec S16 32) a x).toNat < S24000.size a)
theorem k0_idx2_inb : ∀ (v25 : IVec S16 32) (k0_hw2 : k0_chk2 v25), ∀ a x, ((![v25] : Fin 1 → IVec S16 32) a x).toNat < S24000.size a := fun v25 k0_hw2 => k0_hw2

def k0_chk3 (v28 : IVec S16 32) : Prop :=
  (∀ a x, ((![v28] : Fin 1 → IVec S16 32) a x).toNat < S24000.size a)
theorem k0_idx3_inb : ∀ (v28 : IVec S16 32) (k0_hw3 : k0_chk3 v28), ∀ a x, ((![v28] : Fin 1 → IVec S16 32) a x).toNat < S24000.size a := fun v28 k0_hw3 => k0_hw3
def k0_off5 (k0_t1 : Fin k0_t1_loop.trips) : Fin 2 → Nat :=
  let c0_i32_10 : BitVec 32 := 0#32
  let v30 : Index := Scalar.indexCast c0_i32_10
  let c0_i32_0 : BitVec 32 := 0#32
  let c1_i32 : BitVec 32 := 1#32
  let arg8 : BitVec 32 := Scf.iv c0_i32_0 c1_i32 k0_t1
  let c16_i32 : BitVec 32 := 16#32
  let v5 : BitVec 32 := Scalar.muli arg8 c16_i32
  let v31 : Index := Scalar.indexCast v5
  ![0, v31.toNat]
def k0_off6 (k0_t1 : Fin k0_t1_loop.trips) : Fin 2 → Nat :=
  let c3_i32_11 : BitVec 32 := 3#32
  let v34 : Index := Scalar.indexCast c3_i32_11
  let c0_i32_0 : BitVec 32 := 0#32
  let c1_i32 : BitVec 32 := 1#32
  let arg8 : BitVec 32 := Scf.iv c0_i32_0 c1_i32 k0_t1
  let c16_i32 : BitVec 32 := 16#32
  let v5 : BitVec 32 := Scalar.muli arg8 c16_i32
  let v35 : Index := Scalar.indexCast v5
  ![3, v35.toNat]
def k0_off7 (k0_t1 : Fin k0_t1_loop.trips) : Fin 2 → Nat :=
  let c6_i32 : BitVec 32 := 6#32
  let v38 : Index := Scalar.indexCast c6_i32
  let c0_i32_0 : BitVec 32 := 0#32
  let c1_i32 : BitVec 32 := 1#32
  let arg8 : BitVec 32 := Scf.iv c0_i32_0 c1_i32 k0_t1
  let c16_i32 : BitVec 32 := 16#32
  let v5 : BitVec 32 := Scalar.muli arg8 c16_i32
  let v39 : Index := Scalar.indexCast v5
  ![6, v39.toNat]

def k0_chk4 (v42 : IVec S16 32) : Prop :=
  (∀ a x, ((![v42] : Fin 1 → IVec S16 32) a x).toNat < S24000.size a)
theorem k0_idx4_inb : ∀ (v42 : IVec S16 32) (k0_hw4 : k0_chk4 v42), ∀ a x, ((![v42] : Fin 1 → IVec S16 32) a x).toNat < S24000.size a := fun v42 k0_hw4 => k0_hw4

def k0_chk5 (v45 : IVec S16 32) : Prop :=
  (∀ a x, ((![v45] : Fin 1 → IVec S16 32) a x).toNat < S24000.size a)
theorem k0_idx5_inb : ∀ (v45 : IVec S16 32) (k0_hw5 : k0_chk5 v45), ∀ a x, ((![v45] : Fin 1 → IVec S16 32) a x).toNat < S24000.size a := fun v45 k0_hw5 => k0_hw5

def k0_chk6 (v48 : IVec S16 32) : Prop :=
  (∀ a x, ((![v48] : Fin 1 → IVec S16 32) a x).toNat < S24000.size a)
theorem k0_idx6_inb : ∀ (v48 : IVec S16 32) (k0_hw6 : k0_chk6 v48), ∀ a x, ((![v48] : Fin 1 → IVec S16 32) a x).toNat < S24000.size a := fun v48 k0_hw6 => k0_hw6
def k0_off8 (k0_t1 : Fin k0_t1_loop.trips) : Fin 2 → Nat :=
  let c1_i32_15 : BitVec 32 := 1#32
  let v50 : Index := Scalar.indexCast c1_i32_15
  let c0_i32_0 : BitVec 32 := 0#32
  let c1_i32 : BitVec 32 := 1#32
  let arg8 : BitVec 32 := Scf.iv c0_i32_0 c1_i32 k0_t1
  let c16_i32 : BitVec 32 := 16#32
  let v5 : BitVec 32 := Scalar.muli arg8 c16_i32
  let v51 : Index := Scalar.indexCast v5
  ![1, v51.toNat]
def k0_off9 (k0_t1 : Fin k0_t1_loop.trips) : Fin 2 → Nat :=
  let c4_i32 : BitVec 32 := 4#32
  let v54 : Index := Scalar.indexCast c4_i32
  let c0_i32_0 : BitVec 32 := 0#32
  let c1_i32 : BitVec 32 := 1#32
  let arg8 : BitVec 32 := Scf.iv c0_i32_0 c1_i32 k0_t1
  let c16_i32 : BitVec 32 := 16#32
  let v5 : BitVec 32 := Scalar.muli arg8 c16_i32
  let v55 : Index := Scalar.indexCast v5
  ![4, v55.toNat]
def k0_off10 (k0_t1 : Fin k0_t1_loop.trips) : Fin 2 → Nat :=
  let c7_i32 : BitVec 32 := 7#32
  let v58 : Index := Scalar.indexCast c7_i32
  let c0_i32_0 : BitVec 32 := 0#32
  let c1_i32 : BitVec 32 := 1#32
  let arg8 : BitVec 32 := Scf.iv c0_i32_0 c1_i32 k0_t1
  let c16_i32 : BitVec 32 := 16#32
  let v5 : BitVec 32 := Scalar.muli arg8 c16_i32
  let v59 : Index := Scalar.indexCast v5
  ![7, v59.toNat]

def k0_chk7 (v62 : IVec S16 32) : Prop :=
  (∀ a x, ((![v62] : Fin 1 → IVec S16 32) a x).toNat < S24000.size a)
theorem k0_idx7_inb : ∀ (v62 : IVec S16 32) (k0_hw7 : k0_chk7 v62), ∀ a x, ((![v62] : Fin 1 → IVec S16 32) a x).toNat < S24000.size a := fun v62 k0_hw7 => k0_hw7

def k0_chk8 (v65 : IVec S16 32) : Prop :=
  (∀ a x, ((![v65] : Fin 1 → IVec S16 32) a x).toNat < S24000.size a)
theorem k0_idx8_inb : ∀ (v65 : IVec S16 32) (k0_hw8 : k0_chk8 v65), ∀ a x, ((![v65] : Fin 1 → IVec S16 32) a x).toNat < S24000.size a := fun v65 k0_hw8 => k0_hw8

def k0_chk9 (v68 : IVec S16 32) : Prop :=
  (∀ a x, ((![v68] : Fin 1 → IVec S16 32) a x).toNat < S24000.size a)
theorem k0_idx9_inb : ∀ (v68 : IVec S16 32) (k0_hw9 : k0_chk9 v68), ∀ a x, ((![v68] : Fin 1 → IVec S16 32) a x).toNat < S24000.size a := fun v68 k0_hw9 => k0_hw9
def k0_off11 (k0_t1 : Fin k0_t1_loop.trips) : Fin 2 → Nat :=
  let c2_i32_19 : BitVec 32 := 2#32
  let v70 : Index := Scalar.indexCast c2_i32_19
  let c0_i32_0 : BitVec 32 := 0#32
  let c1_i32 : BitVec 32 := 1#32
  let arg8 : BitVec 32 := Scf.iv c0_i32_0 c1_i32 k0_t1
  let c16_i32 : BitVec 32 := 16#32
  let v5 : BitVec 32 := Scalar.muli arg8 c16_i32
  let v71 : Index := Scalar.indexCast v5
  ![2, v71.toNat]
def k0_off12 (k0_t1 : Fin k0_t1_loop.trips) : Fin 2 → Nat :=
  let c5_i32 : BitVec 32 := 5#32
  let v74 : Index := Scalar.indexCast c5_i32
  let c0_i32_0 : BitVec 32 := 0#32
  let c1_i32 : BitVec 32 := 1#32
  let arg8 : BitVec 32 := Scf.iv c0_i32_0 c1_i32 k0_t1
  let c16_i32 : BitVec 32 := 16#32
  let v5 : BitVec 32 := Scalar.muli arg8 c16_i32
  let v75 : Index := Scalar.indexCast v5
  ![5, v75.toNat]
def k0_off13 (k0_t1 : Fin k0_t1_loop.trips) : Fin 2 → Nat :=
  let c8_i32 : BitVec 32 := 8#32
  let v78 : Index := Scalar.indexCast c8_i32
  let c0_i32_0 : BitVec 32 := 0#32
  let c1_i32 : BitVec 32 := 1#32
  let arg8 : BitVec 32 := Scf.iv c0_i32_0 c1_i32 k0_t1
  let c16_i32 : BitVec 32 := 16#32
  let v5 : BitVec 32 := Scalar.muli arg8 c16_i32
  let v79 : Index := Scalar.indexCast v5
  ![8, v79.toNat]
def k0_off14 (i : grid0.Coords) : Fin 2 → Nat :=
  let c0_i32_2_r2 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1280_i32 : BitVec 32 := 1280#32
  let v2 : BitVec 32 := Scalar.muli v1 c1280_i32
  ![0, v2.toNat]
abbrev grid1 : Pipeline.Grid := ⟨2, ![2, 16], ![false, false]⟩

def k1_off1 (i : grid1.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  ![v2.toNat]
@[reducible] def k1_t1_loop : Scf.Loop 32 :=
  let c0_i32_0 : BitVec 32 := 0#32
  let c8_i32 : BitVec 32 := 8#32
  let v3 : BitVec 32 := Scalar.addi c0_i32_0 c8_i32
  let c1_i32 : BitVec 32 := 1#32
  ⟨c0_i32_0, v3, c1_i32⟩
def k1_off2 (k1_t1 : Fin k1_t1_loop.trips) : Fin 1 → Nat :=
  let c0_i32_0 : BitVec 32 := 0#32
  let c1_i32 : BitVec 32 := 1#32
  let arg14 : BitVec 32 := Scf.iv c0_i32_0 c1_i32 k1_t1
  let c16_i32 : BitVec 32 := 16#32
  let v5 : BitVec 32 := Scalar.muli arg14 c16_i32
  let v10 : Index := Scalar.indexCast v5
  ![v10.toNat]

def k1_chk1 (v11 : IVec S16 32) : Prop :=
  (∀ a x, ((![v11] : Fin 1 → IVec S16 32) a x).toNat < S40000.size a)
theorem k1_idx1_inb : ∀ (v11 : IVec S16 32) (k1_hw1 : k1_chk1 v11), ∀ a x, ((![v11] : Fin 1 → IVec S16 32) a x).toNat < S40000.size a := fun v11 k1_hw1 => k1_hw1
def k1_off3 (k1_t1 : Fin k1_t1_loop.trips) : Fin 1 → Nat :=
  let c0_i32_0 : BitVec 32 := 0#32
  let c1_i32 : BitVec 32 := 1#32
  let arg14 : BitVec 32 := Scf.iv c0_i32_0 c1_i32 k1_t1
  let c16_i32 : BitVec 32 := 16#32
  let v5 : BitVec 32 := Scalar.muli arg14 c16_i32
  let v13 : Index := Scalar.indexCast v5
  ![v13.toNat]

def k1_chk2 (v16 : IVec S16 32) : Prop :=
  (∀ a x, ((![v16] : Fin 1 → IVec S16 32) a x).toNat < S40000.size a)
theorem k1_idx2_inb : ∀ (v16 : IVec S16 32) (k1_hw2 : k1_chk2 v16), ∀ a x, ((![v16] : Fin 1 → IVec S16 32) a x).toNat < S40000.size a := fun v16 k1_hw2 => k1_hw2

def k1_chk3 (v21 : IVec S16 32) : Prop :=
  (∀ a x, ((![v21] : Fin 1 → IVec S16 32) a x).toNat < S24000.size a)
theorem k1_idx3_inb : ∀ (v21 : IVec S16 32) (k1_hw3 : k1_chk3 v21), ∀ a x, ((![v21] : Fin 1 → IVec S16 32) a x).toNat < S24000.size a := fun v21 k1_hw3 => k1_hw3

def k1_chk4 (v9 : IVec S16 32) (v23 : IVec S16 32) : Prop :=
  (∀ a x, ((![v9, v23] : Fin 2 → IVec S16 32) a x).toNat < S128x16.size a)
theorem k1_idx4_inb : ∀ (v9 : IVec S16 32) (v23 : IVec S16 32) (k1_hw4 : k1_chk4 v9 v23), ∀ a x, ((![v9, v23] : Fin 2 → IVec S16 32) a x).toNat < S128x16.size a := fun v9 v23 k1_hw4 => k1_hw4

def k1_chk5 (v25 : IVec S16 32) : Prop :=
  (∀ a x, ((![v25] : Fin 1 → IVec S16 32) a x).toNat < S24000.size a)
theorem k1_idx5_inb : ∀ (v25 : IVec S16 32) (k1_hw5 : k1_chk5 v25), ∀ a x, ((![v25] : Fin 1 → IVec S16 32) a x).toNat < S24000.size a := fun v25 k1_hw5 => k1_hw5

def k1_chk6 (v9 : IVec S16 32) (v27 : IVec S16 32) : Prop :=
  (∀ a x, ((![v9, v27] : Fin 2 → IVec S16 32) a x).toNat < S128x16.size a)
theorem k1_idx6_inb : ∀ (v9 : IVec S16 32) (v27 : IVec S16 32) (k1_hw6 : k1_chk6 v9 v27), ∀ a x, ((![v9, v27] : Fin 2 → IVec S16 32) a x).toNat < S128x16.size a := fun v9 v27 k1_hw6 => k1_hw6

def k1_chk7 (v29 : IVec S16 32) : Prop :=
  (∀ a x, ((![v29] : Fin 1 → IVec S16 32) a x).toNat < S24000.size a)
theorem k1_idx7_inb : ∀ (v29 : IVec S16 32) (k1_hw7 : k1_chk7 v29), ∀ a x, ((![v29] : Fin 1 → IVec S16 32) a x).toNat < S24000.size a := fun v29 k1_hw7 => k1_hw7

def k1_chk8 (v9 : IVec S16 32) (v31 : IVec S16 32) : Prop :=
  (∀ a x, ((![v9, v31] : Fin 2 → IVec S16 32) a x).toNat < S128x16.size a)
theorem k1_idx8_inb : ∀ (v9 : IVec S16 32) (v31 : IVec S16 32) (k1_hw8 : k1_chk8 v9 v31), ∀ a x, ((![v9, v31] : Fin 2 → IVec S16 32) a x).toNat < S128x16.size a := fun v9 v31 k1_hw8 => k1_hw8

def k1_chk9 (v33 : IVec S16 32) : Prop :=
  (∀ a x, ((![v33] : Fin 1 → IVec S16 32) a x).toNat < S40000.size a)
theorem k1_idx9_inb : ∀ (v33 : IVec S16 32) (k1_hw9 : k1_chk9 v33), ∀ a x, ((![v33] : Fin 1 → IVec S16 32) a x).toNat < S40000.size a := fun v33 k1_hw9 => k1_hw9

def k1_chk10 (v38 : IVec S16 32) : Prop :=
  (∀ a x, ((![v38] : Fin 1 → IVec S16 32) a x).toNat < S24000.size a)
theorem k1_idx10_inb : ∀ (v38 : IVec S16 32) (k1_hw10 : k1_chk10 v38), ∀ a x, ((![v38] : Fin 1 → IVec S16 32) a x).toNat < S24000.size a := fun v38 k1_hw10 => k1_hw10

def k1_chk11 (v9 : IVec S16 32) (v40 : IVec S16 32) : Prop :=
  (∀ a x, ((![v9, v40] : Fin 2 → IVec S16 32) a x).toNat < S128x16.size a)
theorem k1_idx11_inb : ∀ (v9 : IVec S16 32) (v40 : IVec S16 32) (k1_hw11 : k1_chk11 v9 v40), ∀ a x, ((![v9, v40] : Fin 2 → IVec S16 32) a x).toNat < S128x16.size a := fun v9 v40 k1_hw11 => k1_hw11

def k1_chk12 (v42 : IVec S16 32) : Prop :=
  (∀ a x, ((![v42] : Fin 1 → IVec S16 32) a x).toNat < S24000.size a)
theorem k1_idx12_inb : ∀ (v42 : IVec S16 32) (k1_hw12 : k1_chk12 v42), ∀ a x, ((![v42] : Fin 1 → IVec S16 32) a x).toNat < S24000.size a := fun v42 k1_hw12 => k1_hw12

def k1_chk13 (v9 : IVec S16 32) (v44 : IVec S16 32) : Prop :=
  (∀ a x, ((![v9, v44] : Fin 2 → IVec S16 32) a x).toNat < S128x16.size a)
theorem k1_idx13_inb : ∀ (v9 : IVec S16 32) (v44 : IVec S16 32) (k1_hw13 : k1_chk13 v9 v44), ∀ a x, ((![v9, v44] : Fin 2 → IVec S16 32) a x).toNat < S128x16.size a := fun v9 v44 k1_hw13 => k1_hw13

def k1_chk14 (v46 : IVec S16 32) : Prop :=
  (∀ a x, ((![v46] : Fin 1 → IVec S16 32) a x).toNat < S24000.size a)
theorem k1_idx14_inb : ∀ (v46 : IVec S16 32) (k1_hw14 : k1_chk14 v46), ∀ a x, ((![v46] : Fin 1 → IVec S16 32) a x).toNat < S24000.size a := fun v46 k1_hw14 => k1_hw14

def k1_chk15 (v9 : IVec S16 32) (v48 : IVec S16 32) : Prop :=
  (∀ a x, ((![v9, v48] : Fin 2 → IVec S16 32) a x).toNat < S128x16.size a)
theorem k1_idx15_inb : ∀ (v9 : IVec S16 32) (v48 : IVec S16 32) (k1_hw15 : k1_chk15 v9 v48), ∀ a x, ((![v9, v48] : Fin 2 → IVec S16 32) a x).toNat < S128x16.size a := fun v9 v48 k1_hw15 => k1_hw15

def k1_chk16 (v50 : IVec S16 32) : Prop :=
  (∀ a x, ((![v50] : Fin 1 → IVec S16 32) a x).toNat < S40000.size a)
theorem k1_idx16_inb : ∀ (v50 : IVec S16 32) (k1_hw16 : k1_chk16 v50), ∀ a x, ((![v50] : Fin 1 → IVec S16 32) a x).toNat < S40000.size a := fun v50 k1_hw16 => k1_hw16

def k1_chk17 (v55 : IVec S16 32) : Prop :=
  (∀ a x, ((![v55] : Fin 1 → IVec S16 32) a x).toNat < S24000.size a)
theorem k1_idx17_inb : ∀ (v55 : IVec S16 32) (k1_hw17 : k1_chk17 v55), ∀ a x, ((![v55] : Fin 1 → IVec S16 32) a x).toNat < S24000.size a := fun v55 k1_hw17 => k1_hw17

def k1_chk18 (v9 : IVec S16 32) (v57 : IVec S16 32) : Prop :=
  (∀ a x, ((![v9, v57] : Fin 2 → IVec S16 32) a x).toNat < S128x16.size a)
theorem k1_idx18_inb : ∀ (v9 : IVec S16 32) (v57 : IVec S16 32) (k1_hw18 : k1_chk18 v9 v57), ∀ a x, ((![v9, v57] : Fin 2 → IVec S16 32) a x).toNat < S128x16.size a := fun v9 v57 k1_hw18 => k1_hw18

def k1_chk19 (v59 : IVec S16 32) : Prop :=
  (∀ a x, ((![v59] : Fin 1 → IVec S16 32) a x).toNat < S24000.size a)
theorem k1_idx19_inb : ∀ (v59 : IVec S16 32) (k1_hw19 : k1_chk19 v59), ∀ a x, ((![v59] : Fin 1 → IVec S16 32) a x).toNat < S24000.size a := fun v59 k1_hw19 => k1_hw19

def k1_chk20 (v9 : IVec S16 32) (v61 : IVec S16 32) : Prop :=
  (∀ a x, ((![v9, v61] : Fin 2 → IVec S16 32) a x).toNat < S128x16.size a)
theorem k1_idx20_inb : ∀ (v9 : IVec S16 32) (v61 : IVec S16 32) (k1_hw20 : k1_chk20 v9 v61), ∀ a x, ((![v9, v61] : Fin 2 → IVec S16 32) a x).toNat < S128x16.size a := fun v9 v61 k1_hw20 => k1_hw20

def k1_chk21 (v63 : IVec S16 32) : Prop :=
  (∀ a x, ((![v63] : Fin 1 → IVec S16 32) a x).toNat < S24000.size a)
theorem k1_idx21_inb : ∀ (v63 : IVec S16 32) (k1_hw21 : k1_chk21 v63), ∀ a x, ((![v63] : Fin 1 → IVec S16 32) a x).toNat < S24000.size a := fun v63 k1_hw21 => k1_hw21

def k1_chk22 (v9 : IVec S16 32) (v65 : IVec S16 32) : Prop :=
  (∀ a x, ((![v9, v65] : Fin 2 → IVec S16 32) a x).toNat < S128x16.size a)
theorem k1_idx22_inb : ∀ (v9 : IVec S16 32) (v65 : IVec S16 32) (k1_hw22 : k1_chk22 v9 v65), ∀ a x, ((![v9, v65] : Fin 2 → IVec S16 32) a x).toNat < S128x16.size a := fun v9 v65 k1_hw22 => k1_hw22

def k1_chk23 (v67 : IVec S16 32) : Prop :=
  (∀ a x, ((![v67] : Fin 1 → IVec S16 32) a x).toNat < S40000.size a)
theorem k1_idx23_inb : ∀ (v67 : IVec S16 32) (k1_hw23 : k1_chk23 v67), ∀ a x, ((![v67] : Fin 1 → IVec S16 32) a x).toNat < S40000.size a := fun v67 k1_hw23 => k1_hw23

def k1_chk24 (v72 : IVec S16 32) : Prop :=
  (∀ a x, ((![v72] : Fin 1 → IVec S16 32) a x).toNat < S24000.size a)
theorem k1_idx24_inb : ∀ (v72 : IVec S16 32) (k1_hw24 : k1_chk24 v72), ∀ a x, ((![v72] : Fin 1 → IVec S16 32) a x).toNat < S24000.size a := fun v72 k1_hw24 => k1_hw24

def k1_chk25 (v9 : IVec S16 32) (v74 : IVec S16 32) : Prop :=
  (∀ a x, ((![v9, v74] : Fin 2 → IVec S16 32) a x).toNat < S128x16.size a)
theorem k1_idx25_inb : ∀ (v9 : IVec S16 32) (v74 : IVec S16 32) (k1_hw25 : k1_chk25 v9 v74), ∀ a x, ((![v9, v74] : Fin 2 → IVec S16 32) a x).toNat < S128x16.size a := fun v9 v74 k1_hw25 => k1_hw25

def k1_chk26 (v76 : IVec S16 32) : Prop :=
  (∀ a x, ((![v76] : Fin 1 → IVec S16 32) a x).toNat < S24000.size a)
theorem k1_idx26_inb : ∀ (v76 : IVec S16 32) (k1_hw26 : k1_chk26 v76), ∀ a x, ((![v76] : Fin 1 → IVec S16 32) a x).toNat < S24000.size a := fun v76 k1_hw26 => k1_hw26

def k1_chk27 (v9 : IVec S16 32) (v78 : IVec S16 32) : Prop :=
  (∀ a x, ((![v9, v78] : Fin 2 → IVec S16 32) a x).toNat < S128x16.size a)
theorem k1_idx27_inb : ∀ (v9 : IVec S16 32) (v78 : IVec S16 32) (k1_hw27 : k1_chk27 v9 v78), ∀ a x, ((![v9, v78] : Fin 2 → IVec S16 32) a x).toNat < S128x16.size a := fun v9 v78 k1_hw27 => k1_hw27

def k1_chk28 (v80 : IVec S16 32) : Prop :=
  (∀ a x, ((![v80] : Fin 1 → IVec S16 32) a x).toNat < S24000.size a)
theorem k1_idx28_inb : ∀ (v80 : IVec S16 32) (k1_hw28 : k1_chk28 v80), ∀ a x, ((![v80] : Fin 1 → IVec S16 32) a x).toNat < S24000.size a := fun v80 k1_hw28 => k1_hw28

def k1_chk29 (v9 : IVec S16 32) (v82 : IVec S16 32) : Prop :=
  (∀ a x, ((![v9, v82] : Fin 2 → IVec S16 32) a x).toNat < S128x16.size a)
theorem k1_idx29_inb : ∀ (v9 : IVec S16 32) (v82 : IVec S16 32) (k1_hw29 : k1_chk29 v9 v82), ∀ a x, ((![v9, v82] : Fin 2 → IVec S16 32) a x).toNat < S128x16.size a := fun v9 v82 k1_hw29 => k1_hw29
def k1_off4 (i : grid1.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c0_i32_2_r5 : BitVec 32 := 0#32
  ![v2.toNat, 0]
abbrev scKind : Fin 2 → Kind := fun | 0 => .scVector | 1 => .scVector | ⟨_ + 2, h⟩ => absurd h (Nat.not_lt.2 (Nat.le_add_left _ _))
abbrev scNCore : Fin 2 → Nat := fun | 0 => 2 | 1 => 2 | ⟨_ + 2, h⟩ => absurd h (Nat.not_lt.2 (Nat.le_add_left _ _))
abbrev scNSub : Fin 2 → Nat := fun | 0 => 16 | 1 => 16 | ⟨_ + 2, h⟩ => absurd h (Nat.not_lt.2 (Nat.le_add_left _ _))
-- ==== ReferenceIdeal.lean ====
abbrev S1x8000x3 : Shape := ⟨3, ![1, 8000, 3]⟩
abbrev S10000x4x3 : Shape := ⟨3, ![10000, 4, 3]⟩
abbrev S40000 : Shape := ⟨1, ![40000]⟩
abbrev S4096 : Shape := ⟨1, ![4096]⟩
abbrev S40000x3 : Shape := ⟨2, ![40000, 3]⟩
abbrev S8000x3 : Shape := ⟨2, ![8000, 3]⟩
abbrev S_ : Shape := ⟨0, ![]⟩
abbrev S40000x3x1 : Shape := ⟨3, ![40000, 3, 1]⟩
abbrev S40000x3x3 : Shape := ⟨3, ![40000, 3, 3]⟩
abbrev S40000x1x3 : Shape := ⟨3, ![40000, 1, 3]⟩
abbrev S4096x1 : Shape := ⟨2, ![4096, 1]⟩
abbrev S10000x1x1 : Shape := ⟨3, ![10000, 1, 1]⟩
abbrev S10000 : Shape := ⟨1, ![10000]⟩
abbrev S10000x1 : Shape := ⟨2, ![10000, 1]⟩
abbrev S10000x4 : Shape := ⟨2, ![10000, 4]⟩
abbrev S4096x4 : Shape := ⟨2, ![4096, 4]⟩
abbrev S4096x4x1 : Shape := ⟨3, ![4096, 4, 1]⟩
abbrev S4096x4x3 : Shape := ⟨3, ![4096, 4, 3]⟩
abbrev S40000x9 : Shape := ⟨2, ![40000, 9]⟩
abbrev S9x40000 : Shape := ⟨2, ![9, 40000]⟩
abbrev S4096x12 : Shape := ⟨2, ![4096, 12]⟩

abbrev nBuf : Space → Nat
  | .hbm => 71
  | .vmem => 0
  | .smem => 0
  | _ => 0

abbrev bufTy : (tb : Table) → Fin (tcTables nBuf tb) → BufTy
  | .hbm, ⟨0, _⟩ => ⟨S1x8000x3, .f32⟩
  | .hbm, ⟨1, _⟩ => ⟨S10000x4x3, .i32⟩
  | .hbm, ⟨2, _⟩ => ⟨S40000, .i32⟩
  | .hbm, ⟨3, _⟩ => ⟨S4096, .i32⟩
  | .hbm, ⟨4, _⟩ => ⟨S40000x3, .i32⟩
  | .hbm, ⟨5, _⟩ => ⟨S8000x3, .f32⟩
  | .hbm, ⟨6, _⟩ => ⟨S_, .i32⟩
  | .hbm, ⟨7, _⟩ => ⟨S40000x3, .i32⟩
  | .hbm, ⟨8, _⟩ => ⟨S40000x3, .i1⟩
  | .hbm, ⟨9, _⟩ => ⟨S_, .i32⟩
  | .hbm, ⟨10, _⟩ => ⟨S40000x3, .i32⟩
  | .hbm, ⟨11, _⟩ => ⟨S40000x3, .i32⟩
  | .hbm, ⟨12, _⟩ => ⟨S40000x3, .i32⟩
  | .hbm, ⟨13, _⟩ => ⟨S40000x3x1, .i32⟩
  | .hbm, ⟨14, _⟩ => ⟨S40000x3x3, .f32⟩
  | .hbm, ⟨15, _⟩ => ⟨S40000x1x3, .f32⟩
  | .hbm, ⟨16, _⟩ => ⟨S40000x3, .f32⟩
  | .hbm, ⟨17, _⟩ => ⟨S40000x1x3, .f32⟩
  | .hbm, ⟨18, _⟩ => ⟨S40000x3, .f32⟩
  | .hbm, ⟨19, _⟩ => ⟨S40000x1x3, .f32⟩
  | .hbm, ⟨20, _⟩ => ⟨S40000x3, .f32⟩
  | .hbm, ⟨21, _⟩ => ⟨S40000x3, .f32⟩
  | .hbm, ⟨22, _⟩ => ⟨S40000x1x3, .f32⟩
  | .hbm, ⟨23, _⟩ => ⟨S40000x3, .f32⟩
  | .hbm, ⟨24, _⟩ => ⟨S40000x1x3, .f32⟩
  | .hbm, ⟨25, _⟩ => ⟨S40000x3, .f32⟩
  | .hbm, ⟨26, _⟩ => ⟨S40000x3, .f32⟩
  | .hbm, ⟨27, _⟩ => ⟨S_, .i32⟩
  | .hbm, ⟨28, _⟩ => ⟨S4096, .i32⟩
  | .hbm, ⟨29, _⟩ => ⟨S4096, .i1⟩
  | .hbm, ⟨30, _⟩ => ⟨S_, .i32⟩
  | .hbm, ⟨31, _⟩ => ⟨S4096, .i32⟩
  | .hbm, ⟨32, _⟩ => ⟨S4096, .i32⟩
  | .hbm, ⟨33, _⟩ => ⟨S4096, .i32⟩
  | .hbm, ⟨34, _⟩ => ⟨S4096x1, .i32⟩
  | .hbm, ⟨35, _⟩ => ⟨S4096, .i32⟩
  | .hbm, ⟨36, _⟩ => ⟨S10000x1x1, .i32⟩
  | .hbm, ⟨37, _⟩ => ⟨S10000, .i32⟩
  | .hbm, ⟨38, _⟩ => ⟨S10000x1x1, .i32⟩
  | .hbm, ⟨39, _⟩ => ⟨S10000, .i32⟩
  | .hbm, ⟨40, _⟩ => ⟨S10000x1x1, .i32⟩
  | .hbm, ⟨41, _⟩ => ⟨S10000, .i32⟩
  | .hbm, ⟨42, _⟩ => ⟨S10000x1x1, .i32⟩
  | .hbm, ⟨43, _⟩ => ⟨S10000, .i32⟩
  | .hbm, ⟨44, _⟩ => ⟨S10000x1, .i32⟩
  | .hbm, ⟨45, _⟩ => ⟨S10000x1, .i32⟩
  | .hbm, ⟨46, _⟩ => ⟨S10000x1, .i32⟩
  | .hbm, ⟨47, _⟩ => ⟨S10000x1, .i32⟩
  | .hbm, ⟨48, _⟩ => ⟨S10000x4, .i32⟩
  | .hbm, ⟨49, _⟩ => ⟨S8000x3, .f32⟩
  | .hbm, ⟨50, _⟩ => ⟨S_, .i32⟩
  | .hbm, ⟨51, _⟩ => ⟨S4096, .i32⟩
  | .hbm, ⟨52, _⟩ => ⟨S4096, .i1⟩
  | .hbm, ⟨53, _⟩ => ⟨S_, .i32⟩
  | .hbm, ⟨54, _⟩ => ⟨S4096, .i32⟩
  | .hbm, ⟨55, _⟩ => ⟨S4096, .i32⟩
  | .hbm, ⟨56, _⟩ => ⟨S4096, .i32⟩
  | .hbm, ⟨57, _⟩ => ⟨S4096x1, .i32⟩
  | .hbm, ⟨58, _⟩ => ⟨S4096x4, .i32⟩
  | .hbm, ⟨59, _⟩ => ⟨S_, .i32⟩
  | .hbm, ⟨60, _⟩ => ⟨S4096x4, .i32⟩
  | .hbm, ⟨61, _⟩ => ⟨S4096x4, .i1⟩
  | .hbm, ⟨62, _⟩ => ⟨S_, .i32⟩
  | .hbm, ⟨63, _⟩ => ⟨S4096x4, .i32⟩
  | .hbm, ⟨64, _⟩ => ⟨S4096x4, .i32⟩
  | .hbm, ⟨65, _⟩ => ⟨S4096x4, .i32⟩
  | .hbm, ⟨66, _⟩ => ⟨S4096x4x1, .i32⟩
  | .hbm, ⟨67, _⟩ => ⟨S4096x4x3, .f32⟩
  | .hbm, ⟨68, _⟩ => ⟨S40000x9, .f32⟩
  | .hbm, ⟨69, _⟩ => ⟨S9x40000, .f32⟩
  | .hbm, ⟨70, _⟩ => ⟨S4096x12, .f32⟩
  | _, _ => ⟨S1x8000x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_c : Ref sig .tc := ⟨.hbm, 6, rfl⟩
abbrev main_v2 : Ref sig .tc := ⟨.hbm, 7, rfl⟩
abbrev main_v3 : Ref sig .tc := ⟨.hbm, 8, rfl⟩
abbrev main_c_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_c_1 : Ref sig .tc := ⟨.hbm, 27, rfl⟩
abbrev main_v21 : Ref sig .tc := ⟨.hbm, 28, rfl⟩
abbrev main_v22 : Ref sig .tc := ⟨.hbm, 29, rfl⟩
abbrev main_c_2 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_c_3 : Ref sig .tc := ⟨.hbm, 50, rfl⟩
abbrev main_v42 : Ref sig .tc := ⟨.hbm, 51, rfl⟩
abbrev main_v43 : Ref sig .tc := ⟨.hbm, 52, rfl⟩
abbrev main_c_4 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_c_5 : Ref sig .tc := ⟨.hbm, 59, rfl⟩
abbrev main_v49 : Ref sig .tc := ⟨.hbm, 60, rfl⟩
abbrev main_v50 : Ref sig .tc := ⟨.hbm, 61, rfl⟩
abbrev main_c_6 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩
abbrev main_v57 : Ref sig .tc := ⟨.hbm, 69, rfl⟩
abbrev main_v58 : Ref sig .tc := ⟨.hbm, 70, rfl⟩

abbrev nD : Nat := 1
abbrev τ : Topo := Topo.v7x

variable {F : FTy → Type} [FloatOps F]
-- ==== Sampler.lean ====
abbrev S1x4096x3 : Shape := ⟨3, ![1, 4096, 3]⟩
abbrev S4096 : Shape := ⟨1, ![4096]⟩
abbrev S4096x16 : Shape := ⟨2, ![4096, 16]⟩
abbrev S4096x3 : Shape := ⟨2, ![4096, 3]⟩
abbrev S_ : Shape := ⟨0, ![]⟩
abbrev S4096x2 : Shape := ⟨2, ![4096, 2]⟩
abbrev S4096x8 : Shape := ⟨2, ![4096, 8]⟩
abbrev S4096x128 : Shape := ⟨2, ![4096, 128]⟩
abbrev S512x8 : Shape := ⟨2, ![512, 8]⟩
abbrev S512 : Shape := ⟨1, ![512]⟩
abbrev S512x16 : Shape := ⟨2, ![512, 16]⟩
abbrev S512x128 : Shape := ⟨2, ![512, 128]⟩
abbrev S1x512 : Shape := ⟨2, ![1, 512]⟩
abbrev S512x1 : Shape := ⟨2, ![512, 1]⟩
abbrev S1x128 : Shape := ⟨2, ![1, 128]⟩
abbrev S4096x128x1 : Shape := ⟨3, ![4096, 128, 1]⟩
abbrev S4096x128x4 : Shape := ⟨3, ![4096, 128, 4]⟩
abbrev S4096x128x3 : Shape := ⟨3, ![4096, 128, 3]⟩

abbrev nBuf : Space → Nat
  | .hbm => 30
  | .vmem => 30
  | .smem => 0
  | _ => 0

abbrev bufTy : (tb : Table) → Fin (tcTables nBuf tb) → BufTy
  | .hbm, ⟨0, _⟩ => ⟨S1x4096x3, .f32⟩
  | .hbm, ⟨1, _⟩ => ⟨S1x4096x3, .f32⟩
  | .hbm, ⟨2, _⟩ => ⟨S4096, .f32⟩
  | .hbm, ⟨3, _⟩ => ⟨S4096, .i32⟩
  | .hbm, ⟨4, _⟩ => ⟨S4096x16, .f32⟩
  | .hbm, ⟨5, _⟩ => ⟨S4096x3, .f32⟩
  | .hbm, ⟨6, _⟩ => ⟨S4096x3, .f32⟩
  | .hbm, ⟨7, _⟩ => ⟨S_, .f32⟩
  | .hbm, ⟨8, _⟩ => ⟨S4096x2, .f32⟩
  | .hbm, ⟨9, _⟩ => ⟨S4096x8, .f32⟩
  | .hbm, ⟨10, _⟩ => ⟨S4096, .i32⟩
  | .hbm, ⟨11, _⟩ => ⟨S4096, .i32⟩
  | .hbm, ⟨12, _⟩ => ⟨S4096, .f32⟩
  | .hbm, ⟨13, _⟩ => ⟨S4096, .f32⟩
  | .hbm, ⟨14, _⟩ => ⟨S4096x128, .f32⟩
  | .hbm, ⟨15, _⟩ => ⟨S4096x128, .f32⟩
  | .hbm, ⟨16, _⟩ => ⟨S4096x128, .f32⟩
  | .hbm, ⟨17, _⟩ => ⟨S4096x128, .f32⟩
  | .hbm, ⟨18, _⟩ => ⟨S4096x128, .f32⟩
  | .hbm, ⟨19, _⟩ => ⟨S4096x128, .f32⟩
  | .hbm, ⟨20, _⟩ => ⟨S4096x128, .f32⟩
  | .hbm, ⟨21, _⟩ => ⟨S4096x128x1, .f32⟩
  | .hbm, ⟨22, _⟩ => ⟨S4096x128x1, .f32⟩
  | .hbm, ⟨23, _⟩ => ⟨S4096x128x1, .f32⟩
  | .hbm, ⟨24, _⟩ => ⟨S4096x128x1, .f32⟩
  | .hbm, ⟨25, _⟩ => ⟨S4096x128x4, .f32⟩
  | .hbm, ⟨26, _⟩ => ⟨S4096x128x1, .f32⟩
  | .hbm, ⟨27, _⟩ => ⟨S4096x128x1, .f32⟩
  | .hbm, ⟨28, _⟩ => ⟨S4096x128x1, .f32⟩
  | .hbm, ⟨29, _⟩ => ⟨S4096x128x3, .f32⟩
  | .local _ .vmem, ⟨0, _⟩ => ⟨S512x8, .f32⟩
  | .local _ .vmem, ⟨1, _⟩ => ⟨S512x8, .f32⟩
  | .local _ .vmem, ⟨2, _⟩ => ⟨S512, .f32⟩
  | .local _ .vmem, ⟨3, _⟩ => ⟨S512, .f32⟩
  | .local _ .vmem, ⟨4, _⟩ => ⟨S512, .i32⟩
  | .local _ .vmem, ⟨5, _⟩ => ⟨S512, .i32⟩
  | .local _ .vmem, ⟨6, _⟩ => ⟨S512x16, .f32⟩
  | .local _ .vmem, ⟨7, _⟩ => ⟨S512x16, .f32⟩
  | .local _ .vmem, ⟨8, _⟩ => ⟨S512, .i32⟩
  | .local _ .vmem, ⟨9, _⟩ => ⟨S512, .i32⟩
  | .local _ .vmem, ⟨10, _⟩ => ⟨S512, .i32⟩
  | .local _ .vmem, ⟨11, _⟩ => ⟨S512, .i32⟩
  | .local _ .vmem, ⟨12, _⟩ => ⟨S512, .f32⟩
  | .local _ .vmem, ⟨13, _⟩ => ⟨S512, .f32⟩
  | .local _ .vmem, ⟨14, _⟩ => ⟨S512, .f32⟩
  | .local _ .vmem, ⟨15, _⟩ => ⟨S512, .f32⟩
  | .local _ .vmem, ⟨16, _⟩ => ⟨S512x128, .f32⟩
  | .local _ .vmem, ⟨17, _⟩ => ⟨S512x128, .f32⟩
  | .local _ .vmem, ⟨18, _⟩ => ⟨S512x128, .f32⟩
  | .local _ .vmem, ⟨19, _⟩ => ⟨S512x128, .f32⟩
  | .local _ .vmem, ⟨20, _⟩ => ⟨S512x128, .f32⟩
  | .local _ .vmem, ⟨21, _⟩ => ⟨S512x128, .f32⟩
  | .local _ .vmem, ⟨22, _⟩ => ⟨S512x128, .f32⟩
  | .local _ .vmem, ⟨23, _⟩ => ⟨S512x128, .f32⟩
  | .local _ .vmem, ⟨24, _⟩ => ⟨S512x128, .f32⟩
  | .local _ .vmem, ⟨25, _⟩ => ⟨S512x128, .f32⟩
  | .local _ .vmem, ⟨26, _⟩ => ⟨S512x128, .f32⟩
  | .local _ .vmem, ⟨27, _⟩ => ⟨S512x128, .f32⟩
  | .local _ .vmem, ⟨28, _⟩ => ⟨S512x128, .f32⟩
  | .local _ .vmem, ⟨29, _⟩ => ⟨S512x128, .f32⟩
  | _, _ => ⟨S1x4096x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_v4_0 : Ref sig .tc := ⟨.hbm, 10, rfl⟩
abbrev main_v4_1 : Ref sig .tc := ⟨.hbm, 11, rfl⟩
abbrev main_v4_2 : Ref sig .tc := ⟨.hbm, 12, rfl⟩
abbrev main_v4_3 : Ref sig .tc := ⟨.hbm, 13, rfl⟩
abbrev main_v4_4 : Ref sig .tc := ⟨.hbm, 14, rfl⟩
abbrev main_v4_5 : Ref sig .tc := ⟨.hbm, 15, rfl⟩
abbrev main_v4_6 : Ref sig .tc := ⟨.hbm, 16, rfl⟩
abbrev main_v4_7 : Ref sig .tc := ⟨.hbm, 17, rfl⟩
abbrev main_v4_8 : Ref sig .tc := ⟨.hbm, 18, rfl⟩
abbrev main_v4_9 : Ref sig .tc := ⟨.hbm, 19, rfl⟩
abbrev main_v4_10 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_stg14_0 : Ref sig .tc := ⟨.vmem, 28, rfl⟩
abbrev cc0_stg14_1 : Ref sig .tc := ⟨.vmem, 29, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27
abbrev cc0_sem14_0 : DmaSem sig := 28
abbrev cc0_sem14_1 : DmaSem sig := 29

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 1 → Nat :=
  let arg0 : BitVec 32 := BitVec.ofNat 32 (i 0).val
  let c0_i32 : BitVec 32 := 0#32
  ![arg0.toNat]

def cc0_transform_2 (i : grid0.Coords) : Fin 1 → Nat :=
  let arg0 : BitVec 32 := BitVec.ofNat 32 (i 0).val
  let c0_i32 : BitVec 32 := 0#32
  ![arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 1 → Nat :=
  let arg0 : BitVec 32 := BitVec.ofNat 32 (i 0).val
  let c0_i32 : BitVec 32 := 0#32
  ![arg0.toNat]

def cc0_transform_5 (i : grid0.Coords) : Fin 1 → Nat :=
  let arg0 : BitVec 32 := BitVec.ofNat 32 (i 0).val
  let c0_i32 : BitVec 32 := 0#32
  ![arg0.toNat]

def cc0_transform_6 (i : grid0.Coords) : Fin 1 → Nat :=
  let arg0 : BitVec 32 := BitVec.ofNat 32 (i 0).val
  let c0_i32 : BitVec 32 := 0#32
  ![arg0.toNat]

def cc0_transform_7 (i : grid0.Coords) : Fin 1 → Nat :=
  let arg0 : BitVec 32 := BitVec.ofNat 32 (i 0).val
  let c0_i32 : BitVec 32 := 0#32
  ![arg0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x8 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x16 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512 .i32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512 .i32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S512x128 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]
-- ==== SamplerReferenceIdeal.lean ====
abbrev S1x4096x3 : Shape := ⟨3, ![1, 4096, 3]⟩
abbrev S4096 : Shape := ⟨1, ![4096]⟩
abbrev S4096x16 : Shape := ⟨2, ![4096, 16]⟩
abbrev S4096x3 : Shape := ⟨2, ![4096, 3]⟩
abbrev S_ : Shape := ⟨0, ![]⟩
abbrev S4096x1 : Shape := ⟨2, ![4096, 1]⟩
abbrev S128 : Shape := ⟨1, ![128]⟩
abbrev S4096x1x3 : Shape := ⟨3, ![4096, 1, 3]⟩
abbrev S1x128x1 : Shape := ⟨3, ![1, 128, 1]⟩
abbrev S4096x128x3 : Shape := ⟨3, ![4096, 128, 3]⟩
abbrev S4096x12 : Shape := ⟨2, ![4096, 12]⟩
abbrev S4096x4x3 : Shape := ⟨3, ![4096, 4, 3]⟩
abbrev S4096x3x1 : Shape := ⟨3, ![4096, 3, 1]⟩
abbrev S4096x3x3 : Shape := ⟨3, ![4096, 3, 3]⟩
abbrev S3x3 : Shape := ⟨2, ![3, 3]⟩
abbrev S1x3x3 : Shape := ⟨3, ![1, 3, 3]⟩
abbrev S4096x3x128 : Shape := ⟨3, ![4096, 3, 128]⟩
abbrev S4096x3x131 : Shape := ⟨3, ![4096, 3, 131]⟩
abbrev S4096x1x131 : Shape := ⟨3, ![4096, 1, 131]⟩
abbrev S4096x131 : Shape := ⟨2, ![4096, 131]⟩
abbrev S4096x128 : Shape := ⟨2, ![4096, 128]⟩
abbrev S4096x1x128 : Shape := ⟨3, ![4096, 1, 128]⟩
abbrev S4096x128x1 : Shape := ⟨3, ![4096, 128, 1]⟩
abbrev S4096x128x4 : Shape := ⟨3, ![4096, 128, 4]⟩
abbrev S4096x1x1 : Shape := ⟨3, ![4096, 1, 1]⟩

abbrev nBuf : Space → Nat
  | .hbm => 215
  | .vmem => 0
  | .smem => 0
  | _ => 0

abbrev hbmTy0_0 (i : Nat) : BufTy := match i % 128 with
  | 0 => ⟨S1x4096x3, .f32⟩
  | 1 => ⟨S1x4096x3, .f32⟩
  | 2 => ⟨S4096, .f32⟩
  | 3 => ⟨S4096, .i32⟩
  | 4 => ⟨S4096x16, .f32⟩
  | 5 => ⟨S4096x3, .f32⟩
  | 6 => ⟨S4096x3, .f32⟩
  | 7 => ⟨S_, .f32⟩
  | 8 => ⟨S4096, .f32⟩
  | 9 => ⟨S4096, .i1⟩
  | 10 => ⟨S_, .f32⟩
  | 11 => ⟨S_, .f32⟩
  | 12 => ⟨S4096, .f32⟩
  | 13 => ⟨S4096, .f32⟩
  | 14 => ⟨S4096x1, .f32⟩
  | 15 => ⟨S4096x3, .f32⟩
  | 16 => ⟨S4096x3, .f32⟩
  | 17 => ⟨S4096x3, .f32⟩
  | 18 => ⟨S128, .f32⟩
  | 19 => ⟨S_, .f32⟩
  | 20 => ⟨S128, .f32⟩
  | 21 => ⟨S128, .f32⟩
  | 22 => ⟨S4096x1x3, .f32⟩
  | 23 => ⟨S1x128x1, .f32⟩
  | 24 => ⟨S4096x1x3, .f32⟩
  | 25 => ⟨S4096x128x3, .f32⟩
  | 26 => ⟨S4096x128x3, .f32⟩
  | 27 => ⟨S4096x128x3, .f32⟩
  | 28 => ⟨S4096x128x3, .f32⟩
  | 29 => ⟨S4096x128x3, .f32⟩
  | 30 => ⟨S4096x12, .f32⟩
  | 31 => ⟨S4096x4x3, .f32⟩
  | 32 => ⟨S4096x1x3, .f32⟩
  | 33 => ⟨S4096x3, .f32⟩
  | 34 => ⟨S4096x1x3, .f32⟩
  | 35 => ⟨S4096x3, .f32⟩
  | 36 => ⟨S4096x3, .f32⟩
  | 37 => ⟨S4096x1x3, .f32⟩
  | 38 => ⟨S4096x3, .f32⟩
  | 39 => ⟨S4096x1x3, .f32⟩
  | 40 => ⟨S4096x3, .f32⟩
  | 41 => ⟨S4096x3, .f32⟩
  | 42 => ⟨S4096x1x3, .f32⟩
  | 43 => ⟨S4096x3, .f32⟩
  | 44 => ⟨S4096x1x3, .f32⟩
  | 45 => ⟨S4096x3, .f32⟩
  | 46 => ⟨S4096x3, .f32⟩
  | 47 => ⟨S4096x3x1, .f32⟩
  | 48 => ⟨S4096x3x1, .f32⟩
  | 49 => ⟨S4096x3x1, .f32⟩
  | 50 => ⟨S4096x3x3, .f32⟩
  | 51 => ⟨S3x3, .i32⟩
  | 52 => ⟨S3x3, .i32⟩
  | 53 => ⟨S_, .i32⟩
  | 54 => ⟨S3x3, .i32⟩
  | 55 => ⟨S3x3, .i32⟩
  | 56 => ⟨S3x3, .i1⟩
  | 57 => ⟨S3x3, .f32⟩
  | 58 => ⟨S1x3x3, .f32⟩
  | 59 => ⟨S_, .f32⟩
  | 60 => ⟨S1x3x3, .f32⟩
  | 61 => ⟨S1x3x3, .f32⟩
  | 62 => ⟨S4096x3x3, .f32⟩
  | 63 => ⟨S4096x3x3, .f32⟩
  | 64 => ⟨S4096x1x3, .f32⟩
  | 65 => ⟨S4096x3, .f32⟩
  | 66 => ⟨S4096x1x3, .f32⟩
  | 67 => ⟨S4096x128x3, .f32⟩
  | 68 => ⟨S4096x128x3, .f32⟩
  | 69 => ⟨S4096x3x128, .f32⟩
  | 70 => ⟨S4096x3x131, .f32⟩
  | 71 => ⟨S4096x1x131, .f32⟩
  | 72 => ⟨S4096x131, .f32⟩
  | 73 => ⟨S4096x1x131, .f32⟩
  | 74 => ⟨S4096x131, .f32⟩
  | 75 => ⟨S4096x1x131, .f32⟩
  | 76 => ⟨S4096x131, .f32⟩
  | 77 => ⟨S4096x1, .f32⟩
  | 78 => ⟨S4096x1, .f32⟩
  | 79 => ⟨S4096x1, .f32⟩
  | 80 => ⟨S4096x1, .f32⟩
  | 81 => ⟨S4096x1, .f32⟩
  | 82 => ⟨S4096x1, .f32⟩
  | 83 => ⟨S4096x1, .f32⟩
  | 84 => ⟨S4096x1, .f32⟩
  | 85 => ⟨S_, .i32⟩
  | 86 => ⟨S4096x1, .i32⟩
  | 87 => ⟨S4096x1, .i1⟩
  | 88 => ⟨S_, .i32⟩
  | 89 => ⟨S_, .i32⟩
  | 90 => ⟨S4096x1, .i32⟩
  | 91 => ⟨S4096x1, .i32⟩
  | 92 => ⟨S4096x1, .i1⟩
  | 93 => ⟨S_, .i32⟩
  | 94 => ⟨S_, .i32⟩
  | 95 => ⟨S4096x1, .i32⟩
  | 96 => ⟨S4096x1, .i32⟩
  | 97 => ⟨S_, .i32⟩
  | 98 => ⟨S4096x1, .i32⟩
  | 99 => ⟨S4096x1, .i1⟩
  | 100 => ⟨S4096x131, .i1⟩
  | 101 => ⟨S4096x131, .f32⟩
  | 102 => ⟨S_, .i32⟩
  | 103 => ⟨S4096x1, .i32⟩
  | 104 => ⟨S4096x1, .i1⟩
  | 105 => ⟨S4096x131, .i1⟩
  | 106 => ⟨S4096x131, .f32⟩
  | 107 => ⟨S_, .i32⟩
  | 108 => ⟨S4096x1, .i32⟩
  | 109 => ⟨S4096x1, .i1⟩
  | 110 => ⟨S4096x131, .i1⟩
  | 111 => ⟨S4096x131, .f32⟩
  | 112 => ⟨S_, .i32⟩
  | 113 => ⟨S4096x1, .i32⟩
  | 114 => ⟨S4096x1, .i1⟩
  | 115 => ⟨S4096x131, .i1⟩
  | 116 => ⟨S4096x131, .f32⟩
  | 117 => ⟨S4096x1, .f32⟩
  | 118 => ⟨S4096x1, .f32⟩
  | 119 => ⟨S4096x1, .f32⟩
  | 120 => ⟨S4096x131, .f32⟩
  | 121 => ⟨S4096x131, .f32⟩
  | 122 => ⟨S4096x131, .f32⟩
  | 123 => ⟨S4096x1, .f32⟩
  | 124 => ⟨S4096x1, .f32⟩
  | 125 => ⟨S4096x1, .f32⟩
  | 126 => ⟨S4096x131, .f32⟩
  | 127 => ⟨S4096x131, .f32⟩
  | _ => ⟨S1x4096x3, .f32⟩

abbrev hbmTy0_1 (i : Nat) : BufTy := match i % 128 with
  | 0 => ⟨S4096x131, .f32⟩
  | 1 => ⟨S4096x1, .f32⟩
  | 2 => ⟨S4096x1, .f32⟩
  | 3 => ⟨S4096x1, .f32⟩
  | 4 => ⟨S4096x1, .f32⟩
  | 5 => ⟨S4096x1, .f32⟩
  | 6 => ⟨S_, .i32⟩
  | 7 => ⟨S4096x1, .i32⟩
  | 8 => ⟨S4096x1, .i1⟩
  | 9 => ⟨S_, .i32⟩
  | 10 => ⟨S_, .i32⟩
  | 11 => ⟨S4096x1, .i32⟩
  | 12 => ⟨S4096x1, .i32⟩
  | 13 => ⟨S_, .i32⟩
  | 14 => ⟨S4096x1, .i32⟩
  | 15 => ⟨S4096x1, .i1⟩
  | 16 => ⟨S4096x131, .i1⟩
  | 17 => ⟨S4096x131, .f32⟩
  | 18 => ⟨S_, .i32⟩
  | 19 => ⟨S4096x1, .i32⟩
  | 20 => ⟨S4096x1, .i1⟩
  | 21 => ⟨S4096x131, .i1⟩
  | 22 => ⟨S4096x131, .f32⟩
  | 23 => ⟨S4096x1, .f32⟩
  | 24 => ⟨S4096x1, .f32⟩
  | 25 => ⟨S4096x1, .f32⟩
  | 26 => ⟨S4096x131, .f32⟩
  | 27 => ⟨S4096x131, .f32⟩
  | 28 => ⟨S4096x131, .f32⟩
  | 29 => ⟨S4096x128, .f32⟩
  | 30 => ⟨S4096x1, .f32⟩
  | 31 => ⟨S4096x128, .f32⟩
  | 32 => ⟨S4096x128, .f32⟩
  | 33 => ⟨S4096x128, .f32⟩
  | 34 => ⟨S4096x1, .f32⟩
  | 35 => ⟨S4096x128, .f32⟩
  | 36 => ⟨S4096x128, .f32⟩
  | 37 => ⟨S4096x128, .f32⟩
  | 38 => ⟨S4096x1, .f32⟩
  | 39 => ⟨S4096x128, .f32⟩
  | 40 => ⟨S4096x128, .f32⟩
  | 41 => ⟨S4096x128, .f32⟩
  | 42 => ⟨S4096x1, .f32⟩
  | 43 => ⟨S4096x128, .f32⟩
  | 44 => ⟨S4096x128, .f32⟩
  | 45 => ⟨S4096x128, .f32⟩
  | 46 => ⟨S4096x1, .f32⟩
  | 47 => ⟨S4096x128, .f32⟩
  | 48 => ⟨S4096x128, .f32⟩
  | 49 => ⟨S4096x128, .f32⟩
  | 50 => ⟨S4096x1, .f32⟩
  | 51 => ⟨S4096x128, .f32⟩
  | 52 => ⟨S4096x128, .f32⟩
  | 53 => ⟨S4096x1x128, .f32⟩
  | 54 => ⟨S4096x1x128, .f32⟩
  | 55 => ⟨S4096x1x128, .f32⟩
  | 56 => ⟨S4096x3x128, .f32⟩
  | 57 => ⟨S4096x128x3, .f32⟩
  | 58 => ⟨S_, .f32⟩
  | 59 => ⟨S4096x128, .f32⟩
  | 60 => ⟨S4096x128x1, .f32⟩
  | 61 => ⟨S_, .f32⟩
  | 62 => ⟨S4096x128x1, .f32⟩
  | 63 => ⟨S4096x128x1, .f32⟩
  | 64 => ⟨S4096x128x4, .f32⟩
  | 65 => ⟨S4096x1x1, .i1⟩
  | 66 => ⟨S4096x1x1, .f32⟩
  | 67 => ⟨S4096x128x4, .f32⟩
  | 68 => ⟨S4096x128x4, .f32⟩
  | 69 => ⟨S4096x128x3, .f32⟩
  | 70 => ⟨S4096x128x3, .f32⟩
  | 71 => ⟨S4096, .i32⟩
  | 72 => ⟨S_, .i32⟩
  | 73 => ⟨S_, .i32⟩
  | 74 => ⟨S4096, .i32⟩
  | 75 => ⟨S4096, .i32⟩
  | 76 => ⟨S_, .i32⟩
  | 77 => ⟨S_, .i32⟩
  | 78 => ⟨S4096, .i32⟩
  | 79 => ⟨S4096, .i32⟩
  | 80 => ⟨S_, .f32⟩
  | 81 => ⟨S4096, .f32⟩
  | 82 => ⟨S4096, .f32⟩
  | 83 => ⟨S_, .f32⟩
  | 84 => ⟨S_, .f32⟩
  | 85 => ⟨S4096, .f32⟩
  | 86 => ⟨S4096, .f32⟩
  | _ => ⟨S1x4096x3, .f32⟩

abbrev hbmTy (i : Nat) : BufTy := match i / 128 with
  | 0 => hbmTy0_0 i
  | 1 => hbmTy0_1 i
  | _ => ⟨S1x4096x3, .f32⟩

abbrev bufTy : (tb : Table) → Fin (tcTables nBuf tb) → BufTy
  | .hbm, ⟨i, _⟩ => hbmTy i
  | _, _ => ⟨S1x4096x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_call0_v0 : Ref sig .tc := ⟨.hbm, 11, rfl⟩
abbrev main_call0_v1 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst_1 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_c : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_cst_2 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩
abbrev main_v57 : Ref sig .tc := ⟨.hbm, 69, rfl⟩
abbrev main_v58 : Ref sig .tc := ⟨.hbm, 70, rfl⟩
abbrev main_v59 : Ref sig .tc := ⟨.hbm, 71, rfl⟩
abbrev main_v60 : Ref sig .tc := ⟨.hbm, 72, rfl⟩
abbrev main_v61 : Ref sig .tc := ⟨.hbm, 73, rfl⟩
abbrev main_v62 : Ref sig .tc := ⟨.hbm, 74, rfl⟩
abbrev main_v63 : Ref sig .tc := ⟨.hbm, 75, rfl⟩
abbrev main_v64 : Ref sig .tc := ⟨.hbm, 76, rfl⟩
abbrev main_v65 : Ref sig .tc := ⟨.hbm, 77, rfl⟩
abbrev main_v66 : Ref sig .tc := ⟨.hbm, 78, rfl⟩
abbrev main_v67 : Ref sig .tc := ⟨.hbm, 79, rfl⟩
abbrev main_v68 : Ref sig .tc := ⟨.hbm, 80, rfl⟩
abbrev main_v69 : Ref sig .tc := ⟨.hbm, 81, rfl⟩
abbrev main_v70 : Ref sig .tc := ⟨.hbm, 82, rfl⟩
abbrev main_v71 : Ref sig .tc := ⟨.hbm, 83, rfl⟩
abbrev main_v72 : Ref sig .tc := ⟨.hbm, 84, rfl⟩
abbrev main_c_3 : Ref sig .tc := ⟨.hbm, 85, rfl⟩
abbrev main_v73 : Ref sig .tc := ⟨.hbm, 86, rfl⟩
abbrev main_v74 : Ref sig .tc := ⟨.hbm, 87, rfl⟩
abbrev main_c_4 : Ref sig .tc := ⟨.hbm, 88, rfl⟩
abbrev main_call1_v0 : Ref sig .tc := ⟨.hbm, 89, rfl⟩
abbrev main_call1_v1 : Ref sig .tc := ⟨.hbm, 90, rfl⟩
abbrev main_v75 : Ref sig .tc := ⟨.hbm, 91, rfl⟩
abbrev main_v76 : Ref sig .tc := ⟨.hbm, 92, rfl⟩
abbrev main_c_5 : Ref sig .tc := ⟨.hbm, 93, rfl⟩
abbrev main_call2_v0 : Ref sig .tc := ⟨.hbm, 94, rfl⟩
abbrev main_call2_v1 : Ref sig .tc := ⟨.hbm, 95, rfl⟩
abbrev main_v77 : Ref sig .tc := ⟨.hbm, 96, rfl⟩
abbrev main_c_6 : Ref sig .tc := ⟨.hbm, 97, rfl⟩
abbrev main_v78 : Ref sig .tc := ⟨.hbm, 98, rfl⟩
abbrev main_v79 : Ref sig .tc := ⟨.hbm, 99, rfl⟩
abbrev main_call3_v0 : Ref sig .tc := ⟨.hbm, 100, rfl⟩
abbrev main_v80 : Ref sig .tc := ⟨.hbm, 101, rfl⟩
abbrev main_c_7 : Ref sig .tc := ⟨.hbm, 102, rfl⟩
abbrev main_v81 : Ref sig .tc := ⟨.hbm, 103, rfl⟩
abbrev main_v82 : Ref sig .tc := ⟨.hbm, 104, rfl⟩
abbrev main_call4_v0 : Ref sig .tc := ⟨.hbm, 105, rfl⟩
abbrev main_v83 : Ref sig .tc := ⟨.hbm, 106, rfl⟩
abbrev main_c_8 : Ref sig .tc := ⟨.hbm, 107, rfl⟩
abbrev main_v84 : Ref sig .tc := ⟨.hbm, 108, rfl⟩
abbrev main_v85 : Ref sig .tc := ⟨.hbm, 109, rfl⟩
abbrev main_call5_v0 : Ref sig .tc := ⟨.hbm, 110, rfl⟩
abbrev main_v86 : Ref sig .tc := ⟨.hbm, 111, rfl⟩
abbrev main_c_9 : Ref sig .tc := ⟨.hbm, 112, rfl⟩
abbrev main_v87 : Ref sig .tc := ⟨.hbm, 113, rfl⟩
abbrev main_v88 : Ref sig .tc := ⟨.hbm, 114, rfl⟩
abbrev main_call6_v0 : Ref sig .tc := ⟨.hbm, 115, rfl⟩
abbrev main_v89 : Ref sig .tc := ⟨.hbm, 116, rfl⟩
abbrev main_v90 : Ref sig .tc := ⟨.hbm, 117, rfl⟩
abbrev main_v91 : Ref sig .tc := ⟨.hbm, 118, rfl⟩
abbrev main_v92 : Ref sig .tc := ⟨.hbm, 119, rfl⟩
abbrev main_v93 : Ref sig .tc := ⟨.hbm, 120, rfl⟩
abbrev main_v94 : Ref sig .tc := ⟨.hbm, 121, rfl⟩
abbrev main_v95 : Ref sig .tc := ⟨.hbm, 122, rfl⟩
abbrev main_v96 : Ref sig .tc := ⟨.hbm, 123, rfl⟩
abbrev main_v97 : Ref sig .tc := ⟨.hbm, 124, rfl⟩
abbrev main_v98 : Ref sig .tc := ⟨.hbm, 125, rfl⟩
abbrev main_v99 : Ref sig .tc := ⟨.hbm, 126, rfl⟩
abbrev main_v100 : Ref sig .tc := ⟨.hbm, 127, rfl⟩
abbrev main_v101 : Ref sig .tc := ⟨.hbm, 128, rfl⟩
abbrev main_v102 : Ref sig .tc := ⟨.hbm, 129, rfl⟩
abbrev main_v103 : Ref sig .tc := ⟨.hbm, 130, rfl⟩
abbrev main_v104 : Ref sig .tc := ⟨.hbm, 131, rfl⟩
abbrev main_v105 : Ref sig .tc := ⟨.hbm, 132, rfl⟩
abbrev main_v106 : Ref sig .tc := ⟨.hbm, 133, rfl⟩
abbrev main_c_10 : Ref sig .tc := ⟨.hbm, 134, rfl⟩
abbrev main_v107 : Ref sig .tc := ⟨.hbm, 135, rfl⟩
abbrev main_v108 : Ref sig .tc := ⟨.hbm, 136, rfl⟩
abbrev main_c_11 : Ref sig .tc := ⟨.hbm, 137, rfl⟩
abbrev main_call7_v0 : Ref sig .tc := ⟨.hbm, 138, rfl⟩
abbrev main_call7_v1 : Ref sig .tc := ⟨.hbm, 139, rfl⟩
abbrev main_v109 : Ref sig .tc := ⟨.hbm, 140, rfl⟩
abbrev main_c_12 : Ref sig .tc := ⟨.hbm, 141, rfl⟩
abbrev main_v110 : Ref sig .tc := ⟨.hbm, 142, rfl⟩
abbrev main_v111 : Ref sig .tc := ⟨.hbm, 143, rfl⟩
abbrev main_call8_v0 : Ref sig .tc := ⟨.hbm, 144, rfl⟩
abbrev main_v112 : Ref sig .tc := ⟨.hbm, 145, rfl⟩
abbrev main_c_13 : Ref sig .tc := ⟨.hbm, 146, rfl⟩
abbrev main_v113 : Ref sig .tc := ⟨.hbm, 147, rfl⟩
abbrev main_v114 : Ref sig .tc := ⟨.hbm, 148, rfl⟩
abbrev main_call9_v0 : Ref sig .tc := ⟨.hbm, 149, rfl⟩
abbrev main_v115 : Ref sig .tc := ⟨.hbm, 150, rfl⟩
abbrev main_v116 : Ref sig .tc := ⟨.hbm, 151, rfl⟩
abbrev main_v117 : Ref sig .tc := ⟨.hbm, 152, rfl⟩
abbrev main_v118 : Ref sig .tc := ⟨.hbm, 153, rfl⟩
abbrev main_v119 : Ref sig .tc := ⟨.hbm, 154, rfl⟩
abbrev main_v120 : Ref sig .tc := ⟨.hbm, 155, rfl⟩
abbrev main_v121 : Ref sig .tc := ⟨.hbm, 156, rfl⟩
abbrev main_v122 : Ref sig .tc := ⟨.hbm, 157, rfl⟩
abbrev main_v123 : Ref sig .tc := ⟨.hbm, 158, rfl⟩
abbrev main_v124 : Ref sig .tc := ⟨.hbm, 159, rfl⟩
abbrev main_v125 : Ref sig .tc := ⟨.hbm, 160, rfl⟩
abbrev main_v126 : Ref sig .tc := ⟨.hbm, 161, rfl⟩
abbrev main_v127 : Ref sig .tc := ⟨.hbm, 162, rfl⟩
abbrev main_v128 : Ref sig .tc := ⟨.hbm, 163, rfl⟩
abbrev main_v129 : Ref sig .tc := ⟨.hbm, 164, rfl⟩
abbrev main_v130 : Ref sig .tc := ⟨.hbm, 165, rfl⟩
abbrev main_v131 : Ref sig .tc := ⟨.hbm, 166, rfl⟩
abbrev main_v132 : Ref sig .tc := ⟨.hbm, 167, rfl⟩
abbrev main_v133 : Ref sig .tc := ⟨.hbm, 168, rfl⟩
abbrev main_v134 : Ref sig .tc := ⟨.hbm, 169, rfl⟩
abbrev main_v135 : Ref sig .tc := ⟨.hbm, 170, rfl⟩
abbrev main_v136 : Ref sig .tc := ⟨.hbm, 171, rfl⟩
abbrev main_v137 : Ref sig .tc := ⟨.hbm, 172, rfl⟩
abbrev main_v138 : Ref sig .tc := ⟨.hbm, 173, rfl⟩
abbrev main_v139 : Ref sig .tc := ⟨.hbm, 174, rfl⟩
abbrev main_v140 : Ref sig .tc := ⟨.hbm, 175, rfl⟩
abbrev main_v141 : Ref sig .tc := ⟨.hbm, 176, rfl⟩
abbrev main_v142 : Ref sig .tc := ⟨.hbm, 177, rfl⟩
abbrev main_v143 : Ref sig .tc := ⟨.hbm, 178, rfl⟩
abbrev main_v144 : Ref sig .tc := ⟨.hbm, 179, rfl⟩
abbrev main_v145 : Ref sig .tc := ⟨.hbm, 180, rfl⟩
abbrev main_v146 : Ref sig .tc := ⟨.hbm, 181, rfl⟩
abbrev main_v147 : Ref sig .tc := ⟨.hbm, 182, rfl⟩
abbrev main_v148 : Ref sig .tc := ⟨.hbm, 183, rfl⟩
abbrev main_v149 : Ref sig .tc := ⟨.hbm, 184, rfl⟩
abbrev main_v150 : Ref sig .tc := ⟨.hbm, 185, rfl⟩
abbrev main_cst_14 : Ref sig .tc := ⟨.hbm, 186, rfl⟩
abbrev main_v151 : Ref sig .tc := ⟨.hbm, 187, rfl⟩
abbrev main_v152 : Ref sig .tc := ⟨.hbm, 188, rfl⟩
abbrev main_cst_15 : Ref sig .tc := ⟨.hbm, 189, rfl⟩
abbrev main_v153 : Ref sig .tc := ⟨.hbm, 190, rfl⟩
abbrev main_v154 : Ref sig .tc := ⟨.hbm, 191, rfl⟩
abbrev main_v155 : Ref sig .tc := ⟨.hbm, 192, rfl⟩
abbrev main_v156 : Ref sig .tc := ⟨.hbm, 193, rfl⟩
abbrev main_v157 : Ref sig .tc := ⟨.hbm, 194, rfl⟩
abbrev main_v158 : Ref sig .tc := ⟨.hbm, 195, rfl⟩
abbrev main_v159 : Ref sig .tc := ⟨.hbm, 196, rfl⟩
abbrev main_v160 : Ref sig .tc := ⟨.hbm, 197, rfl⟩
abbrev main_v161 : Ref sig .tc := ⟨.hbm, 198, rfl⟩
abbrev main_v162 : Ref sig .tc := ⟨.hbm, 199, rfl⟩
abbrev main_c_16 : Ref sig .tc := ⟨.hbm, 200, rfl⟩
abbrev main_call10_v0 : Ref sig .tc := ⟨.hbm, 201, rfl⟩
abbrev main_call10_v1 : Ref sig .tc := ⟨.hbm, 202, rfl⟩
abbrev main_v163 : Ref sig .tc := ⟨.hbm, 203, rfl⟩
abbrev main_c_17 : Ref sig .tc := ⟨.hbm, 204, rfl⟩
abbrev main_call11_v0 : Ref sig .tc := ⟨.hbm, 205, rfl⟩
abbrev main_call11_v1 : Ref sig .tc := ⟨.hbm, 206, rfl⟩
abbrev main_v164 : Ref sig .tc := ⟨.hbm, 207, rfl⟩
abbrev main_cst_18 : Ref sig .tc := ⟨.hbm, 208, rfl⟩
abbrev main_v165 : Ref sig .tc := ⟨.hbm, 209, rfl⟩
abbrev main_v166 : Ref sig .tc := ⟨.hbm, 210, rfl⟩
abbrev main_cst_19 : Ref sig .tc := ⟨.hbm, 211, rfl⟩
abbrev main_call12_v0 : Ref sig .tc := ⟨.hbm, 212, rfl⟩
abbrev main_call12_v1 : Ref sig .tc := ⟨.hbm, 213, rfl⟩
abbrev main_v167 : Ref sig .tc := ⟨.hbm, 214, rfl⟩

abbrev nD : Nat := 1
abbrev τ : Topo := Topo.v7x

variable {F : FTy → Type} [FloatOps F]
-- ==== Intersect.lean ====
abbrev S1x4096x3 : Shape := ⟨3, ![1, 4096, 3]⟩
abbrev S16x40960 : Shape := ⟨2, ![16, 40960]⟩
abbrev S4096x3 : Shape := ⟨2, ![4096, 3]⟩
abbrev S_ : Shape := ⟨0, ![]⟩
abbrev S4096x2 : Shape := ⟨2, ![4096, 2]⟩
abbrev S4096x8 : Shape := ⟨2, ![4096, 8]⟩
abbrev S4096 : Shape := ⟨1, ![4096]⟩
abbrev S256x8 : Shape := ⟨2, ![256, 8]⟩
abbrev S16x1024 : Shape := ⟨2, ![16, 1024]⟩
abbrev S256 : Shape := ⟨1, ![256]⟩
abbrev S256x1024 : Shape := ⟨2, ![256, 1024]⟩
abbrev S256x1 : Shape := ⟨2, ![256, 1]⟩
abbrev S1x1024 : Shape := ⟨2, ![1, 1024]⟩

abbrev nBuf : Space → Nat
  | .hbm => 21
  | .vmem => 10
  | .smem => 0
  | _ => 0

abbrev bufTy : (tb : Table) → Fin (tcTables nBuf tb) → BufTy
  | .hbm, ⟨0, _⟩ => ⟨S1x4096x3, .f32⟩
  | .hbm, ⟨1, _⟩ => ⟨S1x4096x3, .f32⟩
  | .hbm, ⟨2, _⟩ => ⟨S16x40960, .f32⟩
  | .hbm, ⟨3, _⟩ => ⟨S4096x3, .f32⟩
  | .hbm, ⟨4, _⟩ => ⟨S4096x3, .f32⟩
  | .hbm, ⟨5, _⟩ => ⟨S_, .f32⟩
  | .hbm, ⟨6, _⟩ => ⟨S4096x2, .f32⟩
  | .hbm, ⟨7, _⟩ => ⟨S4096x8, .f32⟩
  | .hbm, ⟨8, _⟩ => ⟨S4096, .f32⟩
  | .hbm, ⟨9, _⟩ => ⟨S4096, .i32⟩
  | .hbm, ⟨10, _⟩ => ⟨S_, .f32⟩
  | .hbm, ⟨11, _⟩ => ⟨S4096, .f32⟩
  | .hbm, ⟨12, _⟩ => ⟨S4096, .i1⟩
  | .hbm, ⟨13, _⟩ => ⟨S_, .f32⟩
  | .hbm, ⟨14, _⟩ => ⟨S_, .f32⟩
  | .hbm, ⟨15, _⟩ => ⟨S4096, .f32⟩
  | .hbm, ⟨16, _⟩ => ⟨S4096, .f32⟩
  | .hbm, ⟨17, _⟩ => ⟨S_, .i32⟩
  | .hbm, ⟨18, _⟩ => ⟨S_, .i32⟩
  | .hbm, ⟨19, _⟩ => ⟨S4096, .i32⟩
  | .hbm, ⟨20, _⟩ => ⟨S4096, .i32⟩
  | .local _ .vmem, ⟨0, _⟩ => ⟨S256x8, .f32⟩
  | .local _ .vmem, ⟨1, _⟩ => ⟨S256x8, .f32⟩
  | .local _ .vmem, ⟨2, _⟩ => ⟨S16x1024, .f32⟩
  | .local _ .vmem, ⟨3, _⟩ => ⟨S16x1024, .f32⟩
  | .local _ .vmem, ⟨4, _⟩ => ⟨S256, .f32⟩
  | .local _ .vmem, ⟨5, _⟩ => ⟨S256, .f32⟩
  | .local _ .vmem, ⟨6, _⟩ => ⟨S256, .i32⟩
  | .local _ .vmem, ⟨7, _⟩ => ⟨S256, .i32⟩
  | .local _ .vmem, ⟨8, _⟩ => ⟨S256x1024, .f32⟩
  | .local _ .vmem, ⟨9, _⟩ => ⟨S256x1024, .i32⟩
  | _, _ => ⟨S1x4096x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_call0_v0 : Ref sig .tc := ⟨.hbm, 14, rfl⟩
abbrev main_call0_v1 : Ref sig .tc := ⟨.hbm, 15, rfl⟩
abbrev main_v7 : Ref sig .tc := ⟨.hbm, 16, rfl⟩
abbrev main_c : Ref sig .tc := ⟨.hbm, 17, rfl⟩
abbrev main_call1_v0 : Ref sig .tc := ⟨.hbm, 18, rfl⟩
abbrev main_call1_v1 : Ref sig .tc := ⟨.hbm, 19, rfl⟩
abbrev main_v8 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![16, 40], ![false, false]⟩

def k0_cond2 (i : grid0.Coords) : BitVec 1 :=
  let arg1 : BitVec 32 := BitVec.ofNat 32 (i 1).val
  let c39_i32 : BitVec 32 := 39#32
  let v140 : BitVec 1 := Scalar.cmpi .eq arg1 c39_i32
  let v141 : BitVec 32 := Scalar.extui v140
  let c0_i32_39 : BitVec 32 := 0#32
  let v142 : BitVec 1 := Scalar.cmpi .ne v141 c0_i32_39
  v142

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 1 → Nat :=
  let arg0 : BitVec 32 := BitVec.ofNat 32 (i 0).val
  let arg1 : BitVec 32 := BitVec.ofNat 32 (i 1).val
  let c0_i32 : BitVec 32 := 0#32
  ![arg0.toNat]

def cc0_transform_3 (i : grid0.Coords) : Fin 1 → Nat :=
  let arg0 : BitVec 32 := BitVec.ofNat 32 (i 0).val
  let arg1 : BitVec 32 := BitVec.ofNat 32 (i 1).val
  let c0_i32 : BitVec 32 := 0#32
  ![arg0.toNat]

abbrev stage0_0 : Fin 2 → Memref sig .tc .vmem S256x8 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S16x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S256 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]
-- ==== IntersectReferenceIdeal.lean ====
abbrev S1x4096x3 : Shape := ⟨3, ![1, 4096, 3]⟩
abbrev S16x40960 : Shape := ⟨2, ![16, 40960]⟩
abbrev S3x40960 : Shape := ⟨2, ![3, 40960]⟩
abbrev S40960x3 : Shape := ⟨2, ![40960, 3]⟩
abbrev S4096x3 : Shape := ⟨2, ![4096, 3]⟩
abbrev S4096x1x3 : Shape := ⟨3, ![4096, 1, 3]⟩
abbrev S1x40960x3 : Shape := ⟨3, ![1, 40960, 3]⟩
abbrev S4096x1x1 : Shape := ⟨3, ![4096, 1, 1]⟩
abbrev S4096x1 : Shape := ⟨2, ![4096, 1]⟩
abbrev S1x40960x1 : Shape := ⟨3, ![1, 40960, 1]⟩
abbrev S1x40960 : Shape := ⟨2, ![1, 40960]⟩
abbrev S4096x40960 : Shape := ⟨2, ![4096, 40960]⟩
abbrev S4096x40960x1 : Shape := ⟨3, ![4096, 40960, 1]⟩
abbrev S4096x40960x3 : Shape := ⟨3, ![4096, 40960, 3]⟩
abbrev S_ : Shape := ⟨0, ![]⟩
abbrev S4096 : Shape := ⟨1, ![4096]⟩
abbrev S1 : Shape := ⟨1, ![1]⟩
abbrev S1x1x1 : Shape := ⟨3, ![1, 1, 1]⟩

abbrev nBuf : Space → Nat
  | .hbm => 184
  | .vmem => 0
  | .smem => 0
  | _ => 0

abbrev hbmTy0_0 (i : Nat) : BufTy := match i % 128 with
  | 0 => ⟨S1x4096x3, .f32⟩
  | 1 => ⟨S1x4096x3, .f32⟩
  | 2 => ⟨S16x40960, .f32⟩
  | 3 => ⟨S3x40960, .f32⟩
  | 4 => ⟨S40960x3, .f32⟩
  | 5 => ⟨S3x40960, .f32⟩
  | 6 => ⟨S40960x3, .f32⟩
  | 7 => ⟨S3x40960, .f32⟩
  | 8 => ⟨S40960x3, .f32⟩
  | 9 => ⟨S4096x3, .f32⟩
  | 10 => ⟨S4096x3, .f32⟩
  | 11 => ⟨S4096x1x3, .f32⟩
  | 12 => ⟨S1x40960x3, .f32⟩
  | 13 => ⟨S4096x1x1, .f32⟩
  | 14 => ⟨S4096x1, .f32⟩
  | 15 => ⟨S4096x1x1, .f32⟩
  | 16 => ⟨S4096x1, .f32⟩
  | 17 => ⟨S4096x1x1, .f32⟩
  | 18 => ⟨S4096x1, .f32⟩
  | 19 => ⟨S1x40960x1, .f32⟩
  | 20 => ⟨S1x40960, .f32⟩
  | 21 => ⟨S1x40960x1, .f32⟩
  | 22 => ⟨S1x40960, .f32⟩
  | 23 => ⟨S1x40960x1, .f32⟩
  | 24 => ⟨S1x40960, .f32⟩
  | 25 => ⟨S4096x40960, .f32⟩
  | 26 => ⟨S4096x40960, .f32⟩
  | 27 => ⟨S4096x40960, .f32⟩
  | 28 => ⟨S4096x40960, .f32⟩
  | 29 => ⟨S4096x40960, .f32⟩
  | 30 => ⟨S4096x40960, .f32⟩
  | 31 => ⟨S4096x40960, .f32⟩
  | 32 => ⟨S4096x40960, .f32⟩
  | 33 => ⟨S4096x40960, .f32⟩
  | 34 => ⟨S4096x40960, .f32⟩
  | 35 => ⟨S4096x40960, .f32⟩
  | 36 => ⟨S4096x40960, .f32⟩
  | 37 => ⟨S4096x40960, .f32⟩
  | 38 => ⟨S4096x40960, .f32⟩
  | 39 => ⟨S4096x40960, .f32⟩
  | 40 => ⟨S4096x40960, .f32⟩
  | 41 => ⟨S4096x40960, .f32⟩
  | 42 => ⟨S4096x40960, .f32⟩
  | 43 => ⟨S4096x40960, .f32⟩
  | 44 => ⟨S4096x40960, .f32⟩
  | 45 => ⟨S4096x40960, .f32⟩
  | 46 => ⟨S4096x40960x1, .f32⟩
  | 47 => ⟨S4096x40960x1, .f32⟩
  | 48 => ⟨S4096x40960x1, .f32⟩
  | 49 => ⟨S4096x40960x3, .f32⟩
  | 50 => ⟨S1x40960x3, .f32⟩
  | 51 => ⟨S4096x40960x3, .f32⟩
  | 52 => ⟨S4096x40960x3, .f32⟩
  | 53 => ⟨S_, .f32⟩
  | 54 => ⟨S4096x40960, .f32⟩
  | 55 => ⟨S4096x40960, .f32⟩
  | 56 => ⟨S_, .f32⟩
  | 57 => ⟨S4096x40960, .f32⟩
  | 58 => ⟨S4096x40960, .i1⟩
  | 59 => ⟨S_, .f32⟩
  | 60 => ⟨S_, .f32⟩
  | 61 => ⟨S4096x40960, .f32⟩
  | 62 => ⟨S4096x40960, .f32⟩
  | 63 => ⟨S_, .f32⟩
  | 64 => ⟨S4096x40960, .f32⟩
  | 65 => ⟨S4096x40960, .f32⟩
  | 66 => ⟨S_, .f32⟩
  | 67 => ⟨S_, .f32⟩
  | 68 => ⟨S4096x40960, .f32⟩
  | 69 => ⟨S4096x40960, .f32⟩
  | 70 => ⟨S4096x1x3, .f32⟩
  | 71 => ⟨S1x40960x3, .f32⟩
  | 72 => ⟨S4096x40960x3, .f32⟩
  | 73 => ⟨S4096x40960x3, .f32⟩
  | 74 => ⟨S4096x40960x3, .f32⟩
  | 75 => ⟨S4096x40960x3, .f32⟩
  | 76 => ⟨S_, .f32⟩
  | 77 => ⟨S4096x40960, .f32⟩
  | 78 => ⟨S4096x40960, .f32⟩
  | 79 => ⟨S1x40960x3, .f32⟩
  | 80 => ⟨S4096x40960x1, .f32⟩
  | 81 => ⟨S4096x40960, .f32⟩
  | 82 => ⟨S4096x40960x1, .f32⟩
  | 83 => ⟨S4096x40960, .f32⟩
  | 84 => ⟨S4096x40960x1, .f32⟩
  | 85 => ⟨S4096x40960, .f32⟩
  | 86 => ⟨S1x40960x1, .f32⟩
  | 87 => ⟨S1x40960, .f32⟩
  | 88 => ⟨S1x40960x1, .f32⟩
  | 89 => ⟨S1x40960, .f32⟩
  | 90 => ⟨S1x40960x1, .f32⟩
  | 91 => ⟨S1x40960, .f32⟩
  | 92 => ⟨S4096x40960, .f32⟩
  | 93 => ⟨S4096x40960, .f32⟩
  | 94 => ⟨S4096x40960, .f32⟩
  | 95 => ⟨S4096x40960, .f32⟩
  | 96 => ⟨S4096x40960, .f32⟩
  | 97 => ⟨S4096x40960, .f32⟩
  | 98 => ⟨S4096x40960, .f32⟩
  | 99 => ⟨S4096x40960, .f32⟩
  | 100 => ⟨S4096x40960, .f32⟩
  | 101 => ⟨S4096x40960, .f32⟩
  | 102 => ⟨S4096x40960, .f32⟩
  | 103 => ⟨S4096x40960, .f32⟩
  | 104 => ⟨S4096x40960, .f32⟩
  | 105 => ⟨S4096x40960, .f32⟩
  | 106 => ⟨S4096x40960, .f32⟩
  | 107 => ⟨S4096x40960x1, .f32⟩
  | 108 => ⟨S4096x40960x1, .f32⟩
  | 109 => ⟨S4096x40960x1, .f32⟩
  | 110 => ⟨S4096x40960x3, .f32⟩
  | 111 => ⟨S4096x1x3, .f32⟩
  | 112 => ⟨S4096x40960x3, .f32⟩
  | 113 => ⟨S4096x40960x3, .f32⟩
  | 114 => ⟨S_, .f32⟩
  | 115 => ⟨S4096x40960, .f32⟩
  | 116 => ⟨S4096x40960, .f32⟩
  | 117 => ⟨S1x40960x3, .f32⟩
  | 118 => ⟨S4096x40960x3, .f32⟩
  | 119 => ⟨S4096x40960x3, .f32⟩
  | 120 => ⟨S_, .f32⟩
  | 121 => ⟨S4096x40960, .f32⟩
  | 122 => ⟨S4096x40960, .f32⟩
  | 123 => ⟨S_, .f32⟩
  | 124 => ⟨S4096x40960, .f32⟩
  | 125 => ⟨S4096x40960, .i1⟩
  | 126 => ⟨S4096x40960, .i1⟩
  | 127 => ⟨S_, .f32⟩
  | _ => ⟨S1x4096x3, .f32⟩

abbrev hbmTy0_1 (i : Nat) : BufTy := match i % 128 with
  | 0 => ⟨S4096x40960, .f32⟩
  | 1 => ⟨S4096x40960, .i1⟩
  | 2 => ⟨S4096x40960, .i1⟩
  | 3 => ⟨S4096x40960, .f32⟩
  | 4 => ⟨S_, .f32⟩
  | 5 => ⟨S4096x40960, .f32⟩
  | 6 => ⟨S4096x40960, .i1⟩
  | 7 => ⟨S4096x40960, .i1⟩
  | 8 => ⟨S_, .f32⟩
  | 9 => ⟨S4096x40960, .f32⟩
  | 10 => ⟨S4096x40960, .i1⟩
  | 11 => ⟨S4096x40960, .i1⟩
  | 12 => ⟨S_, .f32⟩
  | 13 => ⟨S_, .f32⟩
  | 14 => ⟨S4096x40960, .f32⟩
  | 15 => ⟨S4096x40960, .f32⟩
  | 16 => ⟨S4096x40960, .i32⟩
  | 17 => ⟨S_, .f32⟩
  | 18 => ⟨S_, .i32⟩
  | 19 => ⟨S4096, .f32⟩
  | 20 => ⟨S4096, .i32⟩
  | 21 => ⟨S4096x1, .i32⟩
  | 22 => ⟨S_, .i32⟩
  | 23 => ⟨S4096x1, .i32⟩
  | 24 => ⟨S4096x1, .i1⟩
  | 25 => ⟨S_, .i32⟩
  | 26 => ⟨S4096x1, .i32⟩
  | 27 => ⟨S4096x1, .i32⟩
  | 28 => ⟨S4096x1, .i32⟩
  | 29 => ⟨S4096x1x1, .i32⟩
  | 30 => ⟨S1, .i32⟩
  | 31 => ⟨S_, .i32⟩
  | 32 => ⟨S4096x1x1, .i32⟩
  | 33 => ⟨S4096x1x1, .i1⟩
  | 34 => ⟨S1x1x1, .i32⟩
  | 35 => ⟨S4096x1x1, .i32⟩
  | 36 => ⟨S4096x1x1, .i1⟩
  | 37 => ⟨S4096x1x1, .i1⟩
  | 38 => ⟨S_, .i1⟩
  | 39 => ⟨S4096x1, .i1⟩
  | 40 => ⟨S4096x1, .f32⟩
  | 41 => ⟨S_, .f32⟩
  | 42 => ⟨S4096x1, .f32⟩
  | 43 => ⟨S4096x1, .f32⟩
  | 44 => ⟨S4096, .f32⟩
  | 45 => ⟨S_, .f32⟩
  | 46 => ⟨S4096, .f32⟩
  | 47 => ⟨S4096, .i1⟩
  | 48 => ⟨S_, .f32⟩
  | 49 => ⟨S_, .f32⟩
  | 50 => ⟨S4096, .f32⟩
  | 51 => ⟨S4096, .f32⟩
  | 52 => ⟨S_, .i32⟩
  | 53 => ⟨S_, .i32⟩
  | 54 => ⟨S4096, .i32⟩
  | 55 => ⟨S4096, .i32⟩
  | _ => ⟨S1x4096x3, .f32⟩

abbrev hbmTy (i : Nat) : BufTy := match i / 128 with
  | 0 => hbmTy0_0 i
  | 1 => hbmTy0_1 i
  | _ => ⟨S1x4096x3, .f32⟩

abbrev bufTy : (tb : Table) → Fin (tcTables nBuf tb) → BufTy
  | .hbm, ⟨i, _⟩ => hbmTy i
  | _, _ => ⟨S1x4096x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_v22 : Ref sig .tc := ⟨.hbm, 25, rfl⟩
abbrev main_v23 : Ref sig .tc := ⟨.hbm, 26, rfl⟩
abbrev main_v24 : Ref sig .tc := ⟨.hbm, 27, rfl⟩
abbrev main_v25 : Ref sig .tc := ⟨.hbm, 28, rfl⟩
abbrev main_v26 : Ref sig .tc := ⟨.hbm, 29, rfl⟩
abbrev main_v27 : Ref sig .tc := ⟨.hbm, 30, rfl⟩
abbrev main_v28 : Ref sig .tc := ⟨.hbm, 31, rfl⟩
abbrev main_v29 : Ref sig .tc := ⟨.hbm, 32, rfl⟩
abbrev main_v30 : Ref sig .tc := ⟨.hbm, 33, rfl⟩
abbrev main_v31 : Ref sig .tc := ⟨.hbm, 34, rfl⟩
abbrev main_v32 : Ref sig .tc := ⟨.hbm, 35, rfl⟩
abbrev main_v33 : Ref sig .tc := ⟨.hbm, 36, rfl⟩
abbrev main_v34 : Ref sig .tc := ⟨.hbm, 37, rfl⟩
abbrev main_v35 : Ref sig .tc := ⟨.hbm, 38, rfl⟩
abbrev main_v36 : Ref sig .tc := ⟨.hbm, 39, rfl⟩
abbrev main_v37 : Ref sig .tc := ⟨.hbm, 40, rfl⟩
abbrev main_v38 : Ref sig .tc := ⟨.hbm, 41, rfl⟩
abbrev main_v39 : Ref sig .tc := ⟨.hbm, 42, rfl⟩
abbrev main_v40 : Ref sig .tc := ⟨.hbm, 43, rfl⟩
abbrev main_v41 : Ref sig .tc := ⟨.hbm, 44, rfl⟩
abbrev main_v42 : Ref sig .tc := ⟨.hbm, 45, rfl⟩
abbrev main_v43 : Ref sig .tc := ⟨.hbm, 46, rfl⟩
abbrev main_v44 : Ref sig .tc := ⟨.hbm, 47, rfl⟩
abbrev main_v45 : Ref sig .tc := ⟨.hbm, 48, rfl⟩
abbrev main_v46 : Ref sig .tc := ⟨.hbm, 49, rfl⟩
abbrev main_v47 : Ref sig .tc := ⟨.hbm, 50, rfl⟩
abbrev main_v48 : Ref sig .tc := ⟨.hbm, 51, rfl⟩
abbrev main_v49 : Ref sig .tc := ⟨.hbm, 52, rfl⟩
abbrev main_cst : Ref sig .tc := ⟨.hbm, 53, rfl⟩
abbrev main_v50 : Ref sig .tc := ⟨.hbm, 54, rfl⟩
abbrev main_v51 : Ref sig .tc := ⟨.hbm, 55, rfl⟩
abbrev main_cst_0 : Ref sig .tc := ⟨.hbm, 56, rfl⟩
abbrev main_v52 : Ref sig .tc := ⟨.hbm, 57, rfl⟩
abbrev main_v53 : Ref sig .tc := ⟨.hbm, 58, rfl⟩
abbrev main_cst_1 : Ref sig .tc := ⟨.hbm, 59, rfl⟩
abbrev main_call0_v0 : Ref sig .tc := ⟨.hbm, 60, rfl⟩
abbrev main_call0_v1 : Ref sig .tc := ⟨.hbm, 61, rfl⟩
abbrev main_v54 : Ref sig .tc := ⟨.hbm, 62, rfl⟩
abbrev main_cst_2 : Ref sig .tc := ⟨.hbm, 63, rfl⟩
abbrev main_v55 : Ref sig .tc := ⟨.hbm, 64, rfl⟩
abbrev main_v56 : Ref sig .tc := ⟨.hbm, 65, rfl⟩
abbrev main_cst_3 : Ref sig .tc := ⟨.hbm, 66, rfl⟩
abbrev main_call1_v0 : Ref sig .tc := ⟨.hbm, 67, rfl⟩
abbrev main_call1_v1 : Ref sig .tc := ⟨.hbm, 68, rfl⟩
abbrev main_v57 : Ref sig .tc := ⟨.hbm, 69, rfl⟩
abbrev main_v58 : Ref sig .tc := ⟨.hbm, 70, rfl⟩
abbrev main_v59 : Ref sig .tc := ⟨.hbm, 71, rfl⟩
abbrev main_v60 : Ref sig .tc := ⟨.hbm, 72, rfl⟩
abbrev main_v61 : Ref sig .tc := ⟨.hbm, 73, rfl⟩
abbrev main_v62 : Ref sig .tc := ⟨.hbm, 74, rfl⟩
abbrev main_v63 : Ref sig .tc := ⟨.hbm, 75, rfl⟩
abbrev main_cst_4 : Ref sig .tc := ⟨.hbm, 76, rfl⟩
abbrev main_v64 : Ref sig .tc := ⟨.hbm, 77, rfl⟩
abbrev main_v65 : Ref sig .tc := ⟨.hbm, 78, rfl⟩
abbrev main_v66 : Ref sig .tc := ⟨.hbm, 79, rfl⟩
abbrev main_v67 : Ref sig .tc := ⟨.hbm, 80, rfl⟩
abbrev main_v68 : Ref sig .tc := ⟨.hbm, 81, rfl⟩
abbrev main_v69 : Ref sig .tc := ⟨.hbm, 82, rfl⟩
abbrev main_v70 : Ref sig .tc := ⟨.hbm, 83, rfl⟩
abbrev main_v71 : Ref sig .tc := ⟨.hbm, 84, rfl⟩
abbrev main_v72 : Ref sig .tc := ⟨.hbm, 85, rfl⟩
abbrev main_v73 : Ref sig .tc := ⟨.hbm, 86, rfl⟩
abbrev main_v74 : Ref sig .tc := ⟨.hbm, 87, rfl⟩
abbrev main_v75 : Ref sig .tc := ⟨.hbm, 88, rfl⟩
abbrev main_v76 : Ref sig .tc := ⟨.hbm, 89, rfl⟩
abbrev main_v77 : Ref sig .tc := ⟨.hbm, 90, rfl⟩
abbrev main_v78 : Ref sig .tc := ⟨.hbm, 91, rfl⟩
abbrev main_v79 : Ref sig .tc := ⟨.hbm, 92, rfl⟩
abbrev main_v80 : Ref sig .tc := ⟨.hbm, 93, rfl⟩
abbrev main_v81 : Ref sig .tc := ⟨.hbm, 94, rfl⟩
abbrev main_v82 : Ref sig .tc := ⟨.hbm, 95, rfl⟩
abbrev main_v83 : Ref sig .tc := ⟨.hbm, 96, rfl⟩
abbrev main_v84 : Ref sig .tc := ⟨.hbm, 97, rfl⟩
abbrev main_v85 : Ref sig .tc := ⟨.hbm, 98, rfl⟩
abbrev main_v86 : Ref sig .tc := ⟨.hbm, 99, rfl⟩
abbrev main_v87 : Ref sig .tc := ⟨.hbm, 100, rfl⟩
abbrev main_v88 : Ref sig .tc := ⟨.hbm, 101, rfl⟩
abbrev main_v89 : Ref sig .tc := ⟨.hbm, 102, rfl⟩
abbrev main_v90 : Ref sig .tc := ⟨.hbm, 103, rfl⟩
abbrev main_v91 : Ref sig .tc := ⟨.hbm, 104, rfl⟩
abbrev main_v92 : Ref sig .tc := ⟨.hbm, 105, rfl⟩
abbrev main_v93 : Ref sig .tc := ⟨.hbm, 106, rfl⟩
abbrev main_v94 : Ref sig .tc := ⟨.hbm, 107, rfl⟩
abbrev main_v95 : Ref sig .tc := ⟨.hbm, 108, rfl⟩
abbrev main_v96 : Ref sig .tc := ⟨.hbm, 109, rfl⟩
abbrev main_v97 : Ref sig .tc := ⟨.hbm, 110, rfl⟩
abbrev main_v98 : Ref sig .tc := ⟨.hbm, 111, rfl⟩
abbrev main_v99 : Ref sig .tc := ⟨.hbm, 112, rfl⟩
abbrev main_v100 : Ref sig .tc := ⟨.hbm, 113, rfl⟩
abbrev main_cst_5 : Ref sig .tc := ⟨.hbm, 114, rfl⟩
abbrev main_v101 : Ref sig .tc := ⟨.hbm, 115, rfl⟩
abbrev main_v102 : Ref sig .tc := ⟨.hbm, 116, rfl⟩
abbrev main_v103 : Ref sig .tc := ⟨.hbm, 117, rfl⟩
abbrev main_v104 : Ref sig .tc := ⟨.hbm, 118, rfl⟩
abbrev main_v105 : Ref sig .tc := ⟨.hbm, 119, rfl⟩
abbrev main_cst_6 : Ref sig .tc := ⟨.hbm, 120, rfl⟩
abbrev main_v106 : Ref sig .tc := ⟨.hbm, 121, rfl⟩
abbrev main_v107 : Ref sig .tc := ⟨.hbm, 122, rfl⟩
abbrev main_cst_7 : Ref sig .tc := ⟨.hbm, 123, rfl⟩
abbrev main_v108 : Ref sig .tc := ⟨.hbm, 124, rfl⟩
abbrev main_v109 : Ref sig .tc := ⟨.hbm, 125, rfl⟩
abbrev main_v110 : Ref sig .tc := ⟨.hbm, 126, rfl⟩
abbrev main_cst_8 : Ref sig .tc := ⟨.hbm, 127, rfl⟩
abbrev main_v111 : Ref sig .tc := ⟨.hbm, 128, rfl⟩
abbrev main_v112 : Ref sig .tc := ⟨.hbm, 129, rfl⟩
abbrev main_v113 : Ref sig .tc := ⟨.hbm, 130, rfl⟩
abbrev main_v114 : Ref sig .tc := ⟨.hbm, 131, rfl⟩
abbrev main_cst_9 : Ref sig .tc := ⟨.hbm, 132, rfl⟩
abbrev main_v115 : Ref sig .tc := ⟨.hbm, 133, rfl⟩
abbrev main_v116 : Ref sig .tc := ⟨.hbm, 134, rfl⟩
abbrev main_v117 : Ref sig .tc := ⟨.hbm, 135, rfl⟩
abbrev main_cst_10 : Ref sig .tc := ⟨.hbm, 136, rfl⟩
abbrev main_v118 : Ref sig .tc := ⟨.hbm, 137, rfl⟩
abbrev main_v119 : Ref sig .tc := ⟨.hbm, 138, rfl⟩
abbrev main_v120 : Ref sig .tc := ⟨.hbm, 139, rfl⟩
abbrev main_cst_11 : Ref sig .tc := ⟨.hbm, 140, rfl⟩
abbrev main_call2_v0 : Ref sig .tc := ⟨.hbm, 141, rfl⟩
abbrev main_call2_v1 : Ref sig .tc := ⟨.hbm, 142, rfl⟩
abbrev main_v121 : Ref sig .tc := ⟨.hbm, 143, rfl⟩
abbrev main_call3_v0 : Ref sig .tc := ⟨.hbm, 144, rfl⟩
abbrev main_call3_cst : Ref sig .tc := ⟨.hbm, 145, rfl⟩
abbrev main_call3_c : Ref sig .tc := ⟨.hbm, 146, rfl⟩
abbrev main_call3_v1_0 : Ref sig .tc := ⟨.hbm, 147, rfl⟩
abbrev main_v122 : Ref sig .tc := ⟨.hbm, 148, rfl⟩
abbrev main_v123 : Ref sig .tc := ⟨.hbm, 149, rfl⟩
abbrev main_call4_c : Ref sig .tc := ⟨.hbm, 150, rfl⟩
abbrev main_call4_v0 : Ref sig .tc := ⟨.hbm, 151, rfl⟩
abbrev main_call4_v1 : Ref sig .tc := ⟨.hbm, 152, rfl⟩
abbrev main_call4_c_0 : Ref sig .tc := ⟨.hbm, 153, rfl⟩
abbrev main_call4_v2 : Ref sig .tc := ⟨.hbm, 154, rfl⟩
abbrev main_call4_v3 : Ref sig .tc := ⟨.hbm, 155, rfl⟩
abbrev main_call4_v4 : Ref sig .tc := ⟨.hbm, 156, rfl⟩
abbrev main_call4_v5 : Ref sig .tc := ⟨.hbm, 157, rfl⟩
abbrev main_call4_c_1 : Ref sig .tc := ⟨.hbm, 158, rfl⟩
abbrev main_call4_c_2 : Ref sig .tc := ⟨.hbm, 159, rfl⟩
abbrev main_call4_v6 : Ref sig .tc := ⟨.hbm, 160, rfl⟩
abbrev main_call4_v7 : Ref sig .tc := ⟨.hbm, 161, rfl⟩
abbrev main_call4_v8 : Ref sig .tc := ⟨.hbm, 162, rfl⟩
abbrev main_call4_v9 : Ref sig .tc := ⟨.hbm, 163, rfl⟩
abbrev main_call4_v10 : Ref sig .tc := ⟨.hbm, 164, rfl⟩
abbrev main_call4_v11 : Ref sig .tc := ⟨.hbm, 165, rfl⟩
abbrev main_call4_c_3 : Ref sig .tc := ⟨.hbm, 166, rfl⟩
abbrev main_call4_v12 : Ref sig .tc := ⟨.hbm, 167, rfl⟩
abbrev main_call4_v13 : Ref sig .tc := ⟨.hbm, 168, rfl⟩
abbrev main_call4_cst : Ref sig .tc := ⟨.hbm, 169, rfl⟩
abbrev main_call4_v14 : Ref sig .tc := ⟨.hbm, 170, rfl⟩
abbrev main_v124 : Ref sig .tc := ⟨.hbm, 171, rfl⟩
abbrev main_v125 : Ref sig .tc := ⟨.hbm, 172, rfl⟩
abbrev main_cst_12 : Ref sig .tc := ⟨.hbm, 173, rfl⟩
abbrev main_v126 : Ref sig .tc := ⟨.hbm, 174, rfl⟩
abbrev main_v127 : Ref sig .tc := ⟨.hbm, 175, rfl⟩
abbrev main_cst_13 : Ref sig .tc := ⟨.hbm, 176, rfl⟩
abbrev main_call5_v0 : Ref sig .tc := ⟨.hbm, 177, rfl⟩
abbrev main_call5_v1 : Ref sig .tc := ⟨.hbm, 178, rfl⟩
abbrev main_v128 : Ref sig .tc := ⟨.hbm, 179, rfl⟩
abbrev main_c : Ref sig .tc := ⟨.hbm, 180, rfl⟩
abbrev main_call6_v0 : Ref sig .tc := ⟨.hbm, 181, rfl⟩
abbrev main_call6_v1 : Ref sig .tc := ⟨.hbm, 182, rfl⟩
abbrev main_v129 : Ref sig .tc := ⟨.hbm, 183, rfl⟩

abbrev nD : Nat := 1
abbrev τ : Topo := Topo.v7x

variable {F : FTy → Type} [FloatOps F]
-- ==== Proof.InterRun.lean ====
module

public import proofs.«01_k».proof.Proof.Gen.IntersectReferenceIdeal
public import proofs.«01_k».proof.Proof.Gen.SamplerReferenceIdeal.Run
public import Idealize.ShloMosaic.Lib.StableHlo.Run
public import Idealize.ShloMosaic.Lib.Pipeline.Frame

/-! The run of the nearest-hit reference: its operations as a list, and each result and argument after them, at the operations
    composed term of the arguments. The layout is that of the generated runs, which are not written for an arg-min. -/
@[expose] public section

set_option Elab.async false

noncomputable section

namespace Cert.IntersectReferenceIdeal.Value

open Cert.IntersectReferenceIdeal Cert.IntersectReferenceIdeal.Gen Idealize.ShloMosaic Idealize.ShloMosaic.TcCoe Idealize.SL.Sem Idealize.ShloMosaic.StableHlo

variable {F : FTy → Type} [FloatOps F]

/-- The function of the operation that writes `main_v46`, named. It packs its operands into a list of dependent pairs
    whose shapes a later argument's type mentions, so `simp` cannot rewrite an operand where it stands; applied by
    name, the operands are plain arguments, which the window lemmas below rewrite before the name unfolds. -/
def fn_main_v46 : (main_v43 : Ref sig .tc).ty.Contents (Elt F) → (main_v44 : Ref sig .tc).ty.Contents (Elt F) → (main_v45 : Ref sig .tc).ty.Contents (Elt F) → (main_v46 : Ref sig .tc).ty.Contents (Elt F) :=
  (fun u0 u1 u2 => (concatenate S4096x40960x3 2 [⟨S4096x40960x1, (u0 : (⟨S4096x40960x1, .f32⟩ : BufTy).Contents (Elt F))⟩, ⟨S4096x40960x1, (u1 : (⟨S4096x40960x1, .f32⟩ : BufTy).Contents (Elt F))⟩, ⟨S4096x40960x1, (u2 : (⟨S4096x40960x1, .f32⟩ : BufTy).Contents (Elt F))⟩] concatenates_S4096x40960x1_S4096x40960x1_S4096x40960x1_S4096x40960x3_d2 : (⟨S4096x40960x3, .f32⟩ : BufTy).Contents (Elt F)))

/-- The function of the operation that writes `main_v97`, named. It packs its operands into a list of dependent pairs
    whose shapes a later argument's type mentions, so `simp` cannot rewrite an operand where it stands; applied by
    name, the operands are plain arguments, which the window lemmas below rewrite before the name unfolds. -/
def fn_main_v97 : (main_v94 : Ref sig .tc).ty.Contents (Elt F) → (main_v95 : Ref sig .tc).ty.Contents (Elt F) → (main_v96 : Ref sig .tc).ty.Contents (Elt F) → (main_v97 : Ref sig .tc).ty.Contents (Elt F) :=
  (fun u0 u1 u2 => (concatenate S4096x40960x3 2 [⟨S4096x40960x1, (u0 : (⟨S4096x40960x1, .f32⟩ : BufTy).Contents (Elt F))⟩, ⟨S4096x40960x1, (u1 : (⟨S4096x40960x1, .f32⟩ : BufTy).Contents (Elt F))⟩, ⟨S4096x40960x1, (u2 : (⟨S4096x40960x1, .f32⟩ : BufTy).Contents (Elt F))⟩] concatenates_S4096x40960x1_S4096x40960x1_S4096x40960x1_S4096x40960x3_d2 : (⟨S4096x40960x3, .f32⟩ : BufTy).Contents (Elt F)))

/-- @main's operations 1 … 30 of 181 (window `main_part0`). -/
abbrev ops_part0_0 : List (HloOp τ sig (Elt F)) :=
  [ unary main_arg2 main_v0 ((extractStridedSlice S3x40960 ![0, 0] · slices_S16x40960_S3x40960_0_0) : (⟨S16x40960, .f32⟩ : BufTy).Contents (Elt F) → (⟨S3x40960, .f32⟩ : BufTy).Contents (Elt F)),
    unary main_v0 main_v1 ((transpose S40960x3 [1, 0] · transposes_S3x40960_S40960x3_1_0) : (⟨S3x40960, .f32⟩ : BufTy).Contents (Elt F) → (⟨S40960x3, .f32⟩ : BufTy).Contents (Elt F)),
    unary main_arg2 main_v2 ((extractStridedSlice S3x40960 ![3, 0] · slices_S16x40960_S3x40960_3_0) : (⟨S16x40960, .f32⟩ : BufTy).Contents (Elt F) → (⟨S3x40960, .f32⟩ : BufTy).Contents (Elt F)),
    unary main_v2 main_v3 ((transpose S40960x3 [1, 0] · transposes_S3x40960_S40960x3_1_0) : (⟨S3x40960, .f32⟩ : BufTy).Contents (Elt F) → (⟨S40960x3, .f32⟩ : BufTy).Contents (Elt F)),
    unary main_arg2 main_v4 ((extractStridedSlice S3x40960 ![6, 0] · slices_S16x40960_S3x40960_6_0) : (⟨S16x40960, .f32⟩ : BufTy).Contents (Elt F) → (⟨S3x40960, .f32⟩ : BufTy).Contents (Elt F)),
    unary main_v4 main_v5 ((transpose S40960x3 [1, 0] · transposes_S3x40960_S40960x3_1_0) : (⟨S3x40960, .f32⟩ : BufTy).Contents (Elt F) → (⟨S40960x3, .f32⟩ : BufTy).Contents (Elt F)),
    reshape main_arg0 main_v6 (rfl : (.f32 : EltTy) = .f32) shapeCasts_S1x4096x3_S4096x3,
    reshape main_arg1 main_v7 (rfl : (.f32 : EltTy) = .f32) shapeCasts_S1x4096x3_S4096x3,
    unary main_v7 main_v8 (broadcastInDim S4096x1x3 ![0, 2] bcast_S4096x3_S4096x1x3_0_2 : (⟨S4096x3, .f32⟩ : BufTy).Contents (Elt F) → (⟨S4096x1x3, .f32⟩ : BufTy).Contents (Elt F)),
    unary main_v5 main_v9 (broadcastInDim S1x40960x3 ![1, 2] bcast_S40960x3_S1x40960x3_1_2 : (⟨S40960x3, .f32⟩ : BufTy).Contents (Elt F) → (⟨S1x40960x3, .f32⟩ : BufTy).Contents (Elt F)),
    unary main_v8 main_v10 ((extractStridedSlice S4096x1x1 ![0, 0, 0] · slices_S4096x1x3_S4096x1x1_0_0_0) : (⟨S4096x1x3, .f32⟩ : BufTy).Contents (Elt F) → (⟨S4096x1x1, .f32⟩ : BufTy).Contents (Elt F)),
    reshape main_v10 main_v11 (rfl : (.f32 : EltTy) = .f32) shapeCasts_S4096x1x1_S4096x1,
    unary main_v8 main_v12 ((extractStridedSlice S4096x1x1 ![0, 0, 1] · slices_S4096x1x3_S4096x1x1_0_0_1) : (⟨S4096x1x3, .f32⟩ : BufTy).Contents (Elt F) → (⟨S4096x1x1, .f32⟩ : BufTy).Contents (Elt F)),
    reshape main_v12 main_v13 (rfl : (.f32 : EltTy) = .f32) shapeCasts_S4096x1x1_S4096x1,
    unary main_v8 main_v14 ((extractStridedSlice S4096x1x1 ![0, 0, 2] · slices_S4096x1x3_S4096x1x1_0_0_2) : (⟨S4096x1x3, .f32⟩ : BufTy).Contents (Elt F) → (⟨S4096x1x1, .f32⟩ : BufTy).Contents (Elt F)),
    reshape main_v14 main_v15 (rfl : (.f32 : EltTy) = .f32) shapeCasts_S4096x1x1_S4096x1,
    unary main_v9 main_v16 ((extractStridedSlice S1x40960x1 ![0, 0, 0] · slices_S1x40960x3_S1x40960x1_0_0_0) : (⟨S1x40960x3, .f32⟩ : BufTy).Contents (Elt F) → (⟨S1x40960x1, .f32⟩ : BufTy).Contents (Elt F)),
    reshape main_v16 main_v17 (rfl : (.f32 : EltTy) = .f32) shapeCasts_S1x40960x1_S1x40960,
    unary main_v9 main_v18 ((extractStridedSlice S1x40960x1 ![0, 0, 1] · slices_S1x40960x3_S1x40960x1_0_0_1) : (⟨S1x40960x3, .f32⟩ : BufTy).Contents (Elt F) → (⟨S1x40960x1, .f32⟩ : BufTy).Contents (Elt F)),
    reshape main_v18 main_v19 (rfl : (.f32 : EltTy) = .f32) shapeCasts_S1x40960x1_S1x40960,
    unary main_v9 main_v20 ((extractStridedSlice S1x40960x1 ![0, 0, 2] · slices_S1x40960x3_S1x40960x1_0_0_2) : (⟨S1x40960x3, .f32⟩ : BufTy).Contents (Elt F) → (⟨S1x40960x1, .f32⟩ : BufTy).Contents (Elt F)),
    reshape main_v20 main_v21 (rfl : (.f32 : EltTy) = .f32) shapeCasts_S1x40960x1_S1x40960,
    unary main_v13 main_v22 (broadcastInDim S4096x40960 ![0, 1] bcast_S4096x1_S4096x40960_0_1 : (⟨S4096x1, .f32⟩ : BufTy).Contents (Elt F) → (⟨S4096x40960, .f32⟩ : BufTy).Contents (Elt F)),
    unary main_v21 main_v23 (broadcastInDim S4096x40960 ![0, 1] bcast_S1x40960_S4096x40960_0_1 : (⟨S1x40960, .f32⟩ : BufTy).Contents (Elt F) → (⟨S4096x40960, .f32⟩ : BufTy).Contents (Elt F)),
    binary main_v22 main_v23 main_v24 (mulf : (⟨S4096x40960, .f32⟩ : BufTy).Contents (Elt F) → (⟨S4096x40960, .f32⟩ : BufTy).Contents (Elt F) → (⟨S4096x40960, .f32⟩ : BufTy).Contents (Elt F)),
    unary main_v15 main_v25 (broadcastInDim S4096x40960 ![0, 1] bcast_S4096x1_S4096x40960_0_1 : (⟨S4096x1, .f32⟩ : BufTy).Contents (Elt F) → (⟨S4096x40960, .f32⟩ : BufTy).Contents (Elt F)),
    unary main_v19 main_v26 (broadcastInDim S4096x40960 ![0, 1] bcast_S1x40960_S4096x40960_0_1 : (⟨S1x40960, .f32⟩ : BufTy).Contents (Elt F) → (⟨S4096x40960, .f32⟩ : BufTy).Contents (Elt F)),
    binary main_v25 main_v26 main_v27 (mulf : (⟨S4096x40960, .f32⟩ : BufTy).Contents (Elt F) → (⟨S4096x40960, .f32⟩ : BufTy).Contents (Elt F) → (⟨S4096x40960, .f32⟩ : BufTy).Contents (Elt F)),
    binary main_v24 main_v27 main_v28 (subf : (⟨S4096x40960, .f32⟩ : BufTy).Contents (Elt F) → (⟨S4096x40960, .f32⟩ : BufTy).Contents (Elt F) → (⟨S4096x40960, .f32⟩ : BufTy).Contents (Elt F)),
    unary main_v15 main_v29 (broadcastInDim S4096x40960 ![0, 1] bcast_S4096x1_S4096x40960_0_1 : (⟨S4096x1, .f32⟩ : BufTy).Contents (Elt F) → (⟨S4096x40960, .f32⟩ : BufTy).Contents (Elt F)) ]

/-- @main's operations 31 … 60 of 181 (window `main_part0`). -/
abbrev ops_part0_1 : List (HloOp τ sig (Elt F)) :=
  [ unary main_v17 main_v30 (broadcastInDim S4096x40960 ![0, 1] bcast_S1x40960_S4096x40960_0_1 : (⟨S1x40960, .f32⟩ : BufTy).Contents (Elt F) → (⟨S4096x40960, .f32⟩ : BufTy).Contents (Elt F)),
    binary main_v29 main_v30 main_v31 (mulf : (⟨S4096x40960, .f32⟩ : BufTy).Contents (Elt F) → (⟨S4096x40960, .f32⟩ : BufTy).Contents (Elt F) → (⟨S4096x40960, .f32⟩ : BufTy).Contents (Elt F)),
    unary main_v11 main_v32 (broadcastInDim S4096x40960 ![0, 1] bcast_S4096x1_S4096x40960_0_1 : (⟨S4096x1, .f32⟩ : BufTy).Contents (Elt F) → (⟨S4096x40960, .f32⟩ : BufTy).Contents (Elt F)),
    unary main_v21 main_v33 (broadcastInDim S4096x40960 ![0, 1] bcast_S1x40960_S4096x40960_0_1 : (⟨S1x40960, .f32⟩ : BufTy).Contents (Elt F) → (⟨S4096x40960, .f32⟩ : BufTy).Contents (Elt F)),
    binary main_v32 main_v33 main_v34 (mulf : (⟨S4096x40960, .f32⟩ : BufTy).Contents (Elt F) → (⟨S4096x40960, .f32⟩ : BufTy).Contents (Elt F) → (⟨S4096x40960, .f32⟩ : BufTy).Contents (Elt F)),
    binary main_v31 main_v34 main_v35 (subf : (⟨S4096x40960, .f32⟩ : BufTy).Contents (Elt F) → (⟨S4096x40960, .f32⟩ : BufTy).Contents (Elt F) → (⟨S4096x40960, .f32⟩ : BufTy).Contents (Elt F)),
    unary main_v11 main_v36 (broadcastInDim S4096x40960 ![0, 1] bcast_S4096x1_S4096x40960_0_1 : (⟨S4096x1, .f32⟩ : BufTy).Contents (Elt F) → (⟨S4096x40960, .f32⟩ : BufTy).Contents (Elt F)),
    unary main_v19 main_v37 (broadcastInDim S4096x40960 ![0, 1] bcast_S1x40960_S4096x40960_0_1 : (⟨S1x40960, .f32⟩ : BufTy).Contents (Elt F) → (⟨S4096x40960, .f32⟩ : BufTy).Contents (Elt F)),
    binary main_v36 main_v37 main_v38 (mulf : (⟨S4096x40960, .f32⟩ : BufTy).Contents (Elt F) → (⟨S4096x40960, .f32⟩ : BufTy).Contents (Elt F) → (⟨S4096x40960, .f32⟩ : BufTy).Contents (Elt F)),
    unary main_v13 main_v39 (broadcastInDim S4096x40960 ![0, 1] bcast_S4096x1_S4096x40960_0_1 : (⟨S4096x1, .f32⟩ : BufTy).Contents (Elt F) → (⟨S4096x40960, .f32⟩ : BufTy).Contents (Elt F)),
    unary main_v17 main_v40 (broadcastInDim S4096x40960 ![0, 1] bcast_S1x40960_S4096x40960_0_1 : (⟨S1x40960, .f32⟩ : BufTy).Contents (Elt F) → (⟨S4096x40960, .f32⟩ : BufTy).Contents (Elt F)),
    binary main_v39 main_v40 main_v41 (mulf : (⟨S4096x40960, .f32⟩ : BufTy).Contents (Elt F) → (⟨S4096x40960, .f32⟩ : BufTy).Contents (Elt F) → (⟨S4096x40960, .f32⟩ : BufTy).Contents (Elt F)),
    binary main_v38 main_v41 main_v42 (subf : (⟨S4096x40960, .f32⟩ : BufTy).Contents (Elt F) → (⟨S4096x40960, .f32⟩ : BufTy).Contents (Elt F) → (⟨S4096x40960, .f32⟩ : BufTy).Contents (Elt F)),
    unary main_v28 main_v43 (broadcastInDim S4096x40960x1 ![0, 1] bcast_S4096x40960_S4096x40960x1_0_1 : (⟨S4096x40960, .f32⟩ : BufTy).Contents (Elt F) → (⟨S4096x40960x1, .f32⟩ : BufTy).Contents (Elt F)),
    unary main_v35 main_v44 (broadcastInDim S4096x40960x1 ![0, 1] bcast_S4096x40960_S4096x40960x1_0_1 : (⟨S4096x40960, .f32⟩ : BufTy).Contents (Elt F) → (⟨S4096x40960x1, .f32⟩ : BufTy).Contents (Elt F)),
    unary main_v42 main_v45 (broadcastInDim S4096x40960x1 ![0, 1] bcast_S4096x40960_S4096x40960x1_0_1 : (⟨S4096x40960, .f32⟩ : BufTy).Contents (Elt F) → (⟨S4096x40960x1, .f32⟩ : BufTy).Contents (Elt F)),
    nary ![main_v43, main_v44, main_v45] main_v46 (fun u => fn_main_v46 (F := F) (u 0) (u 1) (u 2)),
    unary main_v3 main_v47 (broadcastInDim S1x40960x3 ![1, 2] bcast_S40960x3_S1x40960x3_1_2 : (⟨S40960x3, .f32⟩ : BufTy).Contents (Elt F) → (⟨S1x40960x3, .f32⟩ : BufTy).Contents (Elt F)),
    unary main_v47 main_v48 (broadcastInDim S4096x40960x3 ![0, 1, 2] bcast_S1x40960x3_S4096x40960x3_0_1_2 : (⟨S1x40960x3, .f32⟩ : BufTy).Contents (Elt F) → (⟨S4096x40960x3, .f32⟩ : BufTy).Contents (Elt F)),
    binary main_v48 main_v46 main_v49 (mulf : (⟨S4096x40960x3, .f32⟩ : BufTy).Contents (Elt F) → (⟨S4096x40960x3, .f32⟩ : BufTy).Contents (Elt F) → (⟨S4096x40960x3, .f32⟩ : BufTy).Contents (Elt F)),
    nullary main_cst (constant S_ .f32 0x00000000#32),
    binary main_v49 main_cst main_v50 ((fun x v => Host.reduceAdd x v reducesTo_S4096x40960x3_S4096x40960_d2 h_S_) : (⟨S4096x40960x3, .f32⟩ : BufTy).Contents (Elt F) → (⟨S_, .f32⟩ : BufTy).Contents (Elt F) → (⟨S4096x40960, .f32⟩ : BufTy).Contents (Elt F)),
    unary main_v50 main_v51 (Host.absf : (⟨S4096x40960, .f32⟩ : BufTy).Contents (Elt F) → (⟨S4096x40960, .f32⟩ : BufTy).Contents (Elt F)),
    nullary main_cst_0 (constant S_ .f32 0x3089705F#32),
    unary main_cst_0 main_v52 (broadcastInDim S4096x40960 ![] bcast_S_S4096x40960 : (⟨S_, .f32⟩ : BufTy).Contents (Elt F) → (⟨S4096x40960, .f32⟩ : BufTy).Contents (Elt F)),
    binary main_v51 main_v52 main_v53 (cmpf .ogt : (⟨S4096x40960, .f32⟩ : BufTy).Contents (Elt F) → (⟨S4096x40960, .f32⟩ : BufTy).Contents (Elt F) → (⟨S4096x40960, .i1⟩ : BufTy).Contents (Elt F)),
    nullary main_cst_1 (constant S_ .f32 0x3F800000#32),
    TRef.unary (TRef.of (T := ⟨S_, .f32⟩) main_cst_1) (TRef.of (T := ⟨S_, .f32⟩) main_call0_v0) id,
    TRef.unary (TRef.of (T := ⟨S_, .f32⟩) main_call0_v0) (TRef.of (T := ⟨S4096x40960, .f32⟩) main_call0_v1) (broadcastInDim S4096x40960 ![] bcast_S_S4096x40960),
    TRef.ternary (TRef.of (T := ⟨S4096x40960, .i1⟩) main_v53) (TRef.of (T := ⟨S4096x40960, .f32⟩) main_v50) (TRef.of (T := ⟨S4096x40960, .f32⟩) main_call0_v1) (TRef.of (T := ⟨S4096x40960, .f32⟩) main_v54) select ]

/-- @main's operations 61 … 62 of 181 (window `main_part0`). -/
abbrev ops_part0_2 : List (HloOp τ sig (Elt F)) :=
  [ nullary main_cst_2 (constant S_ .f32 0x3F800000#32),
    unary main_cst_2 main_v55 (broadcastInDim S4096x40960 ![] bcast_S_S4096x40960 : (⟨S_, .f32⟩ : BufTy).Contents (Elt F) → (⟨S4096x40960, .f32⟩ : BufTy).Contents (Elt F)) ]

/-- Window `main_part0`'s operations. Not an abbreviation: `main_eq` below splits `ops` into the windows and no further. -/
def ops_part0 : List (HloOp τ sig (Elt F)) :=
  ops_part0_0 ++ (ops_part0_1 ++ (ops_part0_2))

/-- @main's operations 63 … 92 of 181 (window `main_part1`). -/
abbrev ops_part1_0 : List (HloOp τ sig (Elt F)) :=
  [ binary main_v55 main_v54 main_v56 (Host.divf : (⟨S4096x40960, .f32⟩ : BufTy).Contents (Elt F) → (⟨S4096x40960, .f32⟩ : BufTy).Contents (Elt F) → (⟨S4096x40960, .f32⟩ : BufTy).Contents (Elt F)),
    nullary main_cst_3 (constant S_ .f32 0x00000000#32),
    TRef.unary (TRef.of (T := ⟨S_, .f32⟩) main_cst_3) (TRef.of (T := ⟨S_, .f32⟩) main_call1_v0) id,
    TRef.unary (TRef.of (T := ⟨S_, .f32⟩) main_call1_v0) (TRef.of (T := ⟨S4096x40960, .f32⟩) main_call1_v1) (broadcastInDim S4096x40960 ![] bcast_S_S4096x40960),
    TRef.ternary (TRef.of (T := ⟨S4096x40960, .i1⟩) main_v53) (TRef.of (T := ⟨S4096x40960, .f32⟩) main_v56) (TRef.of (T := ⟨S4096x40960, .f32⟩) main_call1_v1) (TRef.of (T := ⟨S4096x40960, .f32⟩) main_v57) select,
    unary main_v6 main_v58 (broadcastInDim S4096x1x3 ![0, 2] bcast_S4096x3_S4096x1x3_0_2 : (⟨S4096x3, .f32⟩ : BufTy).Contents (Elt F) → (⟨S4096x1x3, .f32⟩ : BufTy).Contents (Elt F)),
    unary main_v1 main_v59 (broadcastInDim S1x40960x3 ![1, 2] bcast_S40960x3_S1x40960x3_1_2 : (⟨S40960x3, .f32⟩ : BufTy).Contents (Elt F) → (⟨S1x40960x3, .f32⟩ : BufTy).Contents (Elt F)),
    unary main_v58 main_v60 (broadcastInDim S4096x40960x3 ![0, 1, 2] bcast_S4096x1x3_S4096x40960x3_0_1_2 : (⟨S4096x1x3, .f32⟩ : BufTy).Contents (Elt F) → (⟨S4096x40960x3, .f32⟩ : BufTy).Contents (Elt F)),
    unary main_v59 main_v61 (broadcastInDim S4096x40960x3 ![0, 1, 2] bcast_S1x40960x3_S4096x40960x3_0_1_2 : (⟨S1x40960x3, .f32⟩ : BufTy).Contents (Elt F) → (⟨S4096x40960x3, .f32⟩ : BufTy).Contents (Elt F)),
    binary main_v60 main_v61 main_v62 (subf : (⟨S4096x40960x3, .f32⟩ : BufTy).Contents (Elt F) → (⟨S4096x40960x3, .f32⟩ : BufTy).Contents (Elt F) → (⟨S4096x40960x3, .f32⟩ : BufTy).Contents (Elt F)),
    binary main_v62 main_v46 main_v63 (mulf : (⟨S4096x40960x3, .f32⟩ : BufTy).Contents (Elt F) → (⟨S4096x40960x3, .f32⟩ : BufTy).Contents (Elt F) → (⟨S4096x40960x3, .f32⟩ : BufTy).Contents (Elt F)),
    nullary main_cst_4 (constant S_ .f32 0x00000000#32),
    binary main_v63 main_cst_4 main_v64 ((fun x v => Host.reduceAdd x v reducesTo_S4096x40960x3_S4096x40960_d2 h_S_) : (⟨S4096x40960x3, .f32⟩ : BufTy).Contents (Elt F) → (⟨S_, .f32⟩ : BufTy).Contents (Elt F) → (⟨S4096x40960, .f32⟩ : BufTy).Contents (Elt F)),
    binary main_v64 main_v57 main_v65 (mulf : (⟨S4096x40960, .f32⟩ : BufTy).Contents (Elt F) → (⟨S4096x40960, .f32⟩ : BufTy).Contents (Elt F) → (⟨S4096x40960, .f32⟩ : BufTy).Contents (Elt F)),
    unary main_v3 main_v66 (broadcastInDim S1x40960x3 ![1, 2] bcast_S40960x3_S1x40960x3_1_2 : (⟨S40960x3, .f32⟩ : BufTy).Contents (Elt F) → (⟨S1x40960x3, .f32⟩ : BufTy).Contents (Elt F)),
    unary main_v62 main_v67 ((extractStridedSlice S4096x40960x1 ![0, 0, 0] · slices_S4096x40960x3_S4096x40960x1_0_0_0) : (⟨S4096x40960x3, .f32⟩ : BufTy).Contents (Elt F) → (⟨S4096x40960x1, .f32⟩ : BufTy).Contents (Elt F)),
    reshape main_v67 main_v68 (rfl : (.f32 : EltTy) = .f32) shapeCasts_S4096x40960x1_S4096x40960,
    unary main_v62 main_v69 ((extractStridedSlice S4096x40960x1 ![0, 0, 1] · slices_S4096x40960x3_S4096x40960x1_0_0_1) : (⟨S4096x40960x3, .f32⟩ : BufTy).Contents (Elt F) → (⟨S4096x40960x1, .f32⟩ : BufTy).Contents (Elt F)),
    reshape main_v69 main_v70 (rfl : (.f32 : EltTy) = .f32) shapeCasts_S4096x40960x1_S4096x40960,
    unary main_v62 main_v71 ((extractStridedSlice S4096x40960x1 ![0, 0, 2] · slices_S4096x40960x3_S4096x40960x1_0_0_2) : (⟨S4096x40960x3, .f32⟩ : BufTy).Contents (Elt F) → (⟨S4096x40960x1, .f32⟩ : BufTy).Contents (Elt F)),
    reshape main_v71 main_v72 (rfl : (.f32 : EltTy) = .f32) shapeCasts_S4096x40960x1_S4096x40960,
    unary main_v66 main_v73 ((extractStridedSlice S1x40960x1 ![0, 0, 0] · slices_S1x40960x3_S1x40960x1_0_0_0) : (⟨S1x40960x3, .f32⟩ : BufTy).Contents (Elt F) → (⟨S1x40960x1, .f32⟩ : BufTy).Contents (Elt F)),
    reshape main_v73 main_v74 (rfl : (.f32 : EltTy) = .f32) shapeCasts_S1x40960x1_S1x40960,
    unary main_v66 main_v75 ((extractStridedSlice S1x40960x1 ![0, 0, 1] · slices_S1x40960x3_S1x40960x1_0_0_1) : (⟨S1x40960x3, .f32⟩ : BufTy).Contents (Elt F) → (⟨S1x40960x1, .f32⟩ : BufTy).Contents (Elt F)),
    reshape main_v75 main_v76 (rfl : (.f32 : EltTy) = .f32) shapeCasts_S1x40960x1_S1x40960,
    unary main_v66 main_v77 ((extractStridedSlice S1x40960x1 ![0, 0, 2] · slices_S1x40960x3_S1x40960x1_0_0_2) : (⟨S1x40960x3, .f32⟩ : BufTy).Contents (Elt F) → (⟨S1x40960x1, .f32⟩ : BufTy).Contents (Elt F)),
    reshape main_v77 main_v78 (rfl : (.f32 : EltTy) = .f32) shapeCasts_S1x40960x1_S1x40960,
    unary main_v78 main_v79 (broadcastInDim S4096x40960 ![0, 1] bcast_S1x40960_S4096x40960_0_1 : (⟨S1x40960, .f32⟩ : BufTy).Contents (Elt F) → (⟨S4096x40960, .f32⟩ : BufTy).Contents (Elt F)),
    binary main_v70 main_v79 main_v80 (mulf : (⟨S4096x40960, .f32⟩ : BufTy).Contents (Elt F) → (⟨S4096x40960, .f32⟩ : BufTy).Contents (Elt F) → (⟨S4096x40960, .f32⟩ : BufTy).Contents (Elt F)),
    unary main_v76 main_v81 (broadcastInDim S4096x40960 ![0, 1] bcast_S1x40960_S4096x40960_0_1 : (⟨S1x40960, .f32⟩ : BufTy).Contents (Elt F) → (⟨S4096x40960, .f32⟩ : BufTy).Contents (Elt F)) ]

/-- @main's operations 93 … 122 of 181 (window `main_part1`). -/
abbrev ops_part1_1 : List (HloOp τ sig (Elt F)) :=
  [ binary main_v72 main_v81 main_v82 (mulf : (⟨S4096x40960, .f32⟩ : BufTy).Contents (Elt F) → (⟨S4096x40960, .f32⟩ : BufTy).Contents (Elt F) → (⟨S4096x40960, .f32⟩ : BufTy).Contents (Elt F)),
    binary main_v80 main_v82 main_v83 (subf : (⟨S4096x40960, .f32⟩ : BufTy).Contents (Elt F) → (⟨S4096x40960, .f32⟩ : BufTy).Contents (Elt F) → (⟨S4096x40960, .f32⟩ : BufTy).Contents (Elt F)),
    unary main_v74 main_v84 (broadcastInDim S4096x40960 ![0, 1] bcast_S1x40960_S4096x40960_0_1 : (⟨S1x40960, .f32⟩ : BufTy).Contents (Elt F) → (⟨S4096x40960, .f32⟩ : BufTy).Contents (Elt F)),
    binary main_v72 main_v84 main_v85 (mulf : (⟨S4096x40960, .f32⟩ : BufTy).Contents (Elt F) → (⟨S4096x40960, .f32⟩ : BufTy).Contents (Elt F) → (⟨S4096x40960, .f32⟩ : BufTy).Contents (Elt F)),
    unary main_v78 main_v86 (broadcastInDim S4096x40960 ![0, 1] bcast_S1x40960_S4096x40960_0_1 : (⟨S1x40960, .f32⟩ : BufTy).Contents (Elt F) → (⟨S4096x40960, .f32⟩ : BufTy).Contents (Elt F)),
    binary main_v68 main_v86 main_v87 (mulf : (⟨S4096x40960, .f32⟩ : BufTy).Contents (Elt F) → (⟨S4096x40960, .f32⟩ : BufTy).Contents (Elt F) → (⟨S4096x40960, .f32⟩ : BufTy).Contents (Elt F)),
    binary main_v85 main_v87 main_v88 (subf : (⟨S4096x40960, .f32⟩ : BufTy).Contents (Elt F) → (⟨S4096x40960, .f32⟩ : BufTy).Contents (Elt F) → (⟨S4096x40960, .f32⟩ : BufTy).Contents (Elt F)),
    unary main_v76 main_v89 (broadcastInDim S4096x40960 ![0, 1] bcast_S1x40960_S4096x40960_0_1 : (⟨S1x40960, .f32⟩ : BufTy).Contents (Elt F) → (⟨S4096x40960, .f32⟩ : BufTy).Contents (Elt F)),
    binary main_v68 main_v89 main_v90 (mulf : (⟨S4096x40960, .f32⟩ : BufTy).Contents (Elt F) → (⟨S4096x40960, .f32⟩ : BufTy).Contents (Elt F) → (⟨S4096x40960, .f32⟩ : BufTy).Contents (Elt F)),
    unary main_v74 main_v91 (broadcastInDim S4096x40960 ![0, 1] bcast_S1x40960_S4096x40960_0_1 : (⟨S1x40960, .f32⟩ : BufTy).Contents (Elt F) → (⟨S4096x40960, .f32⟩ : BufTy).Contents (Elt F)),
    binary main_v70 main_v91 main_v92 (mulf : (⟨S4096x40960, .f32⟩ : BufTy).Contents (Elt F) → (⟨S4096x40960, .f32⟩ : BufTy).Contents (Elt F) → (⟨S4096x40960, .f32⟩ : BufTy).Contents (Elt F)),
    binary main_v90 main_v92 main_v93 (subf : (⟨S4096x40960, .f32⟩ : BufTy).Contents (Elt F) → (⟨S4096x40960, .f32⟩ : BufTy).Contents (Elt F) → (⟨S4096x40960, .f32⟩ : BufTy).Contents (Elt F)),
    unary main_v83 main_v94 (broadcastInDim S4096x40960x1 ![0, 1] bcast_S4096x40960_S4096x40960x1_0_1 : (⟨S4096x40960, .f32⟩ : BufTy).Contents (Elt F) → (⟨S4096x40960x1, .f32⟩ : BufTy).Contents (Elt F)),
    unary main_v88 main_v95 (broadcastInDim S4096x40960x1 ![0, 1] bcast_S4096x40960_S4096x40960x1_0_1 : (⟨S4096x40960, .f32⟩ : BufTy).Contents (Elt F) → (⟨S4096x40960x1, .f32⟩ : BufTy).Contents (Elt F)),
    unary main_v93 main_v96 (broadcastInDim S4096x40960x1 ![0, 1] bcast_S4096x40960_S4096x40960x1_0_1 : (⟨S4096x40960, .f32⟩ : BufTy).Contents (Elt F) → (⟨S4096x40960x1, .f32⟩ : BufTy).Contents (Elt F)),
    nary ![main_v94, main_v95, main_v96] main_v97 (fun u => fn_main_v97 (F := F) (u 0) (u 1) (u 2)),
    unary main_v7 main_v98 (broadcastInDim S4096x1x3 ![0, 2] bcast_S4096x3_S4096x1x3_0_2 : (⟨S4096x3, .f32⟩ : BufTy).Contents (Elt F) → (⟨S4096x1x3, .f32⟩ : BufTy).Contents (Elt F)),
    unary main_v98 main_v99 (broadcastInDim S4096x40960x3 ![0, 1, 2] bcast_S4096x1x3_S4096x40960x3_0_1_2 : (⟨S4096x1x3, .f32⟩ : BufTy).Contents (Elt F) → (⟨S4096x40960x3, .f32⟩ : BufTy).Contents (Elt F)),
    binary main_v99 main_v97 main_v100 (mulf : (⟨S4096x40960x3, .f32⟩ : BufTy).Contents (Elt F) → (⟨S4096x40960x3, .f32⟩ : BufTy).Contents (Elt F) → (⟨S4096x40960x3, .f32⟩ : BufTy).Contents (Elt F)),
    nullary main_cst_5 (constant S_ .f32 0x00000000#32),
    binary main_v100 main_cst_5 main_v101 ((fun x v => Host.reduceAdd x v reducesTo_S4096x40960x3_S4096x40960_d2 h_S_) : (⟨S4096x40960x3, .f32⟩ : BufTy).Contents (Elt F) → (⟨S_, .f32⟩ : BufTy).Contents (Elt F) → (⟨S4096x40960, .f32⟩ : BufTy).Contents (Elt F)),
    binary main_v101 main_v57 main_v102 (mulf : (⟨S4096x40960, .f32⟩ : BufTy).Contents (Elt F) → (⟨S4096x40960, .f32⟩ : BufTy).Contents (Elt F) → (⟨S4096x40960, .f32⟩ : BufTy).Contents (Elt F)),
    unary main_v5 main_v103 (broadcastInDim S1x40960x3 ![1, 2] bcast_S40960x3_S1x40960x3_1_2 : (⟨S40960x3, .f32⟩ : BufTy).Contents (Elt F) → (⟨S1x40960x3, .f32⟩ : BufTy).Contents (Elt F)),
    unary main_v103 main_v104 (broadcastInDim S4096x40960x3 ![0, 1, 2] bcast_S1x40960x3_S4096x40960x3_0_1_2 : (⟨S1x40960x3, .f32⟩ : BufTy).Contents (Elt F) → (⟨S4096x40960x3, .f32⟩ : BufTy).Contents (Elt F)),
    binary main_v104 main_v97 main_v105 (mulf : (⟨S4096x40960x3, .f32⟩ : BufTy).Contents (Elt F) → (⟨S4096x40960x3, .f32⟩ : BufTy).Contents (Elt F) → (⟨S4096x40960x3, .f32⟩ : BufTy).Contents (Elt F)),
    nullary main_cst_6 (constant S_ .f32 0x00000000#32),
    binary main_v105 main_cst_6 main_v106 ((fun x v => Host.reduceAdd x v reducesTo_S4096x40960x3_S4096x40960_d2 h_S_) : (⟨S4096x40960x3, .f32⟩ : BufTy).Contents (Elt F) → (⟨S_, .f32⟩ : BufTy).Contents (Elt F) → (⟨S4096x40960, .f32⟩ : BufTy).Contents (Elt F)),
    binary main_v106 main_v57 main_v107 (mulf : (⟨S4096x40960, .f32⟩ : BufTy).Contents (Elt F) → (⟨S4096x40960, .f32⟩ : BufTy).Contents (Elt F) → (⟨S4096x40960, .f32⟩ : BufTy).Contents (Elt F)),
    nullary main_cst_7 (constant S_ .f32 0x00000000#32),
    unary main_cst_7 main_v108 (broadcastInDim S4096x40960 ![] bcast_S_S4096x40960 : (⟨S_, .f32⟩ : BufTy).Contents (Elt F) → (⟨S4096x40960, .f32⟩ : BufTy).Contents (Elt F)) ]

/-- @main's operations 123 … 124 of 181 (window `main_part1`). -/
abbrev ops_part1_2 : List (HloOp τ sig (Elt F)) :=
  [ binary main_v65 main_v108 main_v109 (cmpf .oge : (⟨S4096x40960, .f32⟩ : BufTy).Contents (Elt F) → (⟨S4096x40960, .f32⟩ : BufTy).Contents (Elt F) → (⟨S4096x40960, .i1⟩ : BufTy).Contents (Elt F)),
    binary main_v53 main_v109 main_v110 (andi : (⟨S4096x40960, .i1⟩ : BufTy).Contents (Elt F) → (⟨S4096x40960, .i1⟩ : BufTy).Contents (Elt F) → (⟨S4096x40960, .i1⟩ : BufTy).Contents (Elt F)) ]

/-- Window `main_part1`'s operations. Not an abbreviation: `main_eq` below splits `ops` into the windows and no further. -/
def ops_part1 : List (HloOp τ sig (Elt F)) :=
  ops_part1_0 ++ (ops_part1_1 ++ (ops_part1_2))

/-- @main's operations 125 … 181 of 181 (window `main_part2`). -/
abbrev ops_part2 : List (HloOp τ sig (Elt F)) :=
  [ nullary main_cst_8 (constant S_ .f32 0x00000000#32),
    unary main_cst_8 main_v111 (broadcastInDim S4096x40960 ![] bcast_S_S4096x40960 : (⟨S_, .f32⟩ : BufTy).Contents (Elt F) → (⟨S4096x40960, .f32⟩ : BufTy).Contents (Elt F)),
    binary main_v102 main_v111 main_v112 (cmpf .oge : (⟨S4096x40960, .f32⟩ : BufTy).Contents (Elt F) → (⟨S4096x40960, .f32⟩ : BufTy).Contents (Elt F) → (⟨S4096x40960, .i1⟩ : BufTy).Contents (Elt F)),
    binary main_v110 main_v112 main_v113 (andi : (⟨S4096x40960, .i1⟩ : BufTy).Contents (Elt F) → (⟨S4096x40960, .i1⟩ : BufTy).Contents (Elt F) → (⟨S4096x40960, .i1⟩ : BufTy).Contents (Elt F)),
    binary main_v65 main_v102 main_v114 (addf : (⟨S4096x40960, .f32⟩ : BufTy).Contents (Elt F) → (⟨S4096x40960, .f32⟩ : BufTy).Contents (Elt F) → (⟨S4096x40960, .f32⟩ : BufTy).Contents (Elt F)),
    nullary main_cst_9 (constant S_ .f32 0x3F800000#32),
    unary main_cst_9 main_v115 (broadcastInDim S4096x40960 ![] bcast_S_S4096x40960 : (⟨S_, .f32⟩ : BufTy).Contents (Elt F) → (⟨S4096x40960, .f32⟩ : BufTy).Contents (Elt F)),
    binary main_v114 main_v115 main_v116 (cmpf .ole : (⟨S4096x40960, .f32⟩ : BufTy).Contents (Elt F) → (⟨S4096x40960, .f32⟩ : BufTy).Contents (Elt F) → (⟨S4096x40960, .i1⟩ : BufTy).Contents (Elt F)),
    binary main_v113 main_v116 main_v117 (andi : (⟨S4096x40960, .i1⟩ : BufTy).Contents (Elt F) → (⟨S4096x40960, .i1⟩ : BufTy).Contents (Elt F) → (⟨S4096x40960, .i1⟩ : BufTy).Contents (Elt F)),
    nullary main_cst_10 (constant S_ .f32 0x358637BD#32),
    unary main_cst_10 main_v118 (broadcastInDim S4096x40960 ![] bcast_S_S4096x40960 : (⟨S_, .f32⟩ : BufTy).Contents (Elt F) → (⟨S4096x40960, .f32⟩ : BufTy).Contents (Elt F)),
    binary main_v107 main_v118 main_v119 (cmpf .ogt : (⟨S4096x40960, .f32⟩ : BufTy).Contents (Elt F) → (⟨S4096x40960, .f32⟩ : BufTy).Contents (Elt F) → (⟨S4096x40960, .i1⟩ : BufTy).Contents (Elt F)),
    binary main_v117 main_v119 main_v120 (andi : (⟨S4096x40960, .i1⟩ : BufTy).Contents (Elt F) → (⟨S4096x40960, .i1⟩ : BufTy).Contents (Elt F) → (⟨S4096x40960, .i1⟩ : BufTy).Contents (Elt F)),
    nullary main_cst_11 (constant S_ .f32 0x501502F9#32),
    TRef.unary (TRef.of (T := ⟨S_, .f32⟩) main_cst_11) (TRef.of (T := ⟨S_, .f32⟩) main_call2_v0) id,
    TRef.unary (TRef.of (T := ⟨S_, .f32⟩) main_call2_v0) (TRef.of (T := ⟨S4096x40960, .f32⟩) main_call2_v1) (broadcastInDim S4096x40960 ![] bcast_S_S4096x40960),
    TRef.ternary (TRef.of (T := ⟨S4096x40960, .i1⟩) main_v120) (TRef.of (T := ⟨S4096x40960, .f32⟩) main_v107) (TRef.of (T := ⟨S4096x40960, .f32⟩) main_call2_v1) (TRef.of (T := ⟨S4096x40960, .f32⟩) main_v121) select,
    TRef.nullary (TRef.of (T := ⟨S4096x40960, .i32⟩) main_call3_v0) (iotaInDim S4096x40960 32 1),
    TRef.nullary (TRef.of (T := ⟨S_, .f32⟩) main_call3_cst) (constant S_ .f32 0x7F800000#32),
    TRef.nullary (TRef.of (T := ⟨S_, .i32⟩) main_call3_c) (constantI S_ 32 0#32),
    TRef.quaternary (TRef.of (T := ⟨S4096x40960, .f32⟩) main_v121) (TRef.of (T := ⟨S4096x40960, .i32⟩) main_call3_v0) (TRef.of (T := ⟨S_, .f32⟩) main_call3_cst) (TRef.of (T := ⟨S_, .i32⟩) main_call3_c) (TRef.of (T := ⟨S4096, .f32⟩) main_call3_v1_0) (fun x y u v j => (Host.argReduce reducer_argmin_f32_i32 x y u v reducesTo_S4096x40960_S4096_d1 h_S_ j).1),
    TRef.quaternary (TRef.of (T := ⟨S4096x40960, .f32⟩) main_v121) (TRef.of (T := ⟨S4096x40960, .i32⟩) main_call3_v0) (TRef.of (T := ⟨S_, .f32⟩) main_call3_cst) (TRef.of (T := ⟨S_, .i32⟩) main_call3_c) (TRef.of (T := ⟨S4096, .i32⟩) main_v122) (fun x y u v j => (Host.argReduce reducer_argmin_f32_i32 x y u v reducesTo_S4096x40960_S4096_d1 h_S_ j).2),
    unary main_v122 main_v123 (broadcastInDim S4096x1 ![0] bcast_S4096_S4096x1_0 : (⟨S4096, .i32⟩ : BufTy).Contents (Elt F) → (⟨S4096x1, .i32⟩ : BufTy).Contents (Elt F)),
    TRef.nullary (TRef.of (T := ⟨S_, .i32⟩) main_call4_c) (constantI S_ 32 0#32),
    TRef.unary (TRef.of (T := ⟨S_, .i32⟩) main_call4_c) (TRef.of (T := ⟨S4096x1, .i32⟩) main_call4_v0) (broadcastInDim S4096x1 ![] bcast_S_S4096x1),
    TRef.binary (TRef.of (T := ⟨S4096x1, .i32⟩) main_v123) (TRef.of (T := ⟨S4096x1, .i32⟩) main_call4_v0) (TRef.of (T := ⟨S4096x1, .i1⟩) main_call4_v1) (cmpi .slt),
    TRef.nullary (TRef.of (T := ⟨S_, .i32⟩) main_call4_c_0) (constantI S_ 32 40960#32),
    TRef.unary (TRef.of (T := ⟨S_, .i32⟩) main_call4_c_0) (TRef.of (T := ⟨S4096x1, .i32⟩) main_call4_v2) (broadcastInDim S4096x1 ![] bcast_S_S4096x1),
    TRef.binary (TRef.of (T := ⟨S4096x1, .i32⟩) main_v123) (TRef.of (T := ⟨S4096x1, .i32⟩) main_call4_v2) (TRef.of (T := ⟨S4096x1, .i32⟩) main_call4_v3) addi,
    TRef.ternary (TRef.of (T := ⟨S4096x1, .i1⟩) main_call4_v1) (TRef.of (T := ⟨S4096x1, .i32⟩) main_call4_v3) (TRef.of (T := ⟨S4096x1, .i32⟩) main_v123) (TRef.of (T := ⟨S4096x1, .i32⟩) main_call4_v4) select,
    TRef.reshape (TRef.of (T := ⟨S4096x1, .i32⟩) main_call4_v4) (TRef.of (T := ⟨S4096x1x1, .i32⟩) main_call4_v5) (rfl : (.i32 : EltTy) = .i32) shapeCasts_S4096x1_S4096x1x1,
    TRef.nullary (TRef.of (T := ⟨S1, .i32⟩) main_call4_c_1) (constantI S1 32 40959#32),
    TRef.nullary (TRef.of (T := ⟨S_, .i32⟩) main_call4_c_2) (constantI S_ 32 0#32),
    TRef.unary (TRef.of (T := ⟨S_, .i32⟩) main_call4_c_2) (TRef.of (T := ⟨S4096x1x1, .i32⟩) main_call4_v6) (broadcastInDim S4096x1x1 ![] bcast_S_S4096x1x1),
    TRef.binary (TRef.of (T := ⟨S4096x1x1, .i32⟩) main_call4_v5) (TRef.of (T := ⟨S4096x1x1, .i32⟩) main_call4_v6) (TRef.of (T := ⟨S4096x1x1, .i1⟩) main_call4_v7) (cmpi .sge),
    TRef.unary (TRef.of (T := ⟨S1, .i32⟩) main_call4_c_1) (TRef.of (T := ⟨S1x1x1, .i32⟩) main_call4_v8) (broadcastInDim S1x1x1 ![2] bcast_S1_S1x1x1_2),
    TRef.unary (TRef.of (T := ⟨S1x1x1, .i32⟩) main_call4_v8) (TRef.of (T := ⟨S4096x1x1, .i32⟩) main_call4_v9) (broadcastInDim S4096x1x1 ![0, 1, 2] bcast_S1x1x1_S4096x1x1_0_1_2),
    TRef.binary (TRef.of (T := ⟨S4096x1x1, .i32⟩) main_call4_v5) (TRef.of (T := ⟨S4096x1x1, .i32⟩) main_call4_v9) (TRef.of (T := ⟨S4096x1x1, .i1⟩) main_call4_v10) (cmpi .sle),
    TRef.binary (TRef.of (T := ⟨S4096x1x1, .i1⟩) main_call4_v7) (TRef.of (T := ⟨S4096x1x1, .i1⟩) main_call4_v10) (TRef.of (T := ⟨S4096x1x1, .i1⟩) main_call4_v11) andi,
    TRef.nullary (TRef.of (T := ⟨S_, .i1⟩) main_call4_c_3) (constantI S_ 1 1#1),
    TRef.binary (TRef.of (T := ⟨S4096x1x1, .i1⟩) main_call4_v11) (TRef.of (T := ⟨S_, .i1⟩) main_call4_c_3) (TRef.of (T := ⟨S4096x1, .i1⟩) main_call4_v12) (fun x v => Host.reduce IntOp.andi x v reducesTo_S4096x1x1_S4096x1_d2 h_S_),
    TRef.binary (TRef.of (T := ⟨S4096x40960, .f32⟩) main_v121) (TRef.of (T := ⟨S4096x1x1, .i32⟩) main_call4_v5) (TRef.of (T := ⟨S4096x1, .f32⟩) main_call4_v13) (fun x i => Host.gather gather_S4096x40960_S4096x1x1_S4096x1_n_1_0_0_1_2_11 x i),
    TRef.nullary (TRef.of (T := ⟨S_, .f32⟩) main_call4_cst) (constant S_ .f32 0x7FC00000#32),
    TRef.unary (TRef.of (T := ⟨S_, .f32⟩) main_call4_cst) (TRef.of (T := ⟨S4096x1, .f32⟩) main_call4_v14) (broadcastInDim S4096x1 ![] bcast_S_S4096x1),
    TRef.ternary (TRef.of (T := ⟨S4096x1, .i1⟩) main_call4_v12) (TRef.of (T := ⟨S4096x1, .f32⟩) main_call4_v13) (TRef.of (T := ⟨S4096x1, .f32⟩) main_call4_v14) (TRef.of (T := ⟨S4096x1, .f32⟩) main_v124) select,
    reshape main_v124 main_v125 (rfl : (.f32 : EltTy) = .f32) shapeCasts_S4096x1_S4096,
    nullary main_cst_12 (constant S_ .f32 0x40A00000#32),
    unary main_cst_12 main_v126 (broadcastInDim S4096 ![] bcast_S_S4096 : (⟨S_, .f32⟩ : BufTy).Contents (Elt F) → (⟨S4096, .f32⟩ : BufTy).Contents (Elt F)),
    binary main_v125 main_v126 main_v127 (cmpf .olt : (⟨S4096, .f32⟩ : BufTy).Contents (Elt F) → (⟨S4096, .f32⟩ : BufTy).Contents (Elt F) → (⟨S4096, .i1⟩ : BufTy).Contents (Elt F)),
    nullary main_cst_13 (constant S_ .f32 0x00000000#32),
    TRef.unary (TRef.of (T := ⟨S_, .f32⟩) main_cst_13) (TRef.of (T := ⟨S_, .f32⟩) main_call5_v0) id,
    TRef.unary (TRef.of (T := ⟨S_, .f32⟩) main_call5_v0) (TRef.of (T := ⟨S4096, .f32⟩) main_call5_v1) (broadcastInDim S4096 ![] bcast_S_S4096),
    TRef.ternary (TRef.of (T := ⟨S4096, .i1⟩) main_v127) (TRef.of (T := ⟨S4096, .f32⟩) main_v125) (TRef.of (T := ⟨S4096, .f32⟩) main_call5_v1) (TRef.of (T := ⟨S4096, .f32⟩) main_v128) select,
    nullary main_c (constantI S_ 32 4294967295#32),
    TRef.unary (TRef.of (T := ⟨S_, .i32⟩) main_c) (TRef.of (T := ⟨S_, .i32⟩) main_call6_v0) id,
    TRef.unary (TRef.of (T := ⟨S_, .i32⟩) main_call6_v0) (TRef.of (T := ⟨S4096, .i32⟩) main_call6_v1) (broadcastInDim S4096 ![] bcast_S_S4096),
    TRef.ternary (TRef.of (T := ⟨S4096, .i1⟩) main_v127) (TRef.of (T := ⟨S4096, .i32⟩) main_v122) (TRef.of (T := ⟨S4096, .i32⟩) main_call6_v1) (TRef.of (T := ⟨S4096, .i32⟩) main_v129) select ]

/-- @main's 181 operations, in order (a called function's operations stand in its call's place, spelt `TRef.…`). -/
abbrev ops : List (HloOp τ sig (Elt F)) :=
  ops_part0 ++ (ops_part1 ++ (ops_part2))

set_option maxRecDepth 8192 in
set_option maxHeartbeats 4000000 in
theorem main_part0_eq (c : Dev nD) : main_part0 (F := F) c = seq ops_part0 := rfl
set_option maxRecDepth 8192 in
set_option maxHeartbeats 4000000 in
theorem main_part1_eq (c : Dev nD) : main_part1 (F := F) c = seq ops_part1 := rfl
set_option maxRecDepth 8192 in
theorem main_part2_eq (c : Dev nD) : main_part2 (F := F) c = seq ops_part2 := rfl
set_option maxRecDepth 8192 in
theorem main_eq (c : Dev nD) : main (F := F) c = seq ops := by
  simp only [ops, seq_append, ← main_part0_eq c, ← main_part1_eq c, ← main_part2_eq c]
  rfl
theorem scopedRefs_eq : (Finset.univ.filter fun b : Ref sig .tc => b.isScoped) = ∅ := by decide
theorem scopedSems_eq : (Finset.univ.filter fun sm : SemLoc sig => sm.isScoped .tc) = ∅ := by decide
set_option maxRecDepth 8192 in
theorem ops_part0_0_sub : (ops_part0_0 : List (HloOp τ sig (Elt F))).Forall fun op => op.bufs ⊆ tcRefs τ sig :=
  ⟨unary_bufs_sub .., unary_bufs_sub .., unary_bufs_sub .., unary_bufs_sub .., unary_bufs_sub .., unary_bufs_sub .., reshape_bufs_sub .., reshape_bufs_sub .., unary_bufs_sub .., unary_bufs_sub .., unary_bufs_sub .., reshape_bufs_sub .., unary_bufs_sub .., reshape_bufs_sub .., unary_bufs_sub .., reshape_bufs_sub .., unary_bufs_sub .., reshape_bufs_sub .., unary_bufs_sub .., reshape_bufs_sub .., unary_bufs_sub .., reshape_bufs_sub .., unary_bufs_sub .., unary_bufs_sub .., binary_bufs_sub .., unary_bufs_sub .., unary_bufs_sub .., binary_bufs_sub .., binary_bufs_sub .., unary_bufs_sub ..⟩
set_option maxRecDepth 8192 in
theorem ops_part0_0_fresh : (ops_part0_0 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl⟩
set_option maxRecDepth 8192 in
theorem ops_part0_1_sub : (ops_part0_1 : List (HloOp τ sig (Elt F))).Forall fun op => op.bufs ⊆ tcRefs τ sig :=
  ⟨unary_bufs_sub .., binary_bufs_sub .., unary_bufs_sub .., unary_bufs_sub .., binary_bufs_sub .., binary_bufs_sub .., unary_bufs_sub .., unary_bufs_sub .., binary_bufs_sub .., unary_bufs_sub .., unary_bufs_sub .., binary_bufs_sub .., binary_bufs_sub .., unary_bufs_sub .., unary_bufs_sub .., unary_bufs_sub .., nary_bufs_sub .., unary_bufs_sub .., unary_bufs_sub .., binary_bufs_sub .., nullary_bufs_sub .., binary_bufs_sub .., unary_bufs_sub .., nullary_bufs_sub .., unary_bufs_sub .., binary_bufs_sub .., nullary_bufs_sub .., unary_bufs_sub .., unary_bufs_sub .., ternary_bufs_sub ..⟩
set_option maxRecDepth 8192 in
theorem ops_part0_1_fresh : (ops_part0_1 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl⟩
set_option maxRecDepth 8192 in
theorem ops_part0_2_sub : (ops_part0_2 : List (HloOp τ sig (Elt F))).Forall fun op => op.bufs ⊆ tcRefs τ sig :=
  ⟨nullary_bufs_sub .., unary_bufs_sub ..⟩
set_option maxRecDepth 8192 in
theorem ops_part0_2_fresh : (ops_part0_2 : List (HloOp τ sig (Elt F))).Forall fun op => op.fresh = ∅ :=
  ⟨rfl, rfl⟩
set_option maxRecDepth 8192 in
theorem ops_part1_0_sub : (ops_part1_0 : List (HloOp τ sig (Elt F))).Forall fun op => op.bufs ⊆ tcRefs τ sig :=
  ⟨binary_bufs_sub .., nullary_bufs_sub .., unary_bufs_sub .., unary_bufs_sub .., ternary_bufs_sub .., unary_bufs_sub .., unary_bufs_sub .., unary_bufs_sub .., unary_bufs_sub .., binary_bufs_sub .., binary_bufs_sub .., nullary_bufs_sub .., binary_bufs_sub .., binary_bufs_sub .., unary_bufs_sub .., unary_bufs_sub .., reshape_bufs_sub .., unary_bufs_sub .., reshape_bufs_sub .., unary_bufs_sub .., reshape_bufs_sub .., unary_bufs_sub .., reshape_bufs_sub .., unary_bufs_sub .., reshape_bufs_sub .., unary_bufs_sub .., reshape_bufs_sub .., unary_bufs_sub .., binary_bufs_sub .., unary_bufs_sub ..⟩
set_option maxRecDepth 8192 in
theorem ops_part1_0_fresh : (ops_part1_0 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl⟩
set_option maxRecDepth 8192 in
theorem ops_part1_1_sub : (ops_part1_1 : List (HloOp τ sig (Elt F))).Forall fun op => op.bufs ⊆ tcRefs τ sig :=
  ⟨binary_bufs_sub .., binary_bufs_sub .., unary_bufs_sub .., binary_bufs_sub .., unary_bufs_sub .., binary_bufs_sub .., binary_bufs_sub .., unary_bufs_sub .., binary_bufs_sub .., unary_bufs_sub .., binary_bufs_sub .., binary_bufs_sub .., unary_bufs_sub .., unary_bufs_sub .., unary_bufs_sub .., nary_bufs_sub .., unary_bufs_sub .., unary_bufs_sub .., binary_bufs_sub .., nullary_bufs_sub .., binary_bufs_sub .., binary_bufs_sub .., unary_bufs_sub .., unary_bufs_sub .., binary_bufs_sub .., nullary_bufs_sub .., binary_bufs_sub .., binary_bufs_sub .., nullary_bufs_sub .., unary_bufs_sub ..⟩
set_option maxRecDepth 8192 in
theorem ops_part1_1_fresh : (ops_part1_1 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl⟩
set_option maxRecDepth 8192 in
theorem ops_part1_2_sub : (ops_part1_2 : List (HloOp τ sig (Elt F))).Forall fun op => op.bufs ⊆ tcRefs τ sig :=
  ⟨binary_bufs_sub .., binary_bufs_sub ..⟩
set_option maxRecDepth 8192 in
theorem ops_part1_2_fresh : (ops_part1_2 : List (HloOp τ sig (Elt F))).Forall fun op => op.fresh = ∅ :=
  ⟨rfl, rfl⟩
set_option maxRecDepth 8192 in
theorem ops_part2_sub : (ops_part2 : List (HloOp τ sig (Elt F))).Forall fun op => op.bufs ⊆ tcRefs τ sig :=
  ⟨nullary_bufs_sub .., unary_bufs_sub .., binary_bufs_sub .., binary_bufs_sub .., binary_bufs_sub .., nullary_bufs_sub .., unary_bufs_sub .., binary_bufs_sub .., binary_bufs_sub .., nullary_bufs_sub .., unary_bufs_sub .., binary_bufs_sub .., binary_bufs_sub .., nullary_bufs_sub .., unary_bufs_sub .., unary_bufs_sub .., ternary_bufs_sub .., nullary_bufs_sub .., nullary_bufs_sub .., nullary_bufs_sub .., quaternary_bufs_sub .., quaternary_bufs_sub .., unary_bufs_sub .., nullary_bufs_sub .., unary_bufs_sub .., binary_bufs_sub .., nullary_bufs_sub .., unary_bufs_sub .., binary_bufs_sub .., ternary_bufs_sub .., reshape_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., nullary_bufs_sub .., unary_bufs_sub .., ternary_bufs_sub .., reshape_bufs_sub .., nullary_bufs_sub .., unary_bufs_sub .., binary_bufs_sub .., nullary_bufs_sub .., unary_bufs_sub .., unary_bufs_sub .., ternary_bufs_sub .., nullary_bufs_sub .., unary_bufs_sub .., unary_bufs_sub .., ternary_bufs_sub ..⟩
set_option maxRecDepth 8192 in
theorem ops_part2_fresh : (ops_part2 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩
theorem ops_sub : (ops : List (HloOp τ sig (Elt F))).Forall fun op => op.bufs ⊆ tcRefs τ sig :=
  List.forall_iff_forall_mem.mpr fun op h => by
    simp only [ops, ops_part0, ops_part1, List.mem_append, or_assoc] at h
    rcases h with h | h | h | h | h | h | h
    exacts [List.forall_iff_forall_mem.mp ops_part0_0_sub op h, List.forall_iff_forall_mem.mp ops_part0_1_sub op h, List.forall_iff_forall_mem.mp ops_part0_2_sub op h, List.forall_iff_forall_mem.mp ops_part1_0_sub op h, List.forall_iff_forall_mem.mp ops_part1_1_sub op h, List.forall_iff_forall_mem.mp ops_part1_2_sub op h, List.forall_iff_forall_mem.mp ops_part2_sub op h]
theorem ops_fresh : ∀ op ∈ (ops : List (HloOp τ sig (Elt F))), op.fresh = ∅ := fun op h => by
    simp only [ops, ops_part0, ops_part1, List.mem_append, or_assoc] at h
    rcases h with h | h | h | h | h | h | h
    exacts [List.forall_iff_forall_mem.mp ops_part0_0_fresh op h, List.forall_iff_forall_mem.mp ops_part0_1_fresh op h, List.forall_iff_forall_mem.mp ops_part0_2_fresh op h, List.forall_iff_forall_mem.mp ops_part1_0_fresh op h, List.forall_iff_forall_mem.mp ops_part1_1_fresh op h, List.forall_iff_forall_mem.mp ops_part1_2_fresh op h, List.forall_iff_forall_mem.mp ops_part2_fresh op h]

set_option maxRecDepth 8192 in
/-- `main_v3`'s composed term of the arguments (named: it is used 2 times). -/
def res_main_v3 (V0 : Valuation τ sig (Elt F)) : (Proc.devRef .tc main_v3 : DevRef τ sig).ty.Contents (Elt F) :=
  transpose S40960x3 [1, 0] (extractStridedSlice S3x40960 ![3, 0] (V0 (Proc.devRef .tc main_arg2)) slices_S16x40960_S3x40960_3_0) transposes_S3x40960_S40960x3_1_0

set_option maxRecDepth 8192 in
/-- `main_v5`'s composed term of the arguments (named: it is used 2 times). -/
def res_main_v5 (V0 : Valuation τ sig (Elt F)) : (Proc.devRef .tc main_v5 : DevRef τ sig).ty.Contents (Elt F) :=
  transpose S40960x3 [1, 0] (extractStridedSlice S3x40960 ![6, 0] (V0 (Proc.devRef .tc main_arg2)) slices_S16x40960_S3x40960_6_0) transposes_S3x40960_S40960x3_1_0

set_option maxRecDepth 8192 in
/-- `main_v7`'s composed term of the arguments (named: it is used 2 times). -/
def res_main_v7 (V0 : Valuation τ sig (Elt F)) : (Proc.devRef .tc main_v7 : DevRef τ sig).ty.Contents (Elt F) :=
  shapeCast _ (V0 (Proc.devRef .tc main_arg1)) shapeCasts_S1x4096x3_S4096x3

set_option maxRecDepth 8192 in
/-- `main_v8`'s composed term of the arguments (named: it is used 3 times). -/
def res_main_v8 (V0 : Valuation τ sig (Elt F)) : (Proc.devRef .tc main_v8 : DevRef τ sig).ty.Contents (Elt F) :=
  broadcastInDim S4096x1x3 ![0, 2] bcast_S4096x3_S4096x1x3_0_2 (res_main_v7 V0)

set_option maxRecDepth 8192 in
/-- `main_v9`'s composed term of the arguments (named: it is used 3 times). -/
def res_main_v9 (V0 : Valuation τ sig (Elt F)) : (Proc.devRef .tc main_v9 : DevRef τ sig).ty.Contents (Elt F) :=
  broadcastInDim S1x40960x3 ![1, 2] bcast_S40960x3_S1x40960x3_1_2 (res_main_v5 V0)

set_option maxRecDepth 8192 in
/-- `main_v11`'s composed term of the arguments (named: it is used 2 times). -/
def res_main_v11 (V0 : Valuation τ sig (Elt F)) : (Proc.devRef .tc main_v11 : DevRef τ sig).ty.Contents (Elt F) :=
  shapeCast _ (extractStridedSlice S4096x1x1 ![0, 0, 0] (res_main_v8 V0) slices_S4096x1x3_S4096x1x1_0_0_0) shapeCasts_S4096x1x1_S4096x1

set_option maxRecDepth 8192 in
/-- `main_v13`'s composed term of the arguments (named: it is used 2 times). -/
def res_main_v13 (V0 : Valuation τ sig (Elt F)) : (Proc.devRef .tc main_v13 : DevRef τ sig).ty.Contents (Elt F) :=
  shapeCast _ (extractStridedSlice S4096x1x1 ![0, 0, 1] (res_main_v8 V0) slices_S4096x1x3_S4096x1x1_0_0_1) shapeCasts_S4096x1x1_S4096x1

set_option maxRecDepth 8192 in
/-- `main_v15`'s composed term of the arguments (named: it is used 2 times). -/
def res_main_v15 (V0 : Valuation τ sig (Elt F)) : (Proc.devRef .tc main_v15 : DevRef τ sig).ty.Contents (Elt F) :=
  shapeCast _ (extractStridedSlice S4096x1x1 ![0, 0, 2] (res_main_v8 V0) slices_S4096x1x3_S4096x1x1_0_0_2) shapeCasts_S4096x1x1_S4096x1

set_option maxRecDepth 8192 in
/-- `main_v17`'s composed term of the arguments (named: it is used 2 times). -/
def res_main_v17 (V0 : Valuation τ sig (Elt F)) : (Proc.devRef .tc main_v17 : DevRef τ sig).ty.Contents (Elt F) :=
  shapeCast _ (extractStridedSlice S1x40960x1 ![0, 0, 0] (res_main_v9 V0) slices_S1x40960x3_S1x40960x1_0_0_0) shapeCasts_S1x40960x1_S1x40960

set_option maxRecDepth 8192 in
/-- `main_v19`'s composed term of the arguments (named: it is used 2 times). -/
def res_main_v19 (V0 : Valuation τ sig (Elt F)) : (Proc.devRef .tc main_v19 : DevRef τ sig).ty.Contents (Elt F) :=
  shapeCast _ (extractStridedSlice S1x40960x1 ![0, 0, 1] (res_main_v9 V0) slices_S1x40960x3_S1x40960x1_0_0_1) shapeCasts_S1x40960x1_S1x40960

set_option maxRecDepth 8192 in
/-- `main_v21`'s composed term of the arguments (named: it is used 2 times). -/
def res_main_v21 (V0 : Valuation τ sig (Elt F)) : (Proc.devRef .tc main_v21 : DevRef τ sig).ty.Contents (Elt F) :=
  shapeCast _ (extractStridedSlice S1x40960x1 ![0, 0, 2] (res_main_v9 V0) slices_S1x40960x3_S1x40960x1_0_0_2) shapeCasts_S1x40960x1_S1x40960

set_option maxRecDepth 8192 in
/-- `main_v46`'s composed term of the arguments (named: it is used 2 times). -/
def res_main_v46 (V0 : Valuation τ sig (Elt F)) : (Proc.devRef .tc main_v46 : DevRef τ sig).ty.Contents (Elt F) :=
  (concatenate S4096x40960x3 2 [⟨S4096x40960x1, ((broadcastInDim S4096x40960x1 ![0, 1] bcast_S4096x40960_S4096x40960x1_0_1 (subf (mulf (broadcastInDim S4096x40960 ![0, 1] bcast_S4096x1_S4096x40960_0_1 (res_main_v13 V0)) (broadcastInDim S4096x40960 ![0, 1] bcast_S1x40960_S4096x40960_0_1 (res_main_v21 V0))) (mulf (broadcastInDim S4096x40960 ![0, 1] bcast_S4096x1_S4096x40960_0_1 (res_main_v15 V0)) (broadcastInDim S4096x40960 ![0, 1] bcast_S1x40960_S4096x40960_0_1 (res_main_v19 V0))))) : (⟨S4096x40960x1, .f32⟩ : BufTy).Contents (Elt F))⟩, ⟨S4096x40960x1, ((broadcastInDim S4096x40960x1 ![0, 1] bcast_S4096x40960_S4096x40960x1_0_1 (subf (mulf (broadcastInDim S4096x40960 ![0, 1] bcast_S4096x1_S4096x40960_0_1 (res_main_v15 V0)) (broadcastInDim S4096x40960 ![0, 1] bcast_S1x40960_S4096x40960_0_1 (res_main_v17 V0))) (mulf (broadcastInDim S4096x40960 ![0, 1] bcast_S4096x1_S4096x40960_0_1 (res_main_v11 V0)) (broadcastInDim S4096x40960 ![0, 1] bcast_S1x40960_S4096x40960_0_1 (res_main_v21 V0))))) : (⟨S4096x40960x1, .f32⟩ : BufTy).Contents (Elt F))⟩, ⟨S4096x40960x1, ((broadcastInDim S4096x40960x1 ![0, 1] bcast_S4096x40960_S4096x40960x1_0_1 (subf (mulf (broadcastInDim S4096x40960 ![0, 1] bcast_S4096x1_S4096x40960_0_1 (res_main_v11 V0)) (broadcastInDim S4096x40960 ![0, 1] bcast_S1x40960_S4096x40960_0_1 (res_main_v19 V0))) (mulf (broadcastInDim S4096x40960 ![0, 1] bcast_S4096x1_S4096x40960_0_1 (res_main_v13 V0)) (broadcastInDim S4096x40960 ![0, 1] bcast_S1x40960_S4096x40960_0_1 (res_main_v17 V0))))) : (⟨S4096x40960x1, .f32⟩ : BufTy).Contents (Elt F))⟩] concatenates_S4096x40960x1_S4096x40960x1_S4096x40960x1_S4096x40960x3_d2 : (⟨S4096x40960x3, .f32⟩ : BufTy).Contents (Elt F))

set_option maxRecDepth 8192 in
/-- `main_v50`'s composed term of the arguments (named: it is used 2 times). -/
def res_main_v50 (V0 : Valuation τ sig (Elt F)) : (Proc.devRef .tc main_v50 : DevRef τ sig).ty.Contents (Elt F) :=
  Host.reduceAdd (mulf (broadcastInDim S4096x40960x3 ![0, 1, 2] bcast_S1x40960x3_S4096x40960x3_0_1_2 (broadcastInDim S1x40960x3 ![1, 2] bcast_S40960x3_S1x40960x3_1_2 (res_main_v3 V0))) (res_main_v46 V0)) (constant S_ .f32 0x00000000#32) reducesTo_S4096x40960x3_S4096x40960_d2 h_S_

set_option maxRecDepth 8192 in
/-- `main_v53`'s composed term of the arguments (named: it is used 3 times). -/
def res_main_v53 (V0 : Valuation τ sig (Elt F)) : (Proc.devRef .tc main_v53 : DevRef τ sig).ty.Contents (Elt F) :=
  cmpf .ogt (Host.absf (res_main_v50 V0)) (broadcastInDim S4096x40960 ![] bcast_S_S4096x40960 (constant S_ .f32 0x3089705F#32))

set_option maxRecDepth 8192 in
/-- `main_v57`'s composed term of the arguments (named: it is used 3 times). -/
def res_main_v57 (V0 : Valuation τ sig (Elt F)) : (Proc.devRef .tc main_v57 : DevRef τ sig).ty.Contents (Elt F) :=
  select (res_main_v53 V0) (Host.divf (broadcastInDim S4096x40960 ![] bcast_S_S4096x40960 (constant S_ .f32 0x3F800000#32)) (select (res_main_v53 V0) (res_main_v50 V0) (broadcastInDim S4096x40960 ![] bcast_S_S4096x40960 (id (constant S_ .f32 0x3F800000#32))))) (broadcastInDim S4096x40960 ![] bcast_S_S4096x40960 (id (constant S_ .f32 0x00000000#32)))

set_option maxRecDepth 8192 in
/-- `main_v62`'s composed term of the arguments (named: it is used 4 times). -/
def res_main_v62 (V0 : Valuation τ sig (Elt F)) : (Proc.devRef .tc main_v62 : DevRef τ sig).ty.Contents (Elt F) :=
  subf (broadcastInDim S4096x40960x3 ![0, 1, 2] bcast_S4096x1x3_S4096x40960x3_0_1_2 (broadcastInDim S4096x1x3 ![0, 2] bcast_S4096x3_S4096x1x3_0_2 (shapeCast _ (V0 (Proc.devRef .tc main_arg0)) shapeCasts_S1x4096x3_S4096x3))) (broadcastInDim S4096x40960x3 ![0, 1, 2] bcast_S1x40960x3_S4096x40960x3_0_1_2 (broadcastInDim S1x40960x3 ![1, 2] bcast_S40960x3_S1x40960x3_1_2 (transpose S40960x3 [1, 0] (extractStridedSlice S3x40960 ![0, 0] (V0 (Proc.devRef .tc main_arg2)) slices_S16x40960_S3x40960_0_0) transposes_S3x40960_S40960x3_1_0)))

set_option maxRecDepth 8192 in
/-- `main_v65`'s composed term of the arguments (named: it is used 2 times). -/
def res_main_v65 (V0 : Valuation τ sig (Elt F)) : (Proc.devRef .tc main_v65 : DevRef τ sig).ty.Contents (Elt F) :=
  mulf (Host.reduceAdd (mulf (res_main_v62 V0) (res_main_v46 V0)) (constant S_ .f32 0x00000000#32) reducesTo_S4096x40960x3_S4096x40960_d2 h_S_) (res_main_v57 V0)

set_option maxRecDepth 8192 in
/-- `main_v66`'s composed term of the arguments (named: it is used 3 times). -/
def res_main_v66 (V0 : Valuation τ sig (Elt F)) : (Proc.devRef .tc main_v66 : DevRef τ sig).ty.Contents (Elt F) :=
  broadcastInDim S1x40960x3 ![1, 2] bcast_S40960x3_S1x40960x3_1_2 (res_main_v3 V0)

set_option maxRecDepth 8192 in
/-- `main_v68`'s composed term of the arguments (named: it is used 2 times). -/
def res_main_v68 (V0 : Valuation τ sig (Elt F)) : (Proc.devRef .tc main_v68 : DevRef τ sig).ty.Contents (Elt F) :=
  shapeCast _ (extractStridedSlice S4096x40960x1 ![0, 0, 0] (res_main_v62 V0) slices_S4096x40960x3_S4096x40960x1_0_0_0) shapeCasts_S4096x40960x1_S4096x40960

set_option maxRecDepth 8192 in
/-- `main_v70`'s composed term of the arguments (named: it is used 2 times). -/
def res_main_v70 (V0 : Valuation τ sig (Elt F)) : (Proc.devRef .tc main_v70 : DevRef τ sig).ty.Contents (Elt F) :=
  shapeCast _ (extractStridedSlice S4096x40960x1 ![0, 0, 1] (res_main_v62 V0) slices_S4096x40960x3_S4096x40960x1_0_0_1) shapeCasts_S4096x40960x1_S4096x40960

set_option maxRecDepth 8192 in
/-- `main_v72`'s composed term of the arguments (named: it is used 2 times). -/
def res_main_v72 (V0 : Valuation τ sig (Elt F)) : (Proc.devRef .tc main_v72 : DevRef τ sig).ty.Contents (Elt F) :=
  shapeCast _ (extractStridedSlice S4096x40960x1 ![0, 0, 2] (res_main_v62 V0) slices_S4096x40960x3_S4096x40960x1_0_0_2) shapeCasts_S4096x40960x1_S4096x40960

set_option maxRecDepth 8192 in
/-- `main_v74`'s composed term of the arguments (named: it is used 2 times). -/
def res_main_v74 (V0 : Valuation τ sig (Elt F)) : (Proc.devRef .tc main_v74 : DevRef τ sig).ty.Contents (Elt F) :=
  shapeCast _ (extractStridedSlice S1x40960x1 ![0, 0, 0] (res_main_v66 V0) slices_S1x40960x3_S1x40960x1_0_0_0) shapeCasts_S1x40960x1_S1x40960

set_option maxRecDepth 8192 in
/-- `main_v76`'s composed term of the arguments (named: it is used 2 times). -/
def res_main_v76 (V0 : Valuation τ sig (Elt F)) : (Proc.devRef .tc main_v76 : DevRef τ sig).ty.Contents (Elt F) :=
  shapeCast _ (extractStridedSlice S1x40960x1 ![0, 0, 1] (res_main_v66 V0) slices_S1x40960x3_S1x40960x1_0_0_1) shapeCasts_S1x40960x1_S1x40960

set_option maxRecDepth 8192 in
/-- `main_v78`'s composed term of the arguments (named: it is used 2 times). -/
def res_main_v78 (V0 : Valuation τ sig (Elt F)) : (Proc.devRef .tc main_v78 : DevRef τ sig).ty.Contents (Elt F) :=
  shapeCast _ (extractStridedSlice S1x40960x1 ![0, 0, 2] (res_main_v66 V0) slices_S1x40960x3_S1x40960x1_0_0_2) shapeCasts_S1x40960x1_S1x40960

set_option maxRecDepth 8192 in
/-- `main_v97`'s composed term of the arguments (named: it is used 2 times). -/
def res_main_v97 (V0 : Valuation τ sig (Elt F)) : (Proc.devRef .tc main_v97 : DevRef τ sig).ty.Contents (Elt F) :=
  (concatenate S4096x40960x3 2 [⟨S4096x40960x1, ((broadcastInDim S4096x40960x1 ![0, 1] bcast_S4096x40960_S4096x40960x1_0_1 (subf (mulf (res_main_v70 V0) (broadcastInDim S4096x40960 ![0, 1] bcast_S1x40960_S4096x40960_0_1 (res_main_v78 V0))) (mulf (res_main_v72 V0) (broadcastInDim S4096x40960 ![0, 1] bcast_S1x40960_S4096x40960_0_1 (res_main_v76 V0))))) : (⟨S4096x40960x1, .f32⟩ : BufTy).Contents (Elt F))⟩, ⟨S4096x40960x1, ((broadcastInDim S4096x40960x1 ![0, 1] bcast_S4096x40960_S4096x40960x1_0_1 (subf (mulf (res_main_v72 V0) (broadcastInDim S4096x40960 ![0, 1] bcast_S1x40960_S4096x40960_0_1 (res_main_v74 V0))) (mulf (res_main_v68 V0) (broadcastInDim S4096x40960 ![0, 1] bcast_S1x40960_S4096x40960_0_1 (res_main_v78 V0))))) : (⟨S4096x40960x1, .f32⟩ : BufTy).Contents (Elt F))⟩, ⟨S4096x40960x1, ((broadcastInDim S4096x40960x1 ![0, 1] bcast_S4096x40960_S4096x40960x1_0_1 (subf (mulf (res_main_v68 V0) (broadcastInDim S4096x40960 ![0, 1] bcast_S1x40960_S4096x40960_0_1 (res_main_v76 V0))) (mulf (res_main_v70 V0) (broadcastInDim S4096x40960 ![0, 1] bcast_S1x40960_S4096x40960_0_1 (res_main_v74 V0))))) : (⟨S4096x40960x1, .f32⟩ : BufTy).Contents (Elt F))⟩] concatenates_S4096x40960x1_S4096x40960x1_S4096x40960x1_S4096x40960x3_d2 : (⟨S4096x40960x3, .f32⟩ : BufTy).Contents (Elt F))

set_option maxRecDepth 8192 in
/-- `main_v102`'s composed term of the arguments (named: it is used 2 times). -/
def res_main_v102 (V0 : Valuation τ sig (Elt F)) : (Proc.devRef .tc main_v102 : DevRef τ sig).ty.Contents (Elt F) :=
  mulf (Host.reduceAdd (mulf (broadcastInDim S4096x40960x3 ![0, 1, 2] bcast_S4096x1x3_S4096x40960x3_0_1_2 (broadcastInDim S4096x1x3 ![0, 2] bcast_S4096x3_S4096x1x3_0_2 (res_main_v7 V0))) (res_main_v97 V0)) (constant S_ .f32 0x00000000#32) reducesTo_S4096x40960x3_S4096x40960_d2 h_S_) (res_main_v57 V0)

set_option maxRecDepth 8192 in
/-- `main_v107`'s composed term of the arguments (named: it is used 2 times). -/
def res_main_v107 (V0 : Valuation τ sig (Elt F)) : (Proc.devRef .tc main_v107 : DevRef τ sig).ty.Contents (Elt F) :=
  mulf (Host.reduceAdd (mulf (broadcastInDim S4096x40960x3 ![0, 1, 2] bcast_S1x40960x3_S4096x40960x3_0_1_2 (broadcastInDim S1x40960x3 ![1, 2] bcast_S40960x3_S1x40960x3_1_2 (res_main_v5 V0))) (res_main_v97 V0)) (constant S_ .f32 0x00000000#32) reducesTo_S4096x40960x3_S4096x40960_d2 h_S_) (res_main_v57 V0)

set_option maxRecDepth 8192 in
/-- `main_v121`'s composed term of the arguments (named: it is used 3 times). -/
def res_main_v121 (V0 : Valuation τ sig (Elt F)) : (Proc.devRef .tc main_v121 : DevRef τ sig).ty.Contents (Elt F) :=
  select (andi (andi (andi (andi (res_main_v53 V0) (cmpf .oge (res_main_v65 V0) (broadcastInDim S4096x40960 ![] bcast_S_S4096x40960 (constant S_ .f32 0x00000000#32)))) (cmpf .oge (res_main_v102 V0) (broadcastInDim S4096x40960 ![] bcast_S_S4096x40960 (constant S_ .f32 0x00000000#32)))) (cmpf .ole (addf (res_main_v65 V0) (res_main_v102 V0)) (broadcastInDim S4096x40960 ![] bcast_S_S4096x40960 (constant S_ .f32 0x3F800000#32)))) (cmpf .ogt (res_main_v107 V0) (broadcastInDim S4096x40960 ![] bcast_S_S4096x40960 (constant S_ .f32 0x358637BD#32)))) (res_main_v107 V0) (broadcastInDim S4096x40960 ![] bcast_S_S4096x40960 (id (constant S_ .f32 0x501502F9#32)))

set_option maxRecDepth 8192 in
/-- `main_call3_v0`'s composed term of the arguments (named: it is used 2 times). -/
def res_main_call3_v0 (V0 : Valuation τ sig (Elt F)) : (Proc.devRef .tc main_call3_v0 : DevRef τ sig).ty.Contents (Elt F) :=
  iotaInDim S4096x40960 32 1

set_option maxRecDepth 8192 in
/-- `main_call3_cst`'s composed term of the arguments (named: it is used 2 times). -/
def res_main_call3_cst (V0 : Valuation τ sig (Elt F)) : (Proc.devRef .tc main_call3_cst : DevRef τ sig).ty.Contents (Elt F) :=
  constant S_ .f32 0x7F800000#32

set_option maxRecDepth 8192 in
/-- `main_call3_c`'s composed term of the arguments (named: it is used 2 times). -/
def res_main_call3_c (V0 : Valuation τ sig (Elt F)) : (Proc.devRef .tc main_call3_c : DevRef τ sig).ty.Contents (Elt F) :=
  constantI S_ 32 0#32

/-- The numbers of pairs. -/
def seconds {α β : Type} (f : S4096.Idx → α × β) : S4096.Idx → β := fun j => (f j).2

/-- The search along a ray's row: the number of the entry found. -/
def search (x : FVec F S4096x40960 .f32) (y : IVec S4096x40960 32) (ix : FVec F S_ .f32) (iy : IVec S_ 32) : IVec S4096 32 :=
  seconds (Host.argReduce reducer_argmin_f32_i32 x y ix iy reducesTo_S4096x40960_S4096_d1 h_S_)

set_option maxRecDepth 8192 in
/-- `main_v122`'s composed term of the arguments (named: it is used 2 times). -/
def res_main_v122 (V0 : Valuation τ sig (Elt F)) : (Proc.devRef .tc main_v122 : DevRef τ sig).ty.Contents (Elt F) :=
  search (res_main_v121 V0) (res_main_call3_v0 V0) (res_main_call3_cst V0) (res_main_call3_c V0)

set_option maxRecDepth 8192 in
/-- `main_v123`'s composed term of the arguments (named: it is used 3 times). -/
def res_main_v123 (V0 : Valuation τ sig (Elt F)) : (Proc.devRef .tc main_v123 : DevRef τ sig).ty.Contents (Elt F) :=
  broadcastInDim S4096x1 ![0] bcast_S4096_S4096x1_0 (res_main_v122 V0)

set_option maxRecDepth 8192 in
/-- `main_call4_v5`'s composed term of the arguments (named: it is used 3 times). -/
def res_main_call4_v5 (V0 : Valuation τ sig (Elt F)) : (Proc.devRef .tc main_call4_v5 : DevRef τ sig).ty.Contents (Elt F) :=
  shapeCast _ (select (cmpi .slt (res_main_v123 V0) (broadcastInDim S4096x1 ![] bcast_S_S4096x1 (constantI S_ 32 0#32))) (addi (res_main_v123 V0) (broadcastInDim S4096x1 ![] bcast_S_S4096x1 (constantI S_ 32 40960#32))) (res_main_v123 V0)) shapeCasts_S4096x1_S4096x1x1

set_option maxRecDepth 8192 in
/-- `main_v125`'s composed term of the arguments (named: it is used 2 times). -/
def res_main_v125 (V0 : Valuation τ sig (Elt F)) : (Proc.devRef .tc main_v125 : DevRef τ sig).ty.Contents (Elt F) :=
  shapeCast _ (select (Host.reduce IntOp.andi (andi (cmpi .sge (res_main_call4_v5 V0) (broadcastInDim S4096x1x1 ![] bcast_S_S4096x1x1 (constantI S_ 32 0#32))) (cmpi .sle (res_main_call4_v5 V0) (broadcastInDim S4096x1x1 ![0, 1, 2] bcast_S1x1x1_S4096x1x1_0_1_2 (broadcastInDim S1x1x1 ![2] bcast_S1_S1x1x1_2 (constantI S1 32 40959#32))))) (constantI S_ 1 1#1) reducesTo_S4096x1x1_S4096x1_d2 h_S_) (Host.gather gather_S4096x40960_S4096x1x1_S4096x1_n_1_0_0_1_2_11 (res_main_v121 V0) (res_main_call4_v5 V0)) (broadcastInDim S4096x1 ![] bcast_S_S4096x1 (constant S_ .f32 0x7FC00000#32))) shapeCasts_S4096x1_S4096

set_option maxRecDepth 8192 in
/-- `main_v127`'s composed term of the arguments (named: it is used 2 times). -/
def res_main_v127 (V0 : Valuation τ sig (Elt F)) : (Proc.devRef .tc main_v127 : DevRef τ sig).ty.Contents (Elt F) :=
  cmpf .olt (res_main_v125 V0) (broadcastInDim S4096 ![] bcast_S_S4096 (constant S_ .f32 0x40A00000#32))

/-- The device's buffer contents before @main's first window. -/
def val0 (V0 : Valuation τ sig (Elt F)) : Valuation τ sig (Elt F) := V0
theorem val0_main_arg0 (V0 : Valuation τ sig (Elt F)) : val0 V0 (no_index (Proc.devRef .tc main_arg0)) = V0 (Proc.devRef .tc main_arg0) := rfl
theorem val0_main_arg1 (V0 : Valuation τ sig (Elt F)) : val0 V0 (no_index (Proc.devRef .tc main_arg1)) = V0 (Proc.devRef .tc main_arg1) := rfl
theorem val0_main_arg2 (V0 : Valuation τ sig (Elt F)) : val0 V0 (no_index (Proc.devRef .tc main_arg2)) = V0 (Proc.devRef .tc main_arg2) := rfl

/-- The device's buffer contents after @main's first 30 operations. -/
def val0_1 (V0 : Valuation τ sig (Elt F)) : Valuation τ sig (Elt F) := after ops_part0_0 (val0 V0)
/-- The buffers that window `ops_part0_0`'s operations write. -/
abbrev ops_part0_0_W : List (Ref sig .tc) := [main_v0, main_v1, main_v2, main_v3, main_v4, main_v5, main_v6, main_v7, main_v8, main_v9, main_v10, main_v11, main_v12, main_v13, main_v14, main_v15, main_v16, main_v17, main_v18, main_v19, main_v20, main_v21, main_v22, main_v23, main_v24, main_v25, main_v26, main_v27, main_v28, main_v29]
set_option maxRecDepth 8192 in
theorem ops_part0_0_writes : (ops_part0_0 : List (HloOp τ sig (Elt F))).Forall fun op => op.writes ⊆ (ops_part0_0_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that window `ops_part0_0` does not write keeps its contents through it. -/
theorem val0_1_keep (V0 : Valuation τ sig (Elt F)) (r : Ref sig .tc) (h : r ∉ ops_part0_0_W) :
    val0_1 V0 (Proc.devRef .tc r) = val0 V0 (Proc.devRef .tc r) :=
  after_of_writes_sub ops_part0_0 _ ops_part0_0_writes h
theorem val0_1_main_arg0 (V0 : Valuation τ sig (Elt F)) : val0_1 V0 (no_index (Proc.devRef .tc main_arg0)) = V0 (Proc.devRef .tc main_arg0) :=
  (val0_1_keep V0 main_arg0 (by decide)).trans (val0_main_arg0 V0)
theorem val0_1_main_arg1 (V0 : Valuation τ sig (Elt F)) : val0_1 V0 (no_index (Proc.devRef .tc main_arg1)) = V0 (Proc.devRef .tc main_arg1) :=
  (val0_1_keep V0 main_arg1 (by decide)).trans (val0_main_arg1 V0)
theorem val0_1_main_arg2 (V0 : Valuation τ sig (Elt F)) : val0_1 V0 (no_index (Proc.devRef .tc main_arg2)) = V0 (Proc.devRef .tc main_arg2) :=
  (val0_1_keep V0 main_arg2 (by decide)).trans (val0_main_arg2 V0)
set_option maxRecDepth 8192 in
set_option maxHeartbeats 2000000 in
theorem val0_1_main_v1 (V0 : Valuation τ sig (Elt F)) : val0_1 V0 (no_index (Proc.devRef .tc main_v1)) = transpose S40960x3 [1, 0] (extractStridedSlice S3x40960 ![0, 0] (V0 (Proc.devRef .tc main_arg2)) slices_S16x40960_S3x40960_0_0) transposes_S3x40960_S40960x3_1_0 := by
  unfold val0_1
  simp only [ops_part0_0]
  after_results_simp
  simp only [val0_main_arg2] <;> rfl
set_option maxRecDepth 8192 in
set_option maxHeartbeats 2000000 in
theorem val0_1_main_v3 (V0 : Valuation τ sig (Elt F)) : val0_1 V0 (no_index (Proc.devRef .tc main_v3)) = res_main_v3 V0 := by
  unfold val0_1
  simp only [ops_part0_0]
  after_results_simp
  simp only [val0_main_arg2] <;> rfl
set_option maxRecDepth 8192 in
set_option maxHeartbeats 2000000 in
theorem val0_1_main_v5 (V0 : Valuation τ sig (Elt F)) : val0_1 V0 (no_index (Proc.devRef .tc main_v5)) = res_main_v5 V0 := by
  unfold val0_1
  simp only [ops_part0_0]
  after_results_simp
  simp only [val0_main_arg2] <;> rfl
set_option maxRecDepth 8192 in
set_option maxHeartbeats 2000000 in
theorem val0_1_main_v6 (V0 : Valuation τ sig (Elt F)) : val0_1 V0 (no_index (Proc.devRef .tc main_v6)) = shapeCast _ (V0 (Proc.devRef .tc main_arg0)) shapeCasts_S1x4096x3_S4096x3 := by
  unfold val0_1
  simp only [ops_part0_0]
  after_results_simp
  simp only [val0_main_arg0] <;> rfl
set_option maxRecDepth 8192 in
set_option maxHeartbeats 2000000 in
theorem val0_1_main_v7 (V0 : Valuation τ sig (Elt F)) : val0_1 V0 (no_index (Proc.devRef .tc main_v7)) = res_main_v7 V0 := by
  unfold val0_1
  simp only [ops_part0_0]
  after_results_simp
  simp only [val0_main_arg1] <;> rfl
set_option maxRecDepth 8192 in
set_option maxHeartbeats 2000000 in
theorem val0_1_main_v11 (V0 : Valuation τ sig (Elt F)) : val0_1 V0 (no_index (Proc.devRef .tc main_v11)) = res_main_v11 V0 := by
  unfold val0_1
  simp only [ops_part0_0]
  after_results_simp
  simp only [val0_main_arg1] <;> rfl
set_option maxRecDepth 8192 in
set_option maxHeartbeats 2000000 in
theorem val0_1_main_v13 (V0 : Valuation τ sig (Elt F)) : val0_1 V0 (no_index (Proc.devRef .tc main_v13)) = res_main_v13 V0 := by
  unfold val0_1
  simp only [ops_part0_0]
  after_results_simp
  simp only [val0_main_arg1] <;> rfl
set_option maxRecDepth 8192 in
set_option maxHeartbeats 2000000 in
theorem val0_1_main_v17 (V0 : Valuation τ sig (Elt F)) : val0_1 V0 (no_index (Proc.devRef .tc main_v17)) = res_main_v17 V0 := by
  unfold val0_1
  simp only [ops_part0_0]
  after_results_simp
  simp only [val0_main_arg2] <;> rfl
set_option maxRecDepth 8192 in
set_option maxHeartbeats 2000000 in
theorem val0_1_main_v19 (V0 : Valuation τ sig (Elt F)) : val0_1 V0 (no_index (Proc.devRef .tc main_v19)) = res_main_v19 V0 := by
  unfold val0_1
  simp only [ops_part0_0]
  after_results_simp
  simp only [val0_main_arg2] <;> rfl
set_option maxRecDepth 8192 in
set_option maxHeartbeats 2000000 in
theorem val0_1_main_v21 (V0 : Valuation τ sig (Elt F)) : val0_1 V0 (no_index (Proc.devRef .tc main_v21)) = res_main_v21 V0 := by
  unfold val0_1
  simp only [ops_part0_0]
  after_results_simp
  simp only [val0_main_arg2] <;> rfl
set_option maxRecDepth 8192 in
set_option maxHeartbeats 2000000 in
theorem val0_1_main_v28 (V0 : Valuation τ sig (Elt F)) : val0_1 V0 (no_index (Proc.devRef .tc main_v28)) = subf (mulf (broadcastInDim S4096x40960 ![0, 1] bcast_S4096x1_S4096x40960_0_1 (res_main_v13 V0)) (broadcastInDim S4096x40960 ![0, 1] bcast_S1x40960_S4096x40960_0_1 (res_main_v21 V0))) (mulf (broadcastInDim S4096x40960 ![0, 1] bcast_S4096x1_S4096x40960_0_1 (res_main_v15 V0)) (broadcastInDim S4096x40960 ![0, 1] bcast_S1x40960_S4096x40960_0_1 (res_main_v19 V0))) := by
  unfold val0_1
  simp only [ops_part0_0]
  after_results_simp
  simp only [val0_main_arg2, val0_main_arg1] <;> rfl
set_option maxRecDepth 8192 in
set_option maxHeartbeats 2000000 in
theorem val0_1_main_v29 (V0 : Valuation τ sig (Elt F)) : val0_1 V0 (no_index (Proc.devRef .tc main_v29)) = broadcastInDim S4096x40960 ![0, 1] bcast_S4096x1_S4096x40960_0_1 (res_main_v15 V0) := by
  unfold val0_1
  simp only [ops_part0_0]
  after_results_simp
  simp only [val0_main_arg1] <;> rfl

/-- The device's buffer contents after @main's first 60 operations. -/
def val0_2 (V0 : Valuation τ sig (Elt F)) : Valuation τ sig (Elt F) := after ops_part0_1 (val0_1 V0)
/-- The buffers that window `ops_part0_1`'s operations write. -/
abbrev ops_part0_1_W : List (Ref sig .tc) := [main_v30, main_v31, main_v32, main_v33, main_v34, main_v35, main_v36, main_v37, main_v38, main_v39, main_v40, main_v41, main_v42, main_v43, main_v44, main_v45, main_v46, main_v47, main_v48, main_v49, main_cst, main_v50, main_v51, main_cst_0, main_v52, main_v53, main_cst_1, main_call0_v0, main_call0_v1, main_v54]
set_option maxRecDepth 8192 in
theorem ops_part0_1_writes : (ops_part0_1 : List (HloOp τ sig (Elt F))).Forall fun op => op.writes ⊆ (ops_part0_1_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that window `ops_part0_1` does not write keeps its contents through it. -/
theorem val0_2_keep (V0 : Valuation τ sig (Elt F)) (r : Ref sig .tc) (h : r ∉ ops_part0_1_W) :
    val0_2 V0 (Proc.devRef .tc r) = val0_1 V0 (Proc.devRef .tc r) :=
  after_of_writes_sub ops_part0_1 _ ops_part0_1_writes h
theorem val0_2_main_arg0 (V0 : Valuation τ sig (Elt F)) : val0_2 V0 (no_index (Proc.devRef .tc main_arg0)) = V0 (Proc.devRef .tc main_arg0) :=
  (val0_2_keep V0 main_arg0 (by decide)).trans (val0_1_main_arg0 V0)
theorem val0_2_main_arg1 (V0 : Valuation τ sig (Elt F)) : val0_2 V0 (no_index (Proc.devRef .tc main_arg1)) = V0 (Proc.devRef .tc main_arg1) :=
  (val0_2_keep V0 main_arg1 (by decide)).trans (val0_1_main_arg1 V0)
theorem val0_2_main_arg2 (V0 : Valuation τ sig (Elt F)) : val0_2 V0 (no_index (Proc.devRef .tc main_arg2)) = V0 (Proc.devRef .tc main_arg2) :=
  (val0_2_keep V0 main_arg2 (by decide)).trans (val0_1_main_arg2 V0)
theorem val0_2_main_v1 (V0 : Valuation τ sig (Elt F)) : val0_2 V0 (no_index (Proc.devRef .tc main_v1)) = transpose S40960x3 [1, 0] (extractStridedSlice S3x40960 ![0, 0] (V0 (Proc.devRef .tc main_arg2)) slices_S16x40960_S3x40960_0_0) transposes_S3x40960_S40960x3_1_0 :=
  (val0_2_keep V0 main_v1 (by decide)).trans (val0_1_main_v1 V0)
theorem val0_2_main_v3 (V0 : Valuation τ sig (Elt F)) : val0_2 V0 (no_index (Proc.devRef .tc main_v3)) = res_main_v3 V0 :=
  (val0_2_keep V0 main_v3 (by decide)).trans (val0_1_main_v3 V0)
theorem val0_2_main_v5 (V0 : Valuation τ sig (Elt F)) : val0_2 V0 (no_index (Proc.devRef .tc main_v5)) = res_main_v5 V0 :=
  (val0_2_keep V0 main_v5 (by decide)).trans (val0_1_main_v5 V0)
theorem val0_2_main_v6 (V0 : Valuation τ sig (Elt F)) : val0_2 V0 (no_index (Proc.devRef .tc main_v6)) = shapeCast _ (V0 (Proc.devRef .tc main_arg0)) shapeCasts_S1x4096x3_S4096x3 :=
  (val0_2_keep V0 main_v6 (by decide)).trans (val0_1_main_v6 V0)
theorem val0_2_main_v7 (V0 : Valuation τ sig (Elt F)) : val0_2 V0 (no_index (Proc.devRef .tc main_v7)) = res_main_v7 V0 :=
  (val0_2_keep V0 main_v7 (by decide)).trans (val0_1_main_v7 V0)
set_option maxRecDepth 8192 in
set_option maxHeartbeats 2000000 in
theorem val0_2_main_v46 (V0 : Valuation τ sig (Elt F)) : val0_2 V0 (no_index (Proc.devRef .tc main_v46)) = res_main_v46 V0 := by
  unfold val0_2
  simp only [ops_part0_1, TRef.ternary, TRef.unary, TRef.toBuf, TRef.ofBuf, cast_eq]
  after_results_simp
  try dsimp only [Matrix.cons_val]
  try after_results_simp
  simp only [val0_1_main_v17, val0_1_main_v13, val0_1_main_v19, val0_1_main_v11, val0_1_main_v21, val0_1_main_v29, val0_1_main_v28] <;> rfl
set_option maxRecDepth 8192 in
set_option maxHeartbeats 2000000 in
theorem val0_2_main_v53 (V0 : Valuation τ sig (Elt F)) : val0_2 V0 (no_index (Proc.devRef .tc main_v53)) = res_main_v53 V0 := by
  unfold val0_2
  simp only [ops_part0_1, TRef.ternary, TRef.unary, TRef.toBuf, TRef.ofBuf, cast_eq]
  after_results_simp
  try dsimp only [Matrix.cons_val]
  try after_results_simp
  simp only [val0_1_main_v17, val0_1_main_v13, val0_1_main_v19, val0_1_main_v11, val0_1_main_v21, val0_1_main_v29, val0_1_main_v28, val0_1_main_v3] <;> rfl
set_option maxRecDepth 8192 in
set_option maxHeartbeats 2000000 in
theorem val0_2_main_v54 (V0 : Valuation τ sig (Elt F)) : val0_2 V0 (no_index (Proc.devRef .tc main_v54)) = select (res_main_v53 V0) (res_main_v50 V0) (broadcastInDim S4096x40960 ![] bcast_S_S4096x40960 (id (constant S_ .f32 0x3F800000#32))) := by
  unfold val0_2
  simp only [ops_part0_1, TRef.ternary, TRef.unary, TRef.toBuf, TRef.ofBuf, cast_eq]
  after_results_simp
  try dsimp only [Matrix.cons_val]
  try after_results_simp
  simp only [val0_1_main_v17, val0_1_main_v13, val0_1_main_v19, val0_1_main_v11, val0_1_main_v21, val0_1_main_v29, val0_1_main_v28, val0_1_main_v3] <;> rfl

/-- The device's buffer contents after @main's first 1 window. -/
def val1 (V0 : Valuation τ sig (Elt F)) : Valuation τ sig (Elt F) := after ops_part0_2 (val0_2 V0)
/-- The buffers that window `ops_part0_2`'s operations write. -/
abbrev ops_part0_2_W : List (Ref sig .tc) := [main_cst_2, main_v55]
set_option maxRecDepth 8192 in
theorem ops_part0_2_writes : (ops_part0_2 : List (HloOp τ sig (Elt F))).Forall fun op => op.writes ⊆ (ops_part0_2_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that window `ops_part0_2` does not write keeps its contents through it. -/
theorem val1_keep (V0 : Valuation τ sig (Elt F)) (r : Ref sig .tc) (h : r ∉ ops_part0_2_W) :
    val1 V0 (Proc.devRef .tc r) = val0_2 V0 (Proc.devRef .tc r) :=
  after_of_writes_sub ops_part0_2 _ ops_part0_2_writes h
theorem val1_main_arg0 (V0 : Valuation τ sig (Elt F)) : val1 V0 (no_index (Proc.devRef .tc main_arg0)) = V0 (Proc.devRef .tc main_arg0) :=
  (val1_keep V0 main_arg0 (by decide)).trans (val0_2_main_arg0 V0)
theorem val1_main_arg1 (V0 : Valuation τ sig (Elt F)) : val1 V0 (no_index (Proc.devRef .tc main_arg1)) = V0 (Proc.devRef .tc main_arg1) :=
  (val1_keep V0 main_arg1 (by decide)).trans (val0_2_main_arg1 V0)
theorem val1_main_arg2 (V0 : Valuation τ sig (Elt F)) : val1 V0 (no_index (Proc.devRef .tc main_arg2)) = V0 (Proc.devRef .tc main_arg2) :=
  (val1_keep V0 main_arg2 (by decide)).trans (val0_2_main_arg2 V0)
theorem val1_main_v1 (V0 : Valuation τ sig (Elt F)) : val1 V0 (no_index (Proc.devRef .tc main_v1)) = transpose S40960x3 [1, 0] (extractStridedSlice S3x40960 ![0, 0] (V0 (Proc.devRef .tc main_arg2)) slices_S16x40960_S3x40960_0_0) transposes_S3x40960_S40960x3_1_0 :=
  (val1_keep V0 main_v1 (by decide)).trans (val0_2_main_v1 V0)
theorem val1_main_v3 (V0 : Valuation τ sig (Elt F)) : val1 V0 (no_index (Proc.devRef .tc main_v3)) = res_main_v3 V0 :=
  (val1_keep V0 main_v3 (by decide)).trans (val0_2_main_v3 V0)
theorem val1_main_v5 (V0 : Valuation τ sig (Elt F)) : val1 V0 (no_index (Proc.devRef .tc main_v5)) = res_main_v5 V0 :=
  (val1_keep V0 main_v5 (by decide)).trans (val0_2_main_v5 V0)
theorem val1_main_v6 (V0 : Valuation τ sig (Elt F)) : val1 V0 (no_index (Proc.devRef .tc main_v6)) = shapeCast _ (V0 (Proc.devRef .tc main_arg0)) shapeCasts_S1x4096x3_S4096x3 :=
  (val1_keep V0 main_v6 (by decide)).trans (val0_2_main_v6 V0)
theorem val1_main_v7 (V0 : Valuation τ sig (Elt F)) : val1 V0 (no_index (Proc.devRef .tc main_v7)) = res_main_v7 V0 :=
  (val1_keep V0 main_v7 (by decide)).trans (val0_2_main_v7 V0)
theorem val1_main_v46 (V0 : Valuation τ sig (Elt F)) : val1 V0 (no_index (Proc.devRef .tc main_v46)) = res_main_v46 V0 :=
  (val1_keep V0 main_v46 (by decide)).trans (val0_2_main_v46 V0)
theorem val1_main_v53 (V0 : Valuation τ sig (Elt F)) : val1 V0 (no_index (Proc.devRef .tc main_v53)) = res_main_v53 V0 :=
  (val1_keep V0 main_v53 (by decide)).trans (val0_2_main_v53 V0)
theorem val1_main_v54 (V0 : Valuation τ sig (Elt F)) : val1 V0 (no_index (Proc.devRef .tc main_v54)) = select (res_main_v53 V0) (res_main_v50 V0) (broadcastInDim S4096x40960 ![] bcast_S_S4096x40960 (id (constant S_ .f32 0x3F800000#32))) :=
  (val1_keep V0 main_v54 (by decide)).trans (val0_2_main_v54 V0)
set_option maxRecDepth 8192 in
theorem val1_main_v55 (V0 : Valuation τ sig (Elt F)) : val1 V0 (no_index (Proc.devRef .tc main_v55)) = broadcastInDim S4096x40960 ![] bcast_S_S4096x40960 (constant S_ .f32 0x3F800000#32) := by
  unfold val1
  simp only [ops_part0_2]
  after_results_simp
  all_goals rfl

/-- The device's buffer contents after @main's first 92 operations. -/
def val1_1 (V0 : Valuation τ sig (Elt F)) : Valuation τ sig (Elt F) := after ops_part1_0 (val1 V0)
/-- The buffers that window `ops_part1_0`'s operations write. -/
abbrev ops_part1_0_W : List (Ref sig .tc) := [main_v56, main_cst_3, main_call1_v0, main_call1_v1, main_v57, main_v58, main_v59, main_v60, main_v61, main_v62, main_v63, main_cst_4, main_v64, main_v65, main_v66, main_v67, main_v68, main_v69, main_v70, main_v71, main_v72, main_v73, main_v74, main_v75, main_v76, main_v77, main_v78, main_v79, main_v80, main_v81]
set_option maxRecDepth 8192 in
theorem ops_part1_0_writes : (ops_part1_0 : List (HloOp τ sig (Elt F))).Forall fun op => op.writes ⊆ (ops_part1_0_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that window `ops_part1_0` does not write keeps its contents through it. -/
theorem val1_1_keep (V0 : Valuation τ sig (Elt F)) (r : Ref sig .tc) (h : r ∉ ops_part1_0_W) :
    val1_1 V0 (Proc.devRef .tc r) = val1 V0 (Proc.devRef .tc r) :=
  after_of_writes_sub ops_part1_0 _ ops_part1_0_writes h
theorem val1_1_main_arg0 (V0 : Valuation τ sig (Elt F)) : val1_1 V0 (no_index (Proc.devRef .tc main_arg0)) = V0 (Proc.devRef .tc main_arg0) :=
  (val1_1_keep V0 main_arg0 (by decide)).trans (val1_main_arg0 V0)
theorem val1_1_main_arg1 (V0 : Valuation τ sig (Elt F)) : val1_1 V0 (no_index (Proc.devRef .tc main_arg1)) = V0 (Proc.devRef .tc main_arg1) :=
  (val1_1_keep V0 main_arg1 (by decide)).trans (val1_main_arg1 V0)
theorem val1_1_main_arg2 (V0 : Valuation τ sig (Elt F)) : val1_1 V0 (no_index (Proc.devRef .tc main_arg2)) = V0 (Proc.devRef .tc main_arg2) :=
  (val1_1_keep V0 main_arg2 (by decide)).trans (val1_main_arg2 V0)
theorem val1_1_main_v5 (V0 : Valuation τ sig (Elt F)) : val1_1 V0 (no_index (Proc.devRef .tc main_v5)) = res_main_v5 V0 :=
  (val1_1_keep V0 main_v5 (by decide)).trans (val1_main_v5 V0)
theorem val1_1_main_v7 (V0 : Valuation τ sig (Elt F)) : val1_1 V0 (no_index (Proc.devRef .tc main_v7)) = res_main_v7 V0 :=
  (val1_1_keep V0 main_v7 (by decide)).trans (val1_main_v7 V0)
theorem val1_1_main_v53 (V0 : Valuation τ sig (Elt F)) : val1_1 V0 (no_index (Proc.devRef .tc main_v53)) = res_main_v53 V0 :=
  (val1_1_keep V0 main_v53 (by decide)).trans (val1_main_v53 V0)
set_option maxRecDepth 8192 in
set_option maxHeartbeats 2000000 in
theorem val1_1_main_v57 (V0 : Valuation τ sig (Elt F)) : val1_1 V0 (no_index (Proc.devRef .tc main_v57)) = res_main_v57 V0 := by
  unfold val1_1
  simp only [ops_part1_0, TRef.ternary, TRef.unary, TRef.toBuf, TRef.ofBuf, cast_eq]
  after_results_simp
  simp only [val1_main_v54, val1_main_v55, val1_main_v53] <;> rfl
set_option maxRecDepth 8192 in
set_option maxHeartbeats 2000000 in
theorem val1_1_main_v65 (V0 : Valuation τ sig (Elt F)) : val1_1 V0 (no_index (Proc.devRef .tc main_v65)) = res_main_v65 V0 := by
  unfold val1_1
  simp only [ops_part1_0, TRef.ternary, TRef.unary, TRef.toBuf, TRef.ofBuf, cast_eq]
  after_results_simp
  simp only [val1_main_v54, val1_main_v55, val1_main_v53, val1_main_v46, val1_main_v1, val1_main_v6] <;> rfl
set_option maxRecDepth 8192 in
set_option maxHeartbeats 2000000 in
theorem val1_1_main_v68 (V0 : Valuation τ sig (Elt F)) : val1_1 V0 (no_index (Proc.devRef .tc main_v68)) = res_main_v68 V0 := by
  unfold val1_1
  simp only [ops_part1_0, TRef.ternary, TRef.unary, TRef.toBuf, TRef.ofBuf, cast_eq]
  after_results_simp
  simp only [val1_main_v1, val1_main_v6] <;> rfl
set_option maxRecDepth 8192 in
set_option maxHeartbeats 2000000 in
theorem val1_1_main_v70 (V0 : Valuation τ sig (Elt F)) : val1_1 V0 (no_index (Proc.devRef .tc main_v70)) = res_main_v70 V0 := by
  unfold val1_1
  simp only [ops_part1_0, TRef.ternary, TRef.unary, TRef.toBuf, TRef.ofBuf, cast_eq]
  after_results_simp
  simp only [val1_main_v1, val1_main_v6] <;> rfl
set_option maxRecDepth 8192 in
set_option maxHeartbeats 2000000 in
theorem val1_1_main_v72 (V0 : Valuation τ sig (Elt F)) : val1_1 V0 (no_index (Proc.devRef .tc main_v72)) = res_main_v72 V0 := by
  unfold val1_1
  simp only [ops_part1_0, TRef.ternary, TRef.unary, TRef.toBuf, TRef.ofBuf, cast_eq]
  after_results_simp
  simp only [val1_main_v1, val1_main_v6] <;> rfl
set_option maxRecDepth 8192 in
set_option maxHeartbeats 2000000 in
theorem val1_1_main_v74 (V0 : Valuation τ sig (Elt F)) : val1_1 V0 (no_index (Proc.devRef .tc main_v74)) = res_main_v74 V0 := by
  unfold val1_1
  simp only [ops_part1_0, TRef.ternary, TRef.unary, TRef.toBuf, TRef.ofBuf, cast_eq]
  after_results_simp
  simp only [val1_main_v3] <;> rfl
set_option maxRecDepth 8192 in
set_option maxHeartbeats 2000000 in
theorem val1_1_main_v76 (V0 : Valuation τ sig (Elt F)) : val1_1 V0 (no_index (Proc.devRef .tc main_v76)) = res_main_v76 V0 := by
  unfold val1_1
  simp only [ops_part1_0, TRef.ternary, TRef.unary, TRef.toBuf, TRef.ofBuf, cast_eq]
  after_results_simp
  simp only [val1_main_v3] <;> rfl
set_option maxRecDepth 8192 in
set_option maxHeartbeats 2000000 in
theorem val1_1_main_v78 (V0 : Valuation τ sig (Elt F)) : val1_1 V0 (no_index (Proc.devRef .tc main_v78)) = res_main_v78 V0 := by
  unfold val1_1
  simp only [ops_part1_0, TRef.ternary, TRef.unary, TRef.toBuf, TRef.ofBuf, cast_eq]
  after_results_simp
  simp only [val1_main_v3] <;> rfl
set_option maxRecDepth 8192 in
set_option maxHeartbeats 2000000 in
theorem val1_1_main_v80 (V0 : Valuation τ sig (Elt F)) : val1_1 V0 (no_index (Proc.devRef .tc main_v80)) = mulf (res_main_v70 V0) (broadcastInDim S4096x40960 ![0, 1] bcast_S1x40960_S4096x40960_0_1 (res_main_v78 V0)) := by
  unfold val1_1
  simp only [ops_part1_0, TRef.ternary, TRef.unary, TRef.toBuf, TRef.ofBuf, cast_eq]
  after_results_simp
  simp only [val1_main_v3, val1_main_v1, val1_main_v6] <;> rfl
set_option maxRecDepth 8192 in
set_option maxHeartbeats 2000000 in
theorem val1_1_main_v81 (V0 : Valuation τ sig (Elt F)) : val1_1 V0 (no_index (Proc.devRef .tc main_v81)) = broadcastInDim S4096x40960 ![0, 1] bcast_S1x40960_S4096x40960_0_1 (res_main_v76 V0) := by
  unfold val1_1
  simp only [ops_part1_0, TRef.ternary, TRef.unary, TRef.toBuf, TRef.ofBuf, cast_eq]
  after_results_simp
  simp only [val1_main_v3] <;> rfl

/-- The device's buffer contents after @main's first 122 operations. -/
def val1_2 (V0 : Valuation τ sig (Elt F)) : Valuation τ sig (Elt F) := after ops_part1_1 (val1_1 V0)
/-- The buffers that window `ops_part1_1`'s operations write. -/
abbrev ops_part1_1_W : List (Ref sig .tc) := [main_v82, main_v83, main_v84, main_v85, main_v86, main_v87, main_v88, main_v89, main_v90, main_v91, main_v92, main_v93, main_v94, main_v95, main_v96, main_v97, main_v98, main_v99, main_v100, main_cst_5, main_v101, main_v102, main_v103, main_v104, main_v105, main_cst_6, main_v106, main_v107, main_cst_7, main_v108]
set_option maxRecDepth 8192 in
theorem ops_part1_1_writes : (ops_part1_1 : List (HloOp τ sig (Elt F))).Forall fun op => op.writes ⊆ (ops_part1_1_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that window `ops_part1_1` does not write keeps its contents through it. -/
theorem val1_2_keep (V0 : Valuation τ sig (Elt F)) (r : Ref sig .tc) (h : r ∉ ops_part1_1_W) :
    val1_2 V0 (Proc.devRef .tc r) = val1_1 V0 (Proc.devRef .tc r) :=
  after_of_writes_sub ops_part1_1 _ ops_part1_1_writes h
theorem val1_2_main_arg0 (V0 : Valuation τ sig (Elt F)) : val1_2 V0 (no_index (Proc.devRef .tc main_arg0)) = V0 (Proc.devRef .tc main_arg0) :=
  (val1_2_keep V0 main_arg0 (by decide)).trans (val1_1_main_arg0 V0)
theorem val1_2_main_arg1 (V0 : Valuation τ sig (Elt F)) : val1_2 V0 (no_index (Proc.devRef .tc main_arg1)) = V0 (Proc.devRef .tc main_arg1) :=
  (val1_2_keep V0 main_arg1 (by decide)).trans (val1_1_main_arg1 V0)
theorem val1_2_main_arg2 (V0 : Valuation τ sig (Elt F)) : val1_2 V0 (no_index (Proc.devRef .tc main_arg2)) = V0 (Proc.devRef .tc main_arg2) :=
  (val1_2_keep V0 main_arg2 (by decide)).trans (val1_1_main_arg2 V0)
theorem val1_2_main_v53 (V0 : Valuation τ sig (Elt F)) : val1_2 V0 (no_index (Proc.devRef .tc main_v53)) = res_main_v53 V0 :=
  (val1_2_keep V0 main_v53 (by decide)).trans (val1_1_main_v53 V0)
theorem val1_2_main_v65 (V0 : Valuation τ sig (Elt F)) : val1_2 V0 (no_index (Proc.devRef .tc main_v65)) = res_main_v65 V0 :=
  (val1_2_keep V0 main_v65 (by decide)).trans (val1_1_main_v65 V0)
set_option maxRecDepth 8192 in
set_option maxHeartbeats 2000000 in
theorem val1_2_main_v102 (V0 : Valuation τ sig (Elt F)) : val1_2 V0 (no_index (Proc.devRef .tc main_v102)) = res_main_v102 V0 := by
  unfold val1_2
  simp only [ops_part1_1]
  after_results_simp
  try dsimp only [Matrix.cons_val]
  try after_results_simp
  simp only [val1_1_main_v57, val1_1_main_v74, val1_1_main_v70, val1_1_main_v76, val1_1_main_v68, val1_1_main_v78, val1_1_main_v72, val1_1_main_v81, val1_1_main_v80, val1_1_main_v7] <;> rfl
set_option maxRecDepth 8192 in
set_option maxHeartbeats 2000000 in
theorem val1_2_main_v107 (V0 : Valuation τ sig (Elt F)) : val1_2 V0 (no_index (Proc.devRef .tc main_v107)) = res_main_v107 V0 := by
  unfold val1_2
  simp only [ops_part1_1]
  after_results_simp
  try dsimp only [Matrix.cons_val]
  try after_results_simp
  simp only [val1_1_main_v57, val1_1_main_v74, val1_1_main_v70, val1_1_main_v76, val1_1_main_v68, val1_1_main_v78, val1_1_main_v72, val1_1_main_v81, val1_1_main_v80, val1_1_main_v5] <;> rfl
set_option maxRecDepth 8192 in
set_option maxHeartbeats 2000000 in
theorem val1_2_main_v108 (V0 : Valuation τ sig (Elt F)) : val1_2 V0 (no_index (Proc.devRef .tc main_v108)) = broadcastInDim S4096x40960 ![] bcast_S_S4096x40960 (constant S_ .f32 0x00000000#32) := by
  unfold val1_2
  simp only [ops_part1_1]
  after_results_simp
  try dsimp only [Matrix.cons_val]
  try after_results_simp
  all_goals rfl

/-- The device's buffer contents after @main's first 2 windows. -/
def val2 (V0 : Valuation τ sig (Elt F)) : Valuation τ sig (Elt F) := after ops_part1_2 (val1_2 V0)
/-- The buffers that window `ops_part1_2`'s operations write. -/
abbrev ops_part1_2_W : List (Ref sig .tc) := [main_v109, main_v110]
set_option maxRecDepth 8192 in
theorem ops_part1_2_writes : (ops_part1_2 : List (HloOp τ sig (Elt F))).Forall fun op => op.writes ⊆ (ops_part1_2_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that window `ops_part1_2` does not write keeps its contents through it. -/
theorem val2_keep (V0 : Valuation τ sig (Elt F)) (r : Ref sig .tc) (h : r ∉ ops_part1_2_W) :
    val2 V0 (Proc.devRef .tc r) = val1_2 V0 (Proc.devRef .tc r) :=
  after_of_writes_sub ops_part1_2 _ ops_part1_2_writes h
theorem val2_main_arg0 (V0 : Valuation τ sig (Elt F)) : val2 V0 (no_index (Proc.devRef .tc main_arg0)) = V0 (Proc.devRef .tc main_arg0) :=
  (val2_keep V0 main_arg0 (by decide)).trans (val1_2_main_arg0 V0)
theorem val2_main_arg1 (V0 : Valuation τ sig (Elt F)) : val2 V0 (no_index (Proc.devRef .tc main_arg1)) = V0 (Proc.devRef .tc main_arg1) :=
  (val2_keep V0 main_arg1 (by decide)).trans (val1_2_main_arg1 V0)
theorem val2_main_arg2 (V0 : Valuation τ sig (Elt F)) : val2 V0 (no_index (Proc.devRef .tc main_arg2)) = V0 (Proc.devRef .tc main_arg2) :=
  (val2_keep V0 main_arg2 (by decide)).trans (val1_2_main_arg2 V0)
theorem val2_main_v65 (V0 : Valuation τ sig (Elt F)) : val2 V0 (no_index (Proc.devRef .tc main_v65)) = res_main_v65 V0 :=
  (val2_keep V0 main_v65 (by decide)).trans (val1_2_main_v65 V0)
theorem val2_main_v102 (V0 : Valuation τ sig (Elt F)) : val2 V0 (no_index (Proc.devRef .tc main_v102)) = res_main_v102 V0 :=
  (val2_keep V0 main_v102 (by decide)).trans (val1_2_main_v102 V0)
theorem val2_main_v107 (V0 : Valuation τ sig (Elt F)) : val2 V0 (no_index (Proc.devRef .tc main_v107)) = res_main_v107 V0 :=
  (val2_keep V0 main_v107 (by decide)).trans (val1_2_main_v107 V0)
set_option maxRecDepth 8192 in
theorem val2_main_v110 (V0 : Valuation τ sig (Elt F)) : val2 V0 (no_index (Proc.devRef .tc main_v110)) = andi (res_main_v53 V0) (cmpf .oge (res_main_v65 V0) (broadcastInDim S4096x40960 ![] bcast_S_S4096x40960 (constant S_ .f32 0x00000000#32))) := by
  unfold val2
  simp only [ops_part1_2]
  after_results_simp
  simp only [val1_2_main_v108, val1_2_main_v65, val1_2_main_v53] <;> rfl

/-- The device's buffer contents after @main's first 3 windows. -/
def val3 (V0 : Valuation τ sig (Elt F)) : Valuation τ sig (Elt F) := after ops_part2 (val2 V0)
/-- The buffers that window `main_part2`'s operations write. -/
abbrev ops_part2_W : List (Ref sig .tc) := [main_cst_8, main_v111, main_v112, main_v113, main_v114, main_cst_9, main_v115, main_v116, main_v117, main_cst_10, main_v118, main_v119, main_v120, main_cst_11, main_call2_v0, main_call2_v1, main_v121, main_call3_v0, main_call3_cst, main_call3_c, main_call3_v1_0, main_v122, main_v123, main_call4_c, main_call4_v0, main_call4_v1, main_call4_c_0, main_call4_v2, main_call4_v3, main_call4_v4, main_call4_v5, main_call4_c_1, main_call4_c_2, main_call4_v6, main_call4_v7, main_call4_v8, main_call4_v9, main_call4_v10, main_call4_v11, main_call4_c_3, main_call4_v12, main_call4_v13, main_call4_cst, main_call4_v14, main_v124, main_v125, main_cst_12, main_v126, main_v127, main_cst_13, main_call5_v0, main_call5_v1, main_v128, main_c, main_call6_v0, main_call6_v1, main_v129]
set_option maxRecDepth 8192 in
theorem ops_part2_writes : (ops_part2 : List (HloOp τ sig (Elt F))).Forall fun op => op.writes ⊆ (ops_part2_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that window `main_part2` does not write keeps its contents through it. -/
theorem val3_keep (V0 : Valuation τ sig (Elt F)) (r : Ref sig .tc) (h : r ∉ ops_part2_W) :
    val3 V0 (Proc.devRef .tc r) = val2 V0 (Proc.devRef .tc r) :=
  after_of_writes_sub ops_part2 _ ops_part2_writes h
theorem val3_main_arg0 (V0 : Valuation τ sig (Elt F)) : val3 V0 (no_index (Proc.devRef .tc main_arg0)) = V0 (Proc.devRef .tc main_arg0) :=
  (val3_keep V0 main_arg0 (by decide)).trans (val2_main_arg0 V0)
theorem val3_main_arg1 (V0 : Valuation τ sig (Elt F)) : val3 V0 (no_index (Proc.devRef .tc main_arg1)) = V0 (Proc.devRef .tc main_arg1) :=
  (val3_keep V0 main_arg1 (by decide)).trans (val2_main_arg1 V0)
theorem val3_main_arg2 (V0 : Valuation τ sig (Elt F)) : val3 V0 (no_index (Proc.devRef .tc main_arg2)) = V0 (Proc.devRef .tc main_arg2) :=
  (val3_keep V0 main_arg2 (by decide)).trans (val2_main_arg2 V0)
set_option maxRecDepth 8192 in
set_option maxHeartbeats 2000000 in
theorem val3_main_v128 (V0 : Valuation τ sig (Elt F)) : val3 V0 (no_index (Proc.devRef .tc main_v128)) = select (res_main_v127 V0) (res_main_v125 V0) (broadcastInDim S4096 ![] bcast_S_S4096 (id (constant S_ .f32 0x00000000#32))) := by
  unfold val3
  simp only [ops_part2, TRef.binary, TRef.nullary, TRef.quaternary, TRef.reshape, TRef.ternary, TRef.unary, TRef.toBuf, TRef.ofBuf, cast_eq]
  after_results_simp
  simp only [val2_main_v107, val2_main_v102, val2_main_v65, val2_main_v110] <;> rfl
set_option maxRecDepth 8192 in
set_option maxHeartbeats 2000000 in
theorem val3_main_v129 (V0 : Valuation τ sig (Elt F)) : val3 V0 (no_index (Proc.devRef .tc main_v129)) = select (res_main_v127 V0) (res_main_v122 V0) (broadcastInDim S4096 ![] bcast_S_S4096 (id (constantI S_ 32 4294967295#32))) := by
  unfold val3
  simp only [ops_part2, TRef.binary, TRef.nullary, TRef.quaternary, TRef.reshape, TRef.ternary, TRef.unary, TRef.toBuf, TRef.ofBuf, cast_eq]
  after_results_simp
  simp only [val2_main_v107, val2_main_v102, val2_main_v65, val2_main_v110] <;> rfl

theorem after_ops (V0 : Valuation τ sig (Elt F)) : after ops V0 = val3 V0 := by
  simp only [ops, ops_part0, ops_part1, after_append]
  rfl

set_option maxRecDepth 8192 in
/-- On every device, for any float values, from any memory with zero counters: every weakly fair execution of
    @main terminates with each result at the operations' composed term of the arguments and the arguments
    unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v128) = select (res_main_v127 (launchContents m c)) (res_main_v125 (launchContents m c)) (broadcastInDim S4096 ![] bcast_S_S4096 (id (constant S_ .f32 0x00000000#32)))
      ∧ r.2.mem ((c.tc : Thread nD τ).loc main_v129) = select (res_main_v127 (launchContents m c)) (res_main_v122 (launchContents m c)) (broadcastInDim S4096 ![] bcast_S_S4096 (id (constantI S_ 32 4294967295#32)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c main_v128).trans ((congrFun (after_ops (launchContents m c)) (Proc.devRef .tc main_v128)).trans (val3_main_v128 (launchContents m c))),
      (h c main_v129).trans ((congrFun (after_ops (launchContents m c)) (Proc.devRef .tc main_v129)).trans (val3_main_v129 (launchContents m c))),
      (h c main_arg0).trans ((congrFun (after_ops (launchContents m c)) (Proc.devRef .tc main_arg0)).trans (val3_main_arg0 (launchContents m c))),
      (h c main_arg1).trans ((congrFun (after_ops (launchContents m c)) (Proc.devRef .tc main_arg1)).trans (val3_main_arg1 (launchContents m c))),
      (h c main_arg2).trans ((congrFun (after_ops (launchContents m c)) (Proc.devRef .tc main_arg2)).trans (val3_main_arg2 (launchContents m c)))⟩)
    (run_seq scopedRefs_eq scopedSems_eq defs main (fun _ => ops) main_eq (fun _ => ops_sub) m ρ fun _ => ops_fresh)

end Cert.IntersectReferenceIdeal.Value

end
-- ==== Proof.I.Common.lean ====
/-
  What every module of this certificate's run shares: the launch configuration of the two SparseCore calls, the resource
  algebra (the handshakes' rounds, the pipelines' rounds, the transfers' counters), and two facts on whole buffers: a store
  or a scatter of values that agree with a target function extends the set of elements at the target.
-/
module

public import proofs.«01_k».proof.Defs
public import Idealize.ShloMosaic.Lib.SparseCore.Quiescent
public import Idealize.ShloMosaic.Lib.SparseCore.Ops
public import Idealize.ShloMosaic.Lib.StableHlo.Run
public import Idealize.ShloMosaic.Lib.Pipeline.Kit
public import Idealize.ShloMosaic.Lib.Pipeline.Value
public import Idealize.ShloMosaic.Lib.Tactic
public import proofs.«01_k».proof.Proof.Gen.KernelIdeal
public import proofs.«01_k».proof.Proof.Gen.KernelIdeal.Skeleton

@[expose] public section

noncomputable section

namespace Cert.Proof.I

open Cert.KernelIdeal Cert.KernelIdeal.Gen

open Idealize.ShloMosaic
open Idealize.ShloMosaic.SparseCore (S V T)
open Idealize.ShloMosaic.SparseCore.Cfg (HIx Pay)
open Idealize.SL Idealize.SL.RA
open Idealize.SL.BI (sProp bigSep bigSep_emp_const)
open scoped Idealize.SL.BI
open Idealize.SL.BI.BIBase Idealize.SL.BI.Laws Idealize.SL.ProofMode Idealize.SL.Sem
open Idealize.ShloMosaic.Rounds

variable {F : FTy → Type} [FloatOps F]

/-! ## The configuration -/

abbrev ΛP : Labels := Pipeline.Sig Λ₀ (Fin 0) fun p => (pcfgs (F := F) p).Adm
abbrev K : SparseCore.Cfg τ sig (ΛP (F := F)) 2 := sc
abbrev D : Defs nD τ sig (Elt F) (ΛP (F := F)) := Pipeline.defs pcfgs defs₀
abbrev 𝒱₀ : Variants := Variants.none
abbrev 𝒱 : Variants := 𝒱₀.lift
abbrev v₀ : (𝒱).V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide,
    show (SemLoc.reg sc_go : SemLoc sig).isScoped .scVector = false by decide,
    show (SemLoc.reg sc_done : SemLoc sig).isScoped .tc = false by decide,
    show ∀ (b : DevRef τ sig) (c : Fin τ.nSC), b.owner = .sc c → sig.taskShared b.table b.idx = false by decide, fun _ => rfl⟩

/-! ## The resource algebra -/

abbrev UH : Type := URounds (GSem nD τ sig) ℕ
abbrev UP : Type := URounds (GSem nD τ sig) Unit
abbrev UU : Type := UH × (UP × Counters)

abbrev EH : Emb UH (MT nD τ sig (HIx 2) (Elt F) ℕ UU ℕ) := embL

local notation "𝕄" => MT nD τ sig (HIx 2) (Elt F) ℕ UU ℕ

/-- A body's postcondition, its waits all at the kernel's own index, is the launch's. -/
theorem obl_post {thr : Thread nD τ} {A B C : sProp 𝕄} {O : CellTallies nD τ sig (HIx 2)} {W : Waits sig (HIx 2)} {q : Fin 2} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

/-- A tile's coordinates in the two calls' grids. -/
def coords0 (c : Fin (grid0.bound 0)) (s : Fin (grid0.bound 1)) : grid0.Coords :=
  fun | 0 => c | 1 => s | ⟨_ + 2, h⟩ => absurd h (Nat.not_lt.2 (Nat.le_add_left _ _))
def coords1 (c : Fin (grid1.bound 0)) (s : Fin (grid1.bound 1)) : grid1.Coords :=
  fun | 0 => c | 1 => s | ⟨_ + 2, h⟩ => absurd h (Nat.not_lt.2 (Nat.le_add_left _ _))

/-! ## Tables read at a word -/

/-- A table of `n` entries read at a natural number (modulo `n`, so that it is defined of every number). -/
def at1 {α : Type} {n : ℕ} (hn : 0 < n) (f : (⟨1, ![n]⟩ : Shape).Idx → α) (k : ℕ) : α :=
  f fun a => ⟨k % n, by obtain rfl : a = 0 := Subsingleton.elim _ _; exact Nat.mod_lt _ hn⟩

/-- The entry an in-range index vector names at a lane is the table read at the lane's word. -/
theorem loadIdx_at1 {F : FTy → Type} {n : ℕ} (hn : 0 < n) {e : EltTy} {t : Shape} (f : Vec F ⟨1, ![n]⟩ e) (v : IVec t 32)
    (h : ∀ a x, ((![v] : Fin 1 → IVec t 32) a x).toNat < (⟨1, ![n]⟩ : Shape).size a) (x : t.Idx) :
    loadIdx f ![v] h x = at1 hn f (v x).toNat := by
  unfold loadIdx at1
  refine congrArg f (funext fun a => Fin.ext ?_)
  obtain rfl : a = 0 := Subsingleton.elim _ _
  exact (Nat.mod_eq_of_lt (h 0 x)).symm

/-! ## A buffer at a target on a set of elements -/

section Target

variable {κ : Kind} (b : Ref sig κ)

open Classical in
/-- The contents `f` with the elements of `A` at the target `G`. -/
def onSet {I α : Type} (A : Set I) (G f : I → α) : I → α := fun y => if y ∈ A then G y else f y

theorem onSet_empty {I α : Type} (G f : I → α) : onSet ∅ G f = f := by funext y; simp [onSet]
theorem onSet_of_mem {I α : Type} {A : Set I} {G f : I → α} {y : I} (h : y ∈ A) : onSet A G f y = G y := if_pos h

theorem onSet_union_of_not {I α : Type} {A B : Set I} {G f : I → α} {y : I} (h : y ∉ B) : onSet A G f y = onSet (A ∪ B) G f y := by
  classical
  unfold onSet
  by_cases ha : y ∈ A
  · rw [if_pos ha, if_pos (Set.mem_union_left B ha)]
  · rw [if_neg ha, if_neg (fun hh => hh.elim ha h)]

/-- A store through a rectangle of a whole buffer, of values agreeing with the target. -/
theorem write_onSet (r : Rect b.ty.shape) (A : Set b.ty.shape.Idx) (G f : b.ty.Contents (Elt F))
    (w : r.shape.Idx → Elt F b.ty.elt) (hw : ∀ x, w x = G (r.emb x)) :
    ((Memref.whole b).access r).write (Elt F) (onSet A G f) w Finset.univ = onSet (A ∪ {y | ∃ x, r.emb x = y}) G f := by
  funext y
  by_cases hy : ∃ x, r.emb x = y
  · obtain ⟨x, rfl⟩ := hy
    refine Eq.trans ?_ (onSet_of_mem (A := A ∪ {y | ∃ x, r.emb x = y}) (y := r.emb x) (Set.mem_union_right A ⟨x, rfl⟩)).symm
    exact (View.write_emb_of_mem (v := (Memref.whole b).access r) (onSet A G f) w (Finset.mem_univ x)).trans (hw x)
  · rw [View.write_of_not_mem]
    · exact onSet_union_of_not hy
    · rw [View.setOn_univ]
      exact fun h => hy (by obtain ⟨x, -, hx⟩ := Finset.mem_map.mp h; exact ⟨x, hx⟩)

end Target

/-- Steps that each bring one element to the target, run over a list. -/
theorem foldl_onSet {ι κ α : Type} (G f : κ → α) (e : ι → κ) (step : (κ → α) → ι → κ → α)
    (hs : ∀ A k, step (onSet A G f) k = onSet (A ∪ {y | e k = y}) G f) (l : List ι) (A : Set κ) :
    l.foldl step (onSet A G f) = onSet (A ∪ {y | ∃ k ∈ l, e k = y}) G f := by
  induction l generalizing A with
  | nil => simp
  | cons k l ih =>
    rw [List.foldl_cons, hs, ih]
    congr 1; ext y
    simp only [Set.mem_union, Set.mem_setOf_eq, List.mem_cons, exists_eq_or_imp, _root_.or_assoc]

/-- An unmasked scatter of values agreeing with the target. -/
theorem storeIdx_onSet {s : Shape} {e : EltTy} {d : Fin 1 → ℕ} (A : Set s.Idx) (G f : Vec F s e) (idxs : Fin s.rank → IVec ⟨1, d⟩ 32)
    (v : Vec F ⟨1, d⟩ e) (h : ∀ a x, (idxs a x).toNat < s.size a) (hv : ∀ x, v x = G (idxAt idxs h x)) :
    storeIdx (onSet A G f) idxs v (fun _ => 1#1) false h = onSet (A ∪ {y | ∃ x, idxAt idxs h x = y}) G f := by
  unfold storeIdx
  refine (foldl_onSet G f (fun k => idxAt idxs h (Shape.ofLane k)) _ ?_ _ A).trans ?_
  · intro A k
    funext j
    simp only [Bool.false_eq_true, if_false]
    refine (congrFun (if_pos (show (1#1 : BitVec 1) = 1 from rfl)) j).trans ?_
    by_cases hj : idxAt idxs h (Shape.ofLane k) = j
    · subst hj
      refine Eq.trans ?_ (onSet_of_mem (Set.mem_union_right A rfl)).symm
      rw [← hv]; exact if_pos fun _ => rfl
    · rw [if_neg (fun hh => hj (funext fun a => Fin.ext (hh a).symm))]
      exact onSet_union_of_not hj
  · congr 2; ext y; simp only [Set.mem_setOf_eq, List.mem_finRange, _root_.true_and]
    constructor
    · rintro ⟨k, hk⟩; exact ⟨_, hk⟩
    · rintro ⟨x, hx⟩; refine ⟨x 0, ?_⟩
      rw [← hx]; congr 1; funext a; obtain rfl : a = 0 := Subsingleton.elim _ _; rfl

/-- Reading a whole buffer through its whole rectangle reads its contents. -/
theorem read_access_whole {κ : Kind} (b : Ref sig κ) (f : b.ty.Contents (Elt F)) :
    ((Memref.whole b).access (.whole b.ty.shape)).read (Elt F) f = f := by
  funext y
  refine congrArg f (funext fun a => Fin.ext ?_)
  show 0 + 1 * (y a).val = (y a).val
  omega

/-! ## Steps of a tile's program -/

section Steps
variable {d : Dev nD} {c : Fin τ.nSC} {i : Fin τ.nSub} {α : Type} {E : Set ℕ} {Q : α → sProp (MT nD τ sig (HIx 2) (Elt F) ℕ UU ℕ)}

/-- A load, what it reads known by a property. -/
theorem step_load {cs : CoreSpace} {s : Shape} {e : EltTy} {m : Memref sig .scVector cs s e} {r : LoadRect s} {hl : m.view.LoadsAt r}
    {k : (r.shape.Idx → Elt F e) → Prog (TpuEff nD τ sig (Elt F) Λ₀ (.scVector c i)) α}
    {f : Buf (Elt F) (m.view.loc (V d c i))} (Φ : (r.shape.Idx → Elt F e) → Prop) (hΦ : Φ (m.view.readAt (Elt F) r f)) :
    (m.view.loc (V d c i) ↦{fullShare} f)
      ⊢ iprop((∀ v, ⌜Φ v⌝ -∗ (m.view.loc (V d c i) ↦{fullShare} f) -∗ wp frame (wpE (defs₀ (F := F)) 𝒱₀ (V d c i) none) E (k v) Q)
        -∗ wp frame (wpE (defs₀ (F := F)) 𝒱₀ (V d c i) none) E (.op (.load m r hl) k) Q) := by
  iintro H Hk
  iapply (wp_load 𝒱₀ (V d c i) none E (m := m) (Finset.subset_univ _)) $$ H
  iintro H
  iapply Hk $$ %_
  · ipureintro; exact hΦ
  · iexact H

/-- A store through a rectangle, its effect on the buffer named. -/
theorem step_store {cs : CoreSpace} {s : Shape} {e : EltTy} {m : Memref sig .scVector cs s e} {r : Rect s} {w : r.shape.Idx → Elt F e} {hx hm}
    {k : PUnit → Prog (TpuEff nD τ sig (Elt F) Λ₀ (.scVector c i)) α} {f f' : Buf (Elt F) (m.view.loc (V d c i))}
    (hw : (m.access r).write (Elt F) f w Finset.univ = f') :
    (m.view.loc (V d c i) ↦{fullShare} f)
      ⊢ iprop(((m.view.loc (V d c i) ↦{fullShare} f') -∗ wp frame (wpE (defs₀ (F := F)) 𝒱₀ (V d c i) none) E (k ⟨⟩) Q)
        -∗ wp frame (wpE (defs₀ (F := F)) 𝒱₀ (V d c i) none) E (.op (.store m r w Finset.univ hx hm) k) Q) := by
  subst hw
  exact wp_store 𝒱₀ (V d c i) none E (m := m) (r := r) (Mk := Finset.univ) (Finset.subset_univ _)

/-- A gather out of a buffer, its check passed and what it reads known by a property. -/
theorem step_gather {s t : Shape} {e : EltTy} {base : Memref sig .scVector .vmem s e} {idxs : Fin s.rank → IVec t 32}
    {P : Prop} {hd : Decidable P} {hP : P → ∀ a x, (idxs a x).toNat < s.size a} {hl : base.view.Loads}
    {k : Vec F t e → Prog (TpuEff nD τ sig (Elt F) Λ₀ (.scVector c i)) α} {f : Buf (Elt F) (base.view.loc (V d c i))} (h : P)
    (Φ : Vec F t e → Prop) (hΦ : Φ (loadIdx ((base.access (.whole s)).read (Elt F) f) idxs (hP h))) :
    (base.view.loc (V d c i) ↦{fullShare} f)
      ⊢ iprop((∀ v, ⌜Φ v⌝ -∗ (base.view.loc (V d c i) ↦{fullShare} f) -∗ wp frame (wpE (defs₀ (F := F)) 𝒱₀ (V d c i) none) E (k v) Q)
        -∗ wp frame (wpE (defs₀ (F := F)) 𝒱₀ (V d c i) none) E (.op (.assume P hd) fun p => SparseCore.vectorLoadIdx base idxs (hP p.down) hl >>= k) Q) := by
  rw [wp_assume_of 𝒱₀ (V d c i) none E h]
  iintro H Hk
  iapply (SparseCore.wp_vectorLoadIdx 𝒱₀ (V d c i) none E (S := Finset.univ) (q := fullShare) (base := base) (Finset.subset_univ _)) $$ H
  iintro H
  iapply Hk $$ %_
  · ipureintro; exact hΦ
  · iexact H

/-- A scatter into a buffer, its check passed and its effect on the buffer named. -/
theorem step_scatter {s : Shape} {e : EltTy} {base : Memref sig .scVector .vmem s e} {n : Fin 1 → ℕ} {idxs : Fin s.rank → IVec ⟨1, n⟩ 32}
    {v : Vec F ⟨1, n⟩ e} {mask : IVec ⟨1, n⟩ 1} {add : Bool}
    {P : Prop} {hd : Decidable P} {hP : P → ∀ a x, (idxs a x).toNat < s.size a} {hs}
    {k : PUnit → Prog (TpuEff nD τ sig (Elt F) Λ₀ (.scVector c i)) α} {f f' : Buf (Elt F) (base.view.loc (V d c i))} (h : P)
    (hS : (base.access (.whole s)).set = Finset.univ)
    (hv : (base.access (.whole s)).write (Elt F) f (storeIdx ((base.access (.whole s)).read (Elt F) f) idxs v mask add (hP h)) Finset.univ = f') :
    (base.view.loc (V d c i) ↦{fullShare} f)
      ⊢ iprop(((base.view.loc (V d c i) ↦{fullShare} f') -∗ wp frame (wpE (defs₀ (F := F)) 𝒱₀ (V d c i) none) E (k ⟨⟩) Q)
        -∗ wp frame (wpE (defs₀ (F := F)) 𝒱₀ (V d c i) none) E
            (.op (.assume P hd) fun p => SparseCore.vectorStoreIdx base idxs v mask add (hP p.down) hs >>= k) Q) := by
  subst hv
  rw [wp_assume_of 𝒱₀ (V d c i) none E h]
  have := SparseCore.wp_vectorStoreIdx (Q := Q) (defs := defs₀ (F := F)) 𝒱₀ (V d c i) none E (base := base) (idxs := idxs) (v := v) (mask := mask) (add := add) (h := hP h) (hs := hs) (k := k) (f := f)
  rw [hS] at this
  exact this
end Steps

end Cert.Proof.I
-- ==== Proof.I.TriTile.lean ====
/-
  The first SparseCore call's body on one tile: the loop's trip, and the whole body, each with the values it leaves.
-/
module

public import proofs.«01_k».proof.Proof.I.Common

@[expose] public section

noncomputable section

namespace Cert.Proof.I

open Cert.KernelIdeal Cert.KernelIdeal.Gen

open Idealize.ShloMosaic
open Idealize.ShloMosaic.SparseCore (S V T)
open Idealize.ShloMosaic.SparseCore.Cfg (HIx Pay)
open Idealize.SL Idealize.SL.RA
open Idealize.SL.BI (sProp bigSep bigSep_emp_const)
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 2) (Elt F) ℕ UU ℕ

abbrev cageW : Memref sig .scVector .hbm S24000 .f32 := Memref.whole main_v1_scv
abbrev fidsW : Memref sig .scVector .hbm S3x40960 .i32 := Memref.whole main_v4_scv
abbrev triW : Memref sig .scVector .hbm S16x40960 .f32 := Memref.whole main_v5_scv
abbrev sCage : Memref sig .scVector .vmem S24000 .f32 := Memref.whole cc0_scratch0
abbrev sFid : Memref sig .scVector .vmem S3x1280 .i32 := Memref.whole cc0_scratch1
abbrev sOut : Memref sig .scVector .vmem S16x1280 .f32 := Memref.whole cc0_scratch2

/-! ## The values -/

theorem pos24000 : 0 < 24000 := by decide

/-- Entry `c` of vertex `w` of the flattened vertex table. -/
def vtx (cage : Vec F S24000 .f32) (w : BitVec 32) (c : ℕ) : F .f32 := at1 pos24000 cage (w.toNat * 3 + c)

/-- Row `r` of a face's record: its first vertex, then the two edges from it. -/
def triRow (cage : Vec F S24000 .f32) (a b c : BitVec 32) (r : ℕ) : F .f32 :=
  if r < 3 then vtx cage a r
  else if r < 6 then FloatOps.subf (vtx cage b (r - 3)) (vtx cage a (r - 3))
  else FloatOps.subf (vtx cage c (r - 6)) (vtx cage a (r - 6))

def fidAt {n : ℕ} (fid : Vec F ⟨2, ![3, n]⟩ .i32) (k : Fin 3) (j : Fin n) : BitVec 32 := fid fun | 0 => k | 1 => j

/-- What the call writes at row `r`, column `j` (its rows below 9). -/
def triG {n : ℕ} (cage : Vec F S24000 .f32) (fid : Vec F ⟨2, ![3, n]⟩ .i32) (y : (⟨2, ![16, n]⟩ : Shape).Idx) : F .f32 :=
  triRow cage (fidAt fid 0 (y 1)) (fidAt fid 1 (y 1)) (fidAt fid 2 (y 1)) (y 0).val

def triD (n k : ℕ) : Set (⟨2, ![16, n]⟩ : Shape).Idx := {y | (y 0).val < 9 ∧ (y 1).val < 16 * k}

/-- The word a lane gathers at: three times the vertex's, plus the coordinate. -/
abbrev gix (ld : Vec F S1x16 .i32) (c : BitVec 32) : IVec S16 32 :=
  addi (muli (shapeCast S16 ld shapeCasts_S1x16_S16) (broadcast S16 3#32)) (broadcast S16 c)

theorem word3 (w c : BitVec 32) (hw : w.toNat < 8000) (hc : c.toNat < 3) : (w * 3#32 + c).toNat = w.toNat * 3 + c.toNat := by
  rw [BitVec.toNat_add, BitVec.toNat_mul]
  show (w.toNat * 3 % 2 ^ 32 + c.toNat) % 2 ^ 32 = _
  omega

theorem gix_apply (ld : Vec F S1x16 .i32) (c : BitVec 32) (j : S16.Idx) : gix ld c j = ld (Fin.cons ⟨0, Nat.one_pos⟩ j) * 3#32 + c := by
  show shapeCast S16 ld shapeCasts_S1x16_S16 j * 3#32 + c = _
  rw [show shapeCast S16 ld shapeCasts_S1x16_S16 j = ld (Fin.cons ⟨0, Nat.one_pos⟩ j) from shapeCast_dropUnit_apply ![16] ld _ j]

/-- A trip's lane's column. -/
def col (k : Fin k0_t1_loop.trips) (j : S16.Idx) : Fin 1280 :=
  ⟨16 * k.val + (j 0).val, by
    have hk : k.val < 80 := k.isLt
    have hj : (j 0).val < 16 := (j 0).isLt
    omega⟩

section Vals
variable {cage : Vec F S24000 .f32} {fid : Vec F S3x1280 .i32} (hfid : ∀ y, (fid y).toNat < 8000) {k : Fin k0_t1_loop.trips}

/-- A trip's load of one of the three rows of indices, at a lane. -/
abbrev ldRow (fid : Vec F S3x1280 .i32) (off : Fin S3x1280.rank → ℕ) (inb : ∀ a, off a + S1x16.size a ≤ S3x1280.size a) : Vec F S1x16 .i32 :=
  (sFid).view.readAt (Elt F) (Rect.unit (s := S3x1280) off S1x16.size inb).toLoadRect fid

theorem ldRow_apply {off : Fin S3x1280.rank → ℕ} {inb : ∀ a, off a + S1x16.size a ≤ S3x1280.size a} (r : Fin 3) (hoff : off = ![r.val, 16 * k.val]) (j : S16.Idx) :
    ldRow fid off inb (Fin.cons ⟨0, Nat.one_pos⟩ j) = fidAt fid r (col k j) := by
  subst hoff
  unfold fidAt
  refine congrArg fid (funext fun a => Fin.ext ?_)
  match a with
  | 0 => show r.val + 1 * 0 = r.val; omega
  | 1 => show 16 * k.val + 1 * (j 0).val = 16 * k.val + (j 0).val; omega

/-- A load of lanes that read row `r` of the indices at the trip's columns. -/
def IsRow (fid : Vec F S3x1280 .i32) (k : Fin k0_t1_loop.trips) (r : Fin 3) (ld : Vec F S1x16 .i32) : Prop :=
  ∀ j : S16.Idx, ld (Fin.cons ⟨0, Nat.one_pos⟩ j) = fidAt fid r (col k j)

/-- Lanes that hold coordinate `c` of the vertices row `r` of the indices names at the trip's columns. -/
def IsVtx (cage : Vec F S24000 .f32) (fid : Vec F S3x1280 .i32) (k : Fin k0_t1_loop.trips) (r : Fin 3) (c : ℕ) (v : Vec F S16 .f32) : Prop :=
  ∀ j : S16.Idx, v j = vtx cage (fidAt fid r (col k j)) c

include hfid in
theorem gix_toNat {r : Fin 3} {ld : Vec F S1x16 .i32} (hld : IsRow fid k r ld) (c : BitVec 32) (hc : c.toNat < 3) (j : S16.Idx) :
    (gix (F := F) ld c j).toNat = (fidAt fid r (col k j)).toNat * 3 + c.toNat := by
  rw [gix_apply, hld j]; exact word3 _ _ (hfid _) hc

include hfid in
theorem gix_chk {r : Fin 3} {ld : Vec F S1x16 .i32} (hld : IsRow fid k r ld) (c : BitVec 32) (hc : c.toNat < 3) :
    ∀ a x, ((![gix (F := F) ld c] : Fin 1 → IVec S16 32) a x).toNat < S24000.size a := by
  intro a x
  obtain rfl : a = 0 := Subsingleton.elim _ _
  show (gix (F := F) ld c x).toNat < 24000
  rw [gix_toNat hfid hld c hc]
  have : (fidAt fid r (col k x)).toNat < 8000 := hfid _
  omega

include hfid in
theorem gather_apply {r : Fin 3} {ld : Vec F S1x16 .i32} (hld : IsRow fid k r ld) (c : BitVec 32) (hc : c.toNat < 3)
    (h : ∀ a x, ((![gix (F := F) ld c] : Fin 1 → IVec S16 32) a x).toNat < S24000.size a) :
    IsVtx cage fid k r c.toNat (loadIdx (((sCage).access (.whole S24000)).read (Elt F) cage) ![gix (F := F) ld c] h) := by
  intro j
  rw [show ((sCage).access (.whole S24000)).read (Elt F) cage = cage from read_access_whole cc0_scratch0 cage]
  refine (loadIdx_at1 pos24000 _ _ h j).trans ?_
  rw [gix_toNat hfid hld c hc]
  rfl

/-- The nine rows' values of lanes of vertices. -/
theorem row_vtx {r : ℕ} (hr : r < 3) {v : Vec F S16 .f32} (hv : IsVtx cage fid k 0 r v) (j : S16.Idx) :
    v j = triRow cage (fidAt fid 0 (col k j)) (fidAt fid 1 (col k j)) (fidAt fid 2 (col k j)) r := by
  unfold triRow; rw [if_pos hr, hv j]
theorem row_edge1 {r : ℕ} (hr : r < 3) {v w : Vec F S16 .f32} (hv : IsVtx cage fid k 0 r v) (hw : IsVtx cage fid k 1 r w) (j : S16.Idx) :
    subf w v j = triRow cage (fidAt fid 0 (col k j)) (fidAt fid 1 (col k j)) (fidAt fid 2 (col k j)) (r + 3) := by
  unfold triRow; rw [if_neg (by omega), if_pos (by omega), Nat.add_sub_cancel, ← hv j, ← hw j]; rfl
theorem row_edge2 {r : ℕ} (hr : r < 3) {v w : Vec F S16 .f32} (hv : IsVtx cage fid k 0 r v) (hw : IsVtx cage fid k 2 r w) (j : S16.Idx) :
    subf w v j = triRow cage (fidAt fid 0 (col k j)) (fidAt fid 1 (col k j)) (fidAt fid 2 (col k j)) (r + 6) := by
  unfold triRow; rw [if_neg (by omega), if_neg (by omega), Nat.add_sub_cancel, ← hv j, ← hw j]; rfl

theorem store_val {off : Fin S16x1280.rank → ℕ} {inb} (row : ℕ) (hoff : off = ![row, 16 * k.val]) (v : Vec F S16 .f32)
    (hv : ∀ j, v j = triRow cage (fidAt fid 0 (col k j)) (fidAt fid 1 (col k j)) (fidAt fid 2 (col k j)) row) (x : S1x16.Idx) :
    shapeCast S1x16 v shapeCasts_S16_S1x16 x = triG cage fid ((Rect.unit (s := S16x1280) off S1x16.size inb).emb x) := by
  subst hoff
  rw [show shapeCast S1x16 v shapeCasts_S16_S1x16 x = v (fun a => x a.succ) from shapeCast_addUnit_apply ![16] v _ x]
  refine (hv _).trans ?_
  unfold triG
  have e1 : (Rect.unit (s := S16x1280) ![row, 16 * k.val] S1x16.size inb).emb x 1 = col k (fun a => x a.succ) :=
    Fin.ext (show 16 * k.val + 1 * (x 1).val = 16 * k.val + (x 1).val by omega)
  have e0 : ((Rect.unit (s := S16x1280) ![row, 16 * k.val] S1x16.size inb).emb x 0).val = row := by
    have : (x 0).val < 1 := (x 0).isLt
    show row + 1 * (x 0).val = row
    omega
  rw [e1, e0]

/-- The elements a store of a trip's lanes into a row reaches. -/
theorem mem_row {off : Fin S16x1280.rank → ℕ} {inb} {row : ℕ} (hoff : off = ![row, 16 * k.val]) (y : S16x1280.Idx) :
    (∃ x, (Rect.unit (s := S16x1280) off S1x16.size inb).emb x = y) ↔ (y 0).val = row ∧ 16 * k.val ≤ (y 1).val ∧ (y 1).val < 16 * k.val + 16 := by
  subst hoff
  constructor
  · rintro ⟨x, rfl⟩
    have h0 : (x 0).val < 1 := (x 0).isLt
    have h1 : (x 1).val < 16 := (x 1).isLt
    refine ⟨?_, ?_, ?_⟩
    · show row + 1 * (x 0).val = row; omega
    · show 16 * k.val ≤ 16 * k.val + 1 * (x 1).val; omega
    · show 16 * k.val + 1 * (x 1).val < _; omega
  · rintro ⟨h0, h1, h2⟩
    refine ⟨fun | 0 => ⟨0, Nat.one_pos⟩ | 1 => ⟨(y 1).val - 16 * k.val, by show _ < 16; omega⟩, funext fun a => Fin.ext ?_⟩
    match a with
    | 0 => show row + 1 * 0 = _; omega
    | 1 => show 16 * k.val + 1 * ((y 1).val - 16 * k.val) = _; omega
end Vals

theorem triD_zero {n : ℕ} (G f : (⟨2, ![16, n]⟩ : Shape).Idx → F .f32) : f = onSet (triD n 0) G f := by
  rw [show triD n 0 = ∅ from Set.eq_empty_of_forall_notMem fun y h => absurd h.2 (Nat.not_lt_zero _), onSet_empty]

theorem triD_step (k : ℕ) :
    triD 1280 k ∪ {y | (y 0).val = 0 ∧ 16 * k ≤ (y 1).val ∧ (y 1).val < 16 * k + 16} ∪ {y | (y 0).val = 3 ∧ 16 * k ≤ (y 1).val ∧ (y 1).val < 16 * k + 16}
      ∪ {y | (y 0).val = 6 ∧ 16 * k ≤ (y 1).val ∧ (y 1).val < 16 * k + 16} ∪ {y | (y 0).val = 1 ∧ 16 * k ≤ (y 1).val ∧ (y 1).val < 16 * k + 16}
      ∪ {y | (y 0).val = 4 ∧ 16 * k ≤ (y 1).val ∧ (y 1).val < 16 * k + 16} ∪ {y | (y 0).val = 7 ∧ 16 * k ≤ (y 1).val ∧ (y 1).val < 16 * k + 16}
      ∪ {y | (y 0).val = 2 ∧ 16 * k ≤ (y 1).val ∧ (y 1).val < 16 * k + 16} ∪ {y | (y 0).val = 5 ∧ 16 * k ≤ (y 1).val ∧ (y 1).val < 16 * k + 16}
      ∪ {y | (y 0).val = 8 ∧ 16 * k ≤ (y 1).val ∧ (y 1).val < 16 * k + 16} = triD 1280 (k + 1) := by
  ext y
  simp only [triD, Set.mem_union, Set.mem_setOf_eq]
  generalize (y 0).val = a; generalize (y 1).val = b
  omega

section Tile
variable (d : Dev nD) (i : grid0.Coords)
abbrev thr0 : Thread nD τ := V d ((i 0).castLE hcore0) ((i 1).castLE hsub0)

/-- A store of a trip's lanes into one of the nine rows, at the target. -/
theorem tri_store {cage : Vec F S24000 .f32} {fid : Vec F S3x1280 .i32} {f0 : Vec F S16x1280 .f32} {k : Fin k0_t1_loop.trips}
    {off : Fin S16x1280.rank → ℕ} {inb : ∀ a, off a + S1x16.size a ≤ S16x1280.size a} {row : ℕ} {A : Set S16x1280.Idx} {v : Vec F S16 .f32} {hx hm}
    {α : Type} {Q : α → sProp (MT nD τ sig (HIx 2) (Elt F) ℕ UU ℕ)} {k' : PUnit → Prog (TpuEff nD τ sig (Elt F) Λ₀ (thr0 d i).2) α}
    (hoff : off = ![row, 16 * k.val])
    (hv : ∀ j, v j = triRow cage (fidAt fid 0 (col k j)) (fidAt fid 1 (col k j)) (fidAt fid 2 (col k j)) row) :
    ((sOut).view.loc (thr0 d i) ↦{fullShare} onSet A (triG cage fid) f0 : sProp (MT nD τ sig (HIx 2) (Elt F) ℕ UU ℕ))
      ⊢ iprop((((sOut).view.loc (thr0 d i) ↦{fullShare}
              onSet (A ∪ {y | (y 0).val = row ∧ 16 * k.val ≤ (y 1).val ∧ (y 1).val < 16 * k.val + 16}) (triG cage fid) f0)
          -∗ wp frame (wpE (defs₀ (F := F)) 𝒱₀ (thr0 d i) none) Set.univ (k' ⟨⟩) Q)
        -∗ wp frame (wpE (defs₀ (F := F)) 𝒱₀ (thr0 d i) none) Set.univ
            (.op (.store (sOut) (Rect.unit (s := S16x1280) off S1x16.size inb) (shapeCast S1x16 v shapeCasts_S16_S1x16) Finset.univ hx hm) k') Q) := by
  refine step_store (m := sOut) ?_
  refine (write_onSet (b := cc0_scratch2) (Rect.unit (s := S16x1280) off S1x16.size inb) A (triG cage fid) f0 _ (store_val row hoff v hv)).trans ?_
  congr 2; ext y; exact mem_row hoff y

theorem tri_trip (cage : Vec F S24000 .f32) (fid : Vec F S3x1280 .i32) (f0 : Vec F S16x1280 .f32)
    (hfid : ∀ y, (fid y).toNat < 8000) (k : Fin k0_t1_loop.trips) (a : BitVec 32) (R : sProp 𝕄) :
    iprop(((sCage).view.loc (thr0 d i) ↦{fullShare} cage) ∗ ((sFid).view.loc (thr0 d i) ↦{fullShare} fid)
        ∗ ((sOut).view.loc (thr0 d i) ↦{fullShare} onSet (triD 1280 k.val) (triG cage fid) f0) ∗ R)
      ⊢ wp frame (wpE (defs₀ (F := F)) 𝒱₀ (thr0 d i) none) Set.univ
          (k0_t1_body i cageW (Memref.isWhole_whole _) fidsW (Memref.isWhole_whole _) triW (Memref.isWhole_whole _) sCage (Memref.isWhole_whole _)
            sFid (Memref.isWhole_whole _) sOut (Memref.isWhole_whole _) cc0_scoped0 cc0_scoped1 cc0_scoped2 k a)
          fun _ => iprop(((sCage).view.loc (thr0 d i) ↦{fullShare} cage) ∗ ((sFid).view.loc (thr0 d i) ↦{fullShare} fid)
            ∗ ((sOut).view.loc (thr0 d i) ↦{fullShare} onSet (triD 1280 (k.val + 1)) (triG cage fid) f0) ∗ R) := by
  unfold k0_t1_body
  simp only [k0_part1_eq_skeleton, k0_part2_eq_skeleton]
  unfold k0_part1_skel k0_part2_skel
  simp only [Prog.lift, Prog.bind_op, Prog.bind_ret, Prog.pure_eq_ret, Prog.bind_assoc]
  iintro ⟨Hc, Hf, Ho, HR⟩
  iapply (step_load (m := sFid) (IsRow fid k 0) (fun j => ldRow_apply 0 (k0_off2_eq k) j)) $$ Hf; iintro %l0 %hl0 Hf
  iapply (step_load (m := sFid) (IsRow fid k 1) (fun j => ldRow_apply 1 (k0_off3_eq k) j)) $$ Hf; iintro %l1 %hl1 Hf
  iapply (step_load (m := sFid) (IsRow fid k 2) (fun j => ldRow_apply 2 (k0_off4_eq k) j)) $$ Hf; iintro %l2 %hl2 Hf
  iapply (step_gather (base := sCage) (gix_chk hfid hl0 0#32 (by decide)) (IsVtx cage fid k 0 0) (gather_apply hfid hl0 0#32 (by decide) _)) $$ Hc; iintro %v00 %hv00 Hc
  iapply (step_gather (base := sCage) (gix_chk hfid hl1 0#32 (by decide)) (IsVtx cage fid k 1 0) (gather_apply hfid hl1 0#32 (by decide) _)) $$ Hc; iintro %v10 %hv10 Hc
  iapply (step_gather (base := sCage) (gix_chk hfid hl2 0#32 (by decide)) (IsVtx cage fid k 2 0) (gather_apply hfid hl2 0#32 (by decide) _)) $$ Hc; iintro %v20 %hv20 Hc
  iapply (step_load (m := sOut) (fun _ => True) trivial) $$ Ho; iintro %_ %_ Ho
  iapply (tri_store d i (row := 0) (k0_off5_eq k) (row_vtx (by decide) hv00)) $$ Ho; iintro Ho
  iapply (step_load (m := sOut) (fun _ => True) trivial) $$ Ho; iintro %_ %_ Ho
  iapply (tri_store d i (row := 3) (k0_off6_eq k) (row_edge1 (by decide) hv00 hv10)) $$ Ho; iintro Ho
  iapply (step_load (m := sOut) (fun _ => True) trivial) $$ Ho; iintro %_ %_ Ho
  iapply (tri_store d i (row := 6) (k0_off7_eq k) (row_edge2 (by decide) hv00 hv20)) $$ Ho; iintro Ho
  iapply (step_gather (base := sCage) (gix_chk hfid hl0 1#32 (by decide)) (IsVtx cage fid k 0 1) (gather_apply hfid hl0 1#32 (by decide) _)) $$ Hc; iintro %v01 %hv01 Hc
  iapply (step_gather (base := sCage) (gix_chk hfid hl1 1#32 (by decide)) (IsVtx cage fid k 1 1) (gather_apply hfid hl1 1#32 (by decide) _)) $$ Hc; iintro %v11 %hv11 Hc
  iapply (step_gather (base := sCage) (gix_chk hfid hl2 1#32 (by decide)) (IsVtx cage fid k 2 1) (gather_apply hfid hl2 1#32 (by decide) _)) $$ Hc; iintro %v21 %hv21 Hc
  iapply (step_load (m := sOut) (fun _ => True) trivial) $$ Ho; iintro %_ %_ Ho
  iapply (tri_store d i (row := 1) (k0_off8_eq k) (row_vtx (by decide) hv01)) $$ Ho; iintro Ho
  iapply (step_load (m := sOut) (fun _ => True) trivial) $$ Ho; iintro %_ %_ Ho
  iapply (tri_store d i (row := 4) (k0_off9_eq k) (row_edge1 (by decide) hv01 hv11)) $$ Ho; iintro Ho
  iapply (step_load (m := sOut) (fun _ => True) trivial) $$ Ho; iintro %_ %_ Ho
  iapply (tri_store d i (row := 7) (k0_off10_eq k) (row_edge2 (by decide) hv01 hv21)) $$ Ho; iintro Ho
  iapply (step_gather (base := sCage) (gix_chk hfid hl0 2#32 (by decide)) (IsVtx cage fid k 0 2) (gather_apply hfid hl0 2#32 (by decide) _)) $$ Hc; iintro %v02 %hv02 Hc
  iapply (step_gather (base := sCage) (gix_chk hfid hl1 2#32 (by decide)) (IsVtx cage fid k 1 2) (gather_apply hfid hl1 2#32 (by decide) _)) $$ Hc; iintro %v12 %hv12 Hc
  iapply (step_gather (base := sCage) (gix_chk hfid hl2 2#32 (by decide)) (IsVtx cage fid k 2 2) (gather_apply hfid hl2 2#32 (by decide) _)) $$ Hc; iintro %v22 %hv22 Hc
  iapply (step_load (m := sOut) (fun _ => True) trivial) $$ Ho; iintro %_ %_ Ho
  iapply (tri_store d i (row := 2) (k0_off11_eq k) (row_vtx (by decide) hv02)) $$ Ho; iintro Ho
  iapply (step_load (m := sOut) (fun _ => True) trivial) $$ Ho; iintro %_ %_ Ho
  iapply (tri_store d i (row := 5) (k0_off12_eq k) (row_edge1 (by decide) hv02 hv12)) $$ Ho; iintro Ho
  iapply (step_load (m := sOut) (fun _ => True) trivial) $$ Ho; iintro %_ %_ Ho
  iapply (tri_store d i (row := 8) (k0_off13_eq k) (row_edge2 (by decide) hv02 hv22)) $$ Ho; iintro Ho
  sl_step
  isplitl [Hc]; · iexact Hc
  isplitl [Hf]; · iexact Hf
  isplitl [Ho]
  · refine Entails.of_eq (congrArg (fun A => ((sOut).view.loc (thr0 d i) ↦{fullShare} onSet A (triG cage fid) f0 : sProp 𝕄)) ?_)
    exact triD_step k.val
  · iexact HR
end Tile
end Cert.Proof.I
-- ==== Proof.I.TriBody.lean ====
/-
  The first SparseCore call's whole body on one tile: its copies in, its loop by the trip's triple, its copy out, with the
  values that the tile's columns hold afterwards.
-/
module

public import proofs.«01_k».proof.Proof.I.TriTile

@[expose] public section

noncomputable section

namespace Cert.Proof.I

open Cert.KernelIdeal Cert.KernelIdeal.Gen

open Idealize.ShloMosaic
open Idealize.ShloMosaic.SparseCore (S V T)
open Idealize.ShloMosaic.SparseCore.Cfg (HIx Pay ownSems0 ownBufs ownCells ownRefs mem_ownCells)
open Idealize.SL Idealize.SL.RA
open Idealize.SL.BI (sProp bigSep bigSep_emp_const)
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 2) (Elt F) ℕ UU ℕ

section Tile
variable (d : Dev nD) (i : grid0.Coords)

/-- The columns of the two arrays that a tile takes, as the program slices them. -/
abbrev fidsSl : Memref sig .scVector .hbm S3x1280 .i32 :=
  (fidsW).slice (Rect.unit (s := S3x40960) (k0_off1 i) S3x1280.size (k0_off1_inb i)) (fun _ => rfl)
abbrev triSl : Memref sig .scVector .hbm S16x1280 .f32 :=
  (triW).slice (Rect.unit (s := S16x40960) (k0_off14 i) S16x1280.size (k0_off14_inb i)) (fun _ => rfl)

abbrev sm0a (d : Dev nD) (i : grid0.Coords) : GSem nD τ sig := (thr0 d i, .dma cc0_scoped0.sem)
abbrev sm0b (d : Dev nD) (i : grid0.Coords) : GSem nD τ sig := (thr0 d i, .dma cc0_scoped1.sem)
abbrev sm0c (d : Dev nD) (i : grid0.Coords) : GSem nD τ sig := (thr0 d i, .dma cc0_scoped2.sem)

omit [FloatOps F] in
theorem ownSems_tri :
    (ownSems0 (thr0 d i) : sProp 𝕄)
      = iprop(semVal (sm0a d i) 0 ∗ semVal (sm0b d i) 0 ∗ semVal (sm0c d i) 0
          ∗ bigSep ((((ownCells (thr0 d i)).erase (sm0a d i)).erase (sm0b d i)).erase (sm0c d i)) fun g => semVal g 0) := by
  unfold SparseCore.Cfg.ownSems0
  rw [SparseCore.bigSep_erase' ((mem_ownCells (g := sm0a d i)).mpr ⟨rfl, by
      show (SemLoc.dma cc0_scoped0.sem : SemLoc sig).isScoped .scVector = true; decide⟩),
    SparseCore.bigSep_erase' (Finset.mem_erase.mpr ⟨by simp [sm0a, sm0b]; decide, (mem_ownCells (g := sm0b d i)).mpr ⟨rfl, by
      show (SemLoc.dma cc0_scoped1.sem : SemLoc sig).isScoped .scVector = true; decide⟩⟩),
    SparseCore.bigSep_erase' (Finset.mem_erase.mpr ⟨by simp [sm0b, sm0c]; decide, Finset.mem_erase.mpr ⟨by simp [sm0a, sm0c]; decide,
      (mem_ownCells (g := sm0c d i)).mpr ⟨rfl, by show (SemLoc.dma cc0_scoped2.sem : SemLoc sig).isScoped .scVector = true; decide⟩⟩⟩)]

abbrev prc0 (i : grid0.Coords) : Proc τ := .scVector ((i 0).castLE hcore0) ((i 1).castLE hsub0)

omit [FloatOps F] in
theorem ownBufs_tri :
    (ownBufs (thr0 d i) : sProp 𝕄)
      = iprop((∃ f, (sCage).view.loc (thr0 d i) ↦{fullShare} f) ∗ (∃ f, (sFid).view.loc (thr0 d i) ↦{fullShare} f)
          ∗ (∃ f, (sOut).view.loc (thr0 d i) ↦{fullShare} f)
          ∗ bigSep ((((ownRefs (τ := τ) (prc0 i)).erase ((prc0 i).devRef cc0_scratch0)).erase ((prc0 i).devRef cc0_scratch1)).erase ((prc0 i).devRef cc0_scratch2))
              fun b => iprop(∃ f, ((d, b) : Loc nD τ sig) ↦{fullShare} f)) := by
  unfold SparseCore.Cfg.ownBufs
  refine (SparseCore.bigSep_erase' (SparseCore.Cfg.mem_ownRefs_of_owner (p := prc0 i) (b := (prc0 i).devRef cc0_scratch0) rfl)).trans ?_
  rw [SparseCore.bigSep_erase' (Finset.mem_erase.mpr ⟨fun e => absurd (Proc.devRef_injective _ e) (show (cc0_scratch1 : Ref sig .scVector) ≠ cc0_scratch0 by decide),
      SparseCore.Cfg.mem_ownRefs_of_owner (p := prc0 i) (b := (prc0 i).devRef cc0_scratch1) rfl⟩),
    SparseCore.bigSep_erase' (Finset.mem_erase.mpr ⟨fun e => absurd (Proc.devRef_injective _ e) (show (cc0_scratch2 : Ref sig .scVector) ≠ cc0_scratch1 by decide),
      Finset.mem_erase.mpr ⟨fun e => absurd (Proc.devRef_injective _ e) (show (cc0_scratch2 : Ref sig .scVector) ≠ cc0_scratch0 by decide),
        SparseCore.Cfg.mem_ownRefs_of_owner (p := prc0 i) (b := (prc0 i).devRef cc0_scratch2) rfl⟩⟩)]

/-- What a tile is handed of the call's arrays, and what it hands back: its columns at the target in the rows below 9. -/
def triGo (q : PosShare TreeShare) (cage : Vec F S24000 .f32) (fids : Vec F S3x40960 .i32) (f : Vec F S16x40960 .f32) : sProp 𝕄 :=
  iprop(((cageW).view.loc (thr0 d i) ↦{q} cage) ∗ ((fidsW).view.loc (thr0 d i) ↦{q} fids) ∗ ((triSl i).view.loc (thr0 d i) ↦[(triSl i).view.set]{fullShare} f))
def triTd (q : PosShare TreeShare) (cage : Vec F S24000 .f32) (fids : Vec F S3x40960 .i32) : sProp 𝕄 :=
  iprop(((cageW).view.loc (thr0 d i) ↦{q} cage) ∗ ((fidsW).view.loc (thr0 d i) ↦{q} fids)
    ∗ ∃ f, ⌜∀ y ∈ (triSl i).view.set, (y 0).val < 9 → f y = triG cage fids y⌝ ∗ ((triSl i).view.loc (thr0 d i) ↦[(triSl i).view.set]{fullShare} f))

/-- Column `x 1` of the tile's own indices is the column of the whole array's that its block of the result has there. -/
theorem fidAt_slice (fids : Vec F S3x40960 .i32) (k : Fin 3) (x : S16x1280.Idx) :
    fidAt ((fidsSl i).view.read (Elt F) fids) k (x 1) = fidAt fids k ((triSl i).view.emb x 1) := by
  unfold fidAt
  refine congrArg fids (funext fun a => Fin.ext ?_)
  have h1 := k0_off1_eq i
  have h14 := k0_off14_eq i
  match a with
  | 0 => show k0_off1 i 0 + 1 * k.val = k.val; rw [h1]; show 0 + 1 * k.val = _; omega
  | 1 => show k0_off1 i 1 + 1 * (x 1).val = k0_off14 i 1 + 1 * (x 1).val; rw [h1, h14]

theorem row_slice (x : S16x1280.Idx) : ((triSl i).view.emb x 0).val = (x 0).val := by
  have h14 := k0_off14_eq i
  show k0_off14 i 0 + 1 * (x 0).val = (x 0).val
  rw [h14]; show 0 + 1 * (x 0).val = _; omega

theorem triG_slice (cage : Vec F S24000 .f32) (fids : Vec F S3x40960 .i32) (x : S16x1280.Idx) :
    triG cage ((fidsSl i).view.read (Elt F) fids) x = triG cage fids ((triSl i).view.emb x) := by
  unfold triG
  rw [fidAt_slice, fidAt_slice, fidAt_slice, row_slice]

theorem mem_done (x : S16x1280.Idx) (h9 : (x 0).val < 9) : x ∈ triD 1280 80 := by
  have hx1 : (x 1).val < 1280 := (x 1).isLt
  refine ⟨h9, ?_⟩
  generalize (x 1).val = a at hx1
  omega

/-- What the copy out leaves in the tile's columns. -/
theorem tri_out (cage : Vec F S24000 .f32) (fids : Vec F S3x40960 .i32) (f : Vec F S16x40960 .f32) (f0 : Vec F S16x1280 .f32) (w : S16x1280.Idx → F .f32)
    (hw : w = onSet (triD 1280 80) (triG cage ((fidsSl i).view.read (Elt F) fids)) f0)
    (y : S16x40960.Idx) (hy : y ∈ (triSl i).view.set) (h9 : (y 0).val < 9) :
    (triSl i).view.writes (Elt F) f [⟨Rect.whole S16x1280, w⟩] y = triG cage fids y := by
  have hw' : ∀ x, x ∈ triD 1280 80 → w x = triG cage ((fidsSl i).view.read (Elt F) fids) x := fun x hx => by rw [hw]; exact onSet_of_mem hx
  clear hw
  have key : ∀ x, ((triSl i).view.emb x 0).val < 9 → (triSl i).view.writes (Elt F) f [⟨Rect.whole S16x1280, w⟩] ((triSl i).view.emb x) = triG cage fids ((triSl i).view.emb x) := by
    intro x h
    have h2 := congrFun (View.read_writes_whole (triSl i).view f w) x
    rw [row_slice] at h
    rw [← triG_slice, ← hw' x (mem_done x h)]
    generalize (triSl i).view.writes (Elt F) f [⟨Rect.whole S16x1280, w⟩] = g at h2 ⊢
    exact h2
  obtain ⟨x, hx, e⟩ := Finset.mem_map.mp hy
  rw [← e] at h9 ⊢
  exact key x h9

/-- The loop's invariant. -/
def triInv (cage : Vec F S24000 .f32) (fid : Vec F S3x1280 .i32) (f0 : Vec F S16x1280 .f32) (R : sProp 𝕄) (k : ℕ) (_ : BitVec 32) : sProp 𝕄 :=
  iprop(((sCage).view.loc (thr0 d i) ↦{fullShare} cage) ∗ ((sFid).view.loc (thr0 d i) ↦{fullShare} fid)
    ∗ ((sOut).view.loc (thr0 d i) ↦{fullShare} onSet (triD 1280 k) (triG cage fid) f0) ∗ R)

set_option maxHeartbeats 1000000 in
theorem tri_body (q : PosShare TreeShare) (cage : Vec F S24000 .f32) (fids : Vec F S3x40960 .i32) (f : Vec F S16x40960 .f32)
    (hfids : ∀ y, (fids y).toNat < 8000) (O : CellTallies nD τ sig (HIx 2)) (W : Waits sig (HIx 2)) (hO : ∀ g, O g none = 0) :
    iprop(levAts (K (F := F)).L (K (F := F)).lev ∗ emp ∗ triGo d i q cage fids f
        ∗ scopedBufs (thr0 d i) ∗ scopedSems0 (thr0 d i) ∗ owes (thr0 d i) O W)
      ⊢ wp frame (wpE (defs₀ (F := F)) 𝒱₀ (thr0 d i) none) Set.univ
          (cc0_k i cageW (Memref.isWhole_whole _) fidsW (Memref.isWhole_whole _) triW (Memref.isWhole_whole _) sCage (Memref.isWhole_whole _)
            sFid (Memref.isWhole_whole _) sOut (Memref.isWhole_whole _) cc0_scoped0 cc0_scoped1 cc0_scoped2)
          fun _ => iprop(triTd d i q cage fids ∗ scopedBufs (thr0 d i) ∗ scopedSems0 (thr0 d i)
            ∗ ∃ W', ⌜∀ p ∈ W', p ∈ W ∨ p.2 = none⌝ ∗ owes (thr0 d i) O W') := by
  simp only [cc0_k_eq_skeleton]; unfold cc0_k_skel
  unfold triGo triTd
  rw [(K (F := F)).scopedBufs_V facts d _ _, SparseCore.Cfg.scopedSems0_V (Val := Elt F) d _ _, ownSems_tri, ownBufs_tri]
  iintro ⟨#Hlv, -, ⟨Hcg, Hfd, Ht⟩, ⟨⟨%fc, Hc⟩, ⟨%ff, Hf⟩, ⟨%f0, Ho⟩, Hbufs⟩, ⟨HsA, HsB, HsC, Hsems⟩, HO⟩
  ihave Hmw := (show levAts (K (F := F)).L (K (F := F)).lev ⊢ Transfers.MayWaits (thr0 d i) (default : HIx 2) O from
    (K (F := F)).mayWaits_none (thr := thr0 d i) hO) $$ Hlv
  sl_exec
  sl_for (triInv d i cage ((fidsSl i).view.read (Elt F) fids) f0 (Transfers.MayWaits (thr0 d i) (default : HIx 2) O)) $$ [Hmw Hc Hf Ho]
  case region =>
    intro k a
    exact tri_trip d i cage _ f0 (fun y => hfids _) k a _
  · unfold triInv
    isplitl [Hc]; · iapply (Entails.of_eq (congrArg (fun g => ((sCage).view.loc (thr0 d i) ↦{fullShare} g : sProp 𝕄)) (View.write_whole_univ cc0_scratch0 fc _))); iexact Hc
    isplitl [Hf]; · iapply (Entails.of_eq (congrArg (fun g => ((sFid).view.loc (thr0 d i) ↦{fullShare} g : sProp 𝕄)) (View.write_whole_univ cc0_scratch1 ff _))); iexact Hf
    isplitl [Ho]
    · iapply (Entails.of_eq (congrArg (fun g => ((sOut).view.loc (thr0 d i) ↦{fullShare} g : sProp 𝕄)) (triD_zero _ _))); iexact Ho
    iexact Hmw
  iintro %_ HI
  unfold triInv
  icases HI with ⟨Hc, Hf, Ho, Hmw⟩
  sl_exec
  sl_step
  isplitl [Hcg Hfd Ht]
  · isplitl [Hcg]; · iexact Hcg
    isplitl [Hfd]; · iexact Hfd
    iexists _; isplitr
    swap; · iexact Ht
    ipureintro
    exact tri_out i cage fids f f0 _ rfl
  isplitl [Hc Hf Ho Hbufs]
  · isplitl [Hc]; · iexists _; iexact Hc
    isplitl [Hf]; · iexists _; iexact Hf
    isplitl [Ho]; · iexists _; iexact Ho
    iexact Hbufs
  isplitl [HsA HsB HsC Hsems]
  · isplitl [HsA]; · iexact HsA
    isplitl [HsB]; · iexact HsB
    isplitl [HsC]; · iexact HsC
    iexact Hsems
  iexists _; isplitr
  swap; · iexact HO
  ipureintro; intro p hp
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  exact .inl hp
end Tile
end Cert.Proof.I
-- ==== Proof.I.TetTile.lean ====
/-
  The second SparseCore call's loop on one tile: one trip of sixteen rays, with the values it leaves.
-/
module

public import proofs.«01_k».proof.Proof.I.TriTile

@[expose] public section

noncomputable section

namespace Cert.Proof.I

open Cert.KernelIdeal Cert.KernelIdeal.Gen

open Idealize.ShloMosaic
open Idealize.ShloMosaic.SparseCore (S V T)
open Idealize.ShloMosaic.SparseCore.Cfg (HIx Pay)
open Idealize.SL Idealize.SL.RA
open Idealize.SL.BI (sProp bigSep bigSep_emp_const)
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 2) (Elt F) ℕ UU ℕ

abbrev fixW : Memref sig .scVector .hbm S4096 .i32 := Memref.whole main_arg3_scv
abbrev t2tW : Memref sig .scVector .hbm S40000 .i32 := Memref.whole main_arg2_scv
abbrev tvidW : Memref sig .scVector .hbm S40000 .i32 := Memref.whole main_v14_scv
abbrev tetW : Memref sig .scVector .hbm S4096 .i32 := Memref.whole main_v15_0_scv
abbrev vertW : Memref sig .scVector .hbm S4096x16 .f32 := Memref.whole main_v15_1_scv
abbrev sT2t : Memref sig .scVector .vmem S40000 .i32 := Memref.whole cc1_scratch0
abbrev sTvid : Memref sig .scVector .vmem S40000 .i32 := Memref.whole cc1_scratch1
abbrev sCage1 : Memref sig .scVector .vmem S24000 .f32 := Memref.whole cc1_scratch2
abbrev sFix : Memref sig .scVector .vmem S128 .i32 := Memref.whole cc1_scratch3
abbrev sTet : Memref sig .scVector .vmem S128 .i32 := Memref.whole cc1_scratch4
abbrev sVert : Memref sig .scVector .vmem S128x16 .f32 := Memref.whole cc1_scratch5

/-! ## The values -/

theorem pos40000 : 0 < 40000 := by decide

/-- The tetrahedron of a face. -/
def tetOf (t2t : Vec F S40000 .i32) (w : BitVec 32) : BitVec 32 := at1 pos40000 t2t w.toNat
/-- Corner `kk` of a tetrahedron, out of the table of the corners laid out corner by corner. -/
def vidOf (tvid : Vec F S40000 .i32) (t : BitVec 32) (kk : ℕ) : BitVec 32 := at1 pos40000 tvid (t.toNat + kk * 10000)

def ix1 {n : ℕ} (j : Fin n) : (⟨1, ![n]⟩ : Shape).Idx := fun | 0 => j

/-- What the call writes at ray `y` of its first result. -/
def tetG {n : ℕ} (t2t : Vec F S40000 .i32) (fx : Vec F ⟨1, ![n]⟩ .i32) (y : (⟨1, ![n]⟩ : Shape).Idx) : BitVec 32 := tetOf (F := F) t2t (fx (ix1 (y 0)))

/-- Coordinate `c` of corner `kk` of a face's tetrahedron. -/
def crd (cage : Vec F S24000 .f32) (tvid t2t : Vec F S40000 .i32) (w : BitVec 32) (kk c : ℕ) : F .f32 :=
  vtx cage (vidOf (F := F) tvid (tetOf (F := F) t2t w) kk) c

/-- What the call writes at ray `y 0`, column `y 1` of its second result (its columns below 12). -/
def vertG {n : ℕ} (cage : Vec F S24000 .f32) (tvid t2t : Vec F S40000 .i32) (fx : Vec F ⟨1, ![n]⟩ .i32) (y : (⟨2, ![n, 16]⟩ : Shape).Idx) : F .f32 :=
  crd cage tvid t2t (fx (ix1 (y 0))) ((y 1).val / 3) ((y 1).val % 3)

def tetD (n k : ℕ) : Set (⟨1, ![n]⟩ : Shape).Idx := {y | (y 0).val < 16 * k}
def vertD (n k : ℕ) : Set (⟨2, ![n, 16]⟩ : Shape).Idx := {y | (y 0).val < 16 * k ∧ (y 1).val < 12}

/-- A trip's lane's ray. -/
def ray (k : Fin k1_t1_loop.trips) (j : S16.Idx) : Fin 128 :=
  ⟨16 * k.val + (j 0).val, by
    have hk : k.val < 8 := k.isLt
    have hj : (j 0).val < 16 := (j 0).isLt
    omega⟩

/-- The words a lane gathers its corner's id at, and the corner's coordinate. -/
abbrev tix (t : IVec S16 32) (c : BitVec 32) : IVec S16 32 := addi t (broadcast S16 c)
abbrev vix (v : IVec S16 32) (c : BitVec 32) : IVec S16 32 := addi (muli v (broadcast S16 3#32)) (broadcast S16 c)

/-- The rays of a trip's lanes, as the program computes them. -/
abbrev rix (k : Fin k1_t1_loop.trips) : IVec S16 32 := k1_pay6 0#32 1#32 k

theorem rix_toNat (k : Fin k1_t1_loop.trips) (j : S16.Idx) : (rix k j).toNat = 16 * k.val + (j 0).val := by
  have hk : k.val < 8 := k.isLt
  have hj : (j 0).val < 16 := (j 0).isLt
  have e : rix k j = (0#32 + 1#32 * BitVec.ofNat 32 k.val) * 16#32 + BitVec.ofNat 32 (j 0).val := by
    show _ + iota .scVector S16 32 [0] iota_S16_d0_w32_scVector j = _
    rw [iota_single_apply]
    simp [Scf.iv, Scalar.muli, BitVec.mul_comm]
    rfl
  rw [e]
  generalize (j 0).val = b at hj ⊢
  generalize k.val = a at hk ⊢
  simp only [BitVec.toNat_add, BitVec.toNat_mul, BitVec.toNat_ofNat]
  omega

section Vals
variable {cage : Vec F S24000 .f32} {tvid t2t : Vec F S40000 .i32} {fx : Vec F S128 .i32} {k : Fin k1_t1_loop.trips}

def IsFx (fx : Vec F S128 .i32) (k : Fin k1_t1_loop.trips) (v : Vec F S16 .i32) : Prop := ∀ j : S16.Idx, v j = fx (ix1 (ray k j))
def IsTet (t2t : Vec F S40000 .i32) (fx : Vec F S128 .i32) (k : Fin k1_t1_loop.trips) (v : Vec F S16 .i32) : Prop :=
  ∀ j : S16.Idx, v j = tetOf (F := F) t2t (fx (ix1 (ray k j)))
def IsVid (tvid t2t : Vec F S40000 .i32) (fx : Vec F S128 .i32) (k : Fin k1_t1_loop.trips) (kk : ℕ) (v : Vec F S16 .i32) : Prop :=
  ∀ j : S16.Idx, v j = vidOf (F := F) tvid (tetOf (F := F) t2t (fx (ix1 (ray k j)))) kk
def IsCrd (cage : Vec F S24000 .f32) (tvid t2t : Vec F S40000 .i32) (fx : Vec F S128 .i32) (k : Fin k1_t1_loop.trips) (kk c : ℕ) (v : Vec F S16 .f32) : Prop :=
  ∀ j : S16.Idx, v j = crd cage tvid t2t (fx (ix1 (ray k j))) kk c

theorem fx_load {off : Fin S128.rank → ℕ} {inb : ∀ a, off a + S16.size a ≤ S128.size a} (hoff : off = ![16 * k.val]) :
    IsFx fx k ((sFix).view.readAt (Elt F) (Rect.unit (s := S128) off S16.size inb).toLoadRect fx) := by
  intro j
  subst hoff
  refine congrArg fx (funext fun a => Fin.ext ?_)
  match a with
  | 0 => show 16 * k.val + 1 * (j 0).val = 16 * k.val + (j 0).val; omega

theorem fx_chk (hfx : ∀ y, (fx y).toNat < 40000) {v : Vec F S16 .i32} (hv : IsFx fx k v) :
    ∀ a x, ((![v] : Fin 1 → IVec S16 32) a x).toNat < S40000.size a := by
  intro a x
  obtain rfl : a = 0 := Subsingleton.elim _ _
  show (v x).toNat < 40000
  rw [hv x]; exact hfx _

theorem tet_gather {v : Vec F S16 .i32} (hv : IsFx fx k v) (h : ∀ a x, ((![v] : Fin 1 → IVec S16 32) a x).toNat < S40000.size a) :
    IsTet t2t fx k (loadIdx (((sT2t).access (.whole S40000)).read (Elt F) t2t) ![v] h) := by
  intro j
  rw [show ((sT2t).access (.whole S40000)).read (Elt F) t2t = t2t from read_access_whole cc1_scratch0 t2t]
  refine (loadIdx_at1 pos40000 _ _ h j).trans ?_
  rw [hv j]; rfl

theorem tix_toNat (ht : ∀ y, (t2t y).toNat < 10000) {v : Vec F S16 .i32} (hv : IsTet t2t fx k v) (c : BitVec 32) (kk : ℕ) (hk : kk < 4) (hc : c.toNat = kk * 10000)
    (j : S16.Idx) : (tix v c j).toNat = (tetOf (F := F) t2t (fx (ix1 (ray k j)))).toNat + kk * 10000 := by
  have h1 : (tetOf (F := F) t2t (fx (ix1 (ray k j)))).toNat < 10000 := ht _
  show (v j + c).toNat = _
  rw [hv j, BitVec.toNat_add, hc]
  omega

theorem tix_chk (ht : ∀ y, (t2t y).toNat < 10000) {v : Vec F S16 .i32} (hv : IsTet t2t fx k v) (c : BitVec 32) (kk : ℕ) (hk : kk < 4) (hc : c.toNat = kk * 10000) :
    ∀ a x, ((![tix v c] : Fin 1 → IVec S16 32) a x).toNat < S40000.size a := by
  intro a x
  obtain rfl : a = 0 := Subsingleton.elim _ _
  show (tix v c x).toNat < 40000
  rw [tix_toNat ht hv c kk hk hc]
  have h1 : (tetOf (F := F) t2t (fx (ix1 (ray k x)))).toNat < 10000 := ht _
  omega

theorem vid_gather (ht : ∀ y, (t2t y).toNat < 10000) {v : Vec F S16 .i32} (hv : IsTet t2t fx k v) (c : BitVec 32) (kk : ℕ) (hk : kk < 4) (hc : c.toNat = kk * 10000)
    (h : ∀ a x, ((![tix v c] : Fin 1 → IVec S16 32) a x).toNat < S40000.size a) :
    IsVid tvid t2t fx k kk (loadIdx (((sTvid).access (.whole S40000)).read (Elt F) tvid) ![tix v c] h) := by
  intro j
  rw [show ((sTvid).access (.whole S40000)).read (Elt F) tvid = tvid from read_access_whole cc1_scratch1 tvid]
  refine (loadIdx_at1 pos40000 _ _ h j).trans ?_
  rw [tix_toNat ht hv c kk hk hc]; rfl

theorem vix_toNat (hd : ∀ y, (tvid y).toNat < 8000) {kk : ℕ} {v : Vec F S16 .i32} (hv : IsVid tvid t2t fx k kk v) (c : BitVec 32) (hc : c.toNat < 3) (j : S16.Idx) :
    (vix v c j).toNat = (vidOf (F := F) tvid (tetOf (F := F) t2t (fx (ix1 (ray k j)))) kk).toNat * 3 + c.toNat := by
  show (v j * 3#32 + c).toNat = _
  rw [hv j]; exact word3 _ _ (hd _) hc

theorem vix_chk (hd : ∀ y, (tvid y).toNat < 8000) {kk : ℕ} {v : Vec F S16 .i32} (hv : IsVid tvid t2t fx k kk v) (c : BitVec 32) (hc : c.toNat < 3) :
    ∀ a x, ((![vix v c] : Fin 1 → IVec S16 32) a x).toNat < S24000.size a := by
  intro a x
  obtain rfl : a = 0 := Subsingleton.elim _ _
  show (vix v c x).toNat < 24000
  rw [vix_toNat hd hv c hc]
  have h1 : (vidOf (F := F) tvid (tetOf (F := F) t2t (fx (ix1 (ray k x)))) kk).toNat < 8000 := hd _
  omega

theorem crd_gather (hd : ∀ y, (tvid y).toNat < 8000) {kk : ℕ} {v : Vec F S16 .i32} (hv : IsVid tvid t2t fx k kk v) (c : BitVec 32) (hc : c.toNat < 3)
    (h : ∀ a x, ((![vix v c] : Fin 1 → IVec S16 32) a x).toNat < S24000.size a) :
    IsCrd cage tvid t2t fx k kk c.toNat (loadIdx (((sCage1).access (.whole S24000)).read (Elt F) cage) ![vix v c] h) := by
  intro j
  rw [show ((sCage1).access (.whole S24000)).read (Elt F) cage = cage from read_access_whole cc1_scratch2 cage]
  refine (loadIdx_at1 pos24000 _ _ h j).trans ?_
  rw [vix_toNat hd hv c hc]; rfl

/-- The elements a scatter of a trip's lanes into a column reaches. -/
theorem st_chk (k : Fin k1_t1_loop.trips) (c : BitVec 32) (hc : c.toNat < 16) :
    ∀ a x, ((![rix k, broadcast S16 c] : Fin 2 → IVec S16 32) a x).toNat < S128x16.size a := by
  intro a x
  have hk : k.val < 8 := k.isLt
  have hj : (x 0).val < 16 := (x 0).isLt
  match a with
  | 0 =>
    show (rix k x).toNat < 128
    rw [rix_toNat]; omega
  | 1 => exact hc

theorem st_idx (c : BitVec 32) (h : ∀ a x, ((![rix k, broadcast S16 c] : Fin 2 → IVec S16 32) a x).toNat < S128x16.size a) (x : S16.Idx) :
    idxAt (s := S128x16) ![rix k, broadcast S16 c] h x 0 = ray k x ∧ (idxAt (s := S128x16) ![rix k, broadcast S16 c] h x 1).val = c.toNat :=
  ⟨Fin.ext (rix_toNat k x), rfl⟩

theorem st_mem (c : BitVec 32) (h : ∀ a x, ((![rix k, broadcast S16 c] : Fin 2 → IVec S16 32) a x).toNat < S128x16.size a) (y : S128x16.Idx) :
    (∃ x, idxAt (s := S128x16) ![rix k, broadcast S16 c] h x = y) ↔ (y 1).val = c.toNat ∧ 16 * k.val ≤ (y 0).val ∧ (y 0).val < 16 * k.val + 16 := by
  constructor
  · rintro ⟨x, rfl⟩
    have hj : (x 0).val < 16 := (x 0).isLt
    rw [(st_idx c h x).1, (st_idx c h x).2]
    refine ⟨rfl, ?_, ?_⟩
    · show _ ≤ 16 * k.val + (x 0).val; omega
    · show 16 * k.val + (x 0).val < _; omega
  · rintro ⟨h0, h1, h2⟩
    refine ⟨fun | 0 => ⟨(y 0).val - 16 * k.val, by show _ < 16; omega⟩, funext fun a => Fin.ext ?_⟩
    match a with
    | 0 => refine (congrArg Fin.val (st_idx c h _).1).trans ?_; show 16 * k.val + ((y 0).val - 16 * k.val) = _; omega
    | 1 => exact ((st_idx c h _).2).trans h0.symm

theorem mem_rays {off : Fin S128.rank → ℕ} {inb : ∀ a, off a + S16.size a ≤ S128.size a} (hoff : off = ![16 * k.val]) (y : S128.Idx) :
    (∃ x, (Rect.unit (s := S128) off S16.size inb).emb x = y) ↔ 16 * k.val ≤ (y 0).val ∧ (y 0).val < 16 * k.val + 16 := by
  subst hoff
  constructor
  · rintro ⟨x, rfl⟩
    have h1 : (x 0).val < 16 := (x 0).isLt
    refine ⟨?_, ?_⟩
    · show 16 * k.val ≤ 16 * k.val + 1 * (x 0).val; omega
    · show 16 * k.val + 1 * (x 0).val < _; omega
  · rintro ⟨h1, h2⟩
    refine ⟨fun | 0 => ⟨(y 0).val - 16 * k.val, by show _ < 16; omega⟩, funext fun a => Fin.ext ?_⟩
    match a with
    | 0 => show 16 * k.val + 1 * ((y 0).val - 16 * k.val) = _; omega
end Vals

theorem tetD_zero {n : ℕ} {α : Type} (G f : (⟨1, ![n]⟩ : Shape).Idx → α) : f = onSet (tetD n 0) G f := by
  rw [show tetD n 0 = ∅ from Set.eq_empty_of_forall_notMem fun y h => absurd h (Nat.not_lt_zero _), onSet_empty]
theorem vertD_zero {n : ℕ} {α : Type} (G f : (⟨2, ![n, 16]⟩ : Shape).Idx → α) : f = onSet (vertD n 0) G f := by
  rw [show vertD n 0 = ∅ from Set.eq_empty_of_forall_notMem fun y h => absurd h.1 (Nat.not_lt_zero _), onSet_empty]

/-- Column `c` of a trip's sixteen rays. -/
def colD (k c : ℕ) : Set S128x16.Idx := {y | (y 1).val = c ∧ 16 * k ≤ (y 0).val ∧ (y 0).val < 16 * k + 16}

theorem tetD_step (k : ℕ) : tetD 128 k ∪ {y | 16 * k ≤ (y 0).val ∧ (y 0).val < 16 * k + 16} = tetD 128 (k + 1) := by
  ext y
  simp only [tetD, Set.mem_union, Set.mem_setOf_eq]
  generalize (y 0).val = a
  omega

/-- The first `m` columns of a trip's sixteen rays, with every ray before them. -/
def midD (k m : ℕ) : Set S128x16.Idx := {y | ((y 0).val < 16 * k ∧ (y 1).val < 12) ∨ ((y 1).val < m ∧ 16 * k ≤ (y 0).val ∧ (y 0).val < 16 * k + 16)}

theorem midD_step (k m : ℕ) : midD k m ∪ colD k m = midD k (m + 1) := by
  ext y
  simp only [midD, colD, Set.mem_union, Set.mem_setOf_eq]
  generalize (y 0).val = a; generalize (y 1).val = b
  omega
theorem midD_zero (k : ℕ) : vertD 128 k = midD k 0 := by
  ext y
  simp only [midD, vertD, Set.mem_setOf_eq]
  generalize (y 0).val = a; generalize (y 1).val = b
  omega
theorem midD_last (k : ℕ) : midD k 12 = vertD 128 (k + 1) := by
  ext y
  simp only [midD, vertD, Set.mem_setOf_eq]
  generalize (y 0).val = a; generalize (y 1).val = b
  omega

theorem vertD_step (k : ℕ) :
    vertD 128 k ∪ colD k 0 ∪ colD k 1 ∪ colD k 2 ∪ colD k 3 ∪ colD k 4 ∪ colD k 5 ∪ colD k 6 ∪ colD k 7 ∪ colD k 8 ∪ colD k 9 ∪ colD k 10 ∪ colD k 11
      = vertD 128 (k + 1) := by
  rw [midD_zero, midD_step, midD_step, midD_step, midD_step, midD_step, midD_step, midD_step, midD_step, midD_step, midD_step, midD_step, midD_step]
  exact midD_last k

section Tile
variable (d : Dev nD) (i : grid1.Coords)
abbrev thr1 : Thread nD τ := V d ((i 0).castLE hcore1) ((i 1).castLE hsub1)

/-- The store of a trip's tetrahedra, at the target. -/
theorem tet_store {t2t : Vec F S40000 .i32} {fx f0 : Vec F S128 .i32} {k : Fin k1_t1_loop.trips}
    {off : Fin S128.rank → ℕ} {inb : ∀ a, off a + S16.size a ≤ S128.size a} {A : Set S128.Idx} {v : Vec F S16 .i32} {hx hm}
    {α : Type} {Q : α → sProp (MT nD τ sig (HIx 2) (Elt F) ℕ UU ℕ)} {k' : PUnit → Prog (TpuEff nD τ sig (Elt F) Λ₀ (thr1 d i).2) α}
    (hoff : off = ![16 * k.val]) (hv : IsTet t2t fx k v) :
    ((sTet).view.loc (thr1 d i) ↦{fullShare} onSet A (tetG (F := F) t2t fx) f0 : sProp (MT nD τ sig (HIx 2) (Elt F) ℕ UU ℕ))
      ⊢ iprop((((sTet).view.loc (thr1 d i) ↦{fullShare}
              onSet (A ∪ {y | 16 * k.val ≤ (y 0).val ∧ (y 0).val < 16 * k.val + 16}) (tetG (F := F) t2t fx) f0)
          -∗ wp frame (wpE (defs₀ (F := F)) 𝒱₀ (thr1 d i) none) Set.univ (k' ⟨⟩) Q)
        -∗ wp frame (wpE (defs₀ (F := F)) 𝒱₀ (thr1 d i) none) Set.univ
            (.op (.store (sTet) (Rect.unit (s := S128) off S16.size inb) v Finset.univ hx hm) k') Q) := by
  refine step_store (m := sTet) ?_
  refine (write_onSet (b := cc1_scratch4) (Rect.unit (s := S128) off S16.size inb) A (tetG (F := F) t2t fx) f0 _ ?_).trans ?_
  · intro x
    refine (hv x).trans ?_
    unfold tetG
    subst hoff
    rw [show (Rect.unit (s := S128) ![16 * k.val] S16.size inb).emb x 0 = ray k x from
      Fin.ext (show 16 * k.val + 1 * (x 0).val = 16 * k.val + (x 0).val by omega)]
  · congr 2; ext y; exact mem_rays hoff y

/-- A scatter of a trip's coordinates into a column, at the target. -/
theorem vert_store {cage : Vec F S24000 .f32} {tvid t2t : Vec F S40000 .i32} {fx : Vec F S128 .i32} {f0 : Vec F S128x16 .f32} {k : Fin k1_t1_loop.trips}
    {A : Set S128x16.Idx} {v : Vec F S16 .f32} {P : Prop} {hd : Decidable P} {cc : BitVec 32}
    {hP : P → ∀ a x, ((![rix k, broadcast S16 cc] : Fin 2 → IVec S16 32) a x).toNat < S128x16.size a} {hs}
    {α : Type} {Q : α → sProp (MT nD τ sig (HIx 2) (Elt F) ℕ UU ℕ)} {k' : PUnit → Prog (TpuEff nD τ sig (Elt F) Λ₀ (thr1 d i).2) α}
    (h : P) (kk c : ℕ) (hc : c < 3) (hcc : cc.toNat = 3 * kk + c) (hv : IsCrd cage tvid t2t fx k kk c v) :
    ((sVert).view.loc (thr1 d i) ↦{fullShare} onSet A (vertG cage tvid t2t fx) f0 : sProp (MT nD τ sig (HIx 2) (Elt F) ℕ UU ℕ))
      ⊢ iprop((((sVert).view.loc (thr1 d i) ↦{fullShare} onSet (A ∪ colD k.val (3 * kk + c)) (vertG cage tvid t2t fx) f0)
          -∗ wp frame (wpE (defs₀ (F := F)) 𝒱₀ (thr1 d i) none) Set.univ (k' ⟨⟩) Q)
        -∗ wp frame (wpE (defs₀ (F := F)) 𝒱₀ (thr1 d i) none) Set.univ
            (.op (.assume P hd) fun p => SparseCore.vectorStoreIdx sVert ![rix k, broadcast S16 cc] v (fun _ => 1#1) false (hP p.down) hs >>= k') Q) := by
  refine step_scatter (base := sVert) h ?_ ?_
  · exact Memref.set_access_whole cc1_scratch5
  · rw [show ((sVert).access (.whole S128x16)).read (Elt F) (onSet A (vertG cage tvid t2t fx) f0) = onSet A (vertG cage tvid t2t fx) f0 from
      read_access_whole cc1_scratch5 _]
    rw [storeIdx_onSet A (vertG cage tvid t2t fx) f0 _ v (hP h) ?_]
    · refine (Memref.write_access_whole_univ (Elt F) cc1_scratch5 _ _).trans ?_
      congr 2; ext y; refine (st_mem cc (hP h) y).trans ?_; rw [hcc]; rfl
    · intro x
      refine (hv x).trans ?_
      unfold vertG
      rw [(st_idx cc (hP h) x).1, (st_idx cc (hP h) x).2, hcc, show (3 * kk + c) / 3 = kk by omega, show (3 * kk + c) % 3 = c by omega]

theorem tet_trip (cage : Vec F S24000 .f32) (tvid t2t : Vec F S40000 .i32) (fx f0 : Vec F S128 .i32) (g0 : Vec F S128x16 .f32)
    (hfx : ∀ y, (fx y).toNat < 40000) (ht : ∀ y, (t2t y).toNat < 10000) (hd : ∀ y, (tvid y).toNat < 8000)
    (k : Fin k1_t1_loop.trips) (a : BitVec 32) (R : sProp 𝕄) :
    iprop(((sT2t).view.loc (thr1 d i) ↦{fullShare} t2t) ∗ ((sTvid).view.loc (thr1 d i) ↦{fullShare} tvid)
        ∗ ((sCage1).view.loc (thr1 d i) ↦{fullShare} cage) ∗ ((sFix).view.loc (thr1 d i) ↦{fullShare} fx)
        ∗ ((sTet).view.loc (thr1 d i) ↦{fullShare} onSet (tetD 128 k.val) (tetG (F := F) t2t fx) f0)
        ∗ ((sVert).view.loc (thr1 d i) ↦{fullShare} onSet (vertD 128 k.val) (vertG cage tvid t2t fx) g0) ∗ R)
      ⊢ wp frame (wpE (defs₀ (F := F)) 𝒱₀ (thr1 d i) none) Set.univ
          (k1_t1_body i fixW (Memref.isWhole_whole _) t2tW (Memref.isWhole_whole _) tvidW (Memref.isWhole_whole _) cageW (Memref.isWhole_whole _)
            tetW (Memref.isWhole_whole _) vertW (Memref.isWhole_whole _) sT2t (Memref.isWhole_whole _) sTvid (Memref.isWhole_whole _)
            sCage1 (Memref.isWhole_whole _) sFix (Memref.isWhole_whole _) sTet (Memref.isWhole_whole _) sVert (Memref.isWhole_whole _)
            cc1_scoped0 cc1_scoped1 cc1_scoped2 cc1_scoped3 cc1_scoped4 cc1_scoped5 k a)
          fun _ => iprop(((sT2t).view.loc (thr1 d i) ↦{fullShare} t2t) ∗ ((sTvid).view.loc (thr1 d i) ↦{fullShare} tvid)
        ∗ ((sCage1).view.loc (thr1 d i) ↦{fullShare} cage) ∗ ((sFix).view.loc (thr1 d i) ↦{fullShare} fx)
        ∗ ((sTet).view.loc (thr1 d i) ↦{fullShare} onSet (tetD 128 (k.val + 1)) (tetG (F := F) t2t fx) f0)
        ∗ ((sVert).view.loc (thr1 d i) ↦{fullShare} onSet (vertD 128 (k.val + 1)) (vertG cage tvid t2t fx) g0) ∗ R) := by
  unfold k1_t1_body
  simp only [k1_part1_eq_skeleton, k1_part2_eq_skeleton]
  unfold k1_part1_skel k1_part2_skel
  simp only [Prog.lift, Prog.bind_op, Prog.bind_ret, Prog.pure_eq_ret, Prog.bind_assoc]
  iintro ⟨Ht, Hd, Hc, Hf, Ho, Hv, HR⟩
  iapply (step_load (m := sFix) (IsFx fx k) (fx_load (k1_off2_eq k))) $$ Hf; iintro %w %hw Hf
  iapply (step_gather (base := sT2t) (fx_chk hfx hw) (IsTet t2t fx k) (tet_gather hw _)) $$ Ht; iintro %t %htt Ht
  iapply (step_load (m := sTet) (fun _ => True) trivial) $$ Ho; iintro %_ %_ Ho
  iapply (tet_store d i (k1_off3_eq k) htt) $$ Ho; iintro Ho
  iapply (step_gather (base := sTvid) (tix_chk ht htt 0#32 0 (by decide) (by decide)) (IsVid tvid t2t fx k 0) (vid_gather ht htt 0#32 0 (by decide) (by decide) _)) $$ Hd; iintro %u0 %hu0 Hd
  iapply (step_gather (base := sCage1) (vix_chk hd hu0 0#32 (by decide)) (IsCrd cage tvid t2t fx k 0 0) (crd_gather hd hu0 0#32 (by decide) _)) $$ Hc; iintro %c00 %h00 Hc
  iapply (vert_store d i (st_chk k 0#32 (by decide)) 0 0 (by decide) (by decide) h00) $$ Hv; iintro Hv
  iapply (step_gather (base := sCage1) (vix_chk hd hu0 1#32 (by decide)) (IsCrd cage tvid t2t fx k 0 1) (crd_gather hd hu0 1#32 (by decide) _)) $$ Hc; iintro %c01 %h01 Hc
  iapply (vert_store d i (st_chk k 1#32 (by decide)) 0 1 (by decide) (by decide) h01) $$ Hv; iintro Hv
  iapply (step_gather (base := sCage1) (vix_chk hd hu0 2#32 (by decide)) (IsCrd cage tvid t2t fx k 0 2) (crd_gather hd hu0 2#32 (by decide) _)) $$ Hc; iintro %c02 %h02 Hc
  iapply (vert_store d i (st_chk k 2#32 (by decide)) 0 2 (by decide) (by decide) h02) $$ Hv; iintro Hv
  iapply (step_gather (base := sTvid) (tix_chk ht htt 10000#32 1 (by decide) (by decide)) (IsVid tvid t2t fx k 1) (vid_gather ht htt 10000#32 1 (by decide) (by decide) _)) $$ Hd; iintro %u1 %hu1 Hd
  iapply (step_gather (base := sCage1) (vix_chk hd hu1 0#32 (by decide)) (IsCrd cage tvid t2t fx k 1 0) (crd_gather hd hu1 0#32 (by decide) _)) $$ Hc; iintro %c10 %h10 Hc
  iapply (vert_store d i (st_chk k 3#32 (by decide)) 1 0 (by decide) (by decide) h10) $$ Hv; iintro Hv
  iapply (step_gather (base := sCage1) (vix_chk hd hu1 1#32 (by decide)) (IsCrd cage tvid t2t fx k 1 1) (crd_gather hd hu1 1#32 (by decide) _)) $$ Hc; iintro %c11 %h11 Hc
  iapply (vert_store d i (st_chk k 4#32 (by decide)) 1 1 (by decide) (by decide) h11) $$ Hv; iintro Hv
  iapply (step_gather (base := sCage1) (vix_chk hd hu1 2#32 (by decide)) (IsCrd cage tvid t2t fx k 1 2) (crd_gather hd hu1 2#32 (by decide) _)) $$ Hc; iintro %c12 %h12 Hc
  iapply (vert_store d i (st_chk k 5#32 (by decide)) 1 2 (by decide) (by decide) h12) $$ Hv; iintro Hv
  iapply (step_gather (base := sTvid) (tix_chk ht htt 20000#32 2 (by decide) (by decide)) (IsVid tvid t2t fx k 2) (vid_gather ht htt 20000#32 2 (by decide) (by decide) _)) $$ Hd; iintro %u2 %hu2 Hd
  iapply (step_gather (base := sCage1) (vix_chk hd hu2 0#32 (by decide)) (IsCrd cage tvid t2t fx k 2 0) (crd_gather hd hu2 0#32 (by decide) _)) $$ Hc; iintro %c20 %h20 Hc
  iapply (vert_store d i (st_chk k 6#32 (by decide)) 2 0 (by decide) (by decide) h20) $$ Hv; iintro Hv
  iapply (step_gather (base := sCage1) (vix_chk hd hu2 1#32 (by decide)) (IsCrd cage tvid t2t fx k 2 1) (crd_gather hd hu2 1#32 (by decide) _)) $$ Hc; iintro %c21 %h21 Hc
  iapply (vert_store d i (st_chk k 7#32 (by decide)) 2 1 (by decide) (by decide) h21) $$ Hv; iintro Hv
  iapply (step_gather (base := sCage1) (vix_chk hd hu2 2#32 (by decide)) (IsCrd cage tvid t2t fx k 2 2) (crd_gather hd hu2 2#32 (by decide) _)) $$ Hc; iintro %c22 %h22 Hc
  iapply (vert_store d i (st_chk k 8#32 (by decide)) 2 2 (by decide) (by decide) h22) $$ Hv; iintro Hv
  iapply (step_gather (base := sTvid) (tix_chk ht htt 30000#32 3 (by decide) (by decide)) (IsVid tvid t2t fx k 3) (vid_gather ht htt 30000#32 3 (by decide) (by decide) _)) $$ Hd; iintro %u3 %hu3 Hd
  iapply (step_gather (base := sCage1) (vix_chk hd hu3 0#32 (by decide)) (IsCrd cage tvid t2t fx k 3 0) (crd_gather hd hu3 0#32 (by decide) _)) $$ Hc; iintro %c30 %h30 Hc
  iapply (vert_store d i (st_chk k 9#32 (by decide)) 3 0 (by decide) (by decide) h30) $$ Hv; iintro Hv
  iapply (step_gather (base := sCage1) (vix_chk hd hu3 1#32 (by decide)) (IsCrd cage tvid t2t fx k 3 1) (crd_gather hd hu3 1#32 (by decide) _)) $$ Hc; iintro %c31 %h31 Hc
  iapply (vert_store d i (st_chk k 10#32 (by decide)) 3 1 (by decide) (by decide) h31) $$ Hv; iintro Hv
  iapply (step_gather (base := sCage1) (vix_chk hd hu3 2#32 (by decide)) (IsCrd cage tvid t2t fx k 3 2) (crd_gather hd hu3 2#32 (by decide) _)) $$ Hc; iintro %c32 %h32 Hc
  iapply (vert_store d i (st_chk k 11#32 (by decide)) 3 2 (by decide) (by decide) h32) $$ Hv; iintro Hv
  sl_step
  isplitl [Ht]; · iexact Ht
  isplitl [Hd]; · iexact Hd
  isplitl [Hc]; · iexact Hc
  isplitl [Hf]; · iexact Hf
  isplitl [Ho]
  · refine Entails.of_eq (congrArg (fun A => ((sTet).view.loc (thr1 d i) ↦{fullShare} onSet A (tetG (F := F) t2t fx) f0 : sProp 𝕄)) ?_)
    exact tetD_step k.val
  isplitl [Hv]
  · refine Entails.of_eq (congrArg (fun A => ((sVert).view.loc (thr1 d i) ↦{fullShare} onSet A (vertG cage tvid t2t fx) g0 : sProp 𝕄)) ?_)
    exact vertD_step k.val
  · iexact HR
end Tile
end Cert.Proof.I
-- ==== Proof.I.TetBody.lean ====
/-
  The second SparseCore call's whole body on one tile: its copies in, its loop by the trip's triple, its copies out, with the
  values that the tile's rays hold afterwards.
-/
module

public import proofs.«01_k».proof.Proof.I.TetTile

@[expose] public section

noncomputable section

namespace Cert.Proof.I

open Cert.KernelIdeal Cert.KernelIdeal.Gen

open Idealize.ShloMosaic
open Idealize.ShloMosaic.SparseCore (S V T)
open Idealize.ShloMosaic.SparseCore.Cfg (HIx Pay ownSems0 ownBufs ownCells ownRefs mem_ownCells)
open Idealize.SL Idealize.SL.RA
open Idealize.SL.BI (sProp bigSep bigSep_emp_const)
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 2) (Elt F) ℕ UU ℕ

section Tile
variable (d : Dev nD) (i : grid1.Coords)

/-- The rays of the three arrays that a tile takes, as the program slices them. -/
abbrev fixSl : Memref sig .scVector .hbm S128 .i32 :=
  (fixW).slice (Rect.unit (s := S4096) (k1_off1 i) S128.size (k1_off1_inb i)) (fun _ => rfl)
abbrev tetSl : Memref sig .scVector .hbm S128 .i32 :=
  (tetW).slice (Rect.unit (s := S4096) (k1_off1 i) S128.size (k1_off1_inb i)) (fun _ => rfl)
abbrev vertSl : Memref sig .scVector .hbm S128x16 .f32 :=
  (vertW).slice (Rect.unit (s := S4096x16) (k1_off4 i) S128x16.size (k1_off4_inb i)) (fun _ => rfl)

abbrev sm1a (d : Dev nD) (i : grid1.Coords) : GSem nD τ sig := (thr1 d i, .dma cc1_scoped0.sem)
abbrev sm1b (d : Dev nD) (i : grid1.Coords) : GSem nD τ sig := (thr1 d i, .dma cc1_scoped1.sem)
abbrev sm1c (d : Dev nD) (i : grid1.Coords) : GSem nD τ sig := (thr1 d i, .dma cc1_scoped2.sem)
abbrev sm1d (d : Dev nD) (i : grid1.Coords) : GSem nD τ sig := (thr1 d i, .dma cc1_scoped3.sem)
abbrev sm1e (d : Dev nD) (i : grid1.Coords) : GSem nD τ sig := (thr1 d i, .dma cc1_scoped4.sem)
abbrev sm1f (d : Dev nD) (i : grid1.Coords) : GSem nD τ sig := (thr1 d i, .dma cc1_scoped5.sem)

omit [FloatOps F] in
theorem ownSems_tet :
    (ownSems0 (thr1 d i) : sProp 𝕄)
      = iprop(semVal (sm1a d i) 0 ∗ semVal (sm1b d i) 0 ∗ semVal (sm1c d i) 0 ∗ semVal (sm1d d i) 0 ∗ semVal (sm1e d i) 0 ∗ semVal (sm1f d i) 0
          ∗ bigSep (((((((ownCells (thr1 d i)).erase (sm1a d i)).erase (sm1b d i)).erase (sm1c d i)).erase (sm1d d i)).erase (sm1e d i)).erase (sm1f d i)) fun g => semVal g 0) := by
  unfold SparseCore.Cfg.ownSems0
  rw [SparseCore.bigSep_erase' ((mem_ownCells (g := sm1a d i)).mpr ⟨rfl, by
      show (SemLoc.dma cc1_scoped0.sem : SemLoc sig).isScoped .scVector = true; decide⟩),
    SparseCore.bigSep_erase' (Finset.mem_erase.mpr ⟨by simp [sm1a, sm1b]; decide, (mem_ownCells (g := sm1b d i)).mpr ⟨rfl, by
      show (SemLoc.dma cc1_scoped1.sem : SemLoc sig).isScoped .scVector = true; decide⟩⟩),
    SparseCore.bigSep_erase' (Finset.mem_erase.mpr ⟨by simp [sm1b, sm1c]; decide, Finset.mem_erase.mpr ⟨by simp [sm1a, sm1c]; decide, (mem_ownCells (g := sm1c d i)).mpr ⟨rfl, by
      show (SemLoc.dma cc1_scoped2.sem : SemLoc sig).isScoped .scVector = true; decide⟩⟩⟩),
    SparseCore.bigSep_erase' (Finset.mem_erase.mpr ⟨by simp [sm1c, sm1d]; decide, Finset.mem_erase.mpr ⟨by simp [sm1b, sm1d]; decide, Finset.mem_erase.mpr ⟨by simp [sm1a, sm1d]; decide, (mem_ownCells (g := sm1d d i)).mpr ⟨rfl, by
      show (SemLoc.dma cc1_scoped3.sem : SemLoc sig).isScoped .scVector = true; decide⟩⟩⟩⟩),
    SparseCore.bigSep_erase' (Finset.mem_erase.mpr ⟨by simp [sm1d, sm1e]; decide, Finset.mem_erase.mpr ⟨by simp [sm1c, sm1e]; decide, Finset.mem_erase.mpr ⟨by simp [sm1b, sm1e]; decide, Finset.mem_erase.mpr ⟨by simp [sm1a, sm1e]; decide, (mem_ownCells (g := sm1e d i)).mpr ⟨rfl, by
      show (SemLoc.dma cc1_scoped4.sem : SemLoc sig).isScoped .scVector = true; decide⟩⟩⟩⟩⟩),
    SparseCore.bigSep_erase' (Finset.mem_erase.mpr ⟨by simp [sm1e, sm1f]; decide, Finset.mem_erase.mpr ⟨by simp [sm1d, sm1f]; decide, Finset.mem_erase.mpr ⟨by simp [sm1c, sm1f]; decide, Finset.mem_erase.mpr ⟨by simp [sm1b, sm1f]; decide, Finset.mem_erase.mpr ⟨by simp [sm1a, sm1f]; decide, (mem_ownCells (g := sm1f d i)).mpr ⟨rfl, by
      show (SemLoc.dma cc1_scoped5.sem : SemLoc sig).isScoped .scVector = true; decide⟩⟩⟩⟩⟩⟩)]

abbrev prc1 (i : grid1.Coords) : Proc τ := .scVector ((i 0).castLE hcore1) ((i 1).castLE hsub1)

omit [FloatOps F] in
theorem ownBufs_tet :
    (ownBufs (thr1 d i) : sProp 𝕄)
      = iprop((∃ f, (sT2t).view.loc (thr1 d i) ↦{fullShare} f) ∗ (∃ f, (sTvid).view.loc (thr1 d i) ↦{fullShare} f) ∗ (∃ f, (sCage1).view.loc (thr1 d i) ↦{fullShare} f) ∗ (∃ f, (sFix).view.loc (thr1 d i) ↦{fullShare} f) ∗ (∃ f, (sTet).view.loc (thr1 d i) ↦{fullShare} f) ∗ (∃ f, (sVert).view.loc (thr1 d i) ↦{fullShare} f)
          ∗ bigSep (((((((ownRefs (τ := τ) (prc1 i)).erase ((prc1 i).devRef cc1_scratch0)).erase ((prc1 i).devRef cc1_scratch1)).erase ((prc1 i).devRef cc1_scratch2)).erase ((prc1 i).devRef cc1_scratch3)).erase ((prc1 i).devRef cc1_scratch4)).erase ((prc1 i).devRef cc1_scratch5))
              fun b => iprop(∃ f, ((d, b) : Loc nD τ sig) ↦{fullShare} f)) := by
  unfold SparseCore.Cfg.ownBufs
  refine (SparseCore.bigSep_erase' (SparseCore.Cfg.mem_ownRefs_of_owner (p := prc1 i) (b := (prc1 i).devRef cc1_scratch0) rfl)).trans ?_
  rw [SparseCore.bigSep_erase' (Finset.mem_erase.mpr ⟨fun e => absurd (Proc.devRef_injective _ e) (show (cc1_scratch1 : Ref sig .scVector) ≠ cc1_scratch0 by decide), SparseCore.Cfg.mem_ownRefs_of_owner (p := prc1 i) (b := (prc1 i).devRef cc1_scratch1) rfl⟩),
    SparseCore.bigSep_erase' (Finset.mem_erase.mpr ⟨fun e => absurd (Proc.devRef_injective _ e) (show (cc1_scratch2 : Ref sig .scVector) ≠ cc1_scratch1 by decide), Finset.mem_erase.mpr ⟨fun e => absurd (Proc.devRef_injective _ e) (show (cc1_scratch2 : Ref sig .scVector) ≠ cc1_scratch0 by decide), SparseCore.Cfg.mem_ownRefs_of_owner (p := prc1 i) (b := (prc1 i).devRef cc1_scratch2) rfl⟩⟩),
    SparseCore.bigSep_erase' (Finset.mem_erase.mpr ⟨fun e => absurd (Proc.devRef_injective _ e) (show (cc1_scratch3 : Ref sig .scVector) ≠ cc1_scratch2 by decide), Finset.mem_erase.mpr ⟨fun e => absurd (Proc.devRef_injective _ e) (show (cc1_scratch3 : Ref sig .scVector) ≠ cc1_scratch1 by decide), Finset.mem_erase.mpr ⟨fun e => absurd (Proc.devRef_injective _ e) (show (cc1_scratch3 : Ref sig .scVector) ≠ cc1_scratch0 by decide), SparseCore.Cfg.mem_ownRefs_of_owner (p := prc1 i) (b := (prc1 i).devRef cc1_scratch3) rfl⟩⟩⟩),
    SparseCore.bigSep_erase' (Finset.mem_erase.mpr ⟨fun e => absurd (Proc.devRef_injective _ e) (show (cc1_scratch4 : Ref sig .scVector) ≠ cc1_scratch3 by decide), Finset.mem_erase.mpr ⟨fun e => absurd (Proc.devRef_injective _ e) (show (cc1_scratch4 : Ref sig .scVector) ≠ cc1_scratch2 by decide), Finset.mem_erase.mpr ⟨fun e => absurd (Proc.devRef_injective _ e) (show (cc1_scratch4 : Ref sig .scVector) ≠ cc1_scratch1 by decide), Finset.mem_erase.mpr ⟨fun e => absurd (Proc.devRef_injective _ e) (show (cc1_scratch4 : Ref sig .scVector) ≠ cc1_scratch0 by decide), SparseCore.Cfg.mem_ownRefs_of_owner (p := prc1 i) (b := (prc1 i).devRef cc1_scratch4) rfl⟩⟩⟩⟩),
    SparseCore.bigSep_erase' (Finset.mem_erase.mpr ⟨fun e => absurd (Proc.devRef_injective _ e) (show (cc1_scratch5 : Ref sig .scVector) ≠ cc1_scratch4 by decide), Finset.mem_erase.mpr ⟨fun e => absurd (Proc.devRef_injective _ e) (show (cc1_scratch5 : Ref sig .scVector) ≠ cc1_scratch3 by decide), Finset.mem_erase.mpr ⟨fun e => absurd (Proc.devRef_injective _ e) (show (cc1_scratch5 : Ref sig .scVector) ≠ cc1_scratch2 by decide), Finset.mem_erase.mpr ⟨fun e => absurd (Proc.devRef_injective _ e) (show (cc1_scratch5 : Ref sig .scVector) ≠ cc1_scratch1 by decide), Finset.mem_erase.mpr ⟨fun e => absurd (Proc.devRef_injective _ e) (show (cc1_scratch5 : Ref sig .scVector) ≠ cc1_scratch0 by decide), SparseCore.Cfg.mem_ownRefs_of_owner (p := prc1 i) (b := (prc1 i).devRef cc1_scratch5) rfl⟩⟩⟩⟩⟩)]

/-- What a tile is handed of the call's arrays, and what it hands back: its rays at the targets. -/
def tetGo (q : PosShare TreeShare) (fx : Vec F S4096 .i32) (t2t tvid : Vec F S40000 .i32) (cage : Vec F S24000 .f32) (f : Vec F S4096 .i32) (g : Vec F S4096x16 .f32) : sProp 𝕄 :=
  iprop(((fixW).view.loc (thr1 d i) ↦{q} fx) ∗ ((t2tW).view.loc (thr1 d i) ↦{q} t2t) ∗ ((tvidW).view.loc (thr1 d i) ↦{q} tvid)
    ∗ ((cageW).view.loc (thr1 d i) ↦{q} cage)
    ∗ ((tetSl i).view.loc (thr1 d i) ↦[(tetSl i).view.set]{fullShare} f) ∗ ((vertSl i).view.loc (thr1 d i) ↦[(vertSl i).view.set]{fullShare} g))
def tetTd (q : PosShare TreeShare) (fx : Vec F S4096 .i32) (t2t tvid : Vec F S40000 .i32) (cage : Vec F S24000 .f32) : sProp 𝕄 :=
  iprop(((fixW).view.loc (thr1 d i) ↦{q} fx) ∗ ((t2tW).view.loc (thr1 d i) ↦{q} t2t) ∗ ((tvidW).view.loc (thr1 d i) ↦{q} tvid)
    ∗ ((cageW).view.loc (thr1 d i) ↦{q} cage)
    ∗ (∃ f, ⌜∀ y ∈ (tetSl i).view.set, f y = tetG (F := F) t2t fx y⌝ ∗ ((tetSl i).view.loc (thr1 d i) ↦[(tetSl i).view.set]{fullShare} f))
    ∗ (∃ g, ⌜∀ y ∈ (vertSl i).view.set, (y 1).val < 12 → g y = vertG cage tvid t2t fx y⌝ ∗ ((vertSl i).view.loc (thr1 d i) ↦[(vertSl i).view.set]{fullShare} g)))

theorem fx_slice (fx : Vec F S4096 .i32) (j : Fin 128) (r : Fin 4096) (h : r.val = k1_off1 i 0 + 1 * j.val) :
    (fixSl i).view.read (Elt F) fx (ix1 j) = fx (ix1 r) := by
  refine congrArg fx (funext fun a => Fin.ext ?_)
  match a with
  | 0 => exact h.symm

theorem tetG_slice (t2t : Vec F S40000 .i32) (fx : Vec F S4096 .i32) (x : S128.Idx) :
    tetG (F := F) t2t ((fixSl i).view.read (Elt F) fx) x = tetG (F := F) t2t fx ((tetSl i).view.emb x) := by
  unfold tetG
  rw [fx_slice i fx (x 0) ((tetSl i).view.emb x 0) rfl]

theorem vert_col (x : S128x16.Idx) : ((vertSl i).view.emb x 1).val = (x 1).val := by
  have h4 := k1_off4_eq i
  show k1_off4 i 1 + 1 * (x 1).val = (x 1).val
  rw [h4]; show 0 + 1 * (x 1).val = _; omega

theorem vertG_slice (cage : Vec F S24000 .f32) (tvid t2t : Vec F S40000 .i32) (fx : Vec F S4096 .i32) (x : S128x16.Idx) :
    vertG cage tvid t2t ((fixSl i).view.read (Elt F) fx) x = vertG cage tvid t2t fx ((vertSl i).view.emb x) := by
  have h1 := k1_off1_eq i
  have h4 := k1_off4_eq i
  unfold vertG
  rw [vert_col, fx_slice i fx (x 0) ((vertSl i).view.emb x 0) ?_]
  show k1_off4 i 0 + 1 * (x 0).val = k1_off1 i 0 + 1 * (x 0).val
  rw [h1, h4]; rfl

theorem tet_done (x : S128.Idx) : x ∈ tetD 128 8 := by
  have hx : (x 0).val < 128 := (x 0).isLt
  show (x 0).val < 16 * 8
  omega
theorem vert_done (x : S128x16.Idx) (h : (x 1).val < 12) : x ∈ vertD 128 8 := by
  have hx : (x 0).val < 128 := (x 0).isLt
  refine ⟨?_, h⟩
  generalize (x 0).val = a at hx
  omega

/-- What the two copies out leave in the tile's rays. -/
theorem tet_out (t2t : Vec F S40000 .i32) (fx f : Vec F S4096 .i32) (f0 : Vec F S128 .i32) (w : S128.Idx → BitVec 32)
    (hw : w = onSet (tetD 128 8) (tetG (F := F) t2t ((fixSl i).view.read (Elt F) fx)) f0) (y : S4096.Idx) (hy : y ∈ (tetSl i).view.set) :
    (tetSl i).view.writes (Elt F) f [⟨Rect.whole S128, w⟩] y = tetG (F := F) t2t fx y := by
  have hw' : ∀ x, w x = tetG (F := F) t2t ((fixSl i).view.read (Elt F) fx) x := fun x => by rw [hw]; exact onSet_of_mem (tet_done x)
  clear hw
  have key : ∀ x, (tetSl i).view.writes (Elt F) f [⟨Rect.whole S128, w⟩] ((tetSl i).view.emb x) = tetG (F := F) t2t fx ((tetSl i).view.emb x) := by
    intro x
    have h2 := congrFun (View.read_writes_whole (tetSl i).view f w) x
    rw [← tetG_slice, ← hw' x]
    generalize (tetSl i).view.writes (Elt F) f [⟨Rect.whole S128, w⟩] = g at h2 ⊢
    exact h2
  obtain ⟨x, hx, e⟩ := Finset.mem_map.mp hy
  rw [← e]
  exact key x
theorem vert_out (cage : Vec F S24000 .f32) (tvid t2t : Vec F S40000 .i32) (fx : Vec F S4096 .i32) (f : Vec F S4096x16 .f32) (f0 : Vec F S128x16 .f32) (w : S128x16.Idx → F .f32)
    (hw : w = onSet (vertD 128 8) (vertG cage tvid t2t ((fixSl i).view.read (Elt F) fx)) f0)
    (y : S4096x16.Idx) (hy : y ∈ (vertSl i).view.set) (h12 : (y 1).val < 12) :
    (vertSl i).view.writes (Elt F) f [⟨Rect.whole S128x16, w⟩] y = vertG cage tvid t2t fx y := by
  have hw' : ∀ x, x ∈ vertD 128 8 → w x = vertG cage tvid t2t ((fixSl i).view.read (Elt F) fx) x := fun x hx => by rw [hw]; exact onSet_of_mem hx
  clear hw
  have key : ∀ x, ((vertSl i).view.emb x 1).val < 12 →
      (vertSl i).view.writes (Elt F) f [⟨Rect.whole S128x16, w⟩] ((vertSl i).view.emb x) = vertG cage tvid t2t fx ((vertSl i).view.emb x) := by
    intro x h
    have h2 := congrFun (View.read_writes_whole (vertSl i).view f w) x
    rw [vert_col] at h
    rw [← vertG_slice, ← hw' x (vert_done x h)]
    generalize (vertSl i).view.writes (Elt F) f [⟨Rect.whole S128x16, w⟩] = g at h2 ⊢
    exact h2
  obtain ⟨x, hx, e⟩ := Finset.mem_map.mp hy
  rw [← e] at h12 ⊢
  exact key x h12

/-- The loop's invariant. -/
def tetInv (cage : Vec F S24000 .f32) (tvid t2t : Vec F S40000 .i32) (fx f0 : Vec F S128 .i32) (g0 : Vec F S128x16 .f32) (R : sProp 𝕄) (k : ℕ) (_ : BitVec 32) : sProp 𝕄 :=
  iprop(((sT2t).view.loc (thr1 d i) ↦{fullShare} t2t) ∗ ((sTvid).view.loc (thr1 d i) ↦{fullShare} tvid)
        ∗ ((sCage1).view.loc (thr1 d i) ↦{fullShare} cage) ∗ ((sFix).view.loc (thr1 d i) ↦{fullShare} fx)
        ∗ ((sTet).view.loc (thr1 d i) ↦{fullShare} onSet (tetD 128 k) (tetG (F := F) t2t fx) f0)
        ∗ ((sVert).view.loc (thr1 d i) ↦{fullShare} onSet (vertD 128 k) (vertG cage tvid t2t fx) g0) ∗ R)

set_option maxHeartbeats 2000000 in
theorem tet_body (q : PosShare TreeShare) (fx : Vec F S4096 .i32) (t2t tvid : Vec F S40000 .i32) (cage : Vec F S24000 .f32) (f : Vec F S4096 .i32) (g : Vec F S4096x16 .f32)
    (hfx : ∀ y, (fx y).toNat < 40000) (ht : ∀ y, (t2t y).toNat < 10000) (hd : ∀ y, (tvid y).toNat < 8000)
    (O : CellTallies nD τ sig (HIx 2)) (W : Waits sig (HIx 2)) (hO : ∀ g, O g none = 0) :
    iprop(levAts (K (F := F)).L (K (F := F)).lev ∗ emp ∗ tetGo d i q fx t2t tvid cage f g
        ∗ scopedBufs (thr1 d i) ∗ scopedSems0 (thr1 d i) ∗ owes (thr1 d i) O W)
      ⊢ wp frame (wpE (defs₀ (F := F)) 𝒱₀ (thr1 d i) none) Set.univ
          (cc1_k i fixW (Memref.isWhole_whole _) t2tW (Memref.isWhole_whole _) tvidW (Memref.isWhole_whole _) cageW (Memref.isWhole_whole _)
            tetW (Memref.isWhole_whole _) vertW (Memref.isWhole_whole _) sT2t (Memref.isWhole_whole _) sTvid (Memref.isWhole_whole _)
            sCage1 (Memref.isWhole_whole _) sFix (Memref.isWhole_whole _) sTet (Memref.isWhole_whole _) sVert (Memref.isWhole_whole _)
            cc1_scoped0 cc1_scoped1 cc1_scoped2 cc1_scoped3 cc1_scoped4 cc1_scoped5)
          fun _ => iprop(tetTd d i q fx t2t tvid cage ∗ scopedBufs (thr1 d i) ∗ scopedSems0 (thr1 d i)
            ∗ ∃ W', ⌜∀ p ∈ W', p ∈ W ∨ p.2 = none⌝ ∗ owes (thr1 d i) O W') := by
  simp only [cc1_k_eq_skeleton]; unfold cc1_k_skel
  unfold tetGo tetTd
  rw [(K (F := F)).scopedBufs_V facts d _ _, SparseCore.Cfg.scopedSems0_V (Val := Elt F) d _ _, ownSems_tet, ownBufs_tet]
  iintro ⟨#Hlv, -, ⟨Hfx, Htt, Htv, Hcg, Hte, Hve⟩, ⟨⟨%f0, H0⟩, ⟨%f1, H1⟩, ⟨%f2, H2⟩, ⟨%f3, H3⟩, ⟨%f4, H4⟩, ⟨%f5, H5⟩, Hbufs⟩, ⟨HsA, HsB, HsC, HsD, HsE, HsF, Hsems⟩, HO⟩
  ihave Hmw := (show levAts (K (F := F)).L (K (F := F)).lev ⊢ Transfers.MayWaits (thr1 d i) (default : HIx 2) O from
    (K (F := F)).mayWaits_none (thr := thr1 d i) hO) $$ Hlv
  sl_exec
  sl_for (tetInv d i cage tvid t2t ((fixSl i).view.read (Elt F) fx) f4 f5 (Transfers.MayWaits (thr1 d i) (default : HIx 2) O)) $$ [Hmw H0 H1 H2 H3 H4 H5]
  case region =>
    intro k a
    exact tet_trip d i cage tvid t2t _ f4 f5 (fun y => hfx _) ht hd k a _
  · unfold tetInv
    isplitl [H0]; · iapply (Entails.of_eq (congrArg (fun g => ((sT2t).view.loc (thr1 d i) ↦{fullShare} g : sProp 𝕄)) (View.write_whole_univ cc1_scratch0 f0 _))); iexact H0
    isplitl [H1]; · iapply (Entails.of_eq (congrArg (fun g => ((sTvid).view.loc (thr1 d i) ↦{fullShare} g : sProp 𝕄)) (View.write_whole_univ cc1_scratch1 f1 _))); iexact H1
    isplitl [H2]; · iapply (Entails.of_eq (congrArg (fun g => ((sCage1).view.loc (thr1 d i) ↦{fullShare} g : sProp 𝕄)) (View.write_whole_univ cc1_scratch2 f2 _))); iexact H2
    isplitl [H3]; · iapply (Entails.of_eq (congrArg (fun g => ((sFix).view.loc (thr1 d i) ↦{fullShare} g : sProp 𝕄)) (View.write_whole_univ cc1_scratch3 f3 _))); iexact H3
    isplitl [H4]
    · iapply (Entails.of_eq (congrArg (fun g => ((sTet).view.loc (thr1 d i) ↦{fullShare} g : sProp 𝕄)) (tetD_zero _ _))); iexact H4
    isplitl [H5]
    · iapply (Entails.of_eq (congrArg (fun g => ((sVert).view.loc (thr1 d i) ↦{fullShare} g : sProp 𝕄)) (vertD_zero _ _))); iexact H5
    iexact Hmw
  iintro %_ HI
  unfold tetInv
  icases HI with ⟨H0, H1, H2, H3, H4, H5, Hmw⟩
  sl_exec
  sl_step
  isplitl [Hfx Htt Htv Hcg Hte Hve]
  · isplitl [Hfx]; · iexact Hfx
    isplitl [Htt]; · iexact Htt
    isplitl [Htv]; · iexact Htv
    isplitl [Hcg]; · iexact Hcg
    isplitl [Hte]
    · iexists _; isplitr
      swap; · iexact Hte
      ipureintro
      exact tet_out i t2t fx f f4 _ rfl
    · iexists _; isplitr
      swap; · iexact Hve
      ipureintro
      exact vert_out i cage tvid t2t fx g f5 _ rfl
  isplitl [H0 H1 H2 H3 H4 H5 Hbufs]
  · isplitl [H0]; · iexists _; iexact H0
    isplitl [H1]; · iexists _; iexact H1
    isplitl [H2]; · iexists _; iexact H2
    isplitl [H3]; · iexists _; iexact H3
    isplitl [H4]; · iexists _; iexact H4
    isplitl [H5]; · iexists _; iexact H5
    iexact Hbufs
  isplitl [HsA HsB HsC HsD HsE HsF Hsems]
  · isplitl [HsA]; · iexact HsA
    isplitl [HsB]; · iexact HsB
    isplitl [HsC]; · iexact HsC
    isplitl [HsD]; · iexact HsD
    isplitl [HsE]; · iexact HsE
    isplitl [HsF]; · iexact HsF
    iexact Hsems
  iexists _; isplitr
  swap; · iexact HO
  ipureintro; intro p hp
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  exact .inl hp
end Tile
end Cert.Proof.I
-- ==== Proof.I.Launch.lean ====
/-
  The launch of the two SparseCore calls: what each tile is given and gives back, the calls' obligations by the tile bodies,
  and the whole arrays split into the tiles' parts and joined again.
-/
module

public import proofs.«01_k».proof.Proof.I.TriBody
public import proofs.«01_k».proof.Proof.I.TetBody
public import Idealize.ShloMosaic.Lib.Pointwise

@[expose] public section

noncomputable section

namespace Cert.Proof.I

open Cert.KernelIdeal Cert.KernelIdeal.Gen

open Idealize.ShloMosaic
open Idealize.ShloMosaic.SparseCore (S V T)
open Idealize.ShloMosaic.SparseCore.Cfg (HIx Pay)
open Idealize.SL Idealize.SL.RA
open Idealize.SL.BI (sProp bigSep bigSep_emp_const bigSep_univ_prod bigSep_congr bigSep_sep' bigSep_exists_pi bigSep_pure_sep)
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 2) (Elt F) ℕ UU ℕ

/-! ## The host's arrays that the calls read -/

/-- The vertex table, flattened. -/
def cageV (x : FVec F S1x8000x3 .f32) : FVec F S24000 .f32 :=
  shapeCast S24000 (shapeCast S8000x3 x shapeCasts_S1x8000x3_S8000x3) shapeCasts_S8000x3_S24000
/-- The faces' vertices, one row per corner, padded. -/
def fidsV (x : IVec S10000x4x3 32) : IVec S3x40960 32 :=
  pad S3x40960 ![0, 0] ![0, 960] ![0, 0]
    (transpose S3x40000 [1, 0] (shapeCast S40000x3 x shapeCasts_S10000x4x3_S40000x3) transposes_S40000x3_S3x40000_1_0)
    (constantI S_ 32 0#32) pads_S3x40000_S3x40960_000_09600 h_S_
/-- The tetrahedra's four vertices, one after the other. -/
def tvidV (x : IVec S10000x4x3 32) : IVec S40000 32 :=
  concatenate S40000 0
    [⟨S10000, shapeCast S10000 (extractStridedSlice S10000x1x1 ![0, 0, 0] x slices_S10000x4x3_S10000x1x1_0_0_0) shapeCasts_S10000x1x1_S10000⟩,
     ⟨S10000, shapeCast S10000 (extractStridedSlice S10000x1x1 ![0, 0, 1] x slices_S10000x4x3_S10000x1x1_0_0_1) shapeCasts_S10000x1x1_S10000⟩,
     ⟨S10000, shapeCast S10000 (extractStridedSlice S10000x1x1 ![0, 0, 2] x slices_S10000x4x3_S10000x1x1_0_0_2) shapeCasts_S10000x1x1_S10000⟩,
     ⟨S10000, shapeCast S10000 (extractStridedSlice S10000x1x1 ![0, 1, 2] x slices_S10000x4x3_S10000x1x1_0_1_2) shapeCasts_S10000x1x1_S10000⟩]
    concatenates_S10000_S10000_S10000_S10000_S40000_d0

theorem fidsV_lt (x : IVec S10000x4x3 32) (h : ∀ y, (x y).toNat < 8000) (y : S3x40960.Idx) : (fidsV x y).toNat < 8000 := by
  unfold fidsV pad
  split
  · exact h _
  · show (0#32 : BitVec 32).toNat < 8000; decide

theorem tvidV_lt (x : IVec S10000x4x3 32) (h : ∀ y, (x y).toNat < 8000) (y : S40000.Idx) : (tvidV x y).toNat < 8000 := by
  unfold tvidV
  refine concatenate_forall (P := fun w : BitVec 32 => w.toNat < 8000) _ _ _ _ ?_ y
  intro p hp i
  simp only [List.mem_cons, List.not_mem_nil, _root_.or_false] at hp
  rcases hp with rfl | rfl | rfl | rfl <;> exact h _

/-! ## The shares and the tiles -/

abbrev G0 : Type := Fin (grid0.bound 0) × Fin (grid0.bound 1)
abbrev G1 : Type := Fin (grid1.bound 0) × Fin (grid1.bound 1)

/-- The share of an array that every tile reads. -/
def tq {a b : ℕ} (c : Fin a) (i : Fin b) : PosShare TreeShare := Transfers.dealOf (Transfers.dealOf fullShare Finset.univ c) Finset.univ i

theorem share_deal {a b : ℕ} [NeZero a] [NeZero b] (ℓ : Loc nD τ sig) (f : Buf (Elt F) ℓ) :
    (ℓ ↦{fullShare} f : sProp 𝕄) = bigSep Finset.univ fun c : Fin a => bigSep Finset.univ fun i : Fin b => ℓ ↦{tq c i} f := by
  rw [Transfers.pointsTo_deal (Finset.univ : Finset (Fin a)) Finset.univ_nonempty]
  refine bigSep_congr fun c _ => ?_
  rw [Transfers.pointsTo_deal (Finset.univ : Finset (Fin b)) Finset.univ_nonempty]; rfl

section Tiles
variable {a b : ℕ} {ℓ : Loc nD τ sig} (S : Fin a × Fin b → Finset (Idx ℓ)) (hd : ∀ t ∈ (Finset.univ : Finset (Fin a × Fin b)), ∀ t' ∈ (Finset.univ : Finset (Fin a × Fin b)), t ≠ t' → Disjoint (S t) (S t'))
  (hc : Finset.univ.biUnion S = Finset.univ)
include hd hc

theorem tiles_split (f : Buf (Elt F) ℓ) :
    (ℓ ↦{fullShare} f : sProp 𝕄) = bigSep Finset.univ fun c : Fin a => bigSep Finset.univ fun i : Fin b => ℓ ↦[S (c, i)]{fullShare} f := by
  rw [← bigSep_univ_prod (fun t : Fin a × Fin b => (ℓ ↦[S t]{fullShare} f : sProp 𝕄)), ← pointsTo_biUnion Finset.univ (ℓ := ℓ) S hd, hc]

theorem tiles_join [Nonempty (Buf (Elt F) ℓ)] (Φ : (y : Idx ℓ) → Elt F ℓ.2.ty.elt → Prop) :
    (bigSep Finset.univ fun c : Fin a => bigSep Finset.univ fun i : Fin b =>
        iprop(∃ f : Buf (Elt F) ℓ, ⌜∀ y ∈ S (c, i), Φ y (f y)⌝ ∗ ℓ ↦[S (c, i)]{fullShare} f))
      ⊢ (iprop(∃ g : Buf (Elt F) ℓ, ⌜∀ y, Φ y (g y)⌝ ∗ ℓ ↦{fullShare} g) : sProp 𝕄) := by
  rw [← bigSep_univ_prod (fun t : Fin a × Fin b => (iprop(∃ f : Buf (Elt F) ℓ, ⌜∀ y ∈ S t, Φ y (f y)⌝ ∗ ℓ ↦[S t]{fullShare} f) : sProp 𝕄))]
  refine (bigSep_exists_pi Finset.univ (fun t (f : Buf (Elt F) ℓ) => iprop(⌜∀ y ∈ S t, Φ y (f y)⌝ ∗ ℓ ↦[S t]{fullShare} f))).trans ?_
  iintro ⟨%fs, H⟩
  ihave H' := (bigSep_pure_sep Finset.univ (fun t => ∀ y ∈ S t, Φ y (fs t y)) (fun t => (ℓ ↦[S t]{fullShare} fs t : sProp 𝕄))) $$ H
  icases H' with ⟨%h, H⟩
  ihave H' := (pointsTo_biUnion_join (ℓ := ℓ) (q := fullShare) (Val := Elt F) Finset.univ S fs (Classical.arbitrary _) hd) $$ H
  icases H' with ⟨%g, %hg, Hg⟩
  rw [hc]
  iexists g; isplitr
  · ipureintro; intro y
    obtain ⟨t, ht, hy⟩ := Finset.mem_biUnion.mp (hc ▸ Finset.mem_univ y : y ∈ Finset.univ.biUnion S)
    rw [hg t ht y hy]; exact h t ht y hy
  · iexact Hg

end Tiles

theorem mem_triSl (i : grid0.Coords) (y : S16x40960.Idx) :
    y ∈ (triSl i).view.set ↔ 2560 * (i 1).val + 1280 * (i 0).val ≤ (y 1).val ∧ (y 1).val < 2560 * (i 1).val + 1280 * (i 0).val + 1280 := by
  rw [show (triSl i).view.set = (Rect.unit (s := S16x40960) (k0_off14 i) S16x1280.size (k0_off14_inb i)).set from View.set_slice_whole _ _, Rect.mem_set_unit]
  have h0 := (y 0).isLt
  constructor
  · intro h; have := h 1; rw [k0_off14_eq] at this; exact this
  · intro h a
    rw [k0_off14_eq]
    match a with
    | 0 => exact ⟨Nat.zero_le _, by show (y 0).val < 0 + 16; exact (Nat.zero_add 16).symm ▸ h0⟩
    | 1 => exact h

theorem mem_tetSl (i : grid1.Coords) (y : S4096.Idx) :
    y ∈ (tetSl i).view.set ↔ 256 * (i 1).val + 128 * (i 0).val ≤ (y 0).val ∧ (y 0).val < 256 * (i 1).val + 128 * (i 0).val + 128 := by
  rw [show (tetSl i).view.set = (Rect.unit (s := S4096) (k1_off1 i) S128.size (k1_off1_inb i)).set from View.set_slice_whole _ _, Rect.mem_set_unit]
  constructor
  · intro h; have := h 0; rw [k1_off1_eq] at this; exact this
  · intro h a
    rw [k1_off1_eq]
    obtain rfl : a = 0 := Subsingleton.elim _ _
    exact h

theorem mem_vertSl (i : grid1.Coords) (y : S4096x16.Idx) :
    y ∈ (vertSl i).view.set ↔ 256 * (i 1).val + 128 * (i 0).val ≤ (y 0).val ∧ (y 0).val < 256 * (i 1).val + 128 * (i 0).val + 128 := by
  rw [show (vertSl i).view.set = (Rect.unit (s := S4096x16) (k1_off4 i) S128x16.size (k1_off4_inb i)).set from View.set_slice_whole _ _, Rect.mem_set_unit]
  have h1 := (y 1).isLt
  constructor
  · intro h; have := h 0; rw [k1_off4_eq] at this; exact this
  · intro h a
    rw [k1_off4_eq]
    match a with
    | 1 => exact ⟨Nat.zero_le _, by show (y 1).val < 0 + 16; exact (Nat.zero_add 16).symm ▸ h1⟩
    | 0 => exact h

/-- Blocks of `w` consecutive numbers, block `2 i + c` to the pair `(c, i)`, are disjoint and cover the first `32 w`. -/
theorem blocks {I : Type} [Fintype I] [DecidableEq I] (w : ℕ) (hw : 0 < w) (pos : I → ℕ) (hpos : ∀ y, pos y < 32 * w) (S : Fin 2 × Fin 16 → Finset I)
    (hS : ∀ t y, y ∈ S t ↔ 2 * w * t.2.val + w * t.1.val ≤ pos y ∧ pos y < 2 * w * t.2.val + w * t.1.val + w) :
    (∀ t ∈ (Finset.univ : Finset (Fin 2 × Fin 16)), ∀ t' ∈ (Finset.univ : Finset (Fin 2 × Fin 16)), t ≠ t' → Disjoint (S t) (S t'))
      ∧ Finset.univ.biUnion S = Finset.univ := by
  have key : ∀ (t : Fin 2 × Fin 16) y, y ∈ S t ↔ pos y / w = 2 * t.2.val + t.1.val := by
    intro t y
    rw [hS, Nat.div_eq_iff hw, show 2 * w * t.2.val + w * t.1.val = (2 * t.2.val + t.1.val) * w by ring]
    generalize (2 * t.2.val + t.1.val) * w = z
    omega
  refine ⟨fun t _ t' _ hne => Finset.disjoint_left.mpr fun y hy hy' => hne ?_, Finset.eq_univ_of_forall fun y => Finset.mem_biUnion.mpr ?_⟩
  · rw [key] at hy hy'
    have := t.1.isLt; have := t'.1.isLt
    exact Prod.ext (Fin.ext (by omega)) (Fin.ext (by omega))
  · have h : pos y / w < 32 := Nat.div_lt_of_lt_mul (by rw [Nat.mul_comm]; exact hpos y)
    refine ⟨(⟨pos y / w % 2, Nat.mod_lt _ (by decide)⟩, ⟨pos y / w / 2, by omega⟩), Finset.mem_univ _, ?_⟩
    rw [key]; show _ = 2 * (pos y / w / 2) + pos y / w % 2; omega

abbrev triS (t : Fin 2 × Fin 16) : Finset S16x40960.Idx := (triSl (coords0 t.1 t.2)).view.set
abbrev tetS (t : Fin 2 × Fin 16) : Finset S4096.Idx := (tetSl (coords1 t.1 t.2)).view.set
abbrev vertS (t : Fin 2 × Fin 16) : Finset S4096x16.Idx := (vertSl (coords1 t.1 t.2)).view.set

theorem triS_blocks : (∀ t ∈ (Finset.univ : Finset (Fin 2 × Fin 16)), ∀ t' ∈ (Finset.univ : Finset (Fin 2 × Fin 16)), t ≠ t' → Disjoint (triS t) (triS t'))
    ∧ Finset.univ.biUnion triS = Finset.univ :=
  blocks 1280 (by decide) (fun y : S16x40960.Idx => (y 1).val) (fun y => (y 1).isLt) triS (fun t y => mem_triSl (coords0 t.1 t.2) y)
theorem tetS_blocks : (∀ t ∈ (Finset.univ : Finset (Fin 2 × Fin 16)), ∀ t' ∈ (Finset.univ : Finset (Fin 2 × Fin 16)), t ≠ t' → Disjoint (tetS t) (tetS t'))
    ∧ Finset.univ.biUnion tetS = Finset.univ :=
  blocks 128 (by decide) (fun y : S4096.Idx => (y 0).val) (fun y => (y 0).isLt) tetS (fun t y => mem_tetSl (coords1 t.1 t.2) y)
theorem vertS_blocks : (∀ t ∈ (Finset.univ : Finset (Fin 2 × Fin 16)), ∀ t' ∈ (Finset.univ : Finset (Fin 2 × Fin 16)), t ≠ t' → Disjoint (vertS t) (vertS t'))
    ∧ Finset.univ.biUnion vertS = Finset.univ :=
  blocks 128 (by decide) (fun y : S4096x16.Idx => (y 0).val) (fun y => (y 0).isLt) vertS (fun t y => mem_vertSl (coords1 t.1 t.2) y)

/-! ## What the calls hand over -/

instance triGo_storable (d : Dev nD) (i : grid0.Coords) (q cage fids f) : BI.Storable (upEmb : UEmb _ 𝕄) (triGo d i q cage fids f) := by
  unfold triGo; infer_instance
instance triTd_storable (d : Dev nD) (i : grid0.Coords) (q cage fids) : BI.Storable (upEmb : UEmb _ 𝕄) (triTd (F := F) d i q cage fids) := by
  unfold triTd; infer_instance
instance tetGo_storable (d : Dev nD) (i : grid1.Coords) (q fx t2t tvid cage f g) : BI.Storable (upEmb : UEmb _ 𝕄) (tetGo d i q fx t2t tvid cage f g) := by
  unfold tetGo; infer_instance
set_option synthInstance.maxHeartbeats 400000 in
instance tetTd_storable (d : Dev nD) (i : grid1.Coords) (q fx t2t tvid cage) : BI.Storable (upEmb : UEmb _ 𝕄) (tetTd (F := F) d i q fx t2t tvid cage) := by
  unfold tetTd; infer_instance

section Pay
variable (m : (ℓ : Loc nD τ sig) → Buf (Elt F) ℓ)

abbrev a0 (d : Dev nD) : FVec F S1x8000x3 .f32 := m ((SparseCore.T d).loc main_arg0)
abbrev a1 (d : Dev nD) : IVec S10000x4x3 32 := m ((SparseCore.T d).loc main_arg1)
abbrev a2 (d : Dev nD) : IVec S40000 32 := m ((SparseCore.T d).loc main_arg2)
abbrev a3 (d : Dev nD) : IVec S4096 32 := m ((SparseCore.T d).loc main_arg3)

abbrev go0 (d : Dev nD) (c : Fin 2) (i : Fin 16) : sProp 𝕄 :=
  triGo d (coords0 c i) (tq c i) (cageV (a0 m d)) (fidsV (a1 m d)) (m ((SparseCore.T d).loc main_v5))
abbrev td0 (d : Dev nD) (c : Fin 2) (i : Fin 16) : sProp 𝕄 :=
  triTd d (coords0 c i) (tq c i) (cageV (a0 m d)) (fidsV (a1 m d))
abbrev go1 (d : Dev nD) (c : Fin 2) (i : Fin 16) : sProp 𝕄 :=
  tetGo d (coords1 c i) (tq c i) (a3 m d) (a2 m d) (tvidV (a1 m d)) (cageV (a0 m d)) (m ((SparseCore.T d).loc main_v15_0)) (m ((SparseCore.T d).loc main_v15_1))
abbrev td1 (d : Dev nD) (c : Fin 2) (i : Fin 16) : sProp 𝕄 :=
  tetTd d (coords1 c i) (tq c i) (a3 m d) (a2 m d) (tvidV (a1 m d)) (cageV (a0 m d))

/-- What the two calls hand over at their start and give back at their end. -/
def P : (K (F := F)).Pay (nD := nD) (Val := Elt F) (Name := ℕ) (U := UU) where
  st q d c := match q, c with
    | 0, c => bigSep Finset.univ fun i : Fin 16 => go0 m d c i
    | 1, c => bigSep Finset.univ fun i : Fin 16 => go1 m d c i
  dn q d c := match q, c with
    | 0, c => bigSep Finset.univ fun i : Fin 16 => td0 m d c i
    | 1, c => bigSep Finset.univ fun i : Fin 16 => td1 m d c i
  go q d c i := match q, c, i with
    | 0, c, i => go0 m d c i
    | 1, c, i => go1 m d c i
  td q d c i := match q, c, i with
    | 0, c, i => td0 m d c i
    | 1, c, i => td1 m d c i
  x := fun _ _ => iprop(emp)

theorem storable_tiles (Φ : Fin 16 → sProp 𝕄) (h : ∀ i, BI.Storable (upEmb : UEmb _ 𝕄) (Φ i)) :
    BI.Storable (upEmb : UEmb _ 𝕄) (bigSep Finset.univ Φ) := inferInstance

instance P_storable : (P (F := F) m).IsStorable where
  st q d c := by match q, c with
    | 0, c => show BI.Storable (upEmb : UEmb _ 𝕄) (bigSep Finset.univ fun i : Fin 16 => go0 m d c i); exact storable_tiles _ fun i => triGo_storable d (coords0 c i) _ _ _ _
    | 1, c => show BI.Storable (upEmb : UEmb _ 𝕄) (bigSep Finset.univ fun i : Fin 16 => go1 m d c i); exact storable_tiles _ fun i => tetGo_storable d (coords1 c i) _ _ _ _ _ _ _
  dn q d c := by match q, c with
    | 0, c => show BI.Storable (upEmb : UEmb _ 𝕄) (bigSep Finset.univ fun i : Fin 16 => td0 m d c i); exact storable_tiles _ fun i => triTd_storable d (coords0 c i) _ _ _
    | 1, c => show BI.Storable (upEmb : UEmb _ 𝕄) (bigSep Finset.univ fun i : Fin 16 => td1 m d c i); exact storable_tiles _ fun i => tetTd_storable d (coords1 c i) _ _ _ _ _
  go q d c i := by match q, c, i with
    | 0, c, i => exact triGo_storable d (coords0 c i) _ _ _ _
    | 1, c, i => exact tetGo_storable d (coords1 c i) _ _ _ _ _ _ _
  td q d c i := by match q, c, i with
    | 0, c, i => exact triTd_storable d (coords0 c i) _ _ _
    | 1, c, i => exact tetTd_storable d (coords1 c i) _ _ _ _ _

/-- The integer arguments index their arrays. -/
def PreOK : Prop := ∀ d : Dev nD, (∀ y, (a1 m d y).toNat < 8000) ∧ (∀ y, (a2 m d y).toNat < 10000) ∧ ∀ y, (a3 m d y).toNat < 40000

/-! ## The calls' obligations -/

theorem defs₀_vector0 (c : Fin τ.nSC) (s : Fin τ.nSub) :
    defs₀ (F := F) (.scVector c s) 0 ()
      = SparseCore.onTile hcore0 hsub0 (fun c s => cc0_k (coords0 c s)
          cageW (Memref.isWhole_whole _) fidsW (Memref.isWhole_whole _) triW (Memref.isWhole_whole _) sCage (Memref.isWhole_whole _)
          sFid (Memref.isWhole_whole _) sOut (Memref.isWhole_whole _) cc0_scoped0 cc0_scoped1 cc0_scoped2) ⟨⟩ c s := rfl
theorem defs₀_vector1 (c : Fin τ.nSC) (s : Fin τ.nSub) :
    defs₀ (F := F) (.scVector c s) 1 ()
      = SparseCore.onTile hcore1 hsub1 (fun c s => cc1_k (coords1 c s)
          fixW (Memref.isWhole_whole _) t2tW (Memref.isWhole_whole _) tvidW (Memref.isWhole_whole _) cageW (Memref.isWhole_whole _)
          tetW (Memref.isWhole_whole _) vertW (Memref.isWhole_whole _) sT2t (Memref.isWhole_whole _) sTvid (Memref.isWhole_whole _)
          sCage1 (Memref.isWhole_whole _) sFix (Memref.isWhole_whole _) sTet (Memref.isWhole_whole _) sVert (Memref.isWhole_whole _)
          cc1_scoped0 cc1_scoped1 cc1_scoped2 cc1_scoped3 cc1_scoped4 cc1_scoped5) ⟨⟩ c s := rfl

set_option maxRecDepth 16384 in
theorem tileObl0 (hpre : PreOK m) : (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector0]; simp only [SparseCore.onTile, hci, and_self, ↓reduceDIte]
  exact (tri_body d (coords0 ⟨_, hci.1⟩ ⟨_, hci.2⟩) (tq (a := 2) (b := 16) c i) _ _ _ (fidsV_lt _ (hpre d).1) O W hO).trans (wp_mono frame _ _ fun _ => obl_post)

set_option maxRecDepth 16384 in
theorem tileObl1 (hpre : PreOK m) : (K (F := F)).TileObl (D (F := F)) 𝒱 (P m) v₀ 1 := by
  intro d c i O W hO _ _
  simp only [show (P m).ox = fun _ _ => 0 from rfl, add_zero]
  have hci : ((K (F := F)).core 1 c).val < grid1.bound 0 ∧ ((K (F := F)).sub 1 i).val < grid1.bound 1 := ⟨c.isLt, i.isLt⟩
  change _ ⊢ wp _ _ _ (Pipeline.liftProg (defs₀ (F := F) (.scVector ((K (F := F)).core 1 c) ((K (F := F)).sub 1 i)) 1 ())) _
  refine BI.Entails.trans ?_ (Pipeline.wp_liftProg (D (F := F)) (Pipeline.defs_kernel pcfgs defs₀) 𝒱₀ _ Set.univ none _ _)
  rw [defs₀_vector1]; simp only [SparseCore.onTile, hci, and_self, ↓reduceDIte]
  exact (tet_body d (coords1 ⟨_, hci.1⟩ ⟨_, hci.2⟩) (tq (a := 2) (b := 16) c i) _ _ _ _ _ _ (hpre d).2.2 (hpre d).2.1 (tvidV_lt _ (hpre d).1) O W hO).trans
    (wp_mono frame _ _ fun _ => obl_post)

theorem vecSplit0 : (K (F := F)).VecSplit' (P m) 0 := by
  intro d c
  show (bigSep Finset.univ fun i : Fin 16 => go0 m d c i) ⊢ |={Set.univ}=> iprop((bigSep Finset.univ fun i : Fin 16 => go0 m d c i)
    ∗ ((bigSep Finset.univ fun i : Fin 16 => td0 m d c i) -∗ (bigSep Finset.univ fun i : Fin 16 => td0 m d c i)))
  iintro H; imodintro
  isplitl [H]; · iexact H
  iintro H; iexact H

theorem vecSplit1 : (K (F := F)).VecSplit' (P m) 1 := by
  intro d c
  show (bigSep Finset.univ fun i : Fin 16 => go1 m d c i) ⊢ |={Set.univ}=> iprop((bigSep Finset.univ fun i : Fin 16 => go1 m d c i)
    ∗ ((bigSep Finset.univ fun i : Fin 16 => td1 m d c i) -∗ (bigSep Finset.univ fun i : Fin 16 => td1 m d c i)))
  iintro H; imodintro
  isplitl [H]; · iexact H
  iintro H; iexact H

/-! ## The calls' operands, whole -/

theorem st0_eq (d : Dev nD) :
    (bigSep Finset.univ fun c : Fin ((K (F := F)).nCore 0) => (P m).st 0 d c)
      = iprop(((SparseCore.T d).loc main_v1 ↦{fullShare} cageV (a0 m d)) ∗ ((SparseCore.T d).loc main_v4 ↦{fullShare} fidsV (a1 m d))
          ∗ (SparseCore.T d).loc main_v5 ↦{fullShare} m ((SparseCore.T d).loc main_v5)) := by
  rw [share_deal (a := 2) (b := 16) ((SparseCore.T d).loc main_v1), share_deal (a := 2) (b := 16) ((SparseCore.T d).loc main_v4),
    tiles_split (a := 2) (b := 16) (ℓ := (SparseCore.T d).loc main_v5) triS triS_blocks.1 triS_blocks.2]
  show (bigSep Finset.univ fun c : Fin 2 => bigSep Finset.univ fun i : Fin 16 => go0 m d c i) = _
  unfold go0 triGo
  simp only [bigSep_sep']

theorem dn0_out (d : Dev nD) :
    (bigSep Finset.univ fun c : Fin ((K (F := F)).nCore 0) => (P m).dn 0 d c)
      ⊢ iprop(((SparseCore.T d).loc main_v1 ↦{fullShare} cageV (a0 m d)) ∗ ((SparseCore.T d).loc main_v4 ↦{fullShare} fidsV (a1 m d))
          ∗ ∃ f : Buf (Elt F) ((SparseCore.T d).loc main_v5), ⌜∀ y : S16x40960.Idx, (y 0).val < 9 → f y = triG (cageV (a0 m d)) (fidsV (a1 m d)) y⌝
              ∗ (SparseCore.T d).loc main_v5 ↦{fullShare} f) := by
  rw [share_deal (a := 2) (b := 16) ((SparseCore.T d).loc main_v1), share_deal (a := 2) (b := 16) ((SparseCore.T d).loc main_v4)]
  show (bigSep Finset.univ fun c : Fin 2 => bigSep Finset.univ fun i : Fin 16 => td0 m d c i) ⊢ _
  unfold td0 triTd
  simp only [bigSep_sep']
  have : Nonempty (Buf (Elt F) ((SparseCore.T d).loc main_v5)) := ⟨m _⟩
  exact sep_mono_right (sep_mono_right (tiles_join (a := 2) (b := 16) (ℓ := (SparseCore.T d).loc main_v5) triS triS_blocks.1 triS_blocks.2
    (fun (y : S16x40960.Idx) v => (y 0).val < 9 → v = triG (cageV (a0 m d)) (fidsV (a1 m d)) y)))

theorem st1_eq (d : Dev nD) :
    (bigSep Finset.univ fun c : Fin ((K (F := F)).nCore 1) => (P m).st 1 d c)
      = iprop(((SparseCore.T d).loc main_arg3 ↦{fullShare} a3 m d) ∗ ((SparseCore.T d).loc main_arg2 ↦{fullShare} a2 m d)
          ∗ ((SparseCore.T d).loc main_v14 ↦{fullShare} tvidV (a1 m d)) ∗ ((SparseCore.T d).loc main_v1 ↦{fullShare} cageV (a0 m d))
          ∗ ((SparseCore.T d).loc main_v15_0 ↦{fullShare} m ((SparseCore.T d).loc main_v15_0))
          ∗ (SparseCore.T d).loc main_v15_1 ↦{fullShare} m ((SparseCore.T d).loc main_v15_1)) := by
  rw [share_deal (a := 2) (b := 16) ((SparseCore.T d).loc main_v1), share_deal (a := 2) (b := 16) ((SparseCore.T d).loc main_v14),
    share_deal (a := 2) (b := 16) ((SparseCore.T d).loc main_arg2), share_deal (a := 2) (b := 16) ((SparseCore.T d).loc main_arg3),
    tiles_split (a := 2) (b := 16) (ℓ := (SparseCore.T d).loc main_v15_0) tetS tetS_blocks.1 tetS_blocks.2,
    tiles_split (a := 2) (b := 16) (ℓ := (SparseCore.T d).loc main_v15_1) vertS vertS_blocks.1 vertS_blocks.2]
  show (bigSep Finset.univ fun c : Fin 2 => bigSep Finset.univ fun i : Fin 16 => go1 m d c i) = _
  unfold go1 tetGo
  simp only [bigSep_sep']

theorem dn1_out (d : Dev nD) :
    (bigSep Finset.univ fun c : Fin ((K (F := F)).nCore 1) => (P m).dn 1 d c)
      ⊢ iprop(((SparseCore.T d).loc main_arg3 ↦{fullShare} a3 m d) ∗ ((SparseCore.T d).loc main_arg2 ↦{fullShare} a2 m d)
          ∗ ((SparseCore.T d).loc main_v14 ↦{fullShare} tvidV (a1 m d)) ∗ ((SparseCore.T d).loc main_v1 ↦{fullShare} cageV (a0 m d))
          ∗ (∃ f : Buf (Elt F) ((SparseCore.T d).loc main_v15_0), ⌜∀ y : S4096.Idx, f y = tetG (F := F) (a2 m d) (a3 m d) y⌝
              ∗ (SparseCore.T d).loc main_v15_0 ↦{fullShare} f)
          ∗ ∃ g : Buf (Elt F) ((SparseCore.T d).loc main_v15_1),
              ⌜∀ y : S4096x16.Idx, (y 1).val < 12 → g y = vertG (cageV (a0 m d)) (tvidV (a1 m d)) (a2 m d) (a3 m d) y⌝
                ∗ (SparseCore.T d).loc main_v15_1 ↦{fullShare} g) := by
  rw [share_deal (a := 2) (b := 16) ((SparseCore.T d).loc main_v1), share_deal (a := 2) (b := 16) ((SparseCore.T d).loc main_v14),
    share_deal (a := 2) (b := 16) ((SparseCore.T d).loc main_arg2), share_deal (a := 2) (b := 16) ((SparseCore.T d).loc main_arg3)]
  show (bigSep Finset.univ fun c : Fin 2 => bigSep Finset.univ fun i : Fin 16 => td1 m d c i) ⊢ _
  unfold td1 tetTd
  simp only [bigSep_sep']
  have : Nonempty (Buf (Elt F) ((SparseCore.T d).loc main_v15_0)) := ⟨m _⟩
  have : Nonempty (Buf (Elt F) ((SparseCore.T d).loc main_v15_1)) := ⟨m _⟩
  exact sep_mono_right (sep_mono_right (sep_mono_right (sep_mono_right (sep_mono
    (tiles_join (a := 2) (b := 16) (ℓ := (SparseCore.T d).loc main_v15_0) tetS tetS_blocks.1 tetS_blocks.2
      (fun (y : S4096.Idx) v => v = tetG (F := F) (a2 m d) (a3 m d) y))
    (tiles_join (a := 2) (b := 16) (ℓ := (SparseCore.T d).loc main_v15_1) vertS vertS_blocks.1 vertS_blocks.2
      (fun (y : S4096x16.Idx) v => (y 1).val < 12 → v = vertG (cageV (a0 m d)) (tvidV (a1 m d)) (a2 m d) (a3 m d) y))))))

end Pay

end Cert.Proof.I
end
-- ==== Proof.I.Main.lean ====
/-
  The whole program: the host's operations in three lines around the two SparseCore calls, what each line leaves, and the
  program's run with the values of its three results.
-/
module

public import proofs.«01_k».proof.Proof.I.Launch
public import Idealize.ShloMosaic.Lib.Pipeline.Frame

@[expose] public section

noncomputable section

namespace Cert.Proof.I

open Cert.KernelIdeal Cert.KernelIdeal.Gen

open Idealize.ShloMosaic
open Idealize.ShloMosaic.StableHlo (held seq after)
open Idealize.ShloMosaic.SparseCore (S V T)
open Idealize.ShloMosaic.SparseCore.Cfg (HIx Pay)
open Idealize.ShloMosaic.Pipeline (ucRefs sub_ucRefs)
open Idealize.SL Idealize.SL.RA
open Idealize.SL.BI (sProp bigSep bigSep_emp_const bigSep_congr)
open scoped Idealize.SL.BI
open Idealize.SL.BI.BIBase Idealize.SL.BI.Laws Idealize.SL.ProofMode Idealize.SL.Sem
open Idealize.ShloMosaic.Rounds

variable {F : FTy → Type} [FloatOps F]

theorem emp_const {I : Type} (s : Finset I) : (bigSep s fun _ => iprop(emp)) = (iprop(emp) : sProp (MT nD τ sig (HIx 2) (Elt F) ℕ UU ℕ)) := bigSep_emp_const s

local notation "𝕄" => MT nD τ sig (HIx 2) (Elt F) ℕ UU ℕ

/-! ## The host's lines -/

abbrev Op (F : FTy → Type) : Type := HloOp τ sig (Elt F)

/-- Before the first call. -/
def ops0 : List (Op F) :=
  [StableHlo.reshape main_arg0 main_v0 (rfl : (.f32 : EltTy) = .f32) shapeCasts_S1x8000x3_S8000x3,
   StableHlo.reshape main_v0 main_v1 (rfl : (.f32 : EltTy) = .f32) shapeCasts_S8000x3_S24000,
   StableHlo.reshape main_arg1 main_v2 (rfl : (.i32 : EltTy) = .i32) shapeCasts_S10000x4x3_S40000x3,
   StableHlo.unary main_v2 main_v3 ((transpose S3x40000 [1, 0] · transposes_S40000x3_S3x40000_1_0) : (⟨S40000x3, .i32⟩ : BufTy).Contents (Elt F) → (⟨S3x40000, .i32⟩ : BufTy).Contents (Elt F)),
   StableHlo.nullary main_c (constantI S_ 32 0#32),
   StableHlo.unary main_c main_call0_v0 (id : (⟨S_, .i32⟩ : BufTy).Contents (Elt F) → (⟨S_, .i32⟩ : BufTy).Contents (Elt F)),
   StableHlo.binary main_v3 main_call0_v0 main_v4 ((fun x v => pad S3x40960 ![0, 0] ![0, 960] ![0, 0] x v pads_S3x40000_S3x40960_000_09600 h_S_)
     : (⟨S3x40000, .i32⟩ : BufTy).Contents (Elt F) → (⟨S_, .i32⟩ : BufTy).Contents (Elt F) → (⟨S3x40960, .i32⟩ : BufTy).Contents (Elt F))]

/-- Between the calls. -/
def ops1 : List (Op F) :=
  [StableHlo.unary main_arg1 main_v6 ((extractStridedSlice S10000x1x1 ![0, 0, 0] · slices_S10000x4x3_S10000x1x1_0_0_0) : (⟨S10000x4x3, .i32⟩ : BufTy).Contents (Elt F) → (⟨S10000x1x1, .i32⟩ : BufTy).Contents (Elt F)),
   StableHlo.reshape main_v6 main_v7 (rfl : (.i32 : EltTy) = .i32) shapeCasts_S10000x1x1_S10000,
   StableHlo.unary main_arg1 main_v8 ((extractStridedSlice S10000x1x1 ![0, 0, 1] · slices_S10000x4x3_S10000x1x1_0_0_1) : (⟨S10000x4x3, .i32⟩ : BufTy).Contents (Elt F) → (⟨S10000x1x1, .i32⟩ : BufTy).Contents (Elt F)),
   StableHlo.reshape main_v8 main_v9 (rfl : (.i32 : EltTy) = .i32) shapeCasts_S10000x1x1_S10000,
   StableHlo.unary main_arg1 main_v10 ((extractStridedSlice S10000x1x1 ![0, 0, 2] · slices_S10000x4x3_S10000x1x1_0_0_2) : (⟨S10000x4x3, .i32⟩ : BufTy).Contents (Elt F) → (⟨S10000x1x1, .i32⟩ : BufTy).Contents (Elt F)),
   StableHlo.reshape main_v10 main_v11 (rfl : (.i32 : EltTy) = .i32) shapeCasts_S10000x1x1_S10000,
   StableHlo.unary main_arg1 main_v12 ((extractStridedSlice S10000x1x1 ![0, 1, 2] · slices_S10000x4x3_S10000x1x1_0_1_2) : (⟨S10000x4x3, .i32⟩ : BufTy).Contents (Elt F) → (⟨S10000x1x1, .i32⟩ : BufTy).Contents (Elt F)),
   StableHlo.reshape main_v12 main_v13 (rfl : (.i32 : EltTy) = .i32) shapeCasts_S10000x1x1_S10000,
   StableHlo.nary ![main_v7, main_v9, main_v11, main_v13] main_v14 (fun u => (concatenate S40000 0 [⟨S10000, (u 0 : (⟨S10000, .i32⟩ : BufTy).Contents (Elt F))⟩, ⟨S10000, (u 1 : (⟨S10000, .i32⟩ : BufTy).Contents (Elt F))⟩, ⟨S10000, (u 2 : (⟨S10000, .i32⟩ : BufTy).Contents (Elt F))⟩, ⟨S10000, (u 3 : (⟨S10000, .i32⟩ : BufTy).Contents (Elt F))⟩] concatenates_S10000_S10000_S10000_S10000_S40000_d0 : (⟨S40000, .i32⟩ : BufTy).Contents (Elt F)))]

/-- After the second call. -/
def ops2 : List (Op F) :=
  [StableHlo.unary main_v5 main_v16 ((extractStridedSlice S9x40000 ![0, 0] · slices_S16x40960_S9x40000_0_0) : (⟨S16x40960, .f32⟩ : BufTy).Contents (Elt F) → (⟨S9x40000, .f32⟩ : BufTy).Contents (Elt F)),
   StableHlo.unary main_v15_1 main_v17 ((extractStridedSlice S4096x12 ![0, 0] · slices_S4096x16_S4096x12_0_0) : (⟨S4096x16, .f32⟩ : BufTy).Contents (Elt F) → (⟨S4096x12, .f32⟩ : BufTy).Contents (Elt F))]

theorem main_eq (d : Dev nD) :
    main (F := F) d = (seq ops0 >>= fun _ => sc.run d 0 >>= fun _ => seq ops1 >>= fun _ => sc.run d 1 >>= fun _ => seq ops2 >>= fun _ => pure ⟨⟩) := by
  rfl

abbrev UC : Finset (DevRef τ sig) := ucRefs τ sig

theorem ops0_sub : ∀ op ∈ (ops0 : List (Op F)), op.bufs ⊆ UC := by
  intro op h
  apply sub_ucRefs
  simp only [ops0, List.mem_cons, List.not_mem_nil, _root_.or_false] at h
  rcases h with rfl | rfl | rfl | rfl | rfl | rfl | rfl <;> simp only [StableHlo.reshape_bufs_sub, StableHlo.unary_bufs_sub, StableHlo.nullary_bufs_sub, StableHlo.binary_bufs_sub]
theorem ops1_sub : ∀ op ∈ (ops1 : List (Op F)), op.bufs ⊆ UC := by
  intro op h
  apply sub_ucRefs
  simp only [ops1, List.mem_cons, List.not_mem_nil, _root_.or_false] at h
  rcases h with rfl | rfl | rfl | rfl | rfl | rfl | rfl | rfl | rfl <;> simp only [StableHlo.reshape_bufs_sub, StableHlo.unary_bufs_sub, StableHlo.nary_bufs_sub]
theorem ops2_sub : ∀ op ∈ (ops2 : List (Op F)), op.bufs ⊆ UC := by
  intro op h
  apply sub_ucRefs
  simp only [ops2, List.mem_cons, List.not_mem_nil, _root_.or_false] at h
  rcases h with rfl | rfl <;> simp only [StableHlo.unary_bufs_sub]
theorem ops0_fresh : ∀ op ∈ (ops0 : List (Op F)), op.fresh = ∅ := by
  intro op h; simp only [ops0, List.mem_cons, List.not_mem_nil, _root_.or_false] at h
  rcases h with rfl | rfl | rfl | rfl | rfl | rfl | rfl <;> rfl
theorem ops1_fresh : ∀ op ∈ (ops1 : List (Op F)), op.fresh = ∅ := by
  intro op h; simp only [ops1, List.mem_cons, List.not_mem_nil, _root_.or_false] at h
  rcases h with rfl | rfl | rfl | rfl | rfl | rfl | rfl | rfl | rfl <;> rfl
theorem ops2_fresh : ∀ op ∈ (ops2 : List (Op F)), op.fresh = ∅ := by
  intro op h; simp only [ops2, List.mem_cons, List.not_mem_nil, _root_.or_false] at h
  rcases h with rfl | rfl <;> rfl

section Values
variable (W : Valuation τ sig (Elt F))

theorem ops0_v1 : after ops0 W (Proc.devRef .tc main_v1) = cageV (W (Proc.devRef .tc main_arg0)) := by
  unfold ops0; after_results_simp; rfl
theorem ops0_v4 : after ops0 W (Proc.devRef .tc main_v4) = fidsV (W (Proc.devRef .tc main_arg1)) := by
  unfold ops0; after_results_simp; rfl
theorem ops1_v14 : after ops1 W (Proc.devRef .tc main_v14) = tvidV (W (Proc.devRef .tc main_arg1)) := by
  unfold ops1; after_results_simp; rfl
theorem ops2_v16 : after ops2 W (Proc.devRef .tc main_v16) = extractStridedSlice S9x40000 ![0, 0] (W (Proc.devRef .tc main_v5)) slices_S16x40960_S9x40000_0_0 := by
  unfold ops2; after_results_simp
theorem ops2_v17 : after ops2 W (Proc.devRef .tc main_v17) = extractStridedSlice S4096x12 ![0, 0] (W (Proc.devRef .tc main_v15_1)) slices_S4096x16_S4096x12_0_0 := by
  unfold ops2; after_results_simp

theorem ops0_other {b : Ref sig .tc} (h : b ∈ [main_arg0, main_arg1, main_arg2, main_arg3, main_v5, main_v15_0, main_v15_1]) :
    after ops0 W (Proc.devRef .tc b) = W (Proc.devRef .tc b) := by
  simp only [List.mem_cons, List.not_mem_nil, _root_.or_false] at h
  rcases h with rfl | rfl | rfl | rfl | rfl | rfl | rfl <;> (unfold ops0; after_results_simp)
theorem ops1_other {b : Ref sig .tc} (h : b ∈ [main_arg0, main_arg1, main_arg2, main_arg3, main_v1, main_v5, main_v15_0, main_v15_1]) :
    after ops1 W (Proc.devRef .tc b) = W (Proc.devRef .tc b) := by
  simp only [List.mem_cons, List.not_mem_nil, _root_.or_false] at h
  rcases h with rfl | rfl | rfl | rfl | rfl | rfl | rfl | rfl <;> (unfold ops1; after_results_simp)
theorem ops2_other {b : Ref sig .tc} (h : b ∈ [main_arg0, main_arg1, main_arg2, main_arg3, main_v15_0]) :
    after ops2 W (Proc.devRef .tc b) = W (Proc.devRef .tc b) := by
  simp only [List.mem_cons, List.not_mem_nil, _root_.or_false] at h
  rcases h with rfl | rfl | rfl | rfl | rfl <;> (unfold ops2; after_results_simp)

end Values

/-! ## One buffer taken out of a held set and put back -/

theorem held_out (d : Dev nD) {S : Finset (DevRef τ sig)} {b : DevRef τ sig} (hb : b ∈ S) (W : Valuation τ sig (Elt F)) :
    (held (d.tc : Thread nD τ) S W : sProp 𝕄) = iprop(((d, b) ↦{fullShare} W b) ∗ held (d.tc : Thread nD τ) (S.erase b) W) := by
  unfold held; exact SparseCore.bigSep_erase' hb

theorem held_put (d : Dev nD) {S : Finset (DevRef τ sig)} {b : DevRef τ sig} (hb : b ∈ S) (W : Valuation τ sig (Elt F)) (f : Buf (Elt F) (d, b)) :
    (held (d.tc : Thread nD τ) S (Function.update W b f) : sProp 𝕄) = iprop(((d, b) ↦{fullShare} f) ∗ held (d.tc : Thread nD τ) (S.erase b) W) := by
  rw [held_out d hb, Function.update_self]
  congr 1
  exact StableHlo.held_congr _ fun b' hb' => Function.update_of_ne (Finset.ne_of_mem_erase hb') _ _

theorem mem_UC (b : Ref sig .tc) (h : b.isScoped = false) : (Proc.devRef .tc b : DevRef τ sig) ∈ UC :=
  Finset.mem_filter.mpr ⟨Finset.mem_map.mpr ⟨b, Finset.mem_univ b, rfl⟩, by rw [show (Proc.devRef .tc b : DevRef τ sig).isScoped = b.isScoped from rfl, h]; decide⟩

section Run
variable (m : (ℓ : Loc nD τ sig) → Buf (Elt F) ℓ) (ρ : Dev nD → PrngReg)

/-- The first call, its operands and its result in the host's buffers. -/
theorem call0 (κ : GSem nD τ sig → ℕ) (d : Dev nD) (W : Valuation τ sig (Elt F))
    (h1 : W (Proc.devRef .tc main_v1) = cageV (a0 m d)) (h4 : W (Proc.devRef .tc main_v4) = fidsV (a1 m d))
    (h5 : W (Proc.devRef .tc main_v5) = m ((SparseCore.T d).loc main_v5)) (Φ : PUnit → sProp 𝕄) :
    iprop((K (F := F)).ctx EH (P m) κ ∗ (K (F := F)).tcSt EH d 0 ∗ held (d.tc : Thread nD τ) UC W
        ∗ (∀ W' : Valuation τ sig (Elt F), ⌜(∀ y : S16x40960.Idx, (y 0).val < 9 → W' (Proc.devRef .tc main_v5) y = triG (cageV (a0 m d)) (fidsV (a1 m d)) y)
              ∧ ∀ b, b ≠ Proc.devRef .tc main_v5 → W' b = W b⌝
            -∗ (K (F := F)).tcSt EH d 1 -∗ held (d.tc : Thread nD τ) UC W' -∗ Φ ⟨⟩))
      ⊢ wp frame (wpE ((K (F := F)).defs (D (F := F))) 𝒱 (SparseCore.T d) none) Set.univ ((K (F := F)).run d 0) Φ := by
  have e1 : (Proc.devRef .tc main_v1 : DevRef τ sig) ≠ Proc.devRef .tc main_v5 := by decide
  have e4 : (Proc.devRef .tc main_v4 : DevRef τ sig) ≠ Proc.devRef .tc main_v5 := by decide
  have m1 : (Proc.devRef .tc main_v1 : DevRef τ sig) ∈ UC := mem_UC main_v1 rfl
  have m4 : (Proc.devRef .tc main_v4 : DevRef τ sig) ∈ UC.erase (Proc.devRef .tc main_v1) := Finset.mem_erase.mpr ⟨by decide, mem_UC main_v4 rfl⟩
  have m5 : (Proc.devRef .tc main_v5 : DevRef τ sig) ∈ (UC.erase (Proc.devRef .tc main_v1)).erase (Proc.devRef .tc main_v4) :=
    Finset.mem_erase.mpr ⟨by decide, Finset.mem_erase.mpr ⟨by decide, mem_UC main_v5 rfl⟩⟩
  rw [held_out d m1, held_out d m4, held_out d m5, h1, h4, h5]
  iintro ⟨#Hctx, Hst, ⟨H1, H4, H5, Hr⟩, HΦ⟩
  iapply ((K (F := F)).wp_run (D (F := F)) 𝒱 (EH := EH) (P := P m) κ d 0)
  isplitr; · iexact Hctx
  isplitl [Hst]; · iexact Hst
  isplitl [H1 H4 H5]
  · rw [st0_eq]
    isplitl [H1]; · iexact H1
    isplitl [H4]; · iexact H4
    iexact H5
  iintro ⟨Hst, Hdn⟩
  ihave Hdn' := (dn0_out m d) $$ Hdn
  icases Hdn' with ⟨H1, H4, %f, %hf, H5⟩
  iapply HΦ $$ %(Function.update W (Proc.devRef .tc main_v5) f) [] [Hst] [H1 H4 H5 Hr]
  · ipureintro
    refine ⟨fun y hy => ?_, fun b hb => Function.update_of_ne hb _ _⟩
    rw [Function.update_self]; exact hf y hy
  · iexact Hst
  · rw [held_out d m1, held_out d m4, held_put d m5, Function.update_of_ne e1, Function.update_of_ne e4, h1, h4]
    isplitl [H1]; · iexact H1
    isplitl [H4]; · iexact H4
    isplitl [H5]; · iexact H5
    iexact Hr

/-- The second call, likewise. -/
theorem call1 (κ : GSem nD τ sig → ℕ) (d : Dev nD) (W : Valuation τ sig (Elt F))
    (h3 : W (Proc.devRef .tc main_arg3) = a3 m d) (h2 : W (Proc.devRef .tc main_arg2) = a2 m d)
    (h14 : W (Proc.devRef .tc main_v14) = tvidV (a1 m d)) (h1 : W (Proc.devRef .tc main_v1) = cageV (a0 m d))
    (h5 : W (Proc.devRef .tc main_v15_0) = m ((SparseCore.T d).loc main_v15_0))
    (h6 : W (Proc.devRef .tc main_v15_1) = m ((SparseCore.T d).loc main_v15_1)) (Φ : PUnit → sProp 𝕄) :
    iprop((K (F := F)).ctx EH (P m) κ ∗ (K (F := F)).tcSt EH d 1 ∗ held (d.tc : Thread nD τ) UC W
        ∗ (∀ W' : Valuation τ sig (Elt F), ⌜(∀ y : S4096.Idx, W' (Proc.devRef .tc main_v15_0) y = tetG (F := F) (a2 m d) (a3 m d) y)
              ∧ (∀ y : S4096x16.Idx, (y 1).val < 12 → W' (Proc.devRef .tc main_v15_1) y = vertG (cageV (a0 m d)) (tvidV (a1 m d)) (a2 m d) (a3 m d) y)
              ∧ ∀ b, b ≠ Proc.devRef .tc main_v15_0 → b ≠ Proc.devRef .tc main_v15_1 → W' b = W b⌝
            -∗ (K (F := F)).tcSt EH d 2 -∗ held (d.tc : Thread nD τ) UC W' -∗ Φ ⟨⟩))
      ⊢ wp frame (wpE ((K (F := F)).defs (D (F := F))) 𝒱 (SparseCore.T d) none) Set.univ ((K (F := F)).run d 1) Φ := by
  have m3 : (Proc.devRef .tc main_arg3 : DevRef τ sig) ∈ UC := mem_UC main_arg3 rfl
  have m2 : (Proc.devRef .tc main_arg2 : DevRef τ sig) ∈ UC.erase (Proc.devRef .tc main_arg3) := Finset.mem_erase.mpr ⟨by decide, mem_UC main_arg2 rfl⟩
  have m14 : (Proc.devRef .tc main_v14 : DevRef τ sig) ∈ (UC.erase (Proc.devRef .tc main_arg3)).erase (Proc.devRef .tc main_arg2) :=
    Finset.mem_erase.mpr ⟨by decide, Finset.mem_erase.mpr ⟨by decide, mem_UC main_v14 rfl⟩⟩
  have m1 : (Proc.devRef .tc main_v1 : DevRef τ sig) ∈ ((UC.erase (Proc.devRef .tc main_arg3)).erase (Proc.devRef .tc main_arg2)).erase (Proc.devRef .tc main_v14) :=
    Finset.mem_erase.mpr ⟨by decide, Finset.mem_erase.mpr ⟨by decide, Finset.mem_erase.mpr ⟨by decide, mem_UC main_v1 rfl⟩⟩⟩
  have m5 : (Proc.devRef .tc main_v15_0 : DevRef τ sig) ∈ (((UC.erase (Proc.devRef .tc main_arg3)).erase (Proc.devRef .tc main_arg2)).erase (Proc.devRef .tc main_v14)).erase (Proc.devRef .tc main_v1) :=
    Finset.mem_erase.mpr ⟨by decide, Finset.mem_erase.mpr ⟨by decide, Finset.mem_erase.mpr ⟨by decide, Finset.mem_erase.mpr ⟨by decide, mem_UC main_v15_0 rfl⟩⟩⟩⟩
  have m6 : (Proc.devRef .tc main_v15_1 : DevRef τ sig) ∈ ((((UC.erase (Proc.devRef .tc main_arg3)).erase (Proc.devRef .tc main_arg2)).erase (Proc.devRef .tc main_v14)).erase (Proc.devRef .tc main_v1)).erase (Proc.devRef .tc main_v15_0) :=
    Finset.mem_erase.mpr ⟨by decide, Finset.mem_erase.mpr ⟨by decide, Finset.mem_erase.mpr ⟨by decide, Finset.mem_erase.mpr ⟨by decide, Finset.mem_erase.mpr ⟨by decide, mem_UC main_v15_1 rfl⟩⟩⟩⟩⟩
  rw [held_out d m3, held_out d m2, held_out d m14, held_out d m1, held_out d m5, held_out d m6, h3, h2, h14, h1, h5, h6]
  iintro ⟨#Hctx, Hst, ⟨H3, H2, H14, H1, H5, H6, Hr⟩, HΦ⟩
  iapply ((K (F := F)).wp_run (D (F := F)) 𝒱 (EH := EH) (P := P m) κ d 1)
  isplitr; · iexact Hctx
  isplitl [Hst]; · iexact Hst
  isplitl [H3 H2 H14 H1 H5 H6]
  · rw [st1_eq]
    isplitl [H3]; · iexact H3
    isplitl [H2]; · iexact H2
    isplitl [H14]; · iexact H14
    isplitl [H1]; · iexact H1
    isplitl [H5]; · iexact H5
    iexact H6
  iintro ⟨Hst, Hdn⟩
  ihave Hdn' := (dn1_out m d) $$ Hdn
  icases Hdn' with ⟨H3, H2, H14, H1, ⟨%f, %hf, H5⟩, %g, %hg, H6⟩
  have w5 : Function.update (Function.update W (Proc.devRef .tc main_v15_0) f) (Proc.devRef .tc main_v15_1) g (Proc.devRef .tc main_v15_0) = f := by
    rw [Function.update_of_ne (by decide), Function.update_self]
  iapply HΦ $$ %(Function.update (Function.update W (Proc.devRef .tc main_v15_0) f) (Proc.devRef .tc main_v15_1) g) [] [Hst] [H3 H2 H14 H1 H5 H6 Hr]
  · ipureintro
    refine ⟨fun y => ?_, fun y hy => ?_, fun b hb hb' => ?_⟩
    · rw [w5]; exact hf y
    · rw [Function.update_self]; exact hg y hy
    · rw [Function.update_of_ne hb', Function.update_of_ne hb]
  · iexact Hst
  · have hw : ∀ b : DevRef τ sig, b ≠ Proc.devRef .tc main_v15_0 → b ≠ Proc.devRef .tc main_v15_1 →
        Function.update (Function.update W (Proc.devRef .tc main_v15_0) f) (Proc.devRef .tc main_v15_1) g b = W b :=
      fun b hb hb' => by rw [Function.update_of_ne hb', Function.update_of_ne hb]
    rw [held_out d m3, held_out d m2, held_out d m14, held_out d m1, held_out d m5, held_put d m6, w5,
      hw (Proc.devRef .tc main_arg3) (by decide) (by decide), hw (Proc.devRef .tc main_arg2) (by decide) (by decide),
      hw (Proc.devRef .tc main_v14) (by decide) (by decide), hw (Proc.devRef .tc main_v1) (by decide) (by decide), h3, h2, h14, h1]
    rw [StableHlo.held_congr _ (V := Function.update W (Proc.devRef .tc main_v15_0) f) (V' := W)
      (fun b hb => Function.update_of_ne (Finset.ne_of_mem_erase (Finset.mem_of_mem_erase hb)) _ _)]
    isplitl [H3]; · iexact H3
    isplitl [H2]; · iexact H2
    isplitl [H14]; · iexact H14
    isplitl [H1]; · iexact H1
    isplitl [H5]; · iexact H5
    isplitl [H6]; · iexact H6
    iexact Hr

/-! ## The results -/

/-- The faces' records. -/
def res0 (d : Dev nD) : FVec F S9x40000 .f32 := fun y =>
  triRow (cageV (a0 m d)) (fidAt (F := F) (fidsV (a1 m d)) 0 ((y 1).castLE (by decide))) (fidAt (F := F) (fidsV (a1 m d)) 1 ((y 1).castLE (by decide)))
    (fidAt (F := F) (fidsV (a1 m d)) 2 ((y 1).castLE (by decide))) (y 0).val
/-- The rays' tetrahedra. -/
def res1 (d : Dev nD) : IVec S4096 32 := tetG (F := F) (a2 m d) (a3 m d)
/-- Their vertices. -/
def res2 (d : Dev nD) : FVec F S4096x12 .f32 := fun y =>
  crd (cageV (a0 m d)) (tvidV (a1 m d)) (a2 m d) (a3 m d (ix1 (y 0))) ((y 1).val / 3) ((y 1).val % 3)

theorem res0_of (d : Dev nD) (f : FVec F S16x40960 .f32) (hf : ∀ y : S16x40960.Idx, (y 0).val < 9 → f y = triG (cageV (a0 m d)) (fidsV (a1 m d)) y) :
    extractStridedSlice S9x40000 ![0, 0] f slices_S16x40960_S9x40000_0_0 = res0 m d := by
  funext y
  refine (hf _ (show 0 + (y 0).val < 9 by have := (y 0).isLt; change (y 0).val < 9 at this; omega)).trans ?_
  unfold triG res0
  congr 1
  · congr 1; exact Fin.ext (Nat.zero_add _)
  · congr 1; exact Fin.ext (Nat.zero_add _)
  · congr 1; exact Fin.ext (Nat.zero_add _)
  · exact Nat.zero_add _

theorem res2_of (d : Dev nD) (g : FVec F S4096x16 .f32)
    (hg : ∀ y : S4096x16.Idx, (y 1).val < 12 → g y = vertG (cageV (a0 m d)) (tvidV (a1 m d)) (a2 m d) (a3 m d) y) :
    extractStridedSlice S4096x12 ![0, 0] g slices_S4096x16_S4096x12_0_0 = res2 m d := by
  funext y
  refine (hg _ (show 0 + (y 1).val < 12 by have := (y 1).isLt; change (y 1).val < 12 at this; omega)).trans ?_
  unfold vertG res2
  congr 1
  · refine congrArg (a3 m d) (congrArg ix1 (Fin.ext (Nat.zero_add _)))
  · exact congrArg (· / 3) (Nat.zero_add _)
  · exact congrArg (· % 3) (Nat.zero_add _)

abbrev FIN (d : Dev nD) : sProp 𝕄 :=
  iprop(((SparseCore.T d).loc main_arg0 ↦{fullShare} a0 m d) ∗ ((SparseCore.T d).loc main_arg1 ↦{fullShare} a1 m d)
    ∗ ((SparseCore.T d).loc main_arg2 ↦{fullShare} a2 m d) ∗ ((SparseCore.T d).loc main_arg3 ↦{fullShare} a3 m d)
    ∗ ((SparseCore.T d).loc main_v16 ↦{fullShare} res0 m d) ∗ ((SparseCore.T d).loc main_v15_0 ↦{fullShare} res1 m d)
    ∗ (SparseCore.T d).loc main_v17 ↦{fullShare} res2 m d)

/-- The results and the arguments, out of the host's buffers at the end. -/
theorem fin_of (d : Dev nD) (W : Valuation τ sig (Elt F))
    (h0 : W (Proc.devRef .tc main_arg0) = a0 m d) (h1 : W (Proc.devRef .tc main_arg1) = a1 m d)
    (h2 : W (Proc.devRef .tc main_arg2) = a2 m d) (h3 : W (Proc.devRef .tc main_arg3) = a3 m d)
    (h16 : W (Proc.devRef .tc main_v16) = res0 m d) (h15 : W (Proc.devRef .tc main_v15_0) = res1 m d) (h17 : W (Proc.devRef .tc main_v17) = res2 m d) :
    (held (d.tc : Thread nD τ) UC W : sProp 𝕄) ⊢ FIN m d := by
  have hs : ({Proc.devRef .tc main_arg0, Proc.devRef .tc main_arg1, Proc.devRef .tc main_arg2, Proc.devRef .tc main_arg3, Proc.devRef .tc main_v16,
      Proc.devRef .tc main_v15_0, Proc.devRef .tc main_v17} : Finset (DevRef τ sig)) ⊆ UC := by
    intro b hb
    simp only [Finset.mem_insert, Finset.mem_singleton] at hb
    rcases hb with rfl | rfl | rfl | rfl | rfl | rfl | rfl <;> exact mem_UC _ rfl
  rw [StableHlo.held_sub_split _ hs]
  refine sep_elim_left.trans ?_
  unfold held
  rw [SparseCore.bigSep_insert' (by decide), SparseCore.bigSep_insert' (by decide), SparseCore.bigSep_insert' (by decide), SparseCore.bigSep_insert' (by decide),
    SparseCore.bigSep_insert' (by decide), SparseCore.bigSep_insert' (by decide), BI.bigSep_singleton, h0, h1, h2, h3, h16, h15, h17]

/-- The whole program on a device's TensorCore. -/
theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 2 ∗ FIN m d ∗ (K (F := F)).tcEnd d) := by
  unfold SparseCore.Cfg.tcRes SparseCore.Cfg.tcEnd
  rw [main_eq, show (unscopedBufs d (fun b => m ((SparseCore.T d).loc b)) : sProp 𝕄) = held (d.tc : Thread nD τ) UC (fun b => m (d, b)) from
    Pipeline.unscopedBufs_held d (fun b => m (d, b))]
  iintro ⟨#Hctx, Hst, ⟨Hb, Hh, Hts, -⟩, -⟩
  iapply (StableHlo.wp_seq 𝒱 none Set.univ d UC _ ops0 ops0_sub ops0_fresh _) $$ [Hb Hh]
  · isplitl [Hb] <;> iassumption
  iintro ⟨Hb, Hh⟩
  generalize hW0 : after ops0 (fun b => m (d, b)) = W0
  have k0 : ∀ b ∈ [main_arg0, main_arg1, main_arg2, main_arg3, main_v5, main_v15_0, main_v15_1], W0 (Proc.devRef .tc b) = m (d, Proc.devRef .tc b) := by
    intro b hb; rw [← hW0]; exact ops0_other _ hb
  rw [wp_bind]
  iapply (call0 m κ d W0 (by rw [← hW0]; exact ops0_v1 _) (by rw [← hW0]; exact ops0_v4 _) (k0 main_v5 (by decide)) _)
  isplitr; · iexact Hctx
  isplitl [Hst]; · iexact Hst
  isplitl [Hh]; · iexact Hh
  iintro %W1 %h1 Hst Hh
  iapply (StableHlo.wp_seq 𝒱 none Set.univ d UC _ ops1 ops1_sub ops1_fresh _) $$ [Hb Hh]
  · isplitl [Hb] <;> iassumption
  iintro ⟨Hb, Hh⟩
  generalize hW2 : after ops1 W1 = W2
  have k2 : ∀ b ∈ [main_arg0, main_arg1, main_arg2, main_arg3, main_v15_0, main_v15_1], W2 (Proc.devRef .tc b) = m (d, Proc.devRef .tc b) := by
    intro b hb
    simp only [List.mem_cons, List.not_mem_nil, _root_.or_false] at hb
    rcases hb with rfl | rfl | rfl | rfl | rfl | rfl <;>
      rw [← hW2, ops1_other _ (by decide), h1.2 _ (by decide), k0 _ (by decide)]
  rw [wp_bind]
  iapply (call1 m κ d W2 (k2 main_arg3 (by decide)) (k2 main_arg2 (by decide))
    (by rw [← hW2, ops1_v14, h1.2 _ (by decide), k0 _ (by decide)])
    (by rw [← hW2, ops1_other _ (by decide), h1.2 _ (by decide), ← hW0, ops0_v1]) (k2 main_v15_0 (by decide)) (k2 main_v15_1 (by decide)) _)
  isplitr; · iexact Hctx
  isplitl [Hst]; · iexact Hst
  isplitl [Hh]; · iexact Hh
  iintro %W3 %h3 Hst Hh
  iapply (StableHlo.wp_seq 𝒱 none Set.univ d UC _ ops2 ops2_sub ops2_fresh _) $$ [Hb Hh]
  · isplitl [Hb] <;> iassumption
  iintro ⟨Hb, Hh⟩
  have k3 : ∀ b ∈ [main_arg0, main_arg1, main_arg2, main_arg3], after ops2 W3 (Proc.devRef .tc b) = m (d, Proc.devRef .tc b) := by
    intro b hb
    simp only [List.mem_cons, List.not_mem_nil, _root_.or_false] at hb
    rcases hb with rfl | rfl | rfl | rfl <;>
      rw [ops2_other _ (by decide), h3.2.2 _ (by decide) (by decide), k2 _ (by decide)]
  rw [wp_pure]; imodintro
  isplitl [Hst]; · iexact Hst
  isplitl [Hh]
  · iapply (fin_of m d (after ops2 W3) (k3 _ (by decide)) (k3 _ (by decide)) (k3 _ (by decide)) (k3 _ (by decide)) ?_ ?_ ?_) $$ Hh
    · rw [ops2_v16]
      refine res0_of m d _ fun y hy => ?_
      rw [h3.2.2 _ (by decide) (by decide), ← hW2, ops1_other _ (by decide)]; exact h1.1 y hy
    · rw [ops2_other _ (by decide)]; exact funext h3.1
    · rw [ops2_v17]; exact res2_of m d _ h3.2.1
  isplitl [Hb] <;> iassumption

/-! ## The run -/

def u₀ : UU := (initOf (K (F := F)).hsCells (K (F := F)).hsToks, 1)

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 2 => (P m).x q thr) := by
  unfold u₀
  iintro Hu
  ihave H := (ownU_pair (initOf (K (F := F)).hsCells (K (F := F)).hsToks) (1 : UP × Counters)) $$ Hu
  icases H with ⟨HH, -⟩
  imodintro
  isplitl [HH]; · iexact HH
  isplitr; · rw [emp_const]; iempintro
  rw [show (bigSep Finset.univ fun thr : Thread nD τ => bigSep Finset.univ fun q : Fin 2 => (P (F := F) m).x q thr) = bigSep Finset.univ fun _ => iprop(emp) from
    bigSep_congr fun _ _ => emp_const _, emp_const]
  iempintro

/-- What the final memory holds on a device. -/
def fq (d : Dev nD) (s' : Phys nD τ sig (Elt F)) : Prop :=
  (s'.mem.mem ((SparseCore.T d).loc main_arg0) = a0 m d ∧ s'.mem.mem ((SparseCore.T d).loc main_arg1) = a1 m d
    ∧ s'.mem.mem ((SparseCore.T d).loc main_arg2) = a2 m d ∧ s'.mem.mem ((SparseCore.T d).loc main_arg3) = a3 m d)
  ∧ s'.mem.mem ((SparseCore.T d).loc main_v16) = res0 m d ∧ s'.mem.mem ((SparseCore.T d).loc main_v15_0) = res1 m d
    ∧ s'.mem.mem ((SparseCore.T d).loc main_v17) = res2 m d

theorem agree {s' : Phys nD τ sig (Elt F)} {ℓ : Loc nD τ sig} {f : Buf (Elt F) ℓ} :
    iprop(SI s' ∗ ℓ ↦{fullShare} f) ⊢ (iprop(⌜s'.mem.mem ℓ = f⌝ ∗ SI s' ∗ ℓ ↦{fullShare} f) : sProp 𝕄) := by
  refine (persistent_entails_right (SI_pointsTo_agree (st := s') (ℓ := ℓ) (I := Finset.univ) (q := fullShare) (f := f))).trans ?_
  iintro ⟨%h, H⟩
  isplitr
  · ipureintro; exact funext fun i => h i (Finset.mem_univ i)
  · iexact H

set_option maxRecDepth 16384 in
theorem hfin (d : Dev nD) (s' : Phys nD τ sig (Elt F)) : iprop(FIN m d ∗ SI s') ⊢ (⌜fq m d s'⌝ : sProp 𝕄) := by
  iintro ⟨⟨H0, H1, H2, H3, H4, H5, H6⟩, HSI⟩
  ihave H := agree $$ [HSI H0]
  · isplitl [HSI] <;> iassumption
  icases H with ⟨%h0, HSI, -⟩
  ihave H := agree $$ [HSI H1]
  · isplitl [HSI] <;> iassumption
  icases H with ⟨%h1, HSI, -⟩
  ihave H := agree $$ [HSI H2]
  · isplitl [HSI] <;> iassumption
  icases H with ⟨%h2, HSI, -⟩
  ihave H := agree $$ [HSI H3]
  · isplitl [HSI] <;> iassumption
  icases H with ⟨%h3, HSI, -⟩
  ihave H := agree $$ [HSI H4]
  · isplitl [HSI] <;> iassumption
  icases H with ⟨%h4, HSI, -⟩
  ihave H := agree $$ [HSI H5]
  · isplitl [HSI] <;> iassumption
  icases H with ⟨%h5, HSI, -⟩
  ihave H := agree $$ [HSI H6]
  · isplitl [HSI] <;> iassumption
  icases H with ⟨%h6, -, -⟩
  ipureintro
  exact ⟨⟨h0, h1, h2, h3⟩, h4, h5, h6⟩

/-- What a run of the program ends in. -/
def QC : PUnit × MemSt nD τ sig (Elt F) → Prop := fun r =>
  (∀ d : Dev nD, (r.2.mem ((SparseCore.T d).loc main_arg0) = a0 m d ∧ r.2.mem ((SparseCore.T d).loc main_arg1) = a1 m d
    ∧ r.2.mem ((SparseCore.T d).loc main_arg2) = a2 m d ∧ r.2.mem ((SparseCore.T d).loc main_arg3) = a3 m d)
  ∧ r.2.mem ((SparseCore.T d).loc main_v16) = res0 m d ∧ r.2.mem ((SparseCore.T d).loc main_v15_0) = res1 m d
    ∧ r.2.mem ((SparseCore.T d).loc main_v17) = res2 m d) ∧ r.2.sem = fun _ => 0

theorem run_main [∀ e, Nonempty (Elt F e)] (hpre : PreOK m) :
    θ_run (defs (F := F)) (threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq | 1 => nomatch hq)
    (fun q _ => match q with | 0 => tileObl0 m hpre | 1 => tileObl1 m hpre)
    (fun q _ => match q with | 0 => SparseCore.Cfg.VecSplit.of_plain (vecSplit0 m) | 1 => SparseCore.Cfg.VecSplit.of_plain (vecSplit1 m))
    m ρ main (fun _ => iprop(emp)) (FIN m) (u₀ (F := F)) (sep_elim_left.trans (hu₀ m)) (hmain m ρ) (fq m) (hfin m) (QC m) (fun _ h hz => ⟨h, hz⟩)

end Run

end Cert.Proof.I
end
-- ==== Proof.Ref.lean ====
module
public import proofs.«01_k».proof.Proof.Gen.ReferenceIdeal
public import proofs.«01_k».proof.Defs
public import Idealize.ShloMosaic.Lib.Pointwise
/-! The reference's operations read at an index: the wrapped index array is the array itself when its words are in range, and each
    of the four gathers reads its table's row at the word. -/
@[expose] public section
noncomputable section
namespace Cert.Proof.R
open Cert.ReferenceIdeal Cert.ReferenceIdeal.Gen
open Idealize.ShloMosaic
variable {F : FTy → Type} [FloatOps F] {α : Type}

/-- An index array with no negative word is left as it is by the wrap of the negative ones. -/
theorem wrap_id {s : Shape} (x z : IVec s 32) (h : S_.BroadcastsInDim s ![]) (hx : ∀ y, (x y).toNat < 2 ^ 31) :
    select (cmpi .slt x (broadcastInDim s ![] h (constantI S_ 32 0#32))) (addi x z) x = x := by
  funext y
  have e : (x y).slt 0#32 = false := by
    have := hx y
    rw [BitVec.slt_eq_decide, decide_eq_false_iff_not]
    simp only [BitVec.toInt_eq_toNat_cond, BitVec.toNat_ofNat, Nat.reducePow, Nat.reduceMod] at *
    omega
  simp only [select, cmpi, broadcastInDim, constantI, IntOp.cmpi, e]
  rfl

theorem toIntToNat (v : BitVec 32) (h : v.toNat < 2 ^ 31) : v.toInt.toNat = v.toNat := by
  simp only [BitVec.toInt_eq_toNat_cond, Nat.reducePow] at *
  split <;> omega

/-- The faces' corners' rows. -/
theorem g_faces (x : S8000x3.Idx → α) (idx : IVec S40000x3x1 32) (y : S40000x3x3.Idx) :
    Host.gather gather_S8000x3_S40000x3x1_S40000x3x3_2_0_n_n_0_2_13 x idx y
      = x (ix2 ⟨min (idx (ix3 (y 0) (y 1) 0)).toInt.toNat 7999, by omega⟩ (y 2)) := by
  unfold Host.gather
  congr 1
  funext a
  refine Fin.ext ?_
  show GatherDims.start _ y idx a + GatherDims.batchCoord _ y a + GatherDims.offCoord _ y a = _
  rw [GatherDims.batchCoord_eq_zero _ _ _ List.not_mem_nil]
  have h01 : a = (0 : Fin 2) ∨ a = (1 : Fin 2) := by
    match a with
    | ⟨0, _⟩ => exact Or.inl rfl
    | ⟨1, _⟩ => exact Or.inr rfl
  rcases h01 with rfl | rfl
  · rw [GatherDims.offCoord_eq_zero _ _ _ (fun h => ((GatherDims.mem_sKept _ _).mp h).1 (List.mem_singleton.mpr rfl))]
    unfold GatherDims.start
    rw [dif_pos (show (0 : Fin 2) ∈ gather_S8000x3_S40000x3x1_S40000x3x3_2_0_n_n_0_2_13.startIndexMap from List.mem_singleton.mpr rfl)]
    refine congrArg (fun i => min (idx i).toInt.toNat 7999) ?_
    funext b; refine Fin.ext ?_
    match b with
    | ⟨0, _⟩ => rfl
    | ⟨1, _⟩ => rfl
    | ⟨2, _⟩ => rfl
  · unfold GatherDims.start GatherDims.offCoord
    rw [dif_neg (show ¬ (1 : Fin 2) ∈ gather_S8000x3_S40000x3x1_S40000x3x3_2_0_n_n_0_2_13.startIndexMap by decide), dif_pos (show (1 : Fin 2) ∈ gather_S8000x3_S40000x3x1_S40000x3x3_2_0_n_n_0_2_13.sKept by decide)]
    simp only [Nat.zero_add]
    rfl

theorem g_verts (x : S8000x3.Idx → α) (idx : IVec S4096x4x1 32) (y : S4096x4x3.Idx) :
    Host.gather gather_S8000x3_S4096x4x1_S4096x4x3_2_0_n_n_0_2_13 x idx y
      = x (ix2 ⟨min (idx (ix3 (y 0) (y 1) 0)).toInt.toNat 7999, by omega⟩ (y 2)) := by
  unfold Host.gather
  congr 1
  funext a
  refine Fin.ext ?_
  show GatherDims.start _ y idx a + GatherDims.batchCoord _ y a + GatherDims.offCoord _ y a = _
  rw [GatherDims.batchCoord_eq_zero _ _ _ List.not_mem_nil]
  have h01 : a = (0 : Fin 2) ∨ a = (1 : Fin 2) := by
    match a with
    | ⟨0, _⟩ => exact Or.inl rfl
    | ⟨1, _⟩ => exact Or.inr rfl
  rcases h01 with rfl | rfl
  · rw [GatherDims.offCoord_eq_zero _ _ _ (fun h => ((GatherDims.mem_sKept _ _).mp h).1 (List.mem_singleton.mpr rfl))]
    unfold GatherDims.start
    rw [dif_pos (show (0 : Fin 2) ∈ gather_S8000x3_S4096x4x1_S4096x4x3_2_0_n_n_0_2_13.startIndexMap from List.mem_singleton.mpr rfl)]
    refine congrArg (fun i => min (idx i).toInt.toNat 7999) ?_
    funext b; refine Fin.ext ?_
    match b with
    | ⟨0, _⟩ => rfl
    | ⟨1, _⟩ => rfl
    | ⟨2, _⟩ => rfl
  · unfold GatherDims.start GatherDims.offCoord
    rw [dif_neg (show ¬ (1 : Fin 2) ∈ gather_S8000x3_S4096x4x1_S4096x4x3_2_0_n_n_0_2_13.startIndexMap by decide), dif_pos (show (1 : Fin 2) ∈ gather_S8000x3_S4096x4x1_S4096x4x3_2_0_n_n_0_2_13.sKept by decide)]
    simp only [Nat.zero_add]
    rfl

theorem g_tets (x : S10000x4.Idx → α) (idx : IVec S4096x1 32) (y : S4096x4.Idx) :
    Host.gather gather_S10000x4_S4096x1_S4096x4_1_0_n_n_0_1_14 x idx y
      = x (ix2 ⟨min (idx (ix2 (y 0) 0)).toInt.toNat 9999, by omega⟩ (y 1)) := by
  unfold Host.gather
  congr 1
  funext a
  refine Fin.ext ?_
  show GatherDims.start _ y idx a + GatherDims.batchCoord _ y a + GatherDims.offCoord _ y a = _
  rw [GatherDims.batchCoord_eq_zero _ _ _ List.not_mem_nil]
  have h01 : a = (0 : Fin 2) ∨ a = (1 : Fin 2) := by
    match a with
    | ⟨0, _⟩ => exact Or.inl rfl
    | ⟨1, _⟩ => exact Or.inr rfl
  rcases h01 with rfl | rfl
  · rw [GatherDims.offCoord_eq_zero _ _ _ (fun h => ((GatherDims.mem_sKept _ _).mp h).1 (List.mem_singleton.mpr rfl))]
    unfold GatherDims.start
    rw [dif_pos (show (0 : Fin 2) ∈ gather_S10000x4_S4096x1_S4096x4_1_0_n_n_0_1_14.startIndexMap from List.mem_singleton.mpr rfl)]
    refine congrArg (fun i => min (idx i).toInt.toNat 9999) ?_
    funext b; refine Fin.ext ?_
    match b with
    | ⟨0, _⟩ => rfl
    | ⟨1, _⟩ => rfl
  · unfold GatherDims.start GatherDims.offCoord
    rw [dif_neg (show ¬ (1 : Fin 2) ∈ gather_S10000x4_S4096x1_S4096x4_1_0_n_n_0_1_14.startIndexMap by decide), dif_pos (show (1 : Fin 2) ∈ gather_S10000x4_S4096x1_S4096x4_1_0_n_n_0_1_14.sKept by decide)]
    simp only [Nat.zero_add]
    rfl

theorem g_closest (x : S40000.Idx → α) (idx : IVec S4096x1 32) (y : S4096.Idx) :
    Host.gather gather_S40000_S4096x1_S4096_n_0_n_n_0_1_1 x idx y
      = x (ix1 ⟨min (idx (ix2 (y 0) 0)).toInt.toNat 39999, by omega⟩) := by
  unfold Host.gather
  congr 1
  funext a
  obtain rfl : a = 0 := Subsingleton.elim _ _
  refine Fin.ext ?_
  show GatherDims.start _ y idx 0 + GatherDims.batchCoord _ y 0 + GatherDims.offCoord _ y 0 = _
  rw [GatherDims.batchCoord_eq_zero _ _ _ List.not_mem_nil,
    GatherDims.offCoord_eq_zero _ _ _ (fun h => ((GatherDims.mem_sKept _ _).mp h).1 (List.mem_singleton.mpr rfl))]
  unfold GatherDims.start
  rw [dif_pos (show (0 : Fin 1) ∈ gather_S40000_S4096x1_S4096_n_0_n_n_0_1_1.startIndexMap from List.mem_singleton.mpr rfl)]
  refine congrArg (fun i => min (idx i).toInt.toNat 39999) ?_
  funext b; refine Fin.ext ?_
  match b with
  | ⟨0, _⟩ => rfl
  | ⟨1, _⟩ => rfl

/-! The same at an index given by its coordinates. -/

theorem g_faces' (x : S8000x3.Idx → α) (idx : IVec S40000x3x1 32) (j : Fin 40000) (k c : Fin 3) :
    Host.gather gather_S8000x3_S40000x3x1_S40000x3x3_2_0_n_n_0_2_13 x idx (ix3 j k c)
      = x (ix2 ⟨min (idx (ix3 j k 0)).toInt.toNat 7999, by omega⟩ c) := g_faces x idx (ix3 j k c)

theorem g_verts' (x : S8000x3.Idx → α) (idx : IVec S4096x4x1 32) (p : Fin 4096) (kk : Fin 4) (c : Fin 3) :
    Host.gather gather_S8000x3_S4096x4x1_S4096x4x3_2_0_n_n_0_2_13 x idx (ix3 p kk c)
      = x (ix2 ⟨min (idx (ix3 p kk 0)).toInt.toNat 7999, by omega⟩ c) := g_verts x idx (ix3 p kk c)

theorem g_tets' (x : S10000x4.Idx → α) (idx : IVec S4096x1 32) (p : Fin 4096) (kk : Fin 4) :
    Host.gather gather_S10000x4_S4096x1_S4096x4_1_0_n_n_0_1_14 x idx (ix2 p kk)
      = x (ix2 ⟨min (idx (ix2 p 0)).toInt.toNat 9999, by omega⟩ kk) := g_tets x idx (ix2 p kk)

theorem g_closest' (x : S40000.Idx → α) (idx : IVec S4096x1 32) (p : Fin 4096) :
    Host.gather gather_S40000_S4096x1_S4096_n_0_n_n_0_1_1 x idx (ix1 p)
      = x (ix1 ⟨min (idx (ix2 p 0)).toInt.toNat 39999, by omega⟩) := g_closest x idx (ix1 p)

theorem eta2 {m n : ℕ} (y : (⟨2, ![m, n]⟩ : Shape).Idx) : ∃ (p : Fin m) (q : Fin n), y = ix2 p q :=
  ⟨y 0, y 1, by funext a; match a with | ⟨0, _⟩ => rfl | ⟨1, _⟩ => rfl⟩
theorem eta1 {m : ℕ} (y : (⟨1, ![m]⟩ : Shape).Idx) : ∃ p : Fin m, y = ix1 p :=
  ⟨y 0, by funext a; match a with | ⟨0, _⟩ => rfl⟩

end Cert.Proof.R
end
-- ==== Proof.RefValue.lean ====
module
public import proofs.«01_k».proof.Proof.Ref
public import proofs.«01_k».proof.Proof.I.Main
public import Idealize.ShloMosaic.Lib.KernelVsHost
/-! The two programs' values compared: the tables the kernel flattens, read at a word, are the reference's arrays read at the row and
    column, so that what the kernel's tiles gather is what the reference gathers. -/
@[expose] public section
noncomputable section
namespace Cert.Proof.R
open Cert.ReferenceIdeal Cert.ReferenceIdeal.Gen
open Idealize.ShloMosaic
variable {F : FTy → Type} [FloatOps F]

/-- The cage's vertices, the reference's table of them. -/
def cageR (x0 : FVec F S1x8000x3 .f32) : FVec F S8000x3 .f32 := shapeCast S8000x3 x0 shapeCasts_S1x8000x3_S8000x3
/-- The faces, the reference's table of them. -/
def facesR (x1 : IVec S10000x4x3 32) : IVec S40000x3 32 := shapeCast S40000x3 x1 shapeCasts_S10000x4x3_S40000x3

theorem facesR_lt (x1 : IVec S10000x4x3 32) (h : ∀ y, (x1 y).toNat < 8000) (y : S40000x3.Idx) : (facesR x1 y).toNat < 8000 := h _

theorem vtx_eq (x0 : FVec F S1x8000x3 .f32) (w : BitVec 32) (hw : w.toNat < 8000) (c : Fin 3) :
    cageR x0 (ix2 ⟨min w.toInt.toNat 7999, by omega⟩ c) = I.vtx (I.cageV x0) w c.val := by
  show _ = I.at1 I.pos24000 (shapeCast _ (cageR x0) _) _
  generalize cageR x0 = V
  unfold I.at1
  simp only [pointwise]
  refine congrArg V ?_
  have h1 := toIntToNat w (by omega)
  have h2 := c.isLt
  congr 1 <;> refine Fin.ext ?_ <;> simp only [] <;> omega

theorem fid_eq (x1 : IVec S10000x4x3 32) (k : Fin 3) (j : Fin 40000) (h : 40000 ≤ 40960) :
    I.fidAt (F := F) (I.fidsV x1) k (j.castLE h) = facesR x1 (ix2 j k) := by
  unfold I.fidAt I.fidsV facesR
  refine (pad_apply_of_inside (k := ix2 k j) _ _ _ _ _ _ _ _ ?_).trans ?_
  rotate_left
  · simp only [pointwise]
  · intro a
    match a with
    | ⟨0, _⟩ => simp
    | ⟨1, _⟩ => simp

/-! ### The faces -/

/-- Each face's three corners' coordinates. -/
def gatR (x0 : FVec F S1x8000x3 .f32) (x1 : IVec S10000x4x3 32) : FVec F S40000x3x3 .f32 :=
  Host.gather gather_S8000x3_S40000x3x1_S40000x3x3_2_0_n_n_0_2_13 (cageR x0) (broadcastInDim S40000x3x1 ![0, 1] bcast_S40000x3_S40000x3x1_0_1
    (select (cmpi .slt (facesR x1) (broadcastInDim S40000x3 ![] bcast_S_S40000x3 (constantI S_ 32 0#32)))
      (addi (facesR x1) (broadcastInDim S40000x3 ![] bcast_S_S40000x3 (constantI S_ 32 8000#32))) (facesR x1)))

def cor0 (g : FVec F S40000x3x3 .f32) : FVec F S40000x3 .f32 :=
  shapeCast _ (extractStridedSlice S40000x1x3 ![0, 0, 0] g slices_S40000x3x3_S40000x1x3_0_0_0) shapeCasts_S40000x1x3_S40000x3
def cor1 (g : FVec F S40000x3x3 .f32) : FVec F S40000x3 .f32 :=
  shapeCast _ (extractStridedSlice S40000x1x3 ![0, 1, 0] g slices_S40000x3x3_S40000x1x3_0_1_0) shapeCasts_S40000x1x3_S40000x3
def cor2 (g : FVec F S40000x3x3 .f32) : FVec F S40000x3 .f32 :=
  shapeCast _ (extractStridedSlice S40000x1x3 ![0, 2, 0] g slices_S40000x3x3_S40000x1x3_0_2_0) shapeCasts_S40000x1x3_S40000x3

/-- The reference's first result. -/
def triR (g : FVec F S40000x3x3 .f32) : FVec F S9x40000 .f32 :=
  transpose S9x40000 [1, 0] (concatenate S40000x9 1 [⟨S40000x3, cor0 g⟩, ⟨S40000x3, subf (cor1 g) (cor0 g)⟩, ⟨S40000x3, subf (cor2 g) (cor0 g)⟩]
    concatenates_S40000x3_S40000x3_S40000x3_S40000x9_d1 : FVec F S40000x9 .f32) transposes_S40000x9_S9x40000_1_0

theorem gatR_eq (x0 : FVec F S1x8000x3 .f32) (x1 : IVec S10000x4x3 32) (h : ∀ y, (x1 y).toNat < 8000) (j : Fin 40000) (k c : Fin 3) (hj : 40000 ≤ 40960) :
    gatR x0 x1 (ix3 j k c) = I.vtx (I.cageV x0) (I.fidAt (F := F) (I.fidsV x1) k (j.castLE hj)) c.val := by
  unfold gatR
  rw [wrap_id _ _ _ (fun y => by have := facesR_lt x1 h y; omega), g_faces', fid_eq]
  exact vtx_eq x0 (facesR x1 (ix2 j k)) (facesR_lt x1 h _) c

theorem cor0_apply (g : FVec F S40000x3x3 .f32) (j : Fin 40000) (c : Fin 3) : cor0 g (ix2 j c) = g (ix3 j 0 c) := by
  unfold cor0; simp only [pointwise]; refine congrArg g ?_; congr 1 <;> refine Fin.ext ?_ <;> simp
theorem cor1_apply (g : FVec F S40000x3x3 .f32) (j : Fin 40000) (c : Fin 3) : cor1 g (ix2 j c) = g (ix3 j 1 c) := by
  unfold cor1; simp only [pointwise]; refine congrArg g ?_; congr 1 <;> refine Fin.ext ?_ <;> simp
theorem cor2_apply (g : FVec F S40000x3x3 .f32) (j : Fin 40000) (c : Fin 3) : cor2 g (ix2 j c) = g (ix3 j 2 c) := by
  unfold cor2; simp only [pointwise]; refine congrArg g ?_; congr 1 <;> refine Fin.ext ?_ <;> simp

/-- Three 3-column pieces side by side, read at a column. -/
theorem three_apply (a b c : FVec F S40000x3 .f32) (r : Fin 9) (j : Fin 40000) :
    transpose S9x40000 [1, 0] (concatenate S40000x9 1 [⟨S40000x3, a⟩, ⟨S40000x3, b⟩, ⟨S40000x3, c⟩] concatenates_S40000x3_S40000x3_S40000x3_S40000x9_d1 : FVec F S40000x9 .f32)
      transposes_S40000x9_S9x40000_1_0 (ix2 r j)
      = if h : r.val < 3 then a (ix2 j ⟨r.val, h⟩) else if h' : r.val < 6 then b (ix2 j ⟨r.val - 3, by omega⟩) else c (ix2 j ⟨r.val - 6, by omega⟩) := by
  simp only [pointwise]
  have e : (![40000, 3] : Fin 2 → ℕ) 1 = 3 := rfl
  have z : ¬ ((0 : Fin 2).val = (1 : Fin 2).val) := by decide
  simp only [e, z, ite_true, ite_false]
  by_cases h1 : r.val < 3
  · simp only [h1, dite_true]
  · by_cases h2 : r.val < 6
    · have h3 : r.val - 3 < 3 := by omega
      simp only [h1, h2, h3, dite_true, dite_false]
    · have h3 : ¬ r.val - 3 < 3 := by omega
      simp only [h1, h2, h3, dite_false]
      rfl

theorem triR_eq (x0 : FVec F S1x8000x3 .f32) (x1 : IVec S10000x4x3 32) (h : ∀ y, (x1 y).toNat < 8000) (r : Fin 9) (j : Fin 40000) (hj : 40000 ≤ 40960) :
    triR (gatR x0 x1) (ix2 r j) = I.triRow (I.cageV x0) (I.fidAt (F := F) (I.fidsV x1) 0 (j.castLE hj)) (I.fidAt (F := F) (I.fidsV x1) 1 (j.castLE hj))
      (I.fidAt (F := F) (I.fidsV x1) 2 (j.castLE hj)) r.val := by
  unfold triR
  rw [three_apply]
  unfold I.triRow
  have sub (u v : FVec F S40000x3 .f32) (y : S40000x3.Idx) : subf u v y = FloatOps.subf (u y) (v y) := rfl
  simp only [sub, cor0_apply, cor1_apply, cor2_apply, gatR_eq x0 x1 h _ _ _ hj, dite_eq_ite]

/-! ### The hit tetrahedra -/

/-- The tetrahedra's corners, one row per tetrahedron. -/
def tetT (x1 : IVec S10000x4x3 32) : IVec S10000x4 32 :=
  concatenate S10000x4 1 [⟨S10000x1, broadcastInDim S10000x1 ![0] bcast_S10000_S10000x1_0 (shapeCast S10000 (extractStridedSlice S10000x1x1 ![0, 0, 0] x1 slices_S10000x4x3_S10000x1x1_0_0_0) shapeCasts_S10000x1x1_S10000)⟩,
    ⟨S10000x1, broadcastInDim S10000x1 ![0] bcast_S10000_S10000x1_0 (shapeCast S10000 (extractStridedSlice S10000x1x1 ![0, 0, 1] x1 slices_S10000x4x3_S10000x1x1_0_0_1) shapeCasts_S10000x1x1_S10000)⟩,
    ⟨S10000x1, broadcastInDim S10000x1 ![0] bcast_S10000_S10000x1_0 (shapeCast S10000 (extractStridedSlice S10000x1x1 ![0, 0, 2] x1 slices_S10000x4x3_S10000x1x1_0_0_2) shapeCasts_S10000x1x1_S10000)⟩,
    ⟨S10000x1, broadcastInDim S10000x1 ![0] bcast_S10000_S10000x1_0 (shapeCast S10000 (extractStridedSlice S10000x1x1 ![0, 1, 2] x1 slices_S10000x4x3_S10000x1x1_0_1_2) shapeCasts_S10000x1x1_S10000)⟩]
    concatenates_S10000x1_S10000x1_S10000x1_S10000x1_S10000x4_d1

theorem tetT_eq (x1 : IVec S10000x4x3 32) (t : Fin 10000) (kk : Fin 4) :
    tetT x1 (ix2 t kk) = I.at1 I.pos40000 (I.tvidV x1) (t.val + kk.val * 10000) := by
  unfold tetT I.tvidV I.at1
  simp only [pointwise]
  have e : (![10000, 1] : Fin 2 → ℕ) 1 = 1 := rfl
  have e' : (![10000] : Fin 1 → ℕ) 0 = 10000 := rfl
  have z : ¬ ((0 : Fin 2).val = (1 : Fin 2).val) := by decide
  have ht := t.isLt
  obtain ⟨kk, hk⟩ := kk
  have hm : (t.val + kk * 10000) % 40000 = t.val + kk * 10000 := Nat.mod_eq_of_lt (by omega)
  simp only [e, e', z, ite_true, ite_false, hm]
  have c1 : kk < 1 ↔ t.val + kk * 10000 < 10000 := by omega
  have c2 : kk - 1 < 1 ↔ t.val + kk * 10000 - 10000 < 10000 := by omega
  have c3 : kk - 1 - 1 < 1 ↔ t.val + kk * 10000 - 10000 - 10000 < 10000 := by omega
  simp only [← c1, ← c2, ← c3]
  by_cases h1 : kk < 1
  · simp only [h1, dite_true]; refine congrArg (fun i : Fin 10000 => x1 (ix3 i 0 0)) (Fin.ext ?_); show 0 + t.val = 0 + (t.val + kk * 10000); omega
  by_cases h2 : kk - 1 < 1
  · simp only [h1, h2, dite_true, dite_false]; refine congrArg (fun i : Fin 10000 => x1 (ix3 i 0 1)) (Fin.ext ?_); show 0 + t.val = 0 + (t.val + kk * 10000 - 10000); omega
  by_cases h3 : kk - 1 - 1 < 1
  · simp only [h1, h2, h3, dite_true, dite_false]; refine congrArg (fun i : Fin 10000 => x1 (ix3 i 0 2)) (Fin.ext ?_); show 0 + t.val = 0 + (t.val + kk * 10000 - 10000 - 10000); omega
  · simp only [h1, h2, h3, dite_false]; refine congrArg (fun i : Fin 10000 => x1 (ix3 i 1 2)) (Fin.ext ?_); show 0 + t.val = 0 + (t.val + kk * 10000 - 10000 - 10000 - 10000); omega

/-- The reference's second result. -/
def closestR (x2 : IVec S40000 32) (x3 : IVec S4096 32) : IVec S4096 32 :=
  Host.gather gather_S40000_S4096x1_S4096_n_0_n_n_0_1_1 x2 (broadcastInDim S4096x1 ![0] bcast_S4096_S4096x1_0
    (select (cmpi .slt x3 (broadcastInDim S4096 ![] bcast_S_S4096 (constantI S_ 32 0#32))) (addi x3 (broadcastInDim S4096 ![] bcast_S_S4096 (constantI S_ 32 40000#32))) x3))

theorem closestR_apply (x2 : IVec S40000 32) (x3 : IVec S4096 32) (h3 : ∀ y, (x3 y).toNat < 40000) (p : Fin 4096) :
    closestR x2 x3 (ix1 p) = I.tetOf (F := F) x2 (x3 (ix1 p)) := by
  unfold closestR I.tetOf I.at1
  rw [wrap_id _ _ _ (fun y => by have := h3 y; omega), g_closest']
  refine congrArg x2 ?_
  have e := h3 (ix1 p)
  have e' := toIntToNat (x3 (ix1 p)) (by omega)
  have b : broadcastInDim S4096x1 ![0] bcast_S4096_S4096x1_0 x3 (ix2 p 0) = x3 (ix1 p) := by
    simp only [pointwise]
    rfl
  funext a
  obtain rfl : a = 0 := Subsingleton.elim _ _
  refine Fin.ext ?_
  show min (broadcastInDim S4096x1 ![0] bcast_S4096_S4096x1_0 x3 (ix2 p 0)).toInt.toNat 39999 = (x3 (ix1 p)).toNat % 40000
  rw [b]
  omega

/-- The hit tetrahedra's corners. -/
def hitT (x1 : IVec S10000x4x3 32) (t : IVec S4096 32) : IVec S4096x4 32 :=
  Host.gather gather_S10000x4_S4096x1_S4096x4_1_0_n_n_0_1_14 (tetT x1) (broadcastInDim S4096x1 ![0] bcast_S4096_S4096x1_0
    (select (cmpi .slt t (broadcastInDim S4096 ![] bcast_S_S4096 (constantI S_ 32 0#32))) (addi t (broadcastInDim S4096 ![] bcast_S_S4096 (constantI S_ 32 10000#32))) t))

/-- The reference's third result. -/
def vertR (x0 : FVec F S1x8000x3 .f32) (v : IVec S4096x4 32) : FVec F S4096x12 .f32 :=
  shapeCast _ (Host.gather gather_S8000x3_S4096x4x1_S4096x4x3_2_0_n_n_0_2_13 (cageR x0) (broadcastInDim S4096x4x1 ![0, 1] bcast_S4096x4_S4096x4x1_0_1
    (select (cmpi .slt v (broadcastInDim S4096x4 ![] bcast_S_S4096x4 (constantI S_ 32 0#32))) (addi v (broadcastInDim S4096x4 ![] bcast_S_S4096x4 (constantI S_ 32 8000#32))) v)))
    shapeCasts_S4096x4x3_S4096x12

theorem hitT_apply (x1 : IVec S10000x4x3 32) (t : IVec S4096 32) (ht : ∀ y, (t y).toNat < 10000) (p : Fin 4096) (kk : Fin 4) :
    hitT x1 t (ix2 p kk) = I.vidOf (F := F) (I.tvidV x1) (t (ix1 p)) kk.val := by
  unfold hitT I.vidOf
  have e := ht (ix1 p)
  have e' := toIntToNat (t (ix1 p)) (by omega)
  have b : broadcastInDim S4096x1 ![0] bcast_S4096_S4096x1_0 t (ix2 p 0) = t (ix1 p) := by
    simp only [pointwise]
    rfl
  rw [wrap_id _ _ _ (fun y => by have := ht y; omega), g_tets', tetT_eq]
  refine congrArg (fun n => I.at1 I.pos40000 (I.tvidV x1) (n + kk.val * 10000)) ?_
  show min (broadcastInDim S4096x1 ![0] bcast_S4096_S4096x1_0 t (ix2 p 0)).toInt.toNat 9999 = (t (ix1 p)).toNat
  rw [b]
  omega

theorem hitT_lt (x1 : IVec S10000x4x3 32) (h : ∀ y, (x1 y).toNat < 8000) (t : IVec S4096 32) (y : S4096x4.Idx) : (hitT x1 t y).toNat < 8000 := by
  obtain ⟨p, q, rfl⟩ := eta2 y
  unfold hitT
  rw [g_tets', tetT_eq]
  exact I.tvidV_lt x1 h _

theorem vertR_apply (x0 : FVec F S1x8000x3 .f32) (v : IVec S4096x4 32) (hv : ∀ y, (v y).toNat < 8000) (p : Fin 4096) (q : Fin 12) :
    vertR x0 v (ix2 p q) = I.vtx (I.cageV x0) (v (ix2 p ⟨q.val / 3, by omega⟩)) (q.val % 3) := by
  unfold vertR
  rw [wrap_id _ _ _ (fun y => by have := hv y; omega)]
  have rd (g : FVec F S4096x4x3 .f32) : shapeCast S4096x12 g shapeCasts_S4096x4x3_S4096x12 (ix2 p q)
      = g (ix3 p ⟨q.val / 3, by omega⟩ ⟨q.val % 3, by omega⟩) := by
    simp only [pointwise]
  rw [rd, g_verts']
  have b : broadcastInDim S4096x4x1 ![0, 1] bcast_S4096x4_S4096x4x1_0_1 v (ix3 p ⟨q.val / 3, by omega⟩ 0) = v (ix2 p ⟨q.val / 3, by omega⟩) := by
    simp only [pointwise]
    rfl
  rw [← vtx_eq x0 (v (ix2 p ⟨q.val / 3, by omega⟩)) (hv _) ⟨q.val % 3, by omega⟩]
  refine congrArg (cageR x0) ?_
  congr 1
  refine Fin.ext ?_
  show min (broadcastInDim S4096x4x1 ![0, 1] bcast_S4096x4_S4096x4x1_0_1 v (ix3 p ⟨q.val / 3, by omega⟩ 0)).toInt.toNat 7999 = _
  rw [b]

end Cert.Proof.R
end
-- ==== Proof.Elim.lean ====
module
public import Idealize.ShloMosaic.PureOps.Ideal
/-! Elimination of three unknowns with partial pivoting, over the extended reals: a column of the augmented matrix is three
    numbers, the first column chooses the first pivot's row, the second column the second's. -/
@[expose] public section
noncomputable section
namespace Cert.Proof.Samp
open Idealize.ShloMosaic

/-- A column of three rows. -/
structure Col where
  x : EReal
  y : EReal
  z : EReal

/-- The magnitude. -/
def ab (x : EReal) : EReal := max x (-x)
/-- The row of the largest magnitude in a column, the first one where several have it. -/
def piv (a : Col) : ℕ :=
  if ab a.x = max (max (ab a.x) (ab a.y)) (ab a.z) then 0 else if ab a.y = max (max (ab a.x) (ab a.y)) (ab a.z) then 1 else 2
/-- A column's entry in the pivot's row. -/
def s0 (a c : Col) : EReal := if piv a = 2 then c.z else if piv a = 1 then c.y else c.x
/-- A column's entry in the second row once the pivot's row is first. -/
def s1 (a c : Col) : EReal := if piv a = 1 then c.x else c.y
/-- A column's entry in the third row once the pivot's row is first. -/
def s2 (a c : Col) : EReal := if piv a = 2 then c.x else c.z
/-- The second row with the first unknown taken out. -/
def u1 (a c : Col) : EReal := s1 a c - Ideal.div (s1 a a) (s0 a a) * s0 a c
/-- The third row with the first unknown taken out. -/
def u2 (a c : Col) : EReal := s2 a c - Ideal.div (s2 a a) (s0 a a) * s0 a c
/-- Whether the second and third rows change places. -/
def swp (a b : Col) : Prop := ab (u1 a b) ≠ max (ab (u1 a b)) (ab (u2 a b))
open Classical in
/-- The second pivot's row. -/
def w1 (a b c : Col) : EReal := if swp a b then u2 a c else u1 a c
open Classical in
/-- The other row. -/
def w1' (a b c : Col) : EReal := if swp a b then u1 a c else u2 a c
/-- The last row with the second unknown taken out. -/
def w2 (a b c : Col) : EReal := w1' a b c - Ideal.div (w1' a b b) (w1 a b b) * w1 a b c
/-- The third unknown. -/
def x3 (a b c r : Col) : EReal := Ideal.div (w2 a b r) (w2 a b c)
/-- The second unknown. -/
def x2 (a b c r : Col) : EReal := Ideal.div (w1 a b r - w1 a b c * x3 a b c r) (w1 a b b)
/-- The first unknown. -/
def x1 (a b c r : Col) : EReal := Ideal.div (s0 a r - s0 a b * x2 a b c r - s0 a c * x3 a b c r) (s0 a a)

theorem lt_iff (a : Col) : (max (ab a.x) (ab a.y) < ab a.z) ↔ piv a = 2 := by
  unfold piv
  constructor
  · intro h
    have h1 := lt_of_le_of_lt (le_max_left _ _) h
    have h2 := lt_of_le_of_lt (le_max_right _ _) h
    rw [max_eq_right h.le, if_neg h1.ne, if_neg h2.ne]
  · intro h
    by_contra hc
    rw [max_eq_left (not_lt.mp hc)] at h
    rcases max_choice (ab a.x) (ab a.y) with e | e
    · rw [if_pos e.symm] at h; exact absurd h (by decide)
    · by_cases e' : ab a.x = max (ab a.x) (ab a.y)
      · rw [if_pos e'] at h; exact absurd h (by decide)
      · rw [if_neg e', if_pos e.symm] at h; exact absurd h (by decide)

theorem lt1_iff (a : Col) : (ab a.x < ab a.y ∧ ¬ max (ab a.x) (ab a.y) < ab a.z) ↔ piv a = 1 := by
  unfold piv
  constructor
  · rintro ⟨h, hc⟩
    rw [max_eq_left (not_lt.mp hc), max_eq_right h.le, if_neg h.ne, if_pos rfl]
  · intro h
    by_cases e : ab a.x = max (max (ab a.x) (ab a.y)) (ab a.z)
    · rw [if_pos e] at h; exact absurd h (by decide)
    rw [if_neg e] at h
    by_cases e' : ab a.y = max (max (ab a.x) (ab a.y)) (ab a.z)
    · have hz : ab a.z ≤ ab a.y := e' ▸ le_max_right _ _
      have hx : ab a.x ≤ ab a.y := e' ▸ (le_max_left _ _).trans (le_max_left _ _)
      exact ⟨lt_of_le_of_ne hx fun q => e (q.trans e'), not_lt.mpr (hz.trans (le_max_right _ _))⟩
    · rw [if_neg e'] at h; exact absurd h (by decide)

theorem swp_iff (a b : Col) : (ab (u1 a b) < ab (u2 a b)) ↔ swp a b := by
  unfold swp
  constructor
  · intro h; rw [max_eq_right h.le]; exact h.ne
  · intro h; by_contra hc; exact h (max_eq_left (not_lt.mp hc)).symm

end Cert.Proof.Samp
-- ==== Proof.SampKernel.lean ====
module
public import proofs.«01_k».proof.Proof.Gen.SamplerIdeal.Frame
public import proofs.«01_k».proof.Proof.Elim
public import Idealize.ShloMosaic.Lib.Pointwise
public import Idealize.ShloMosaic.Lib.Pipeline.Value
/-! What the sampler's body stores at an index of its blocks: the elimination's numbers. -/
@[expose] public section
noncomputable section
namespace Cert.Proof.Samp
open Idealize.ShloMosaic Cert.SamplerIdeal Cert.SamplerIdeal.Gen

theorem absf_eq (x : EReal) : (FloatOps.absf (F := Ideal) (φ := .f32) x : EReal) = ab x := rfl

/-- The constant added on the diagonal. -/
def eps : EReal := Ideal.ofBits .f32 0x3727C5AC#32

section Pay
variable (r : Fin 512) (s : Fin 128) (v65 v67 v69 v62 v61 v63 v71 v72 v74 v76 v78 v80 : FVec Ideal S512x1 .f32)
/-- The first column. -/
def cA : Col := ⟨v65 (ix2 r 0) + eps, v67 (ix2 r 0), v69 (ix2 r 0)⟩
/-- The second column. -/
def cB : Col := ⟨v71 (ix2 r 0), v72 (ix2 r 0) - v62 (ix2 r 0) + eps, v74 (ix2 r 0) - v63 (ix2 r 0)⟩
/-- The third column. -/
def cC : Col := ⟨v76 (ix2 r 0) - v61 (ix2 r 0), v78 (ix2 r 0) - v62 (ix2 r 0), v80 (ix2 r 0) - v63 (ix2 r 0) + eps⟩

theorem pay30_at : k0_pay30 v65 (ix2 r 0) = (cA r v65 v67 v69).x := by pointwise [k0_pay30, cA, eps]
theorem pay38_at : k0_pay38 v65 v67 v69 (ix2 r 0) = BitVec.ofBool (decide (piv (cA r v65 v67 v69) = 2)) := by
  rw [← decide_eq_decide.mpr (lt_iff (cA r v65 v67 v69))]
  pointwise [k0_pay38, k0_pay37, k0_pay36, absf_eq, pay30_at r v65 v67 v69]
  rfl
theorem andn (p q : Bool) : IntOp.andi (BitVec.ofBool p) (IntOp.xori (BitVec.ofBool q) 1#1) = BitVec.ofBool (p && !q) := by cases p <;> cases q <;> decide
theorem pay39_at : k0_pay39 v65 v67 v69 (ix2 r 0) = BitVec.ofBool (decide (piv (cA r v65 v67 v69) = 1)) := by
  rw [← decide_eq_decide.mpr (lt1_iff (cA r v65 v67 v69))]
  pointwise [k0_pay39, k0_pay38, k0_pay37, k0_pay36, absf_eq, pay30_at r v65 v67 v69]
  rw [andn, Bool.decide_and, decide_not]
  rfl
theorem sel (p : Prop) [Decidable p] (x y : EReal) : Scalar.select (BitVec.ofBool (decide p)) x y = if p then x else y := by
  by_cases h : p <;> simp [Scalar.select, h]
theorem pay40_at : k0_pay40 v65 v67 v69 (ix2 r 0) = s0 (cA r v65 v67 v69) (cA r v65 v67 v69) := by
  pointwise [k0_pay40, pay38_at, pay39_at, sel, pay30_at r v65 v67 v69]; rfl
theorem pay41_at : k0_pay41 v62 v63 v65 v67 v69 v71 v72 v74 (ix2 r 0) = s0 (cA r v65 v67 v69) (cB r v62 v63 v71 v72 v74) := by
  pointwise [k0_pay41, pay38_at, pay39_at, sel, k0_pay31, k0_pay27]; rfl
theorem pay42_at : k0_pay42 v61 v62 v63 v65 v67 v69 v76 v78 v80 (ix2 r 0) = s0 (cA r v65 v67 v69) (cC r v62 v61 v63 v76 v78 v80) := by
  pointwise [k0_pay42, pay38_at, pay39_at, sel, k0_pay32, k0_pay29, k0_pay28]; rfl
theorem pay43_at : k0_pay43 v65 v67 v69 (ix2 r 0) = s1 (cA r v65 v67 v69) (cA r v65 v67 v69) := by
  pointwise [k0_pay43, pay38_at, pay39_at, sel, pay30_at r v65 v67 v69]; rfl
theorem pay44_at : k0_pay44 v62 v65 v67 v69 v71 v72 (ix2 r 0) = s1 (cA r v65 v67 v69) (cB r v62 v63 v71 v72 v74) := by
  pointwise [k0_pay44, pay38_at, pay39_at, sel, k0_pay31]; rfl
theorem pay45_at : k0_pay45 v61 v62 v65 v67 v69 v76 v78 (ix2 r 0) = s1 (cA r v65 v67 v69) (cC r v62 v61 v63 v76 v78 v80) := by
  pointwise [k0_pay45, pay38_at, pay39_at, sel, k0_pay29, k0_pay28]; rfl
theorem pay46_at : k0_pay46 v65 v67 v69 (ix2 r 0) = s2 (cA r v65 v67 v69) (cA r v65 v67 v69) := by
  pointwise [k0_pay46, pay38_at, pay39_at, sel, pay30_at r v65 v67 v69]; rfl
theorem pay47_at : k0_pay47 v63 v65 v67 v69 v71 v74 (ix2 r 0) = s2 (cA r v65 v67 v69) (cB r v62 v63 v71 v72 v74) := by
  pointwise [k0_pay47, pay38_at, pay39_at, sel, k0_pay27]; rfl
theorem pay48_at : k0_pay48 v61 v63 v65 v67 v69 v76 v80 (ix2 r 0) = s2 (cA r v65 v67 v69) (cC r v62 v61 v63 v76 v78 v80) := by
  pointwise [k0_pay48, pay38_at, pay39_at, sel, k0_pay32, k0_pay28]; rfl
theorem pay50_at : k0_pay50 v65 v67 v69 (ix2 r 0) = BitVec.ofBool (decide (piv (cA r v65 v67 v69) = 1)) := by
  pointwise [k0_pay50, pay39_at]
variable (v50 v55 v60 : FVec Ideal S512x128 .f32)
/-- The right side's column. -/
def cR : Col := ⟨v50 (ix2 r s) - v61 (ix2 r 0), v55 (ix2 r s) - v62 (ix2 r 0), v60 (ix2 r s) - v63 (ix2 r 0)⟩
theorem pay49_at : k0_pay49 v50 v55 v60 v61 v62 v63 v65 v67 v69 (ix2 r s) = s0 (cA r v65 v67 v69) (cR r s v62 v61 v63 v50 v55 v60) := by
  pointwise [k0_pay49, pay38_at, pay39_at, sel, k0_pay33, k0_pay34, k0_pay35]; rfl
end Pay

section Tail
variable (a b c : Col) (R : Col) (r : Fin 512) (s : Fin 128) (v89 v91 v93 v119 : FVec Ideal S512x128 .f32) (v98 v120 : IVec S512x1 1)
  (v103 v105 v107 v108 v109 v110 v111 v112 v113 : FVec Ideal S512x1 .f32)

/-- The values the last part of the body reads, at one index: the columns after the first pivot is chosen. -/
structure Reads : Prop where
  h89 : v89 (ix2 r s) = R.x
  h91 : v91 (ix2 r s) = R.y
  h93 : v93 (ix2 r s) = R.z
  h119 : v119 (ix2 r s) = s0 a R
  h98 : v98 (ix2 r 0) = BitVec.ofBool (decide (piv a = 2))
  h120 : v120 (ix2 r 0) = BitVec.ofBool (decide (piv a = 1))
  h103 : v103 (ix2 r 0) = s0 a a
  h105 : v105 (ix2 r 0) = s0 a b
  h107 : v107 (ix2 r 0) = s0 a c
  h108 : v108 (ix2 r 0) = s1 a a
  h109 : v109 (ix2 r 0) = s1 a b
  h110 : v110 (ix2 r 0) = s1 a c
  h111 : v111 (ix2 r 0) = s2 a a
  h112 : v112 (ix2 r 0) = s2 a b
  h113 : v113 (ix2 r 0) = s2 a c

variable (h : Reads a b c R r s v89 v91 v93 v119 v98 v120 v103 v105 v107 v108 v109 v110 v111 v112 v113)
include h

theorem pay53_at : k0_pay53 v103 v105 v108 v109 (ix2 r 0) = u1 a b := by
  pointwise [k0_pay53, k0_pay51, h.h103, h.h105, h.h108, h.h109]; rfl
theorem pay54_at : k0_pay54 v103 v107 v108 v110 (ix2 r 0) = u1 a c := by
  pointwise [k0_pay54, k0_pay51, h.h103, h.h107, h.h108, h.h110]; rfl
theorem pay55_at : k0_pay55 v103 v105 v111 v112 (ix2 r 0) = u2 a b := by
  pointwise [k0_pay55, k0_pay52, h.h103, h.h105, h.h111, h.h112]; rfl
theorem pay56_at : k0_pay56 v103 v107 v111 v113 (ix2 r 0) = u2 a c := by
  pointwise [k0_pay56, k0_pay52, h.h103, h.h107, h.h111, h.h113]; rfl
theorem pay57_at : k0_pay57 v89 v91 v103 v108 v119 v120 (ix2 r s) = u1 a R := by
  pointwise [k0_pay57, k0_pay51, h.h103, h.h108, h.h119, h.h120, h.h89, h.h91, sel]; rfl
theorem pay58_at : k0_pay58 v89 v93 v98 v103 v111 v119 (ix2 r s) = u2 a R := by
  pointwise [k0_pay58, k0_pay52, h.h103, h.h111, h.h119, h.h98, h.h89, h.h93, sel]; rfl
open Classical in
theorem pay59_at : k0_pay59 v103 v105 v108 v109 v111 v112 (ix2 r 0) = BitVec.ofBool (decide (swp a b)) := by
  have e : decide (ab (u1 a b) < ab (u2 a b)) = decide (swp a b) := decide_eq_decide.mpr (swp_iff a b)
  rw [← e]
  pointwise [k0_pay59, pay55_at _ _ _ _ _ _ _ _ _ _ _ _ _ _ _ _ _ _ _ _ _ h, pay53_at _ _ _ _ _ _ _ _ _ _ _ _ _ _ _ _ _ _ _ _ _ h, absf_eq]
open Classical in
theorem pay60_at : k0_pay60 v103 v105 v108 v109 v111 v112 (ix2 r 0) = w1 a b b := by
  pointwise [k0_pay60, pay59_at _ _ _ _ _ _ _ _ _ _ _ _ _ _ _ _ _ _ _ _ _ h, pay55_at _ _ _ _ _ _ _ _ _ _ _ _ _ _ _ _ _ _ _ _ _ h, pay53_at _ _ _ _ _ _ _ _ _ _ _ _ _ _ _ _ _ _ _ _ _ h, sel]
  rfl
open Classical in
theorem pay61_at : k0_pay61 v103 v105 v107 v108 v109 v110 v111 v112 v113 (ix2 r 0) = w1 a b c := by
  pointwise [k0_pay61, pay59_at _ _ _ _ _ _ _ _ _ _ _ _ _ _ _ _ _ _ _ _ _ h, pay56_at _ _ _ _ _ _ _ _ _ _ _ _ _ _ _ _ _ _ _ _ _ h, pay54_at _ _ _ _ _ _ _ _ _ _ _ _ _ _ _ _ _ _ _ _ _ h, sel]
  rfl
open Classical in
theorem pay62_at : k0_pay62 v89 v91 v93 v98 v103 v105 v108 v109 v111 v112 v119 v120 (ix2 r s) = w1 a b R := by
  pointwise [k0_pay62, pay59_at _ _ _ _ _ _ _ _ _ _ _ _ _ _ _ _ _ _ _ _ _ h, pay57_at _ _ _ _ _ _ _ _ _ _ _ _ _ _ _ _ _ _ _ _ _ h, pay58_at _ _ _ _ _ _ _ _ _ _ _ _ _ _ _ _ _ _ _ _ _ h, sel]
  rfl
open Classical in
theorem pay63_at : k0_pay63 v89 v91 v93 v98 v103 v105 v107 v108 v109 v110 v111 v112 v113 v119 v120 (ix2 r s) = x3 a b c R := by
  pointwise [k0_pay63, pay59_at _ _ _ _ _ _ _ _ _ _ _ _ _ _ _ _ _ _ _ _ _ h, pay57_at _ _ _ _ _ _ _ _ _ _ _ _ _ _ _ _ _ _ _ _ _ h, pay58_at _ _ _ _ _ _ _ _ _ _ _ _ _ _ _ _ _ _ _ _ _ h, sel,
    pay55_at _ _ _ _ _ _ _ _ _ _ _ _ _ _ _ _ _ _ _ _ _ h, pay53_at _ _ _ _ _ _ _ _ _ _ _ _ _ _ _ _ _ _ _ _ _ h, pay56_at _ _ _ _ _ _ _ _ _ _ _ _ _ _ _ _ _ _ _ _ _ h, pay54_at _ _ _ _ _ _ _ _ _ _ _ _ _ _ _ _ _ _ _ _ _ h,
    pay60_at _ _ _ _ _ _ _ _ _ _ _ _ _ _ _ _ _ _ _ _ _ h, pay61_at _ _ _ _ _ _ _ _ _ _ _ _ _ _ _ _ _ _ _ _ _ h, pay62_at _ _ _ _ _ _ _ _ _ _ _ _ _ _ _ _ _ _ _ _ _ h]
  rfl
theorem pay64_at : k0_pay64 v89 v91 v93 v98 v103 v105 v107 v108 v109 v110 v111 v112 v113 v119 v120 (ix2 r s) = x2 a b c R := by
  pointwise [k0_pay64, pay60_at _ _ _ _ _ _ _ _ _ _ _ _ _ _ _ _ _ _ _ _ _ h, pay61_at _ _ _ _ _ _ _ _ _ _ _ _ _ _ _ _ _ _ _ _ _ h, pay62_at _ _ _ _ _ _ _ _ _ _ _ _ _ _ _ _ _ _ _ _ _ h, pay63_at _ _ _ _ _ _ _ _ _ _ _ _ _ _ _ _ _ _ _ _ _ h]
  rfl
theorem pay65_at : k0_pay65 v89 v91 v93 v98 v103 v105 v107 v108 v109 v110 v111 v112 v113 v119 v120 (ix2 r s) = x1 a b c R := by
  pointwise [k0_pay65, pay64_at _ _ _ _ _ _ _ _ _ _ _ _ _ _ _ _ _ _ _ _ _ h, pay63_at _ _ _ _ _ _ _ _ _ _ _ _ _ _ _ _ _ _ _ _ _ h, h.h119, h.h105, h.h107, h.h103]
  rfl
theorem pay66_at : k0_pay66 v89 v91 v93 v98 v103 v105 v107 v108 v109 v110 v111 v112 v113 v119 v120 (ix2 r s) = 1 - (x1 a b c R + x2 a b c R + x3 a b c R) := by
  pointwise [k0_pay66, pay64_at _ _ _ _ _ _ _ _ _ _ _ _ _ _ _ _ _ _ _ _ _ h, pay63_at _ _ _ _ _ _ _ _ _ _ _ _ _ _ _ _ _ _ _ _ _ h, pay65_at _ _ _ _ _ _ _ _ _ _ _ _ _ _ _ _ _ _ _ _ _ h]
end Tail

section Body
variable (i : grid0.Coords) (x0 : Vec Ideal S512x8 .f32) (x1 : Vec Ideal S512 .f32) (x2 : Vec Ideal S512 .i32) (x3 : Vec Ideal S512x16 .f32)
  (r : Fin 512) (s : Fin 128)

/-- The distance up to which a face counts as hit. -/
def far : EReal := Ideal.ofBits .f32 0x40A00000#32
/-- The distance of a ray that hits, and zero of one that does not. -/
def safe (d : EReal) : EReal := if d < far then d else 0
/-- One for a ray that hits and zero for one that does not. -/
def msk (d : EReal) : EReal := FloatOps.sitofp (F := Ideal) .f32 (BitVec.setWidth 32 (BitVec.ofBool (decide (d < far))))
/-- The offset of a sample. -/
def offs (s : Fin 128) : EReal := Ideal.ofBits .f32 0x39CCCCCD#32 * FloatOps.sitofp (F := Ideal) .f32 (BitVec.ofNat 32 s.val)
/-- A coordinate of a sample's position, from the ray's origin, its direction and its distance. -/
def posn (o d t : EReal) (s : Fin 128) : EReal := o + safe t * d + offs s * d

/-- The first column, from a tetrahedron's corners' coordinates. -/
def colA (w : Fin 16 → EReal) : Col := ⟨w 3 - w 0 + eps, w 4 - w 1, w 5 - w 2⟩
/-- The second column. -/
def colB (w : Fin 16 → EReal) : Col := ⟨w 6 - w 0, w 7 - w 1 + eps, w 8 - w 2⟩
/-- The third column. -/
def colC (w : Fin 16 → EReal) : Col := ⟨w 9 - w 0, w 10 - w 1, w 11 - w 2 + eps⟩
/-- The right side. -/
def colR (w : Fin 16 → EReal) (od : Fin 8 → EReal) (t : EReal) (s : Fin 128) : Col :=
  ⟨posn (od 0) (od 3) t s - w 0, posn (od 1) (od 4) t s - w 1, posn (od 2) (od 5) t s - w 2⟩

/-- The row of the first block. -/
def odr : Fin 8 → EReal := fun j => x0 (ix2 r j)
/-- The row of the corners' block. -/
def wr : Fin 16 → EReal := fun j => x3 (ix2 r j)

theorem far_eq : Ideal.ofBits .f32 1084227584#32 = far := rfl

theorem hx_at : k0_pay69 i x0 x1 x2 x3 (ix2 r s) = posn (x0 (ix2 r 0)) (x0 (ix2 r 3)) (x1 (ix1 r)) s := by
  pointwise [k0_pay69, k0_pay68, k0_pay20, k0_pay18, k0_pay19, k0_pay14, k0_pay17, k0_pay10, k0_pay9, View.ld_unit]
  rfl
theorem hy_at : k0_pay70 i x0 x1 x2 x3 (ix2 r s) = posn (x0 (ix2 r 1)) (x0 (ix2 r 4)) (x1 (ix1 r)) s := by
  pointwise [k0_pay70, k0_pay68, k0_pay21, k0_pay18, k0_pay19, k0_pay15, k0_pay10, k0_pay9, View.ld_unit]
  rfl
theorem hz_at : k0_pay71 i x0 x1 x2 x3 (ix2 r s) = posn (x0 (ix2 r 2)) (x0 (ix2 r 5)) (x1 (ix1 r)) s := by
  pointwise [k0_pay71, k0_pay68, k0_pay22, k0_pay18, k0_pay19, k0_pay16, k0_pay10, k0_pay9, View.ld_unit]
  rfl

/-- The body's values at a row of the corners' block and a sample are the elimination's. -/
theorem reads : Reads (colA (wr x3 r)) (colB (wr x3 r)) (colC (wr x3 r)) (colR (wr x3 r) (odr x0 r) (x1 (ix1 r)) s) r s
    (k0_pay76 i x0 x1 x2 x3) (k0_pay77 i x0 x1 x2 x3) (k0_pay78 i x0 x1 x2 x3) (k0_pay89 i x0 x1 x2 x3) (k0_pay79 i x0 x1 x2 x3) (k0_pay90 i x0 x1 x2 x3)
    (k0_pay80 i x0 x1 x2 x3) (k0_pay81 i x0 x1 x2 x3) (k0_pay82 i x0 x1 x2 x3) (k0_pay83 i x0 x1 x2 x3) (k0_pay84 i x0 x1 x2 x3) (k0_pay85 i x0 x1 x2 x3)
    (k0_pay86 i x0 x1 x2 x3) (k0_pay87 i x0 x1 x2 x3) (k0_pay88 i x0 x1 x2 x3) := by
  have eA : cA r (k0_pay72 i x0 x1 x2 x3) (k0_pay73 i x0 x1 x2 x3) (k0_pay74 i x0 x1 x2 x3) = colA (wr x3 r) := by
    unfold cA colA wr
    pointwise [k0_pay72, k0_pay73, k0_pay74, k0_pay23, k0_pay24, k0_pay25, View.ld_unit]
  have eB : cB r (View.ld x3 r0_8) (View.ld x3 r0_9) (k0_pay75 i x0 x1 x2 x3) (View.ld x3 r0_14) (View.ld x3 r0_15) = colB (wr x3 r) := by
    unfold cB colB wr
    pointwise [k0_pay75, k0_pay26, View.ld_unit]
  have eC : cC r (View.ld x3 r0_8) (View.ld x3 r0_7) (View.ld x3 r0_9) (View.ld x3 r0_16) (View.ld x3 r0_17) (View.ld x3 r0_18) = colC (wr x3 r) := by
    unfold cC colC wr
    pointwise [View.ld_unit]
  have eR : cR r s (View.ld x3 r0_8) (View.ld x3 r0_7) (View.ld x3 r0_9) (k0_pay69 i x0 x1 x2 x3) (k0_pay70 i x0 x1 x2 x3) (k0_pay71 i x0 x1 x2 x3)
      = colR (wr x3 r) (odr x0 r) (x1 (ix1 r)) s := by
    unfold cR colR wr odr
    rw [hx_at, hy_at, hz_at]
    pointwise [View.ld_unit]
  constructor
  · show k0_pay33 _ _ _ = _
    rw [← eR]; pointwise [k0_pay33, cR]
  · show k0_pay34 _ _ _ = _
    rw [← eR]; pointwise [k0_pay34, cR]
  · show k0_pay35 _ _ _ = _
    rw [← eR]; pointwise [k0_pay35, cR]
  · rw [← eA, ← eR]; exact pay49_at ..
  · rw [← eA]; exact pay38_at ..
  · rw [← eA]; exact pay50_at ..
  · rw [← eA]; exact pay40_at ..
  · rw [← eA, ← eB]; exact pay41_at ..
  · rw [← eA, ← eC]; exact pay42_at ..
  · rw [← eA]; exact pay43_at ..
  · rw [← eA, ← eB]; exact pay44_at ..
  · rw [← eA, ← eC]; exact pay45_at ..
  · rw [← eA]; exact pay46_at ..
  · rw [← eA, ← eB]; exact pay47_at ..
  · rw [← eA, ← eC]; exact pay48_at ..

/-- The first unknown of a row and a sample. -/
def b1 (w : Fin 16 → EReal) (od : Fin 8 → EReal) (t : EReal) (s : Fin 128) : EReal := Samp.x1 (colA w) (colB w) (colC w) (colR w od t s)
/-- The second unknown. -/
def b2 (w : Fin 16 → EReal) (od : Fin 8 → EReal) (t : EReal) (s : Fin 128) : EReal := Samp.x2 (colA w) (colB w) (colC w) (colR w od t s)
/-- The third unknown. -/
def b3 (w : Fin 16 → EReal) (od : Fin 8 → EReal) (t : EReal) (s : Fin 128) : EReal := Samp.x3 (colA w) (colB w) (colC w) (colR w od t s)

theorem z1 : (![0] : Fin 1 → ℕ) = fun _ => 0 := by decide
theorem z2 : (![0, 0] : Fin 2 → ℕ) = fun _ => 0 := by decide

theorem out4_at : out0_4 i x0 x1 x2 x3 (ix1 r) = if x1 (ix1 r) < far then IntOp.addi (Scalar.muli (BitVec.ofNat 32 (i 0).val) 512#32) (BitVec.ofNat 32 r.val) else 4294967295#32 := by
  unfold out0_4; rw [View.canon_unit_zero z1]
  pointwise [k0_pay11, k0_pay9, View.ld_unit]; rfl
theorem out5_at : out0_5 i x0 x1 x2 x3 (ix1 r) = if x1 (ix1 r) < far then x2 (ix1 r) else 4294967295#32 := by
  unfold out0_5; rw [View.canon_unit_zero z1]
  pointwise [k0_pay12, k0_pay9, View.ld_unit]; rfl
theorem out6_at : out0_6 i x0 x1 x2 x3 (ix1 r) = safe (x1 (ix1 r)) := by
  unfold out0_6; rw [View.canon_unit_zero z1]
  pointwise [k0_pay10, k0_pay9, View.ld_unit]; rfl
theorem out7_at : out0_7 i x0 x1 x2 x3 (ix1 r) = if x1 (ix1 r) < far then safe (x1 (ix1 r)) + Ideal.ofBits .f32 0x3D4CCCCD#32 else 0 := by
  unfold out0_7; rw [View.canon_unit_zero z1]
  pointwise [k0_pay13, k0_pay10, k0_pay9, View.ld_unit]; rfl
theorem msk_at : k0_pay1 (F := Ideal) (k0_pay67 i x0 x1 x2 x3) (ix2 r 0) = msk (x1 (ix1 r)) := by
  pointwise [k0_pay1, k0_pay67, k0_pay9, View.ld_unit]; rfl
theorem out8_at : out0_8 i x0 x1 x2 x3 (ix2 r s) = (1 - (b1 (wr x3 r) (odr x0 r) (x1 (ix1 r)) s + b2 (wr x3 r) (odr x0 r) (x1 (ix1 r)) s + b3 (wr x3 r) (odr x0 r) (x1 (ix1 r)) s)) * msk (x1 (ix1 r)) := by
  unfold out0_8; rw [View.canon_unit_zero z2]
  pointwise [k0_pay2, msk_at]; rw [pay66_at (h := reads i x0 x1 x2 x3 r s)]; rfl
theorem out9_at : out0_9 i x0 x1 x2 x3 (ix2 r s) = b1 (wr x3 r) (odr x0 r) (x1 (ix1 r)) s * msk (x1 (ix1 r)) := by
  unfold out0_9; rw [View.canon_unit_zero z2]
  pointwise [k0_pay3, msk_at]; rw [pay65_at (h := reads i x0 x1 x2 x3 r s)]; rfl
theorem out10_at : out0_10 i x0 x1 x2 x3 (ix2 r s) = b2 (wr x3 r) (odr x0 r) (x1 (ix1 r)) s * msk (x1 (ix1 r)) := by
  unfold out0_10; rw [View.canon_unit_zero z2]
  pointwise [k0_pay4, msk_at]; rw [pay64_at (h := reads i x0 x1 x2 x3 r s)]; rfl
theorem out11_at : out0_11 i x0 x1 x2 x3 (ix2 r s) = b3 (wr x3 r) (odr x0 r) (x1 (ix1 r)) s * msk (x1 (ix1 r)) := by
  unfold out0_11; rw [View.canon_unit_zero z2]
  pointwise [k0_pay5, msk_at]; rw [pay63_at (h := reads i x0 x1 x2 x3 r s)]; rfl
theorem out12_at : out0_12 i x0 x1 x2 x3 (ix2 r s) = posn (x0 (ix2 r 0)) (x0 (ix2 r 3)) (x1 (ix1 r)) s * msk (x1 (ix1 r)) := by
  unfold out0_12; rw [View.canon_unit_zero z2]
  pointwise [k0_pay6, msk_at, hx_at]
theorem out13_at : out0_13 i x0 x1 x2 x3 (ix2 r s) = posn (x0 (ix2 r 1)) (x0 (ix2 r 4)) (x1 (ix1 r)) s * msk (x1 (ix1 r)) := by
  unfold out0_13; rw [View.canon_unit_zero z2]
  pointwise [k0_pay7, msk_at, hy_at]
theorem out14_at : out0_14 i x0 x1 x2 x3 (ix2 r s) = posn (x0 (ix2 r 2)) (x0 (ix2 r 5)) (x1 (ix1 r)) s * msk (x1 (ix1 r)) := by
  unfold out0_14; rw [View.canon_unit_zero z2]
  pointwise [k0_pay8, msk_at, hz_at]
end Body
end Cert.Proof.Samp
-- ==== Proof.SampArr.lean ====
module
public import proofs.«01_k».proof.Proof.SampKernel
/-! The sampler's input blocks and its result arrays after its run, index by index. Ray `p` is in block `p / 512`, at row `p % 512`. -/
@[expose] public section
noncomputable section
namespace Cert.Proof.Samp
open Idealize.ShloMosaic Idealize.ShloMosaic.TcCoe Idealize.SL.Sem Cert.SamplerIdeal Cert.SamplerIdeal.Gen
variable (m : (ℓ : Loc nD τ sig) → Buf (Elt Ideal) ℓ) (c : Dev nD)

/-- The grid point of a ray's block. -/
def pt (p : Fin 4096) : Fin cfg0.N := ⟨p.val / 512, by have := p.isLt; show p.val / 512 < 8; omega⟩
/-- The ray's row in its block. -/
def rw' (p : Fin 4096) : Fin 512 := ⟨p.val % 512, Nat.mod_lt _ (by decide)⟩

theorem coord (t : Fin cfg0.N) : (grid0.coords t 0).val = t.val := (by decide +kernel : ∀ t : Fin grid0.N, (grid0.coords t 0).val = t.val) t

/-- A ray's index, from its block's and its row's. -/
theorem ext1 {p : Fin 4096} {e : S4096.Idx} (h : (e 0).val = (pt p).val * 512 + (rw' p).val) : e = ix1 p := by
  funext a
  match a with
  | ⟨0, _⟩ =>
    refine Fin.ext (h.trans ?_)
    show p.val / 512 * 512 + p.val % 512 = p.val
    omega
/-- The same with a second coordinate, whose block is the whole axis. -/
theorem ext2 {n : ℕ} {p : Fin 4096} {s : Fin n} {e : (⟨2, ![4096, n]⟩ : Shape).Idx} (h : (e 0).val = (pt p).val * 512 + (rw' p).val) (h' : (e 1).val = s.val) : e = ix2 p s := by
  funext a
  match a with
  | ⟨0, _⟩ =>
    refine Fin.ext (h.trans ?_)
    show p.val / 512 * 512 + p.val % 512 = p.val
    omega
  | ⟨1, _⟩ => exact Fin.ext h'

/-- The windows' block indices: the point on the rays' axis, zero on the other. -/
theorem idx (w : Fin cfg0.W) (t : Fin grid0.N) : ∀ a, (cfg0.win w).index t a = if a.val = 0 then t.val else 0 := by
  revert w t; decide +kernel
theorem inj (w : Fin cfg0.W) : 4 ≤ w.val → ∀ t t' : Fin grid0.N, (cfg0.win w).index t = (cfg0.win w).index t' → t = t' := by
  intro h t t'
  revert w t t'; decide +kernel
theorem flush (w : Fin cfg0.W) : 4 ≤ w.val → ∀ t : Fin grid0.N, (cfg0.win w).flush t = true := by
  intro h t
  revert w t; decide +kernel
theorem kind (w : Fin cfg0.W) : (cfg0.win w).kind = .blocked := by
  revert w; decide +kernel
/-- A result's array under a point's block is what the point left. -/
theorem out_block (w : Fin cfg0.W) (hw : 4 ≤ w.val) (t : Fin cfg0.N) :
    ((cfg0.win w).blk t).view.read (Elt Ideal) ((dats m 0 c).arrAt w cfg0.N) = (dats m 0 c).flushed w t :=
  (dats m 0 c).read_blk_arrAt_eq_flushed w (fun t t' _ _ hne => (cfg0.win w).disjoint_blk (hk := kind w) fun h => hne (inj w hw t t' h)) cfg0.N t t.isLt (flush w hw t)

/-- Where a block's row lies in a one-dimensional array. -/
theorem place1 (w : Fin cfg0.W) (p : Fin 4096) (a) (ha : a.val = 0) (y : ((cfg0.win w).xblock (cfg0.grid.coords (pt p))).Idx) (hs : (cfg0.win w).size a = 512) :
    (((cfg0.win w).rect (pt p)).emb y a : ℕ) = (pt p).val * 512 + y a := by
  rw [(cfg0.win w).rect_emb_val (pt p) y a (kind w), idx w (pt p) a, if_pos ha, hs]
theorem place2 (w : Fin cfg0.W) (p : Fin 4096) (a) (ha : a.val ≠ 0) (y : ((cfg0.win w).xblock (cfg0.grid.coords (pt p))).Idx) :
    (((cfg0.win w).rect (pt p)).emb y a : ℕ) = y a := by
  rw [(cfg0.win w).rect_emb_val (pt p) y a (kind w), idx w (pt p) a, if_neg ha, Nat.zero_mul, Nat.zero_add]

theorem blk0 (p : Fin 4096) (s : Fin 8) : iblk m c 0 (pt p) (ix2 (rw' p) s) = V m c (Pipeline.arrRef spec0 0) (ix2 p s) :=
  congrArg (V m c (Pipeline.arrRef spec0 0)) (ext2 (place1 0 p 0 rfl (ix2 (rw' p) s) rfl) (place2 0 p 1 (by decide) (ix2 (rw' p) s)))
theorem blk1 (p : Fin 4096) : iblk m c 1 (pt p) (ix1 (rw' p)) = V m c (Pipeline.arrRef spec0 1) (ix1 p) :=
  congrArg (V m c (Pipeline.arrRef spec0 1)) (ext1 (place1 1 p 0 rfl (ix1 (rw' p)) rfl))
theorem blk2 (p : Fin 4096) : iblk m c 2 (pt p) (ix1 (rw' p)) = V m c (Pipeline.arrRef spec0 2) (ix1 p) :=
  congrArg (V m c (Pipeline.arrRef spec0 2)) (ext1 (place1 2 p 0 rfl (ix1 (rw' p)) rfl))
theorem blk3 (p : Fin 4096) (s : Fin 16) : iblk m c 3 (pt p) (ix2 (rw' p) s) = V m c (Pipeline.arrRef spec0 3) (ix2 p s) :=
  congrArg (V m c (Pipeline.arrRef spec0 3)) (ext2 (place1 3 p 0 rfl (ix2 (rw' p) s) rfl) (place2 3 p 1 (by decide) (ix2 (rw' p) s)))
theorem arr4 (p : Fin 4096) : (dats m 0 c).arrAt 4 cfg0.N (ix1 p) = out0_4 (grid0.coords (pt p)) (iblk m c 0 (pt p)) (iblk m c 1 (pt p)) (iblk m c 2 (pt p)) (iblk m c 3 (pt p)) (ix1 (rw' p)) :=
  (congrArg ((dats m 0 c).arrAt 4 cfg0.N) (ext1 (place1 4 p 0 rfl (ix1 (rw' p)) rfl)).symm).trans ((congrFun (out_block m c 4 (by decide) (pt p)) (ix1 (rw' p))).trans (congrFun (after0_4 m c (pt p)) (ix1 (rw' p))))
theorem arr5 (p : Fin 4096) : (dats m 0 c).arrAt 5 cfg0.N (ix1 p) = out0_5 (grid0.coords (pt p)) (iblk m c 0 (pt p)) (iblk m c 1 (pt p)) (iblk m c 2 (pt p)) (iblk m c 3 (pt p)) (ix1 (rw' p)) :=
  (congrArg ((dats m 0 c).arrAt 5 cfg0.N) (ext1 (place1 5 p 0 rfl (ix1 (rw' p)) rfl)).symm).trans ((congrFun (out_block m c 5 (by decide) (pt p)) (ix1 (rw' p))).trans (congrFun (after0_5 m c (pt p)) (ix1 (rw' p))))
theorem arr6 (p : Fin 4096) : (dats m 0 c).arrAt 6 cfg0.N (ix1 p) = out0_6 (grid0.coords (pt p)) (iblk m c 0 (pt p)) (iblk m c 1 (pt p)) (iblk m c 2 (pt p)) (iblk m c 3 (pt p)) (ix1 (rw' p)) :=
  (congrArg ((dats m 0 c).arrAt 6 cfg0.N) (ext1 (place1 6 p 0 rfl (ix1 (rw' p)) rfl)).symm).trans ((congrFun (out_block m c 6 (by decide) (pt p)) (ix1 (rw' p))).trans (congrFun (after0_6 m c (pt p)) (ix1 (rw' p))))
theorem arr7 (p : Fin 4096) : (dats m 0 c).arrAt 7 cfg0.N (ix1 p) = out0_7 (grid0.coords (pt p)) (iblk m c 0 (pt p)) (iblk m c 1 (pt p)) (iblk m c 2 (pt p)) (iblk m c 3 (pt p)) (ix1 (rw' p)) :=
  (congrArg ((dats m 0 c).arrAt 7 cfg0.N) (ext1 (place1 7 p 0 rfl (ix1 (rw' p)) rfl)).symm).trans ((congrFun (out_block m c 7 (by decide) (pt p)) (ix1 (rw' p))).trans (congrFun (after0_7 m c (pt p)) (ix1 (rw' p))))
theorem arr8 (p : Fin 4096) (s : Fin 128) : (dats m 0 c).arrAt 8 cfg0.N (ix2 p s) = out0_8 (grid0.coords (pt p)) (iblk m c 0 (pt p)) (iblk m c 1 (pt p)) (iblk m c 2 (pt p)) (iblk m c 3 (pt p)) (ix2 (rw' p) s) :=
  (congrArg ((dats m 0 c).arrAt 8 cfg0.N) (ext2 (place1 8 p 0 rfl (ix2 (rw' p) s) rfl) (place2 8 p 1 (by decide) (ix2 (rw' p) s))).symm).trans ((congrFun (out_block m c 8 (by decide) (pt p)) (ix2 (rw' p) s)).trans (congrFun (after0_8 m c (pt p)) (ix2 (rw' p) s)))
theorem arr9 (p : Fin 4096) (s : Fin 128) : (dats m 0 c).arrAt 9 cfg0.N (ix2 p s) = out0_9 (grid0.coords (pt p)) (iblk m c 0 (pt p)) (iblk m c 1 (pt p)) (iblk m c 2 (pt p)) (iblk m c 3 (pt p)) (ix2 (rw' p) s) :=
  (congrArg ((dats m 0 c).arrAt 9 cfg0.N) (ext2 (place1 9 p 0 rfl (ix2 (rw' p) s) rfl) (place2 9 p 1 (by decide) (ix2 (rw' p) s))).symm).trans ((congrFun (out_block m c 9 (by decide) (pt p)) (ix2 (rw' p) s)).trans (congrFun (after0_9 m c (pt p)) (ix2 (rw' p) s)))
theorem arr10 (p : Fin 4096) (s : Fin 128) : (dats m 0 c).arrAt 10 cfg0.N (ix2 p s) = out0_10 (grid0.coords (pt p)) (iblk m c 0 (pt p)) (iblk m c 1 (pt p)) (iblk m c 2 (pt p)) (iblk m c 3 (pt p)) (ix2 (rw' p) s) :=
  (congrArg ((dats m 0 c).arrAt 10 cfg0.N) (ext2 (place1 10 p 0 rfl (ix2 (rw' p) s) rfl) (place2 10 p 1 (by decide) (ix2 (rw' p) s))).symm).trans ((congrFun (out_block m c 10 (by decide) (pt p)) (ix2 (rw' p) s)).trans (congrFun (after0_10 m c (pt p)) (ix2 (rw' p) s)))
theorem arr11 (p : Fin 4096) (s : Fin 128) : (dats m 0 c).arrAt 11 cfg0.N (ix2 p s) = out0_11 (grid0.coords (pt p)) (iblk m c 0 (pt p)) (iblk m c 1 (pt p)) (iblk m c 2 (pt p)) (iblk m c 3 (pt p)) (ix2 (rw' p) s) :=
  (congrArg ((dats m 0 c).arrAt 11 cfg0.N) (ext2 (place1 11 p 0 rfl (ix2 (rw' p) s) rfl) (place2 11 p 1 (by decide) (ix2 (rw' p) s))).symm).trans ((congrFun (out_block m c 11 (by decide) (pt p)) (ix2 (rw' p) s)).trans (congrFun (after0_11 m c (pt p)) (ix2 (rw' p) s)))
theorem arr12 (p : Fin 4096) (s : Fin 128) : (dats m 0 c).arrAt 12 cfg0.N (ix2 p s) = out0_12 (grid0.coords (pt p)) (iblk m c 0 (pt p)) (iblk m c 1 (pt p)) (iblk m c 2 (pt p)) (iblk m c 3 (pt p)) (ix2 (rw' p) s) :=
  (congrArg ((dats m 0 c).arrAt 12 cfg0.N) (ext2 (place1 12 p 0 rfl (ix2 (rw' p) s) rfl) (place2 12 p 1 (by decide) (ix2 (rw' p) s))).symm).trans ((congrFun (out_block m c 12 (by decide) (pt p)) (ix2 (rw' p) s)).trans (congrFun (after0_12 m c (pt p)) (ix2 (rw' p) s)))
theorem arr13 (p : Fin 4096) (s : Fin 128) : (dats m 0 c).arrAt 13 cfg0.N (ix2 p s) = out0_13 (grid0.coords (pt p)) (iblk m c 0 (pt p)) (iblk m c 1 (pt p)) (iblk m c 2 (pt p)) (iblk m c 3 (pt p)) (ix2 (rw' p) s) :=
  (congrArg ((dats m 0 c).arrAt 13 cfg0.N) (ext2 (place1 13 p 0 rfl (ix2 (rw' p) s) rfl) (place2 13 p 1 (by decide) (ix2 (rw' p) s))).symm).trans ((congrFun (out_block m c 13 (by decide) (pt p)) (ix2 (rw' p) s)).trans (congrFun (after0_13 m c (pt p)) (ix2 (rw' p) s)))
theorem arr14 (p : Fin 4096) (s : Fin 128) : (dats m 0 c).arrAt 14 cfg0.N (ix2 p s) = out0_14 (grid0.coords (pt p)) (iblk m c 0 (pt p)) (iblk m c 1 (pt p)) (iblk m c 2 (pt p)) (iblk m c 3 (pt p)) (ix2 (rw' p) s) :=
  (congrArg ((dats m 0 c).arrAt 14 cfg0.N) (ext2 (place1 14 p 0 rfl (ix2 (rw' p) s) rfl) (place2 14 p 1 (by decide) (ix2 (rw' p) s))).symm).trans ((congrFun (out_block m c 14 (by decide) (pt p)) (ix2 (rw' p) s)).trans (congrFun (after0_14 m c (pt p)) (ix2 (rw' p) s)))
end Cert.Proof.Samp
-- ==== Proof.SampRef.lean ====
module
public import proofs.«01_k».proof.Proof.Gen.SamplerReferenceIdeal.Run
public import proofs.«01_k».proof.Proof.SampKernel
/-! The reference's values at an index: the elimination's numbers. -/
@[expose] public section
noncomputable section
namespace Cert.Proof.Samp.Ref
open Idealize.ShloMosaic Idealize.ShloMosaic.TcCoe Idealize.SL.Sem Idealize.ShloMosaic.StableHlo Cert.SamplerReferenceIdeal Cert.SamplerReferenceIdeal.Gen Cert.SamplerReferenceIdeal.Value
variable (v : Valuation τ sig (Elt Ideal)) (p : Fin 4096) (q : Fin 131) (s : Fin 128)

/-- A column of the augmented matrix. -/
def cl : Col := ⟨res_main_v60 v (ix2 p q), res_main_v62 v (ix2 p q), res_main_v64 v (ix2 p q)⟩
/-- The column of a sample's right side. -/
def qs : Fin 131 := ⟨3 + s.val, by omega⟩

theorem v66_at : res_main_v66 v (ix2 p 0) = ab (cl v p 0).x := by
  pointwise [res_main_v66]
  rfl
theorem v68_at : res_main_v68 v (ix2 p 0) = ab (cl v p 0).y := by
  pointwise [res_main_v68]
  rfl
theorem v72_at : res_main_v72 v (ix2 p 0) = max (max (ab (cl v p 0).x) (ab (cl v p 0).y)) (ab (cl v p 0).z) := by
  pointwise [res_main_v72, v66_at, v68_at]
  rfl
theorem v77_at : res_main_v77 v (ix2 p 0) = BitVec.ofNat 32 (piv (cl v p 0)) := by
  pointwise [res_main_v77, v66_at, v68_at, v72_at]
  unfold piv
  split
  · rfl
  · split <;> rfl
theorem piv_lt (a : Col) : piv a < 3 := by unfold piv; split; · decide
                                           split <;> decide
theorem cmp_ofNat (n k : ℕ) (hn : n < 3) (hk : k < 3) : IntOp.cmpi CmpIPredicate.eq (BitVec.ofNat 32 n) (BitVec.ofNat 32 k) = BitVec.ofBool (decide (n = k)) := by
  interval_cases n <;> interval_cases k <;> rfl
theorem sel_piv (a : Col) (k : ℕ) (hk : k < 3) (x y : EReal) :
    Scalar.select (IntOp.cmpi CmpIPredicate.eq (BitVec.ofNat 32 (piv a)) (BitVec.ofNat 32 k)) x y = if piv a = k then x else y := by
  rw [cmp_ofNat _ _ (piv_lt a) hk, Samp.sel]
theorem v86_at : res_main_v86 v (ix2 p q) = s0 (cl v p 0) (cl v p q) := by
  pointwise [res_main_v86, v77_at]
  exact (sel_piv _ 2 (by decide) _ _).trans (congrArg (fun z => ite _ _ z) (sel_piv _ 1 (by decide) _ _))
theorem v83_at : res_main_v83 v (ix2 p q) = s1 (cl v p 0) (cl v p q) := by
  pointwise [res_main_v83, v77_at]
  exact sel_piv _ 1 (by decide) _ _
theorem v89_at : res_main_v89 v (ix2 p q) = s2 (cl v p 0) (cl v p q) := by
  pointwise [res_main_v89, v77_at]
  exact sel_piv _ 2 (by decide) _ _
theorem v95_at : res_main_v95 v (ix2 p q) = u1 (cl v p 0) (cl v p q) := by
  pointwise [res_main_v95, v83_at, v86_at]
  rfl
theorem v101_at : res_main_v101 v (ix2 p q) = u2 (cl v p 0) (cl v p q) := by
  pointwise [res_main_v101, v89_at, v86_at]
  rfl
theorem v103_at : res_main_v103 v (ix2 p 0) = ab (u1 (cl v p 0) (cl v p 1)) := by
  pointwise [res_main_v103, v95_at]
  rfl
open Classical in
theorem v109_at : res_main_v109 v (ix2 p 0) = BitVec.ofNat 32 (if swp (cl v p 0) (cl v p 1) then 2 else 1) := by
  pointwise [res_main_v109, v103_at, v101_at, Samp.absf_eq]
  unfold swp
  by_cases h : ab (u1 (cl v p 0) (cl v p 1)) = max (ab (u1 (cl v p 0) (cl v p 1))) (ab (u2 (cl v p 0) (cl v p 1)))
  · rw [if_pos h, if_neg (not_not.mpr h)]; rfl
  · rw [if_neg h, if_pos h]
open Classical in
theorem sel_swp (a b : Col) (x y : EReal) :
    Scalar.select (IntOp.cmpi CmpIPredicate.eq (BitVec.ofNat 32 (if swp a b then 2 else 1)) 2#32) x y = if swp a b then x else y := by
  by_cases h : swp a b
  · rw [if_pos h, if_pos h]; rfl
  · rw [if_neg h, if_neg h]; rfl
theorem v112_at : res_main_v112 v (ix2 p q) = w1 (cl v p 0) (cl v p 1) (cl v p q) := by
  pointwise [res_main_v112, v109_at, v95_at, v101_at]
  exact sel_swp _ _ _ _
theorem v115_at : res_main_v115 v (ix2 p q) = w1' (cl v p 0) (cl v p 1) (cl v p q) := by
  pointwise [res_main_v115, v109_at, v95_at, v101_at]
  exact sel_swp _ _ _ _
theorem v121_at : res_main_v121 v (ix2 p q) = w2 (cl v p 0) (cl v p 1) (cl v p q) := by
  pointwise [res_main_v121, v112_at, v115_at]
  rfl
theorem v125_at : res_main_v125 v (ix2 p s) = x3 (cl v p 0) (cl v p 1) (cl v p 2) (cl v p (qs s)) := by
  pointwise [res_main_v125, v121_at]
  rfl
theorem v133_at : res_main_v133 v (ix2 p s) = x2 (cl v p 0) (cl v p 1) (cl v p 2) (cl v p (qs s)) := by
  pointwise [res_main_v133, v112_at, v125_at]
  rfl
theorem v150a_at : res_main_v150 v (ix3 p s 0) = x1 (cl v p 0) (cl v p 1) (cl v p 2) (cl v p (qs s)) := by
  pointwise [res_main_v150, v86_at, v125_at, v133_at]
  rfl
theorem v150b_at : res_main_v150 v (ix3 p s 1) = x2 (cl v p 0) (cl v p 1) (cl v p 2) (cl v p (qs s)) := by
  pointwise [res_main_v150, v133_at]
theorem v150c_at : res_main_v150 v (ix3 p s 2) = x3 (cl v p 0) (cl v p 1) (cl v p 2) (cl v p (qs s)) := by
  pointwise [res_main_v150, v125_at]

/-- A row of the corners' array. -/
def wv : Fin 16 → EReal := fun j => v (Proc.devRef .tc main_arg4) (ix2 p j)
/-- A ray's origin and direction. -/
def odv : Fin 8 → EReal := fun j =>
  if h : j.val < 3 then v (Proc.devRef .tc main_arg0) (ix3 0 p ⟨j.val, h⟩) else if h : j.val - 3 < 3 then v (Proc.devRef .tc main_arg1) (ix3 0 p ⟨j.val - 3, h⟩) else 0
/-- A ray's distance. -/
def dv : EReal := v (Proc.devRef .tc main_arg2) (ix1 p)

theorem v4_at : res_main_v4 v (ix1 p) = safe (dv v p) := by
  unfold res_main_v4 res_main_v3
  simp only [id_eq]
  pointwise []
  rfl
theorem v1_at (j : Fin 3) : res_main_v1 v (ix2 p j) = v (Proc.devRef .tc main_arg1) (ix3 0 p j) := by
  pointwise [res_main_v1]
theorem eq1 (k : ℕ) (h : IntOp.cmpi CmpIPredicate.eq (IntOp.addi (BitVec.ofNat 32 k) 0#32) (BitVec.ofNat 32 k) = 1#1) :
    (FloatOps.uitofp (F := Ideal) .f32 (IntOp.cmpi CmpIPredicate.eq (IntOp.addi (BitVec.ofNat 32 k) 0#32) (BitVec.ofNat 32 k)) : EReal) = 1 := by
  rw [h]; show (((1#1).toNat : ℝ) : EReal) = 1; norm_num
theorem eq0 (k l : ℕ) (h : IntOp.cmpi CmpIPredicate.eq (IntOp.addi (BitVec.ofNat 32 k) 0#32) (BitVec.ofNat 32 l) = 0#1) :
    (FloatOps.uitofp (F := Ideal) .f32 (IntOp.cmpi CmpIPredicate.eq (IntOp.addi (BitVec.ofNat 32 k) 0#32) (BitVec.ofNat 32 l)) : EReal) = 0 := by
  rw [h]; show (((0#1).toNat : ℝ) : EReal) = 0; norm_num
theorem v19_0 : res_main_v19 v (ix3 p s 0) = posn (odv v p 0) (odv v p 3) (dv v p) s := by
  pointwise [res_main_v19, v4_at, v1_at]
  rfl
theorem v19_1 : res_main_v19 v (ix3 p s 1) = posn (odv v p 1) (odv v p 4) (dv v p) s := by
  pointwise [res_main_v19, v4_at, v1_at]
  rfl
theorem v19_2 : res_main_v19 v (ix3 p s 2) = posn (odv v p 2) (odv v p 5) (dv v p) s := by
  pointwise [res_main_v19, v4_at, v1_at]
  rfl
theorem v21_00 : res_main_v21 v (ix3 p 0 0) = wv v p 0 := by
  pointwise [res_main_v21]
  rfl
theorem v21_01 : res_main_v21 v (ix3 p 0 1) = wv v p 1 := by
  pointwise [res_main_v21]
  rfl
theorem v21_02 : res_main_v21 v (ix3 p 0 2) = wv v p 2 := by
  pointwise [res_main_v21]
  rfl
theorem v21_10 : res_main_v21 v (ix3 p 1 0) = wv v p 3 := by
  pointwise [res_main_v21]
  rfl
theorem v21_11 : res_main_v21 v (ix3 p 1 1) = wv v p 4 := by
  pointwise [res_main_v21]
  rfl
theorem v21_12 : res_main_v21 v (ix3 p 1 2) = wv v p 5 := by
  pointwise [res_main_v21]
  rfl
theorem v21_20 : res_main_v21 v (ix3 p 2 0) = wv v p 6 := by
  pointwise [res_main_v21]
  rfl
theorem v21_21 : res_main_v21 v (ix3 p 2 1) = wv v p 7 := by
  pointwise [res_main_v21]
  rfl
theorem v21_22 : res_main_v21 v (ix3 p 2 2) = wv v p 8 := by
  pointwise [res_main_v21]
  rfl
theorem v21_30 : res_main_v21 v (ix3 p 3 0) = wv v p 9 := by
  pointwise [res_main_v21]
  rfl
theorem v21_31 : res_main_v21 v (ix3 p 3 1) = wv v p 10 := by
  pointwise [res_main_v21]
  rfl
theorem v21_32 : res_main_v21 v (ix3 p 3 2) = wv v p 11 := by
  pointwise [res_main_v21]
  rfl
theorem r0_0 : res_main_v60 v (ix2 p 0) = wv v p 3 - wv v p 0 + eps := by
  pointwise [res_main_v60, res_main_v58, v21_00, v21_10]
  rw [eq1 0 rfl, mul_one]; rfl
theorem r0_1 : res_main_v60 v (ix2 p 1) = wv v p 6 - wv v p 0 := by
  pointwise [res_main_v60, res_main_v58, v21_00, v21_20]
  rw [eq0 0 1 rfl, mul_zero, add_zero]
theorem r0_2 : res_main_v60 v (ix2 p 2) = wv v p 9 - wv v p 0 := by
  pointwise [res_main_v60, res_main_v58, v21_00, v21_30]
  rw [eq0 0 2 rfl, mul_zero, add_zero]
theorem r0_s : res_main_v60 v (ix2 p (qs s)) = posn (odv v p 0) (odv v p 3) (dv v p) s - wv v p 0 := by
  pointwise [res_main_v60, res_main_v58, qs]
  rw [v19_0, v21_00]
theorem r1_0 : res_main_v62 v (ix2 p 0) = wv v p 4 - wv v p 1 := by
  pointwise [res_main_v62, res_main_v58, v21_01, v21_11]
  rw [eq0 1 0 rfl, mul_zero, add_zero]
theorem r1_1 : res_main_v62 v (ix2 p 1) = wv v p 7 - wv v p 1 + eps := by
  pointwise [res_main_v62, res_main_v58, v21_01, v21_21]
  rw [eq1 1 rfl, mul_one]; rfl
theorem r1_2 : res_main_v62 v (ix2 p 2) = wv v p 10 - wv v p 1 := by
  pointwise [res_main_v62, res_main_v58, v21_01, v21_31]
  rw [eq0 1 2 rfl, mul_zero, add_zero]
theorem r1_s : res_main_v62 v (ix2 p (qs s)) = posn (odv v p 1) (odv v p 4) (dv v p) s - wv v p 1 := by
  pointwise [res_main_v62, res_main_v58, qs]
  rw [v19_1, v21_01]
theorem r2_0 : res_main_v64 v (ix2 p 0) = wv v p 5 - wv v p 2 := by
  pointwise [res_main_v64, res_main_v58, v21_02, v21_12]
  rw [eq0 2 0 rfl, mul_zero, add_zero]
theorem r2_1 : res_main_v64 v (ix2 p 1) = wv v p 8 - wv v p 2 := by
  pointwise [res_main_v64, res_main_v58, v21_02, v21_22]
  rw [eq0 2 1 rfl, mul_zero, add_zero]
theorem r2_2 : res_main_v64 v (ix2 p 2) = wv v p 11 - wv v p 2 + eps := by
  pointwise [res_main_v64, res_main_v58, v21_02, v21_32]
  rw [eq1 2 rfl, mul_one]; rfl
theorem r2_s : res_main_v64 v (ix2 p (qs s)) = posn (odv v p 2) (odv v p 5) (dv v p) s - wv v p 2 := by
  pointwise [res_main_v64, res_main_v58, qs]
  rw [v19_2, v21_02]
theorem cl0 : cl v p 0 = colA (wv v p) := by unfold cl; rw [r0_0, r1_0, r2_0]; rfl
theorem cl1 : cl v p 1 = colB (wv v p) := by unfold cl; rw [r0_1, r1_1, r2_1]; rfl
theorem cl2 : cl v p 2 = colC (wv v p) := by unfold cl; rw [r0_2, r1_2, r2_2]; rfl
theorem cls : cl v p (qs s) = colR (wv v p) (odv v p) (dv v p) s := by unfold cl; rw [r0_s, r1_s, r2_s]; rfl

/-- The first result. -/
def o0 : IVec S4096 32 := select (res_main_v3 v) (iotaInDim S4096 32 0) (broadcastInDim S4096 ![] bcast_S_S4096 (id (constantI S_ 32 4294967295#32)))
/-- The second result. -/
def o1 : IVec S4096 32 := select (res_main_v3 v) (v (Proc.devRef .tc main_arg3)) (broadcastInDim S4096 ![] bcast_S_S4096 (id (constantI S_ 32 4294967295#32)))
/-- The third result. -/
def o2 : FVec Ideal S4096x128x4 .f32 := mulf (concatenate S4096x128x4 2 [⟨S4096x128x1, (subf (broadcastInDim S4096x128x1 ![] bcast_S_S4096x128x1 (constant S_ .f32 0x3F800000#32)) (broadcastInDim S4096x128x1 ![0, 1] bcast_S4096x128_S4096x128x1_0_1 (Host.reduceAdd (res_main_v150 v) (constant S_ .f32 0x00000000#32) reducesTo_S4096x128x3_S4096x128_d2 h_S_)))⟩, ⟨S4096x128x3, (res_main_v150 v)⟩] concatenates_S4096x128x1_S4096x128x3_S4096x128x4_d2) (broadcastInDim S4096x128x4 ![0, 1, 2] bcast_S4096x1x1_S4096x128x4_0_1_2 (res_main_v157 v))
/-- The fifth result. -/
def o4 : FVec Ideal S4096 .f32 := select (res_main_v3 v) (addf (res_main_v4 v) (broadcastInDim S4096 ![] bcast_S_S4096 (constant S_ .f32 0x3D4CCCCD#32))) (broadcastInDim S4096 ![] bcast_S_S4096 (id (constant S_ .f32 0x00000000#32)))
/-- The sixth result. -/
def o5 : FVec Ideal S4096x128x3 .f32 := mulf (res_main_v19 v) (broadcastInDim S4096x128x3 ![0, 1, 2] bcast_S4096x1x1_S4096x128x3_0_1_2 (res_main_v157 v))

theorem o0_at : o0 v (ix1 p) = if dv v p < far then BitVec.ofNat 32 p.val else 4294967295#32 := by
  unfold o0 res_main_v3; simp only [id_eq]; pointwise []; rfl
theorem o1_at : o1 v (ix1 p) = if dv v p < far then v (Proc.devRef .tc main_arg3) (ix1 p) else 4294967295#32 := by
  unfold o1 res_main_v3; simp only [id_eq]; pointwise []; rfl
theorem o4_at : o4 v (ix1 p) = if dv v p < far then safe (dv v p) + Ideal.ofBits .f32 0x3D4CCCCD#32 else 0 := by
  unfold o4 res_main_v3; simp only [id_eq]; pointwise [v4_at]; rfl
theorem mskR (d : EReal) : FloatOps.uitofp (F := Ideal) .f32 (BitVec.ofBool (decide (d < far))) = msk d := by
  unfold msk
  by_cases h : d < far
  · rw [decide_eq_true h]
    show (((1#1).toNat : ℝ) : EReal) = (((BitVec.setWidth 32 1#1).toInt : ℝ) : EReal)
    simp
  · rw [decide_eq_false h]
    show (((0#1).toNat : ℝ) : EReal) = (((BitVec.setWidth 32 0#1).toInt : ℝ) : EReal)
    simp
theorem v157_at : res_main_v157 v (ix3 p 0 0) = msk (dv v p) := by
  pointwise [res_main_v157, res_main_v3]
  exact mskR (dv v p)
theorem o5_0 : o5 v (ix3 p s 0) = posn (odv v p 0) (odv v p 3) (dv v p) s * msk (dv v p) := by
  pointwise [o5, v157_at, v19_0]
theorem o5_1 : o5 v (ix3 p s 1) = posn (odv v p 1) (odv v p 4) (dv v p) s * msk (dv v p) := by
  pointwise [o5, v157_at, v19_1]
theorem o5_2 : o5 v (ix3 p s 2) = posn (odv v p 2) (odv v p 5) (dv v p) s * msk (dv v p) := by
  pointwise [o5, v157_at, v19_2]
theorem v150_0 : res_main_v150 v (ix3 p s 0) = b1 (wv v p) (odv v p) (dv v p) s := by rw [v150a_at, cl0, cl1, cl2, cls]; rfl
theorem v150_1 : res_main_v150 v (ix3 p s 1) = b2 (wv v p) (odv v p) (dv v p) s := by rw [v150b_at, cl0, cl1, cl2, cls]; rfl
theorem v150_2 : res_main_v150 v (ix3 p s 2) = b3 (wv v p) (odv v p) (dv v p) s := by rw [v150c_at, cl0, cl1, cl2, cls]; rfl
theorem o2_0 : o2 v (ix3 p s 0) = (1 - (b1 (wv v p) (odv v p) (dv v p) s + b2 (wv v p) (odv v p) (dv v p) s + b3 (wv v p) (odv v p) (dv v p) s)) * msk (dv v p) := by
  pointwise [o2, v157_at]
  rw [Fin.sum_univ_three, v150_0, v150_1, v150_2]
theorem o2_1 : o2 v (ix3 p s 1) = b1 (wv v p) (odv v p) (dv v p) s * msk (dv v p) := by
  pointwise [o2, v157_at, v150_0]
theorem o2_2 : o2 v (ix3 p s 2) = b2 (wv v p) (odv v p) (dv v p) s * msk (dv v p) := by
  pointwise [o2, v157_at, v150_1]
theorem o2_3 : o2 v (ix3 p s 3) = b3 (wv v p) (odv v p) (dv v p) s * msk (dv v p) := by
  pointwise [o2, v157_at, v150_2]
end Cert.Proof.Samp.Ref
-- ==== Proof.SampMain.lean ====
module
public import proofs.«01_k».proof.Proof.SampArr
public import proofs.«01_k».proof.Proof.SampRef
/-! The sampler's results after its run are the reference's. -/
@[expose] public section
noncomputable section
namespace Cert.Proof.Samp
open Idealize.ShloMosaic Idealize.ShloMosaic.TcCoe Idealize.SL.Sem Cert.SamplerIdeal Cert.SamplerIdeal.Gen

section Host
variable (W : Valuation τ sig (Elt Ideal))
theorem h0_v3 : StableHlo.after hostOps0 W (Proc.devRef .tc main_v3) = concatenate S4096x8 1
    [⟨S4096x3, (shapeCast _ (W (Proc.devRef .tc main_arg0)) shapeCasts_S1x4096x3_S4096x3 : FVec Ideal S4096x3 .f32)⟩,
     ⟨S4096x3, (shapeCast _ (W (Proc.devRef .tc main_arg1)) shapeCasts_S1x4096x3_S4096x3 : FVec Ideal S4096x3 .f32)⟩,
     ⟨S4096x2, (broadcastInDim S4096x2 ![] bcast_S_S4096x2 (constant S_ .f32 0x00000000#32) : FVec Ideal S4096x2 .f32)⟩] concatenates_S4096x3_S4096x3_S4096x2_S4096x8_d1 := by
  unfold hostOps0; after_results_simp; rfl
theorem h1_v9 : StableHlo.after hostOps1 W (Proc.devRef .tc main_v9) = concatenate S4096x128x4 2
    [⟨S4096x128x1, (broadcastInDim S4096x128x1 ![0, 1] bcast_S4096x128_S4096x128x1_0_1 (W (Proc.devRef .tc main_v4_4)) : FVec Ideal S4096x128x1 .f32)⟩,
     ⟨S4096x128x1, (broadcastInDim S4096x128x1 ![0, 1] bcast_S4096x128_S4096x128x1_0_1 (W (Proc.devRef .tc main_v4_5)) : FVec Ideal S4096x128x1 .f32)⟩,
     ⟨S4096x128x1, (broadcastInDim S4096x128x1 ![0, 1] bcast_S4096x128_S4096x128x1_0_1 (W (Proc.devRef .tc main_v4_6)) : FVec Ideal S4096x128x1 .f32)⟩,
     ⟨S4096x128x1, (broadcastInDim S4096x128x1 ![0, 1] bcast_S4096x128_S4096x128x1_0_1 (W (Proc.devRef .tc main_v4_7)) : FVec Ideal S4096x128x1 .f32)⟩] concatenates_S4096x128x1_S4096x128x1_S4096x128x1_S4096x128x1_S4096x128x4_d2 := by
  unfold hostOps1; after_results_simp; rfl
theorem h1_v13 : StableHlo.after hostOps1 W (Proc.devRef .tc main_v13) = concatenate S4096x128x3 2
    [⟨S4096x128x1, (broadcastInDim S4096x128x1 ![0, 1] bcast_S4096x128_S4096x128x1_0_1 (W (Proc.devRef .tc main_v4_8)) : FVec Ideal S4096x128x1 .f32)⟩,
     ⟨S4096x128x1, (broadcastInDim S4096x128x1 ![0, 1] bcast_S4096x128_S4096x128x1_0_1 (W (Proc.devRef .tc main_v4_9)) : FVec Ideal S4096x128x1 .f32)⟩,
     ⟨S4096x128x1, (broadcastInDim S4096x128x1 ![0, 1] bcast_S4096x128_S4096x128x1_0_1 (W (Proc.devRef .tc main_v4_10)) : FVec Ideal S4096x128x1 .f32)⟩] concatenates_S4096x128x1_S4096x128x1_S4096x128x1_S4096x128x3_d2 := by
  unfold hostOps1; after_results_simp; rfl
theorem h1_v9_0 (p : Fin 4096) (s : Fin 128) (x : EReal) (h : W (Proc.devRef .tc main_v4_4) (ix2 p s) = x) : StableHlo.after hostOps1 W (Proc.devRef .tc main_v9) (ix3 p s 0) = x := by
  rw [h1_v9]; pointwise []; exact h
theorem h1_v9_1 (p : Fin 4096) (s : Fin 128) (x : EReal) (h : W (Proc.devRef .tc main_v4_5) (ix2 p s) = x) : StableHlo.after hostOps1 W (Proc.devRef .tc main_v9) (ix3 p s 1) = x := by
  rw [h1_v9]; pointwise []; exact h
theorem h1_v9_2 (p : Fin 4096) (s : Fin 128) (x : EReal) (h : W (Proc.devRef .tc main_v4_6) (ix2 p s) = x) : StableHlo.after hostOps1 W (Proc.devRef .tc main_v9) (ix3 p s 2) = x := by
  rw [h1_v9]; pointwise []; exact h
theorem h1_v9_3 (p : Fin 4096) (s : Fin 128) (x : EReal) (h : W (Proc.devRef .tc main_v4_7) (ix2 p s) = x) : StableHlo.after hostOps1 W (Proc.devRef .tc main_v9) (ix3 p s 3) = x := by
  rw [h1_v9]; pointwise []; exact h
theorem h1_v13_0 (p : Fin 4096) (s : Fin 128) (x : EReal) (h : W (Proc.devRef .tc main_v4_8) (ix2 p s) = x) : StableHlo.after hostOps1 W (Proc.devRef .tc main_v13) (ix3 p s 0) = x := by
  rw [h1_v13]; pointwise []; exact h
theorem h1_v13_1 (p : Fin 4096) (s : Fin 128) (x : EReal) (h : W (Proc.devRef .tc main_v4_9) (ix2 p s) = x) : StableHlo.after hostOps1 W (Proc.devRef .tc main_v13) (ix3 p s 1) = x := by
  rw [h1_v13]; pointwise []; exact h
theorem h1_v13_2 (p : Fin 4096) (s : Fin 128) (x : EReal) (h : W (Proc.devRef .tc main_v4_10) (ix2 p s) = x) : StableHlo.after hostOps1 W (Proc.devRef .tc main_v13) (ix3 p s 2) = x := by
  rw [h1_v13]; pointwise []; exact h
end Host

variable (m : (ℓ : Loc nD τ sig) → Buf (Elt Ideal) ℓ) (c : Dev nD) (v : Valuation Cert.SamplerReferenceIdeal.τ Cert.SamplerReferenceIdeal.sig (Elt Ideal))
  (p : Fin 4096) (s : Fin 128)

theorem eta1 {n : ℕ} (y : (⟨1, ![n]⟩ : Shape).Idx) : ∃ p : Fin n, y = ix1 p :=
  ⟨y 0, by funext a; match a with | ⟨0, _⟩ => rfl⟩
theorem eta3 {l n k : ℕ} (y : (⟨3, ![l, n, k]⟩ : Shape).Idx) : ∃ (p : Fin l) (q : Fin n) (r : Fin k), y = ix3 p q r :=
  ⟨y 0, y 1, y 2, by funext a; match a with | ⟨0, _⟩ => rfl | ⟨1, _⟩ => rfl | ⟨2, _⟩ => rfl⟩
theorem pidx : IntOp.addi (Scalar.muli (BitVec.ofNat 32 (grid0.coords (pt p) 0).val) 512#32) (BitVec.ofNat 32 (rw' p).val) = BitVec.ofNat 32 p.val := by
  rw [coord (pt p)]
  show BitVec.ofNat 32 (p.val / 512) * 512#32 + BitVec.ofNat 32 (p.val % 512) = BitVec.ofNat 32 p.val
  refine BitVec.eq_of_toNat_eq ?_
  simp only [BitVec.toNat_add, BitVec.toNat_mul, BitVec.toNat_ofNat]
  omega

/-- The two programs' arguments agree. -/
structure Same : Prop where
  e0 : v (Proc.devRef .tc Cert.SamplerReferenceIdeal.main_arg0) = m ((c.tc : Thread nD τ).loc main_arg0)
  e1 : v (Proc.devRef .tc Cert.SamplerReferenceIdeal.main_arg1) = m ((c.tc : Thread nD τ).loc main_arg1)
  e2 : v (Proc.devRef .tc Cert.SamplerReferenceIdeal.main_arg2) = m ((c.tc : Thread nD τ).loc main_arg2)
  e3 : v (Proc.devRef .tc Cert.SamplerReferenceIdeal.main_arg3) = m ((c.tc : Thread nD τ).loc main_arg3)
  e4 : v (Proc.devRef .tc Cert.SamplerReferenceIdeal.main_arg4) = m ((c.tc : Thread nD τ).loc main_arg4)

theorem V_v3 : V m c main_v3 = concatenate S4096x8 1
    [⟨S4096x3, (shapeCast _ (m ((c.tc : Thread nD τ).loc main_arg0)) shapeCasts_S1x4096x3_S4096x3 : FVec Ideal S4096x3 .f32)⟩,
     ⟨S4096x3, (shapeCast _ (m ((c.tc : Thread nD τ).loc main_arg1)) shapeCasts_S1x4096x3_S4096x3 : FVec Ideal S4096x3 .f32)⟩,
     ⟨S4096x2, (broadcastInDim S4096x2 ![] bcast_S_S4096x2 (constant S_ .f32 0x00000000#32) : FVec Ideal S4096x2 .f32)⟩] concatenates_S4096x3_S4096x3_S4096x2_S4096x8_d1 :=
  h0_v3 (fun b => m (c, b))
/-- The rays' array, of the two arguments. -/
def rays (x0 x1 : FVec Ideal S1x4096x3 .f32) : FVec Ideal S4096x8 .f32 := concatenate S4096x8 1
    [⟨S4096x3, (shapeCast _ x0 shapeCasts_S1x4096x3_S4096x3 : FVec Ideal S4096x3 .f32)⟩, ⟨S4096x3, (shapeCast _ x1 shapeCasts_S1x4096x3_S4096x3 : FVec Ideal S4096x3 .f32)⟩,
     ⟨S4096x2, (broadcastInDim S4096x2 ![] bcast_S_S4096x2 (constant S_ .f32 0x00000000#32) : FVec Ideal S4096x2 .f32)⟩] concatenates_S4096x3_S4096x3_S4096x2_S4096x8_d1
theorem rays_0 (x0 x1 : FVec Ideal S1x4096x3 .f32) : rays x0 x1 (ix2 p 0) = x0 (ix3 0 p 0) := by pointwise [rays]
theorem rays_3 (x0 x1 : FVec Ideal S1x4096x3 .f32) : rays x0 x1 (ix2 p 3) = x1 (ix3 0 p 0) := by pointwise [rays]
theorem rays_1 (x0 x1 : FVec Ideal S1x4096x3 .f32) : rays x0 x1 (ix2 p 1) = x0 (ix3 0 p 1) := by pointwise [rays]
theorem rays_4 (x0 x1 : FVec Ideal S1x4096x3 .f32) : rays x0 x1 (ix2 p 4) = x1 (ix3 0 p 1) := by pointwise [rays]
theorem rays_2 (x0 x1 : FVec Ideal S1x4096x3 .f32) : rays x0 x1 (ix2 p 2) = x0 (ix3 0 p 2) := by pointwise [rays]
theorem rays_5 (x0 x1 : FVec Ideal S1x4096x3 .f32) : rays x0 x1 (ix2 p 5) = x1 (ix3 0 p 2) := by pointwise [rays]
theorem V3_0 : V m c main_v3 (ix2 p 0) = m ((c.tc : Thread nD τ).loc main_arg0) (ix3 0 p 0) :=
  (congrFun (V_v3 m c) (ix2 p 0)).trans (rays_0 p _ _)
theorem V3_3 : V m c main_v3 (ix2 p 3) = m ((c.tc : Thread nD τ).loc main_arg1) (ix3 0 p 0) :=
  (congrFun (V_v3 m c) (ix2 p 3)).trans (rays_3 p _ _)
theorem V3_1 : V m c main_v3 (ix2 p 1) = m ((c.tc : Thread nD τ).loc main_arg0) (ix3 0 p 1) :=
  (congrFun (V_v3 m c) (ix2 p 1)).trans (rays_1 p _ _)
theorem V3_4 : V m c main_v3 (ix2 p 4) = m ((c.tc : Thread nD τ).loc main_arg1) (ix3 0 p 1) :=
  (congrFun (V_v3 m c) (ix2 p 4)).trans (rays_4 p _ _)
theorem V3_2 : V m c main_v3 (ix2 p 2) = m ((c.tc : Thread nD τ).loc main_arg0) (ix3 0 p 2) :=
  (congrFun (V_v3 m c) (ix2 p 2)).trans (rays_2 p _ _)
theorem V3_5 : V m c main_v3 (ix2 p 5) = m ((c.tc : Thread nD τ).loc main_arg1) (ix3 0 p 2) :=
  (congrFun (V_v3 m c) (ix2 p 5)).trans (rays_5 p _ _)
theorem V3_6 : V m c main_v3 (ix2 p 6) = (0 : EReal) := by
  rw [V_v3]; pointwise []
theorem V3_7 : V m c main_v3 (ix2 p 7) = (0 : EReal) := by
  rw [V_v3]; pointwise []

section Eq
variable {m c v} (h : Same m c v)
include h
theorem in1 : iblk m c 1 (pt p) (ix1 (rw' p)) = Ref.dv v p := by
  rw [blk1]; unfold Ref.dv; rw [h.e2]
  exact congrFun (V_main_arg2 m c) (ix1 p)
theorem in2 : iblk m c 2 (pt p) (ix1 (rw' p)) = v (Proc.devRef .tc Cert.SamplerReferenceIdeal.main_arg3) (ix1 p) := by
  rw [blk2, h.e3]
  exact congrFun (V_main_arg3 m c) (ix1 p)
theorem in3 : wr (iblk m c 3 (pt p)) (rw' p) = Ref.wv v p := by
  funext j
  unfold wr Ref.wv
  rw [blk3, h.e4]
  exact congrFun (V_main_arg4 m c) (ix2 p j)
theorem in0 : odr (iblk m c 0 (pt p)) (rw' p) = Ref.odv v p := by
  funext j
  unfold odr Ref.odv
  rw [blk0, h.e0, h.e1]
  fin_cases j
  · exact V3_0 m c p
  · exact V3_1 m c p
  · exact V3_2 m c p
  · exact V3_3 m c p
  · exact V3_4 m c p
  · exact V3_5 m c p
  · exact V3_6 m c p
  · exact V3_7 m c p
theorem in0_0 : iblk m c 0 (pt p) (ix2 (rw' p) 0) = Ref.odv v p 0 := congrFun (in0 p h) 0
theorem in0_1 : iblk m c 0 (pt p) (ix2 (rw' p) 1) = Ref.odv v p 1 := congrFun (in0 p h) 1
theorem in0_2 : iblk m c 0 (pt p) (ix2 (rw' p) 2) = Ref.odv v p 2 := congrFun (in0 p h) 2
theorem in0_3 : iblk m c 0 (pt p) (ix2 (rw' p) 3) = Ref.odv v p 3 := congrFun (in0 p h) 3
theorem in0_4 : iblk m c 0 (pt p) (ix2 (rw' p) 4) = Ref.odv v p 4 := congrFun (in0 p h) 4
theorem in0_5 : iblk m c 0 (pt p) (ix2 (rw' p) 5) = Ref.odv v p 5 := congrFun (in0 p h) 5

/-- The results' arrays after the last block. -/
theorem r0 : (dats m 0 c).arrAt 4 cfg0.N = Ref.o0 v := by
  funext y
  obtain ⟨p, rfl⟩ := eta1 y
  rw [arr4, out4_at, Ref.o0_at, in1 p h, pidx]
theorem r1 : (dats m 0 c).arrAt 5 cfg0.N = Ref.o1 v := by
  funext y
  obtain ⟨p, rfl⟩ := eta1 y
  rw [arr5, out5_at, Ref.o1_at, in1 p h, in2 p h]
theorem r3 : (dats m 0 c).arrAt 6 cfg0.N = Cert.SamplerReferenceIdeal.Value.res_main_v4 v := by
  funext y
  obtain ⟨p, rfl⟩ := eta1 y
  rw [arr6, out6_at, Ref.v4_at, in1 p h]
theorem r4 : (dats m 0 c).arrAt 7 cfg0.N = Ref.o4 v := by
  funext y
  obtain ⟨p, rfl⟩ := eta1 y
  rw [arr7, out7_at, Ref.o4_at, in1 p h]
theorem b0_eq : (dats m 0 c).arrAt 8 cfg0.N (ix2 p s) = Ref.o2 v (ix3 p s 0) := by
  rw [arr8, out8_at, Ref.o2_0, in1 p h, in3 p h, in0 p h]
theorem b1_eq : (dats m 0 c).arrAt 9 cfg0.N (ix2 p s) = Ref.o2 v (ix3 p s 1) := by
  rw [arr9, out9_at, Ref.o2_1, in1 p h, in3 p h, in0 p h]
theorem b2_eq : (dats m 0 c).arrAt 10 cfg0.N (ix2 p s) = Ref.o2 v (ix3 p s 2) := by
  rw [arr10, out10_at, Ref.o2_2, in1 p h, in3 p h, in0 p h]
theorem b3_eq : (dats m 0 c).arrAt 11 cfg0.N (ix2 p s) = Ref.o2 v (ix3 p s 3) := by
  rw [arr11, out11_at, Ref.o2_3, in1 p h, in3 p h, in0 p h]
theorem q0_eq : (dats m 0 c).arrAt 12 cfg0.N (ix2 p s) = Ref.o5 v (ix3 p s 0) := by
  rw [arr12, out12_at, Ref.o5_0, in1 p h, in0_0 p h, in0_3 p h]
theorem q1_eq : (dats m 0 c).arrAt 13 cfg0.N (ix2 p s) = Ref.o5 v (ix3 p s 1) := by
  rw [arr13, out13_at, Ref.o5_1, in1 p h, in0_1 p h, in0_4 p h]
theorem q2_eq : (dats m 0 c).arrAt 14 cfg0.N (ix2 p s) = Ref.o5 v (ix3 p s 2) := by
  rw [arr14, out14_at, Ref.o5_2, in1 p h, in0_2 p h, in0_5 p h]

theorem r2 : Pipeline.afterTail₀ cfgs (dats m) 0 (V0 m) [hostOps1] c main_v9 = Ref.o2 v := by
  funext y
  obtain ⟨p, s, k, rfl⟩ := eta3 y
  unfold Pipeline.afterTail₀
  fin_cases k
  · exact h1_v9_0 _ p s _ ((congrFun (Pipeline.withArrays_arr spec0 launch0.win.arr_inj c (V0 m c) (fun w => (dats m 0 c).arrAt w cfg0.N) 8) (ix2 p s)).trans (b0_eq p s h))
  · exact h1_v9_1 _ p s _ ((congrFun (Pipeline.withArrays_arr spec0 launch0.win.arr_inj c (V0 m c) (fun w => (dats m 0 c).arrAt w cfg0.N) 9) (ix2 p s)).trans (b1_eq p s h))
  · exact h1_v9_2 _ p s _ ((congrFun (Pipeline.withArrays_arr spec0 launch0.win.arr_inj c (V0 m c) (fun w => (dats m 0 c).arrAt w cfg0.N) 10) (ix2 p s)).trans (b2_eq p s h))
  · exact h1_v9_3 _ p s _ ((congrFun (Pipeline.withArrays_arr spec0 launch0.win.arr_inj c (V0 m c) (fun w => (dats m 0 c).arrAt w cfg0.N) 11) (ix2 p s)).trans (b3_eq p s h))
theorem r5 : Pipeline.afterTail₀ cfgs (dats m) 0 (V0 m) [hostOps1] c main_v13 = Ref.o5 v := by
  funext y
  obtain ⟨p, s, k, rfl⟩ := eta3 y
  unfold Pipeline.afterTail₀
  fin_cases k
  · exact h1_v13_0 _ p s _ ((congrFun (Pipeline.withArrays_arr spec0 launch0.win.arr_inj c (V0 m c) (fun w => (dats m 0 c).arrAt w cfg0.N) 12) (ix2 p s)).trans (q0_eq p s h))
  · exact h1_v13_1 _ p s _ ((congrFun (Pipeline.withArrays_arr spec0 launch0.win.arr_inj c (V0 m c) (fun w => (dats m 0 c).arrAt w cfg0.N) 13) (ix2 p s)).trans (q1_eq p s h))
  · exact h1_v13_2 _ p s _ ((congrFun (Pipeline.withArrays_arr spec0 launch0.win.arr_inj c (V0 m c) (fun w => (dats m 0 c).arrAt w cfg0.N) 14) (ix2 p s)).trans (q2_eq p s h))
end Eq

/-- The run's results are the reference's, from equal arguments. -/
theorem run (m : (ℓ : Loc nD τ sig) → Buf (Elt Ideal) ℓ) (ρ : Dev nD → PrngReg) (v : Dev nD → Valuation Cert.SamplerReferenceIdeal.τ Cert.SamplerReferenceIdeal.sig (Elt Ideal))
    (h : ∀ c, Same m c (v c)) : θ_run defs (onTc (τ := τ) (main (F := Ideal))) ⟨m, fun _ => 0, ρ⟩ (fun r => ∀ c : Dev nD,
      r.2.mem ((c.tc : Thread nD τ).loc main_v4_0) = Ref.o0 (v c)
      ∧ r.2.mem ((c.tc : Thread nD τ).loc main_v4_1) = Ref.o1 (v c)
      ∧ r.2.mem ((c.tc : Thread nD τ).loc main_v9) = Ref.o2 (v c)
      ∧ r.2.mem ((c.tc : Thread nD τ).loc main_v4_2) = Cert.SamplerReferenceIdeal.Value.res_main_v4 (v c)
      ∧ r.2.mem ((c.tc : Thread nD τ).loc main_v4_3) = Ref.o4 (v c)
      ∧ r.2.mem ((c.tc : Thread nD τ).loc main_v13) = Ref.o5 (v c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ q c => ⟨((q.1 c).1 4).trans (r0 (h c)), ((q.1 c).1 5).trans (r1 (h c)),
      ((q.1 c).2 main_v9 (Pipeline.mem_restRefs_of main_v9 (by decide) (by decide))).trans (r2 (h c)),
      ((q.1 c).1 6).trans (r3 (h c)), ((q.1 c).1 7).trans (r4 (h c)),
      ((q.1 c).2 main_v13 (Pipeline.mem_restRefs_of main_v13 (by decide) (by decide))).trans (r5 (h c)), q.2 c⟩)
    (θ_run_and (run_main m ρ) (unchanged m ρ))
end Cert.Proof.Samp
-- ==== Proof.InterKernel.lean ====
module
public import proofs.«01_k».proof.Proof.Gen.IntersectIdeal.Frame
public import Idealize.ShloMosaic.Lib.Pointwise
public import Idealize.ShloMosaic.Lib.Pipeline.Value
public import Idealize.ShloMosaic.Lib.VecWindow
public import Idealize.ShloMosaic.Lib.WholeRead
public import Idealize.ShloMosaic.PureOps.Ideal

/-! One run of the nearest-hit kernel's body, as values.  A run holds a block of 256 rays (eight numbers each: origin,
direction and padding) and a tile of 1024 triangles (sixteen rows of numbers: a corner, two edges and padding).  It keeps,
for every ray and every place in the tile, the least distance seen so far in that place and the number of the triangle
it came from. -/

@[expose] public section
noncomputable section
namespace Cert.Proof.Inter
open Idealize.ShloMosaic Idealize.ShloMosaic.TcCoe Idealize.SL.Sem Cert.IntersectIdeal Cert.IntersectIdeal.Gen

/-- The word of a machine number, read as a real number. -/
abbrev lit (b : BitVec 32) : EReal := Scalar.ofBits (F := Ideal) .f32 b

/-- The distance at which the ray from `o` along `d` meets the triangle with corner `v` and edges `e`, `g`: the number
standing for "no hit" when it does not meet it in front of its origin. -/
def meet (o0 o1 o2 d0 d1 d2 v0 v1 v2 e0 e1 e2 g0 g1 g2 : Ideal .f32) : Ideal .f32 :=
  let p0 := Scalar.subf (Scalar.mulf d1 g2) (Scalar.mulf d2 g1)
  let p1 := Scalar.subf (Scalar.mulf d2 g0) (Scalar.mulf d0 g2)
  let p2 := Scalar.subf (Scalar.mulf d0 g1) (Scalar.mulf d1 g0)
  let det := Scalar.addf (Scalar.addf (Scalar.mulf e0 p0) (Scalar.mulf e1 p1)) (Scalar.mulf e2 p2)
  let inv := Scalar.select (Scalar.cmpf .ogt (Scalar.absf det) (Scalar.ofBits .f32 0x3089705F#32))
    (Scalar.divf (Scalar.ofBits .f32 0x3F800000#32) det) (Scalar.ofBits .f32 0x00000000#32)
  let t0 := Scalar.subf o0 v0
  let t1 := Scalar.subf o1 v1
  let t2 := Scalar.subf o2 v2
  let u := Scalar.mulf (Scalar.addf (Scalar.addf (Scalar.mulf t0 p0) (Scalar.mulf t1 p1)) (Scalar.mulf t2 p2)) inv
  let q0 := Scalar.subf (Scalar.mulf t1 e2) (Scalar.mulf t2 e1)
  let q1 := Scalar.subf (Scalar.mulf t2 e0) (Scalar.mulf t0 e2)
  let q2 := Scalar.subf (Scalar.mulf t0 e1) (Scalar.mulf t1 e0)
  let v := Scalar.mulf (Scalar.addf (Scalar.addf (Scalar.mulf d0 q0) (Scalar.mulf d1 q1)) (Scalar.mulf d2 q2)) inv
  let t := Scalar.mulf (Scalar.addf (Scalar.addf (Scalar.mulf g0 q0) (Scalar.mulf g1 q1)) (Scalar.mulf g2 q2)) inv
  Scalar.select (Scalar.andi (Scalar.andi (Scalar.andi
      (Scalar.cmpf .oge u (Scalar.ofBits .f32 0x00000000#32)) (Scalar.cmpf .oge v (Scalar.ofBits .f32 0x00000000#32)))
      (Scalar.cmpf .ole (Scalar.addf u v) (Scalar.ofBits .f32 0x3F800000#32)))
      (Scalar.cmpf .ogt t (Scalar.ofBits .f32 0x358637BD#32))) t (Scalar.ofBits .f32 0x501502F9#32)

/-- The distances the body computes for six columns of the block of rays and nine rows of the tile. -/
theorem pay24_apply (a0 a1 a2 a3 a4 a5 : Vec Ideal S256x1 .f32) (b0 b1 b2 b3 b4 b5 b6 b7 b8 : Vec Ideal S1x1024 .f32)
    (r : Fin 256) (l : Fin 1024) :
    (k0_pay24 (k0_pay10 a3) (k0_pay11 a4) (k0_pay12 a5) b3 b4 b5 b6 b7 b8
    (k0_pay17 (k0_pay10 a3) (k0_pay11 a4) (k0_pay12 a5) b3 b4 b5 b6 b7 b8 (k0_pay13 a4))
    (k0_pay18 (k0_pay7 a0) b0) (k0_pay19 (k0_pay8 a1) b1)
    (k0_pay21 (k0_pay7 a0) (k0_pay8 a1) (k0_pay9 a2) (k0_pay10 a3) (k0_pay11 a4) (k0_pay12 a5)
      b0 b1 b2 b3 b4 b5 b6 b7 b8 (k0_pay13 a4))
    (k0_pay22 (k0_pay8 a1) (k0_pay9 a2) b1 b2 b4 b5)
    (k0_pay23 (k0_pay9 a2) b2 b3)) (ix2 r l) =
      meet (a0 (ix2 r 0)) (a1 (ix2 r 0)) (a2 (ix2 r 0)) (a3 (ix2 r 0))
        (a4 (ix2 r 0)) (a5 (ix2 r 0)) (b0 (ix2 0 l)) (b1 (ix2 0 l))
        (b2 (ix2 0 l)) (b3 (ix2 0 l)) (b4 (ix2 0 l)) (b5 (ix2 0 l))
        (b6 (ix2 0 l)) (b7 (ix2 0 l)) (b8 (ix2 0 l)) := by
  pointwise [meet, k0_pay24, k0_pay23, k0_pay22, k0_pay21, k0_pay20, k0_pay19, k0_pay18, k0_pay17, k0_pay16, k0_pay15,
    k0_pay14, k0_pay13, k0_pay12, k0_pay11, k0_pay10, k0_pay9, k0_pay8, k0_pay7]
  rfl

/-- The distance from ray `r` of a block to triangle `l` of a tile. -/
def dist (x0 : Vec Ideal S256x8 .f32) (x1 : Vec Ideal S16x1024 .f32) (r : Fin 256) (l : Fin 1024) : Ideal .f32 :=
  meet (x0 (ix2 r 0)) (x0 (ix2 r 1)) (x0 (ix2 r 2)) (x0 (ix2 r 3))
    (x0 (ix2 r 4)) (x0 (ix2 r 5)) (x1 (ix2 0 l)) (x1 (ix2 1 l))
    (x1 (ix2 2 l)) (x1 (ix2 3 l)) (x1 (ix2 4 l)) (x1 (ix2 5 l))
    (x1 (ix2 6 l)) (x1 (ix2 7 l)) (x1 (ix2 8 l))

/-- A load of a column reads that column. -/
theorem idx_col (k : Nat) (hk : k < 8) (h) (r : Fin 256) :
    (Rect.unit (s := S256x8) ![0, k] ![256, 1] h).toLoadRect.idx (ix2 r 0) = ix2 r ⟨k, hk⟩ := by
  funext a
  refine Fin.cases ?_ (fun a => ?_) a
  · exact Fin.ext (by show 0 + 1 * r.val = r.val; omega)
  · obtain rfl : a = 0 := Subsingleton.elim _ _
    exact Fin.ext (by show k + 1 * 0 = k; omega)

/-- A load of a row reads that row. -/
theorem idx_row (k : Nat) (hk : k < 16) (h) (l : Fin 1024) :
    (Rect.unit (s := S16x1024) ![k, 0] ![1, 1024] h).toLoadRect.idx (ix2 0 l) = ix2 ⟨k, hk⟩ l := by
  funext a
  refine Fin.cases ?_ (fun a => ?_) a
  · exact Fin.ext (by show k + 1 * 0 = k; omega)
  · obtain rfl : a = 0 := Subsingleton.elim _ _
    exact Fin.ext (by show 0 + 1 * l.val = l.val; omega)

/-- A load of everything reads everything. -/
theorem idx_all (h) (r : Fin 256) (l : Fin 1024) :
    (Rect.unit (s := S256x1024) ![0, 0] ![256, 1024] h).toLoadRect.idx (ix2 r l) = ix2 r l := by
  funext a
  refine Fin.cases ?_ (fun a => ?_) a
  · exact Fin.ext (by show 0 + 1 * r.val = r.val; omega)
  · obtain rfl : a = 0 := Subsingleton.elim _ _
    exact Fin.ext (by show 0 + 1 * l.val = l.val; omega)

/-- The distance, from the columns and rows as they are loaded. -/
theorem dist_eq (x0 : Vec Ideal S256x8 .f32) (x1 : Vec Ideal S16x1024 .f32) (r : Fin 256) (l : Fin 1024)
    (p0 p1 p2 p3 p4 p5 q0 q1 q2 q3 q4 q5 q6 q7 q8) :
    meet (x0 ((Rect.unit (s := S256x8) ![0, 0] ![256, 1] p0).toLoadRect.idx (ix2 r 0)))
      (x0 ((Rect.unit (s := S256x8) ![0, 1] ![256, 1] p1).toLoadRect.idx (ix2 r 0)))
      (x0 ((Rect.unit (s := S256x8) ![0, 2] ![256, 1] p2).toLoadRect.idx (ix2 r 0)))
      (x0 ((Rect.unit (s := S256x8) ![0, 3] ![256, 1] p3).toLoadRect.idx (ix2 r 0)))
      (x0 ((Rect.unit (s := S256x8) ![0, 4] ![256, 1] p4).toLoadRect.idx (ix2 r 0)))
      (x0 ((Rect.unit (s := S256x8) ![0, 5] ![256, 1] p5).toLoadRect.idx (ix2 r 0)))
      (x1 ((Rect.unit (s := S16x1024) ![0, 0] ![1, 1024] q0).toLoadRect.idx (ix2 0 l)))
      (x1 ((Rect.unit (s := S16x1024) ![1, 0] ![1, 1024] q1).toLoadRect.idx (ix2 0 l)))
      (x1 ((Rect.unit (s := S16x1024) ![2, 0] ![1, 1024] q2).toLoadRect.idx (ix2 0 l)))
      (x1 ((Rect.unit (s := S16x1024) ![3, 0] ![1, 1024] q3).toLoadRect.idx (ix2 0 l)))
      (x1 ((Rect.unit (s := S16x1024) ![4, 0] ![1, 1024] q4).toLoadRect.idx (ix2 0 l)))
      (x1 ((Rect.unit (s := S16x1024) ![5, 0] ![1, 1024] q5).toLoadRect.idx (ix2 0 l)))
      (x1 ((Rect.unit (s := S16x1024) ![6, 0] ![1, 1024] q6).toLoadRect.idx (ix2 0 l)))
      (x1 ((Rect.unit (s := S16x1024) ![7, 0] ![1, 1024] q7).toLoadRect.idx (ix2 0 l)))
      (x1 ((Rect.unit (s := S16x1024) ![8, 0] ![1, 1024] q8).toLoadRect.idx (ix2 0 l))) =
    dist x0 x1 r l := by
  simp only [idx_col 0 (by decide), idx_col 1 (by decide), idx_col 2 (by decide), idx_col 3 (by decide),
    idx_col 4 (by decide), idx_col 5 (by decide), idx_row 0 (by decide), idx_row 1 (by decide), idx_row 2 (by decide),
    idx_row 3 (by decide), idx_row 4 (by decide), idx_row 5 (by decide), idx_row 6 (by decide), idx_row 7 (by decide),
    idx_row 8 (by decide)]
  rfl

/-- The number of triangle `l` of tile `k`. -/
theorem num_eq (k l : Nat) :
    IntOp.addi (Scalar.muli (BitVec.ofNat 32 k) 1024#32) (BitVec.ofNat 32 l) = BitVec.ofNat 32 (1024 * k + l) := by
  show BitVec.ofNat 32 k * 1024#32 + BitVec.ofNat 32 l = _
  rw [Nat.mul_comm 1024 k, BitVec.ofNat_add, BitVec.ofNat_mul]

section body
variable (c : Dev nD) (i : grid0.Coords) (arg2 : Memref sig .tc .vmem S256x8 .f32) (harg2 : arg2.IsWhole)
  (arg3 : Memref sig .tc .vmem S16x1024 .f32) (harg3 : arg3.IsWhole) (arg4 : Memref sig .tc .vmem S256 .f32)
  (harg4 : arg4.IsWhole) (arg5 : Memref sig .tc .vmem S256 .i32) (harg5 : arg5.IsWhole)
  (arg6 : Memref sig .tc .vmem S256x1024 .f32) (harg6 : arg6.IsWhole) (arg7 : Memref sig .tc .vmem S256x1024 .i32)
  (harg7 : arg7.IsWhole) (x0 : Vec Ideal S256x8 .f32) (x1 : Vec Ideal S16x1024 .f32)
  (xs0 : Vec Ideal S256x1024 .f32) (xs1 : Vec Ideal S256x1024 .i32) (r : Fin 256) (l : Fin 1024)

theorem sB0 (hc0 hc1) :
    sout0_B_0 c i arg2 harg2 arg3 harg3 arg4 harg4 arg5 harg5 arg6 harg6 arg7 harg7 hc0 hc1 x0 x1 xs0 xs1
      (ix2 r l) =
    if dist x0 x1 r l < xs0 (ix2 r l) then dist x0 x1 r l else xs0 (ix2 r l) := by
  unfold sout0_B_0 kernelRun0_B
  dsimp only
  sl_unfold_run_names
  rw [View.read_writes_full]
  pointwise [k0_pay1, k0_pay27, k0_pay26]
  simp only [pay24_apply, Memref.IsWhole.readAt_unread]
  erw [dist_eq, idx_all]

theorem sB1 (hc0 hc1) :
    sout0_B_1 c i arg2 harg2 arg3 harg3 arg4 harg4 arg5 harg5 arg6 harg6 arg7 harg7 hc0 hc1 x0 x1 xs0 xs1
      (ix2 r l) =
    if dist x0 x1 r l < xs0 (ix2 r l) then BitVec.ofNat 32 (1024 * (i 1).val + l.val) else xs1 (ix2 r l) := by
  unfold sout0_B_1 kernelRun0_B
  dsimp only
  sl_unfold_run_names
  rw [View.read_writes_full]
  pointwise [k0_pay2, k0_pay26, k0_pay25]
  simp only [pay24_apply, Memref.IsWhole.readAt_unread]
  erw [dist_eq, idx_all, num_eq]

theorem sC0 (hc0 hc1) :
    sout0_C_0 c i arg2 harg2 arg3 harg3 arg4 harg4 arg5 harg5 arg6 harg6 arg7 harg7 hc0 hc1 x0 x1 xs0 xs1
      (ix2 r l) =
    if dist x0 x1 r l < xs0 (ix2 r l) then dist x0 x1 r l else xs0 (ix2 r l) := by
  unfold sout0_C_0 kernelRun0_C
  dsimp only
  sl_unfold_run_names
  rw [View.read_writes_full]
  pointwise [k0_pay1, k0_pay27, k0_pay26]
  simp only [pay24_apply, Memref.IsWhole.readAt_unread]
  erw [dist_eq, idx_all]

theorem sC1 (hc0 hc1) :
    sout0_C_1 c i arg2 harg2 arg3 harg3 arg4 harg4 arg5 harg5 arg6 harg6 arg7 harg7 hc0 hc1 x0 x1 xs0 xs1
      (ix2 r l) =
    if dist x0 x1 r l < xs0 (ix2 r l) then BitVec.ofNat 32 (1024 * (i 1).val + l.val) else xs1 (ix2 r l) := by
  unfold sout0_C_1 kernelRun0_C
  dsimp only
  sl_unfold_run_names
  rw [View.read_writes_full]
  pointwise [k0_pay2, k0_pay26, k0_pay25]
  simp only [pay24_apply, Memref.IsWhole.readAt_unread]
  erw [dist_eq, idx_all, num_eq]

theorem sA0 (hc0 hc1) :
    sout0_A_0 c i arg2 harg2 arg3 harg3 arg4 harg4 arg5 harg5 arg6 harg6 arg7 harg7 hc0 hc1 x0 x1
      (ix2 r l) =
    if dist x0 x1 r l < Scalar.ofBits .f32 0x501502F9#32 then dist x0 x1 r l else Scalar.ofBits .f32 0x501502F9#32 := by
  unfold sout0_A_0 kernelRun0_A
  dsimp only
  sl_unfold_run_names
  rw [View.read_writes_full]
  pointwise [k0_pay1, k0_pay27, k0_pay26, k0_pay5, k0_pay6]
  simp only [pay24_apply, Memref.IsWhole.readAt_unread]
  erw [dist_eq, View.readCov_full]
  rfl

theorem sA1 (hc0 hc1) :
    sout0_A_1 c i arg2 harg2 arg3 harg3 arg4 harg4 arg5 harg5 arg6 harg6 arg7 harg7 hc0 hc1 x0 x1
      (ix2 r l) =
    if dist x0 x1 r l < Scalar.ofBits .f32 0x501502F9#32 then BitVec.ofNat 32 (1024 * (i 1).val + l.val) else 0#32 := by
  unfold sout0_A_1 kernelRun0_A
  dsimp only
  sl_unfold_run_names
  rw [View.read_writes_full]
  pointwise [k0_pay2, k0_pay26, k0_pay25, k0_pay5, k0_pay6]
  simp only [pay24_apply, Memref.IsWhole.readAt_unread]
  erw [dist_eq, View.readCov_full, View.readCov_full, num_eq]
  rfl

/-- The last run writes the least distance of each ray. -/
theorem oC2 (hc0 hc1) :
    out0_C_2 c i arg2 harg2 arg3 harg3 arg4 harg4 arg5 harg5 arg6 harg6 arg7 harg7 hc0 hc1 x0 x1 xs0 xs1 =
      k0_pay3 (sout0_C_0 c i arg2 harg2 arg3 harg3 arg4 harg4 arg5 harg5 arg6 harg6 arg7 harg7 hc0 hc1 x0 x1 xs0 xs1) := by
  unfold out0_C_2 sout0_C_0 kernelRun0_C
  dsimp only
  sl_unfold_run_names
  rw [View.read_writes_full, View.read_writes_full]
  erw [View.readCov_full]

/-- The last run writes the least number among the places that hold the least distance. -/
theorem oC3 (hc0 hc1) :
    out0_C_3 c i arg2 harg2 arg3 harg3 arg4 harg4 arg5 harg5 arg6 harg6 arg7 harg7 hc0 hc1 x0 x1 xs0 xs1 =
      k0_pay4 (sout0_C_0 c i arg2 harg2 arg3 harg3 arg4 harg4 arg5 harg5 arg6 harg6 arg7 harg7 hc0 hc1 x0 x1 xs0 xs1)
        (sout0_C_1 c i arg2 harg2 arg3 harg3 arg4 harg4 arg5 harg5 arg6 harg6 arg7 harg7 hc0 hc1 x0 x1 xs0 xs1) := by
  unfold out0_C_3 sout0_C_0 sout0_C_1 kernelRun0_C
  dsimp only
  sl_unfold_run_names
  rw [View.read_writes_full, View.read_writes_full, View.read_writes_full]
  exact congrArg₂ k0_pay4 (View.readCov_full _ _ _ _ _) (View.readCov_full _ _ _ _ _)

end body
end Cert.Proof.Inter
-- ==== Proof.InterMin.lean ====
module
public import Idealize.ShloMosaic.PureOps.Ideal
public import Idealize.ShloMosaic.PureOps.Reduce

/-! Searching for the least of many distances, and for the first place where it stands.  The numbers are 40 tiles of 1024:
number `1024 * k + l` stands in lane `l` of tile `k`.  One search goes lane by lane, tile after tile, and then takes the
least over the lanes; the other takes the least over all the numbers at once. -/

@[expose] public section
namespace Cert.Proof.Inter

/-- A fold by an operation that picks one of its two operands, the lower one, picks a lowest. -/
theorem fold_least {α β : Type} (op : β → β → β) [Std.Commutative op] [Std.Associative op] (R : β → β → Prop)
    (hp : ∀ a b, op a b = a ∨ op a b = b) (hl : ∀ a b, R (op a b) a) (hr : ∀ a b, R (op a b) b)
    (ht : ∀ a b c, R a b → R b c → R a c) (b : β) (f : α → β) (s : Finset α) :
    (s.fold op b f = b ∨ ∃ x ∈ s, s.fold op b f = f x) ∧ ∀ x ∈ s, R (s.fold op b f) (f x) := by
  classical
  induction s using Finset.induction_on with
  | empty => simp
  | insert x s hx ih =>
    rw [Finset.fold_insert hx]
    refine ⟨?_, ?_⟩
    · rcases hp (f x) (s.fold op b f) with h | h
      · exact Or.inr ⟨x, Finset.mem_insert_self _ _, h⟩
      · rcases ih.1 with h' | ⟨y, hy, h'⟩
        · exact Or.inl (h.trans h')
        · exact Or.inr ⟨y, Finset.mem_insert_of_mem hy, h.trans h'⟩
    · intro y hy
      rcases Finset.mem_insert.mp hy with rfl | hy
      · exact hl _ _
      · exact ht _ _ _ (hr _ _) (ih.2 y hy)

/-- The same for a fold over a list. -/
theorem foldl_least {β : Type} (op : β → β → β) (R : β → β → Prop)
    (hp : ∀ a b, op a b = a ∨ op a b = b) (hl : ∀ a b, R (op a b) a) (hr : ∀ a b, R (op a b) b)
    (ht : ∀ a b c, R a b → R b c → R a c) (hs : ∀ a, R a a) (L : List β) :
    ∀ b : β, (L.foldl op b = b ∨ L.foldl op b ∈ L) ∧ R (L.foldl op b) b ∧ ∀ x ∈ L, R (L.foldl op b) x := by
  induction L with
  | nil => intro b; simp [hs]
  | cons y L ih =>
    intro b
    obtain ⟨h1, h2, h3⟩ := ih (op b y)
    rw [List.foldl_cons]
    refine ⟨?_, ht _ _ _ h2 (hl _ _), ?_⟩
    · rcases h1 with h | h
      · rcases hp b y with h' | h'
        · exact Or.inl (h.trans h')
        · exact Or.inr (by rw [h, h']; exact List.mem_cons_self)
      · exact Or.inr (List.mem_cons_of_mem _ h)
    · intro x hx
      rcases List.mem_cons.mp hx with rfl | hx
      · exact ht _ _ _ h2 (hr _ _)
      · exact h3 x hx

/-- What the lane-by-lane search holds in a lane after tile `k`, for distances `D` and the number `B` standing for no
hit: nothing below the distances seen, and either no hit or the first number of the lane with the least distance. -/
structure Lane (D : ℕ → EReal) (B : EReal) (l k : ℕ) (cur : EReal) (idx : BitVec 32) : Prop where
  le : cur ≤ B
  low : ∀ j ≤ k, cur ≤ D (1024 * j + l)
  hit : cur = B ∨ ∃ j ≤ k, idx = BitVec.ofNat 32 (1024 * j + l) ∧ cur = D (1024 * j + l) ∧
    ∀ i < j, cur < D (1024 * i + l)

theorem Lane.first (D : ℕ → EReal) (B : EReal) (l : ℕ) (idx : BitVec 32) :
    Lane D B l 0 (if D (1024 * 0 + l) < B then D (1024 * 0 + l) else B)
      (if D (1024 * 0 + l) < B then BitVec.ofNat 32 (1024 * 0 + l) else idx) := by
  by_cases h : D (1024 * 0 + l) < B
  · rw [if_pos h, if_pos h]
    refine ⟨h.le, fun j hj => ?_, Or.inr ⟨0, le_rfl, rfl, rfl, fun i hi => absurd hi (Nat.not_lt_zero i)⟩⟩
    obtain rfl : j = 0 := Nat.le_zero.mp hj
    exact le_rfl
  · rw [if_neg h, if_neg h]
    refine ⟨le_rfl, fun j hj => ?_, Or.inl rfl⟩
    obtain rfl : j = 0 := Nat.le_zero.mp hj
    exact not_lt.mp h

theorem Lane.next {D : ℕ → EReal} {B : EReal} {l k : ℕ} {cur : EReal} {idx : BitVec 32} (H : Lane D B l k cur idx) :
    Lane D B l (k + 1) (if D (1024 * (k + 1) + l) < cur then D (1024 * (k + 1) + l) else cur)
      (if D (1024 * (k + 1) + l) < cur then BitVec.ofNat 32 (1024 * (k + 1) + l) else idx) := by
  by_cases h : D (1024 * (k + 1) + l) < cur
  · rw [if_pos h, if_pos h]
    refine ⟨h.le.trans H.le, fun j hj => ?_, Or.inr ⟨k + 1, le_rfl, rfl, rfl, fun i hi => ?_⟩⟩
    · rcases Nat.lt_or_ge k j with h' | h'
      · obtain rfl : j = k + 1 := by omega
        exact le_rfl
      · exact h.le.trans (H.low j h')
    · exact h.trans_le (H.low i (by omega))
  · rw [if_neg h, if_neg h]
    refine ⟨H.le, fun j hj => ?_, ?_⟩
    · rcases Nat.lt_or_ge k j with h' | h'
      · obtain rfl : j = k + 1 := by omega
        exact not_lt.mp h
      · exact H.low j h'
    · rcases H.hit with h' | ⟨j, hj, h1, h2, h3⟩
      · exact Or.inl h'
      · exact Or.inr ⟨j, by omega, h1, h2, h3⟩

/-- A number's word, read signed. -/
theorem toInt_num {n : ℕ} (h : n < 40960) : (BitVec.ofNat 32 n).toInt = n := by
  have hn : (BitVec.ofNat 32 n).toNat = n := by rw [BitVec.toNat_ofNat]; exact Nat.mod_eq_of_lt (by omega)
  rw [BitVec.toInt_eq_toNat_of_lt (by omega), hn]

/-- The two searches agree on a least distance below a bound under which there is a hit: `M` is the least over the lanes and
`I` the least number among the lanes that hold it; `a` is the first number with the least distance. -/
theorem searches_agree {D : ℕ → EReal} {B T : EReal} (hT : T ≤ B) {cur : Fin 1024 → EReal} {idx : Fin 1024 → BitVec 32}
    (H : ∀ l : Fin 1024, Lane D B l.val 39 (cur l) (idx l)) {M : EReal} (hM : ∀ l, M ≤ cur l) (hM' : ∃ l, M = cur l)
    {I : BitVec 32} (hI : ∀ l, cur l = M → I.toInt ≤ (idx l).toInt)
    (hI' : I = 2147483647#32 ∨ ∃ l, I = if cur l = M then idx l else 2147483647#32)
    {a : ℕ} (ha : a < 40960) (hle : ∀ n < 40960, D a ≤ D n) (hlt : ∀ n < a, D a < D n) :
    (M < T ↔ D a < T) ∧ (M < T → M = D a ∧ I = BitVec.ofNat 32 a) := by
  have hlow : M ≤ D a := by
    have h := (H ⟨a % 1024, Nat.mod_lt _ (by decide)⟩).low (a / 1024) (by omega)
    have e : 1024 * (a / 1024) + a % 1024 = a := by omega
    rw [e] at h
    exact (hM _).trans h
  have key : M < T → M = D a ∧ I = BitVec.ofNat 32 a := by
    intro hMT
    have hit (l : Fin 1024) (hl : cur l = M) : ∃ j ≤ 39, idx l = BitVec.ofNat 32 (1024 * j + l.val) ∧
        cur l = D (1024 * j + l.val) ∧ ∀ i < j, cur l < D (1024 * i + l.val) := by
      rcases (H l).hit with h | h
      · exact absurd (h.symm.trans hl) (ne_of_gt (hMT.trans_le hT))
      · exact h
    have hMa : M = D a := by
      obtain ⟨l, hl⟩ := hM'
      obtain ⟨j, hj, -, h2, -⟩ := hit l hl.symm
      refine le_antisymm hlow ?_
      rw [hl, h2]
      exact hle _ (by have := l.isLt; omega)
    refine ⟨hMa, ?_⟩
    have ge (l : Fin 1024) (hl : cur l = M) : ∃ n, a ≤ n ∧ n < 40960 ∧ idx l = BitVec.ofNat 32 n := by
      obtain ⟨j, hj, h1, h2, -⟩ := hit l hl
      refine ⟨1024 * j + l.val, ?_, by have := l.isLt; omega, h1⟩
      by_contra hlt'
      have := hlt _ (not_le.mp hlt')
      rw [← hMa, ← hl, h2] at this
      exact lt_irrefl _ this
    have hla : cur ⟨a % 1024, Nat.mod_lt _ (by decide)⟩ = M := by
      refine le_antisymm ?_ (hM _)
      have h := (H ⟨a % 1024, Nat.mod_lt _ (by decide)⟩).low (a / 1024) (by omega)
      have e : 1024 * (a / 1024) + a % 1024 = a := by omega
      rw [e] at h
      rw [hMa]
      exact h
    have hia : idx ⟨a % 1024, Nat.mod_lt _ (by decide)⟩ = BitVec.ofNat 32 a := by
      obtain ⟨j, hj, h1, h2, h3⟩ := hit _ hla
      have e : 1024 * (a / 1024) + a % 1024 = a := by omega
      have h2' : D a = D (1024 * j + a % 1024) := by rw [← hMa, ← hla]; exact h2
      have h4 : ¬ 1024 * j + a % 1024 < a := fun h => by
        have := hlt _ h
        rw [← h2'] at this
        exact lt_irrefl _ this
      have h5 : ¬ a / 1024 < j := fun h => by
        have := h3 _ h
        rw [hla, hMa] at this
        simp only [e] at this
        exact lt_irrefl _ this
      have : 1024 * j + a % 1024 = a := by omega
      rw [h1]
      simp only [this]
    have hIa := hI _ hla
    rw [hia, toInt_num ha] at hIa
    rcases hI' with h | ⟨l, h⟩
    · rw [h] at hIa
      have : (2147483647#32).toInt = 2147483647 := by decide
      omega
    · by_cases hl : cur l = M
      · rw [if_pos hl] at h
        obtain ⟨n, h1, h2, h3⟩ := ge l hl
        rw [h, h3, toInt_num h2] at hIa
        rw [h, h3]
        congr 1
        omega
      · rw [if_neg hl] at h
        rw [h] at hIa
        have : (2147483647#32).toInt = 2147483647 := by decide
        omega
  exact ⟨⟨fun h => by rw [← (key h).1]; exact h, fun h => hlow.trans_lt h⟩, key⟩
end Cert.Proof.Inter
-- ==== Proof.InterArr.lean ====
module
public import proofs.«01_k».proof.Proof.InterKernel
public import proofs.«01_k».proof.Proof.InterMin

/-! The nearest-hit kernel's result arrays after its run.  Ray `p` is row `p % 256` of block `p / 256`; the run visits, for
every block of rays, the forty tiles of triangles in turn. -/
@[expose] public section
noncomputable section
namespace Cert.Proof.Inter
open Idealize.ShloMosaic Idealize.ShloMosaic.TcCoe Idealize.SL.Sem Cert.IntersectIdeal Cert.IntersectIdeal.Gen
variable (m : (ℓ : Loc nD τ sig) → Buf (Elt Ideal) ℓ) (c : Dev nD)

theorem coord (t : Fin cfg0.N) : (grid0.coords t 1).val = t.val % 40 :=
  (by decide +kernel : ∀ t : Fin grid0.N, (grid0.coords t 1).val = t.val % 40) t
theorem idx0 (t : Fin grid0.N) : ∀ a, (cfg0.win 0).index t a = if a.val = 0 then t.val / 40 else 0 := by
  revert t; decide +kernel
theorem idx1 (t : Fin grid0.N) : ∀ a, (cfg0.win 1).index t a = if a.val = 0 then 0 else t.val % 40 := by
  revert t; decide +kernel
theorem idx2 (t : Fin grid0.N) : ∀ a, (cfg0.win 2).index t a = t.val / 40 := by
  revert t; decide +kernel
theorem idx3 (t : Fin grid0.N) : ∀ a, (cfg0.win 3).index t a = t.val / 40 := by
  revert t; decide +kernel
theorem flush2 (t : Fin grid0.N) : (cfg0.win 2).flush t = true ↔ t.val % 40 = 39 := by
  revert t; decide +kernel
theorem flush3 (t : Fin grid0.N) : (cfg0.win 3).flush t = true ↔ t.val % 40 = 39 := by
  revert t; decide +kernel
theorem kind (w : Fin cfg0.W) : (cfg0.win w).kind = .blocked := by
  revert w; decide +kernel

/-- The point of ray block `b` and tile `k`. -/
def at' (b : Fin 16) (k : Fin 40) : Fin cfg0.N := ⟨40 * b.val + k.val, by have := b.isLt; have := k.isLt; show _ < 640; omega⟩
theorem at_div (b : Fin 16) (k : Fin 40) : (at' b k).val / 40 = b.val := by
  have := k.isLt; show (40 * b.val + k.val) / 40 = _; omega
theorem at_mod (b : Fin 16) (k : Fin 40) : (at' b k).val % 40 = k.val := by
  have := k.isLt; show (40 * b.val + k.val) % 40 = _; omega
/-- Ray `r` of block `b`. -/
def ray (b : Fin 16) (r : Fin 256) : Fin 4096 := ⟨256 * b.val + r.val, by have := b.isLt; have := r.isLt; omega⟩
/-- Triangle `l` of tile `k`. -/
def tri (k : Fin 40) (l : Fin 1024) : Fin 40960 := ⟨1024 * k.val + l.val, by have := k.isLt; have := l.isLt; omega⟩

theorem blk0 (b : Fin 16) (k : Fin 40) (r : Fin 256) (s : Fin 8) :
    iblk m c 0 (at' b k) (ix2 r s) = V m c (Pipeline.arrRef spec0 0) (ix2 (ray b r) s) := by
  refine congrArg (V m c (Pipeline.arrRef spec0 0)) (funext fun a => Fin.ext ?_)
  refine ((cfg0.win 0).rect_emb_val (at' b k) (ix2 r s) a (kind 0)).trans ?_
  rw [idx0 (at' b k) a, at_div]
  match a with
  | ⟨0, _⟩ => show b.val * 256 + r.val = 256 * b.val + r.val; omega
  | ⟨1, _⟩ => show 0 * 8 + s.val = s.val; omega
theorem blk1 (b : Fin 16) (k : Fin 40) (s : Fin 16) (l : Fin 1024) :
    iblk m c 1 (at' b k) (ix2 s l) = V m c (Pipeline.arrRef spec0 1) (ix2 s (tri k l)) := by
  refine congrArg (V m c (Pipeline.arrRef spec0 1)) (funext fun a => Fin.ext ?_)
  refine ((cfg0.win 1).rect_emb_val (at' b k) (ix2 s l) a (kind 1)).trans ?_
  rw [idx1 (at' b k) a, at_mod]
  match a with
  | ⟨0, _⟩ => show 0 * 16 + s.val = s.val; omega
  | ⟨1, _⟩ => show k.val * 1024 + l.val = 1024 * k.val + l.val; omega

/-- The distance from ray `p` to triangle `n`, for rays `od` and triangles `td`. -/
def far (od : Vec Ideal S4096x8 .f32) (td : Vec Ideal S16x40960 .f32) (p : Fin 4096) (n : Fin 40960) : Ideal .f32 :=
  meet (od (ix2 p 0)) (od (ix2 p 1)) (od (ix2 p 2)) (od (ix2 p 3)) (od (ix2 p 4)) (od (ix2 p 5))
    (td (ix2 0 n)) (td (ix2 1 n)) (td (ix2 2 n)) (td (ix2 3 n)) (td (ix2 4 n)) (td (ix2 5 n))
    (td (ix2 6 n)) (td (ix2 7 n)) (td (ix2 8 n))
/-- The same by the number of the triangle. -/
def farN (od : Vec Ideal S4096x8 .f32) (td : Vec Ideal S16x40960 .f32) (p : Fin 4096) (n : ℕ) : EReal :=
  if h : n < 40960 then far od td p ⟨n, h⟩ else 0
theorem farN_tri (od : Vec Ideal S4096x8 .f32) (td : Vec Ideal S16x40960 .f32) (p : Fin 4096) (k : Fin 40) (l : Fin 1024) :
    farN od td p (1024 * k.val + l.val) = far od td p (tri k l) := dif_pos (tri k l).isLt

/-- The rays and the triangles as the run finds them. -/
abbrev od : Vec Ideal S4096x8 .f32 := V m c (Pipeline.arrRef spec0 0)
abbrev td : Vec Ideal S16x40960 .f32 := V m c (Pipeline.arrRef spec0 1)

theorem dist_blk (b : Fin 16) (k : Fin 40) (r : Fin 256) (l : Fin 1024) :
    dist (iblk m c 0 (at' b k)) (iblk m c 1 (at' b k)) r l = farN (od m c) (td m c) (ray b r) (1024 * k.val + l.val) := by
  rw [farN_tri]
  unfold dist far
  simp only [blk0, blk1]

/-- What a lane holds after a tile. -/
theorem lane (b : Fin 16) (r : Fin 256) (l : Fin 1024) : ∀ (k : ℕ) (hk : k < 40),
    Lane (farN (od m c) (td m c) (ray b r)) (Scalar.ofBits (F := Ideal) .f32 0x501502F9#32) l.val k
      ((outsAt0 m c (at' b ⟨k, hk⟩).val (at' b ⟨k, hk⟩).isLt).2.2.1 (ix2 r l))
      ((outsAt0 m c (at' b ⟨k, hk⟩).val (at' b ⟨k, hk⟩).isLt).2.2.2 (ix2 r l)) := by
  intro k
  induction k with
  | zero =>
    intro hk
    rw [outsAt0_A m c (at' b ⟨0, hk⟩) (at_mod b ⟨0, hk⟩) (by rw [at_mod]; exact (by decide : ¬ (0 : ℕ) = 39))]
    dsimp only
    rw [sA0, sA1, dist_blk, coord, at_mod]
    exact Lane.first _ _ _ _
  | succ k ih =>
    intro hk
    have h0 : ¬ (at' b ⟨k + 1, hk⟩).val % 40 = 0 := by rw [at_mod]; exact Nat.succ_ne_zero k
    have ih' := ih (Nat.lt_of_succ_lt hk)
    by_cases h1 : (at' b ⟨k + 1, hk⟩).val % 40 = 39
    · rw [outsAt0_C m c (at' b ⟨k + 1, hk⟩) h0 h1]
      dsimp only
      rw [sC0, sC1, dist_blk, coord, at_mod]
      exact ih'.next
    · rw [outsAt0_B m c (at' b ⟨k + 1, hk⟩) h0 h1]
      dsimp only
      rw [sB0, sB1, dist_blk, coord, at_mod]
      exact ih'.next

/-- The last point of a block of rays. -/
abbrev last (b : Fin 16) : Fin cfg0.N := at' b ⟨39, by decide⟩
/-- The least distances and their triangles in every lane, at the end of a block of rays. -/
abbrev curs (b : Fin 16) : Vec Ideal S256x1024 .f32 := (outsAt0 m c (last b).val (last b).isLt).2.2.1
abbrev idxs (b : Fin 16) : Vec Ideal S256x1024 .i32 := (outsAt0 m c (last b).val (last b).isLt).2.2.2

theorem last_pay (b : Fin 16) : (outsAt0 m c (last b).val (last b).isLt).1 = k0_pay3 (curs m c b) ∧
    (outsAt0 m c (last b).val (last b).isLt).2.1 = k0_pay4 (curs m c b) (idxs m c b) := by
  unfold curs idxs
  rw [outsAt0_C m c (last b) (by rw [at_mod]; exact (by decide : ¬ (39 : ℕ) = 0)) (at_mod _ _)]
  dsimp only
  rw [oC2, oC3]
  exact ⟨rfl, rfl⟩

/-- A block's least distance is least. -/
theorem pay3_least (x : Vec Ideal S256x1024 .f32) (r : Fin 256) :
    (∀ l, k0_pay3 x (ix1 r) ≤ x (ix2 r l)) ∧ ∃ l, k0_pay3 x (ix1 r) = x (ix2 r l) := by
  have top : (Ideal.ofBits FTy.f32 0x7F800000#32 : EReal) = ⊤ := by simp [Ideal.ofBits, Ideal.ieee]
  have h := fold_least (α := Fin 1024) (min : EReal → EReal → EReal) (· ≤ ·) min_choice min_le_left min_le_right
    (fun _ _ _ => le_trans) (Ideal.ofBits FTy.f32 0x7F800000#32) (fun l => x (ix2 r l)) Finset.univ
  pointwise [k0_pay3]
  refine ⟨fun l => h.2 l (Finset.mem_univ l), ?_⟩
  rcases h.1 with h1 | ⟨l, -, h1⟩
  · refine ⟨0, le_antisymm (h.2 0 (Finset.mem_univ 0)) ?_⟩
    rw [h1, top]
    exact le_top
  · exact ⟨l, h1⟩
theorem pay4_least (x : Vec Ideal S256x1024 .f32) (y : Vec Ideal S256x1024 .i32) (r : Fin 256) :
    (∀ l, x (ix2 r l) = k0_pay3 x (ix1 r) → (k0_pay4 x y (ix1 r)).toInt ≤ (y (ix2 r l)).toInt) ∧
      (k0_pay4 x y (ix1 r) = 2147483647#32 ∨
        ∃ l, k0_pay4 x y (ix1 r) = if x (ix2 r l) = k0_pay3 x (ix1 r) then y (ix2 r l) else 2147483647#32) := by
  have h := fold_least (α := Fin 1024) (IntOp.minsi : BitVec 32 → BitVec 32 → BitVec 32) (fun a b => a.toInt ≤ b.toInt)
    (fun a b => by unfold IntOp.minsi; split <;> simp) (fun a b => by unfold IntOp.minsi; split <;> simp_all [BitVec.slt])
    (fun a b => by unfold IntOp.minsi; split <;> simp_all [BitVec.slt]; omega) (fun _ _ _ => le_trans) 2147483647#32
    (fun l => if x (ix2 r l) = k0_pay3 x (ix1 r) then y (ix2 r l) else 2147483647#32) Finset.univ
  pointwise [k0_pay4]
  refine ⟨fun l hl => ?_, ?_⟩
  · have h2 := h.2 l (Finset.mem_univ l)
    rw [if_pos hl] at h2
    exact h2
  · rcases h.1 with h1 | ⟨l, -, h1⟩
    · exact Or.inl h1
    · exact Or.inr ⟨l, h1⟩

theorem index2 (t t' : Fin cfg0.N) (h : (cfg0.win 2).flush t = true) (h' : (cfg0.win 2).flush t' = true)
    (e : (cfg0.win 2).index t = (cfg0.win 2).index t') : t = t' := by
  have e0 := congrFun e 0
  rw [idx2, idx2] at e0
  have := (flush2 t).mp h
  have := (flush2 t').mp h'
  exact Fin.ext (by omega)
theorem index3 (t t' : Fin cfg0.N) (h : (cfg0.win 3).flush t = true) (h' : (cfg0.win 3).flush t' = true)
    (e : (cfg0.win 3).index t = (cfg0.win 3).index t') : t = t' := by
  have e0 := congrFun e 0
  rw [idx3, idx3] at e0
  have := (flush3 t).mp h
  have := (flush3 t').mp h'
  exact Fin.ext (by omega)

theorem place2 (b : Fin 16) (r : Fin 256) : ((cfg0.win 2).rect (last b)).emb (ix1 r) = ix1 (ray b r) := by
  refine funext fun a => Fin.ext ?_
  refine ((cfg0.win 2).rect_emb_val (last b) (ix1 r) a (kind 2)).trans ?_
  rw [idx2 (last b) a, at_div]
  match a with
  | ⟨0, _⟩ => show b.val * 256 + r.val = 256 * b.val + r.val; omega
theorem place3 (b : Fin 16) (r : Fin 256) : ((cfg0.win 3).rect (last b)).emb (ix1 r) = ix1 (ray b r) := by
  refine funext fun a => Fin.ext ?_
  refine ((cfg0.win 3).rect_emb_val (last b) (ix1 r) a (kind 3)).trans ?_
  rw [idx3 (last b) a, at_div]
  match a with
  | ⟨0, _⟩ => show b.val * 256 + r.val = 256 * b.val + r.val; omega

theorem arr2 (b : Fin 16) (r : Fin 256) : (dats m 0 c).arrAt 2 cfg0.N (ix1 (ray b r)) = k0_pay3 (curs m c b) (ix1 r) :=
  (congrArg ((dats m 0 c).arrAt 2 cfg0.N) (place2 b r).symm).trans
    ((congrFun ((dats m 0 c).read_blk_arrAt_eq_flushed 2 (fun t t' h h' hne =>
      (cfg0.win 2).disjoint_blk (hk := kind 2) fun e => hne (index2 t t' h h' e)) cfg0.N (last b)
      (last b).isLt ((flush2 _).mpr (at_mod _ _))) (ix1 r)).trans
      (congrFun ((after0_2 m c (last b)).trans (last_pay m c b).1) (ix1 r)))
theorem arr3 (b : Fin 16) (r : Fin 256) :
    (dats m 0 c).arrAt 3 cfg0.N (ix1 (ray b r)) = k0_pay4 (curs m c b) (idxs m c b) (ix1 r) :=
  (congrArg ((dats m 0 c).arrAt 3 cfg0.N) (place3 b r).symm).trans
    ((congrFun ((dats m 0 c).read_blk_arrAt_eq_flushed 3 (fun t t' h h' hne =>
      (cfg0.win 3).disjoint_blk (hk := kind 3) fun e => hne (index3 t t' h h' e)) cfg0.N (last b)
      (last b).isLt ((flush3 _).mpr (at_mod _ _))) (ix1 r)).trans
      (congrFun ((after0_3 m c (last b)).trans (last_pay m c b).2) (ix1 r)))

/-- A ray's least distance after the run, and the number of its triangle. -/
def least (p : Fin 4096) : EReal := (dats m 0 c).arrAt 2 cfg0.N (ix1 p)
def which (p : Fin 4096) : BitVec 32 := (dats m 0 c).arrAt 3 cfg0.N (ix1 p)

/-- The run's result for a ray, against the first triangle `a` at the least distance: the same distance and triangle when
that distance is below `T`, and otherwise a distance not below `T` either. -/
theorem found (b : Fin 16) (r : Fin 256) {T : EReal} (hT : T ≤ Scalar.ofBits (F := Ideal) .f32 0x501502F9#32) {a : ℕ}
    (ha : a < 40960)
    (hle : ∀ n < 40960, farN (od m c) (td m c) (ray b r) a ≤ farN (od m c) (td m c) (ray b r) n)
    (hlt : ∀ n < a, farN (od m c) (td m c) (ray b r) a < farN (od m c) (td m c) (ray b r) n) :
    (least m c (ray b r) < T ↔ farN (od m c) (td m c) (ray b r) a < T) ∧
      (least m c (ray b r) < T →
        least m c (ray b r) = farN (od m c) (td m c) (ray b r) a ∧
        which m c (ray b r) = BitVec.ofNat 32 a) := by
  rw [show least m c (ray b r) = k0_pay3 (curs m c b) (ix1 r) from arr2 m c b r,
    show which m c (ray b r) = k0_pay4 (curs m c b) (idxs m c b) (ix1 r) from arr3 m c b r]
  exact searches_agree hT (fun l => lane m c b r l 39 (by decide)) (pay3_least _ r).1 (pay3_least _ r).2
    (pay4_least _ _ r).1 (pay4_least _ _ r).2 ha hle hlt
end Cert.Proof.Inter
-- ==== Proof.InterRef.lean ====
module
public import proofs.«01_k».proof.Proof.InterRun
public import proofs.«01_k».proof.Proof.InterArr

/-! The nearest-hit reference's values at an index: the distance from a ray to a triangle, the first triangle at the least
distance, and that distance. -/
@[expose] public section
noncomputable section
namespace Cert.Proof.Inter.Ref
open Idealize.ShloMosaic Idealize.ShloMosaic.TcCoe Idealize.SL.Sem Idealize.ShloMosaic.StableHlo
open Cert.IntersectReferenceIdeal Cert.IntersectReferenceIdeal.Gen Cert.IntersectReferenceIdeal.Value
variable (v : Valuation τ sig (Elt Ideal)) (p : Fin 4096) (n : Fin 40960)

/-- The ray's origin and direction, and the triangle's sixteen numbers. -/
def o (k : Fin 3) : EReal := v (Proc.devRef .tc main_arg0) (ix3 0 p k)
def d (k : Fin 3) : EReal := v (Proc.devRef .tc main_arg1) (ix3 0 p k)
def g (s : Fin 16) : EReal := v (Proc.devRef .tc main_arg2) (ix2 s n)

theorem v46_0 : res_main_v46 v (ix3 p n 0) = (d v p 1 * g v n 8 - d v p 2 * g v n 7 : EReal) := by
  pointwise [res_main_v46, res_main_v13, res_main_v21, res_main_v15, res_main_v19, res_main_v17, res_main_v11, res_main_v7, res_main_v8, res_main_v9, res_main_v3, res_main_v5, d, g]
theorem v46_1 : res_main_v46 v (ix3 p n 1) = (d v p 2 * g v n 6 - d v p 0 * g v n 8 : EReal) := by
  pointwise [res_main_v46, res_main_v13, res_main_v21, res_main_v15, res_main_v19, res_main_v17, res_main_v11, res_main_v7, res_main_v8, res_main_v9, res_main_v3, res_main_v5, d, g]
theorem v46_2 : res_main_v46 v (ix3 p n 2) = (d v p 0 * g v n 7 - d v p 1 * g v n 6 : EReal) := by
  pointwise [res_main_v46, res_main_v13, res_main_v21, res_main_v15, res_main_v19, res_main_v17, res_main_v11, res_main_v7, res_main_v8, res_main_v9, res_main_v3, res_main_v5, d, g]
theorem v62_0 : res_main_v62 v (ix3 p n 0) = (o v p 0 - g v n 0 : EReal) := by
  pointwise [res_main_v62, o, g]
theorem v62_1 : res_main_v62 v (ix3 p n 1) = (o v p 1 - g v n 1 : EReal) := by
  pointwise [res_main_v62, o, g]
theorem v62_2 : res_main_v62 v (ix3 p n 2) = (o v p 2 - g v n 2 : EReal) := by
  pointwise [res_main_v62, o, g]
theorem v97_0 : res_main_v97 v (ix3 p n 0) =
    ((o v p 1 - g v n 1) * g v n 5 - (o v p 2 - g v n 2) * g v n 4 : EReal) := by
  pointwise [res_main_v97, res_main_v66, res_main_v68, res_main_v70, res_main_v72, res_main_v74, res_main_v76, res_main_v78, res_main_v3, v62_0, v62_1, v62_2, g]
theorem v97_1 : res_main_v97 v (ix3 p n 1) =
    ((o v p 2 - g v n 2) * g v n 3 - (o v p 0 - g v n 0) * g v n 5 : EReal) := by
  pointwise [res_main_v97, res_main_v66, res_main_v68, res_main_v70, res_main_v72, res_main_v74, res_main_v76, res_main_v78, res_main_v3, v62_0, v62_1, v62_2, g]
theorem v97_2 : res_main_v97 v (ix3 p n 2) =
    ((o v p 0 - g v n 0) * g v n 4 - (o v p 1 - g v n 1) * g v n 3 : EReal) := by
  pointwise [res_main_v97, res_main_v66, res_main_v68, res_main_v70, res_main_v72, res_main_v74, res_main_v76, res_main_v78, res_main_v3, v62_0, v62_1, v62_2, g]

/-- The determinant, and the three numerators. -/
def det : EReal := g v n 3 * (d v p 1 * g v n 8 - d v p 2 * g v n 7) +
    g v n 4 * (d v p 2 * g v n 6 - d v p 0 * g v n 8) +
    g v n 5 * (d v p 0 * g v n 7 - d v p 1 * g v n 6)
def uN : EReal := (o v p 0 - g v n 0) * (d v p 1 * g v n 8 - d v p 2 * g v n 7) +
    (o v p 1 - g v n 1) * (d v p 2 * g v n 6 - d v p 0 * g v n 8) +
    (o v p 2 - g v n 2) * (d v p 0 * g v n 7 - d v p 1 * g v n 6)
def vN : EReal := d v p 0 * ((o v p 1 - g v n 1) * g v n 5 - (o v p 2 - g v n 2) * g v n 4) +
    d v p 1 * ((o v p 2 - g v n 2) * g v n 3 - (o v p 0 - g v n 0) * g v n 5) +
    d v p 2 * ((o v p 0 - g v n 0) * g v n 4 - (o v p 1 - g v n 1) * g v n 3)
def tN : EReal := g v n 6 * ((o v p 1 - g v n 1) * g v n 5 - (o v p 2 - g v n 2) * g v n 4) +
    g v n 7 * ((o v p 2 - g v n 2) * g v n 3 - (o v p 0 - g v n 0) * g v n 5) +
    g v n 8 * ((o v p 0 - g v n 0) * g v n 4 - (o v p 1 - g v n 1) * g v n 3)

theorem v50_at : res_main_v50 v (ix2 p n) = det v p n := by
  pointwise [res_main_v50]
  rw [Fin.sum_univ_three]
  pointwise [v46_0, v46_1, v46_2, res_main_v3]
  rfl
/-- A determinant far enough from zero, and its inverse, zero for the others. -/
def ok (x : EReal) : Prop := Ideal.ofBits FTy.f32 0x3089705F#32 < FloatOps.absf (F := Ideal) (φ := .f32) x
instance (x : EReal) : Decidable (ok x) := by unfold ok; infer_instance
def inv (x : EReal) : EReal := if ok x then Ideal.div 1 x else 0
/-- The distance, from the determinant and the three numerators: the number standing for no hit when the ray misses. -/
def pick (x a b t : EReal) : EReal := Scalar.select (IntOp.andi (IntOp.andi (IntOp.andi
    (BitVec.ofBool (decide (0 ≤ a * inv x))) (BitVec.ofBool (decide (0 ≤ b * inv x))))
    (BitVec.ofBool (decide (a * inv x + b * inv x ≤ 1)))) (BitVec.ofBool (decide (Ideal.ofBits FTy.f32 0x358637BD#32 < t * inv x))))
  (t * inv x) (Ideal.ofBits FTy.f32 0x501502F9#32)

theorem v57_at : res_main_v57 v (ix2 p n) = inv (det v p n) := by
  unfold res_main_v57 res_main_v53
  simp only [id_eq]
  pointwise [v50_at]
  unfold inv
  by_cases h : ok (det v p n)
  · rw [if_pos h]
    unfold ok at h
    rw [if_pos h, if_pos h]
  · rw [if_neg h]
    unfold ok at h
    rw [if_neg h]
theorem v65_at : res_main_v65 v (ix2 p n) = (uN v p n * res_main_v57 v (ix2 p n) : EReal) := by
  pointwise [res_main_v65]
  rw [Fin.sum_univ_three]
  pointwise [v46_0, v46_1, v46_2, v62_0, v62_1, v62_2]
  rfl
theorem v102_at : res_main_v102 v (ix2 p n) = (vN v p n * res_main_v57 v (ix2 p n) : EReal) := by
  pointwise [res_main_v102]
  rw [Fin.sum_univ_three]
  pointwise [v97_0, v97_1, v97_2, res_main_v7]
  rfl
theorem v107_at : res_main_v107 v (ix2 p n) = (tN v p n * res_main_v57 v (ix2 p n) : EReal) := by
  pointwise [res_main_v107]
  rw [Fin.sum_univ_three]
  pointwise [v97_0, v97_1, v97_2, res_main_v5]
  rfl

theorem eps_pos : (0 : EReal) < Ideal.ofBits FTy.f32 0x358637BD#32 := by
  have e : Ideal.ofBits FTy.f32 0x358637BD#32 = ((8796093 * (2 : ℝ) ^ (-43 : ℤ) : ℝ) : EReal) := by
    simp [Ideal.ofBits, Ideal.ieee]
  rw [e]
  exact_mod_cast (by positivity : (0 : ℝ) < 8796093 * (2 : ℝ) ^ (-43 : ℤ))

theorem v121_at : res_main_v121 v (ix2 p n) = pick (det v p n) (uN v p n) (vN v p n) (tN v p n) := by
  unfold res_main_v121 res_main_v53
  simp only [id_eq]
  pointwise [v65_at, v102_at, v107_at, v57_at, v50_at]
  unfold pick
  by_cases h : ok (det v p n)
  · rw [decide_eq_true (show Ideal.ofBits FTy.f32 0x3089705F#32 < FloatOps.absf (F := Ideal) (φ := .f32) (det v p n) from h)]
    have e (x : BitVec 1) : IntOp.andi (BitVec.ofBool true) x = x := by revert x; decide
    rw [e]
  · have e : tN v p n * inv (det v p n) = 0 := by unfold inv; rw [if_neg h, mul_zero]
    rw [e, decide_eq_false (not_lt.mpr eps_pos.le)]
    have z (x : BitVec 1) : IntOp.andi x (BitVec.ofBool false) = BitVec.ofBool false := by revert x; decide
    rw [z, z]

/-- The kernel's distance is the reference's. -/
theorem meet_at : meet (o v p 0) (o v p 1) (o v p 2) (d v p 0) (d v p 1) (d v p 2) (g v n 0) (g v n 1) (g v n 2) (g v n 3)
    (g v n 4) (g v n 5) (g v n 6) (g v n 7) (g v n 8) = pick (det v p n) (uN v p n) (vN v p n) (tN v p n) := by
  pointwise [meet]
  unfold pick inv det uN vN tN ok
  rfl
end Cert.Proof.Inter.Ref
-- ==== Proof.InterSearch.lean ====
module
public import proofs.«01_k».proof.Proof.InterRef
public import Idealize.ShloMosaic.PureOps.Ideal.Laws

/-! The nearest-hit reference's search: the first triangle at the least distance, and that distance read back. -/
@[expose] public section
noncomputable section
namespace Cert.Proof.Inter.Ref
open Idealize.ShloMosaic Idealize.ShloMosaic.TcCoe Idealize.SL.Sem Idealize.ShloMosaic.StableHlo
open Cert.IntersectReferenceIdeal Cert.IntersectReferenceIdeal.Gen Cert.IntersectReferenceIdeal.Value
variable (v : Valuation τ sig (Elt Ideal)) (p : Fin 4096) (n : Fin 40960)

/-- The order of the search: by distance, then by number. -/
def before (x y : EReal × BitVec 32) : Prop := x.1 < y.1 ∨ (x.1 = y.1 ∧ x.2.toInt ≤ y.2.toInt)
theorem before_refl (x : EReal × BitVec 32) : before x x := Or.inr ⟨rfl, le_rfl⟩
theorem before_trans (x y z : EReal × BitVec 32) (h : before x y) (h' : before y z) : before x z := by
  rcases h with h | ⟨h, h1⟩ <;> rcases h' with h' | ⟨h', h1'⟩
  · exact Or.inl (h.trans h')
  · exact Or.inl (h' ▸ h)
  · exact Or.inl (h ▸ h')
  · exact Or.inr ⟨h.trans h', h1.trans h1'⟩

open Classical in
/-- A step of the search keeps the earlier of two. -/
theorem step (x y : EReal × BitVec 32) :
    reducer_argmin_f32_i32 (F := Ideal) x y = if x.1 < y.1 ∨ (x.1 = y.1 ∧ x.2.toInt < y.2.toInt) then x else y := by
  unfold reducer_argmin_f32_i32
  obtain ⟨x1, x2⟩ := x
  obtain ⟨y1, y2⟩ := y
  pointwise []
  rw [show IntOp.cmpi .slt x2 y2 = BitVec.ofBool (decide (x2.toInt < y2.toInt)) from rfl,
    decide_eq_false (fun h : x1 ≠ x1 => h rfl)]
  by_cases h1 : x1 < y1
  · rw [decide_eq_true h1, if_pos (Or.inl h1)]
    have e (b : BitVec 1) : IntOp.ori (IntOp.ori (BitVec.ofBool true) (BitVec.ofBool false)) b = 1#1 := by revert b; decide
    rw [e]
    rfl
  · by_cases h2 : x1 = y1 ∧ x2.toInt < y2.toInt
    · rw [decide_eq_false h1, decide_eq_true h2.1, decide_eq_true h2.2, if_pos (Or.inr h2), h2.1]
      rfl
    · rw [decide_eq_false h1, if_neg (fun h => h.elim h1 h2)]
      have e : IntOp.andi (BitVec.ofBool (decide (x1 = y1))) (BitVec.ofBool (decide (x2.toInt < y2.toInt))) = 0#1 := by
        by_cases h3 : x1 = y1
        · rw [decide_eq_true h3, decide_eq_false (fun h => h2 ⟨h3, h⟩)]; rfl
        · rw [decide_eq_false h3]; generalize BitVec.ofBool (decide (x2.toInt < y2.toInt)) = b; revert b; decide
      rw [e]
      rfl
theorem step_or (x y : EReal × BitVec 32) :
    reducer_argmin_f32_i32 (F := Ideal) x y = x ∨ reducer_argmin_f32_i32 (F := Ideal) x y = y := by
  rw [step]
  split
  · exact Or.inl rfl
  · exact Or.inr rfl
theorem step_left (x y : EReal × BitVec 32) : before (reducer_argmin_f32_i32 (F := Ideal) x y) x := by
  rw [step]
  split
  · exact before_refl x
  · rename_i h
    rcases lt_trichotomy x.1 y.1 with h' | h' | h'
    · exact absurd (Or.inl h') h
    · exact Or.inr ⟨h'.symm, not_lt.mp fun h'' => h (Or.inr ⟨h', h''⟩)⟩
    · exact Or.inl h'
theorem step_right (x y : EReal × BitVec 32) : before (reducer_argmin_f32_i32 (F := Ideal) x y) y := by
  rw [step]
  split
  · rename_i h
    rcases h with h | ⟨h, h'⟩
    · exact Or.inl h
    · exact Or.inr ⟨h, h'.le⟩
  · exact before_refl y

/-- The pairs searched for a ray are its entries with their numbers. -/
theorem mem_fiber (x : S4096x40960.Idx → EReal) (y : S4096x40960.Idx → BitVec 32) (z : EReal × BitVec 32) :
    z ∈ Host.argReduceFiber x y reducesTo_S4096x40960_S4096_d1 (ix1 p) ↔
      ∃ n : Fin 40960, z = (x (ix2 p n), y (ix2 p n)) := by
  unfold Host.argReduceFiber
  rw [List.mem_map]
  constructor
  · rintro ⟨k, hk, rfl⟩
    have hk' := of_decide_eq_true (List.mem_filter.mp hk).2
    obtain ⟨i, hi⟩ : ∃ i, i = S4096x40960.rowMajor.symm k := ⟨_, rfl⟩
    rw [← hi] at hk' ⊢
    refine ⟨i 1, ?_⟩
    have h0 : i 0 = p := congrFun hk' 0
    have e : i = ix2 p (i 1) := by
      funext a
      match a with
      | ⟨0, _⟩ => exact h0
      | ⟨1, _⟩ => rfl
    exact congrArg (fun i => (x i, y i)) e
  · rintro ⟨n, rfl⟩
    refine ⟨S4096x40960.rowMajor (ix2 p n), List.mem_filter.mpr ⟨List.mem_finRange _, ?_⟩, ?_⟩
    · rw [Equiv.symm_apply_apply]
      refine decide_eq_true (funext fun a => ?_)
      match a with
      | ⟨0, _⟩ => rfl
    · rw [Equiv.symm_apply_apply]

theorem seconds_apply {α β : Type} (f : S4096.Idx → α × β) (j : S4096.Idx) : seconds f j = (f j).2 := rfl
theorem search_eq (x : FVec Ideal S4096x40960 .f32) (y : IVec S4096x40960 32) (ix : FVec Ideal S_ .f32) (iy : IVec S_ 32) :
    search (F := Ideal) x y ix iy = seconds (Host.argReduce (reducer_argmin_f32_i32 (F := Ideal)) x y ix iy
      reducesTo_S4096x40960_S4096_d1 h_S_) := rfl

/-- The search finds the first number at the least entry. -/
theorem argmin_first (x : FVec Ideal S4096x40960 .f32) (y : IVec S4096x40960 32) (ix : FVec Ideal S_ .f32) (iy : IVec S_ 32)
    (hy : ∀ n : Fin 40960, y (ix2 p n) = BitVec.ofNat 32 n.val) (hx : ix (Shape.Idx.first h_S_) = (⊤ : EReal))
    (hi : iy (Shape.Idx.first h_S_) = 0#32) :
    ∃ a : Fin 40960, search (F := Ideal) x y ix iy (ix1 p) = BitVec.ofNat 32 a.val ∧
      (∀ n : Fin 40960, x (ix2 p a) ≤ x (ix2 p n)) ∧ ∀ n : Fin 40960, n < a → x (ix2 p a) < x (ix2 p n) := by
  rw [search_eq, seconds_apply, Ideal.argReduce_eq_reduce2, Host.reduce2_eq_foldl_fiber, hx, hi]
  obtain ⟨h1, -, h3⟩ := foldl_least (reducer_argmin_f32_i32 (F := Ideal)) before step_or step_left step_right before_trans
    before_refl (Host.argReduceFiber x y reducesTo_S4096x40960_S4096_d1 (ix1 p)) ((⊤ : EReal), 0#32)
  have low (z : EReal × BitVec 32)
      (h3 : ∀ w ∈ Host.argReduceFiber x y reducesTo_S4096x40960_S4096_d1 (ix1 p), before z w) (n : Fin 40960) :
      before z (x (ix2 p n), BitVec.ofNat 32 n.val) := by
    rw [← hy n]
    exact h3 _ ((mem_fiber p x y _).mpr ⟨n, rfl⟩)
  have h1' : ∀ z : EReal × BitVec 32, z ∈ Host.argReduceFiber x y reducesTo_S4096x40960_S4096_d1 (ix1 p) →
      ∃ n : Fin 40960, z = (x (ix2 p n), BitVec.ofNat 32 n.val) := fun z hz => by
    obtain ⟨n, hn⟩ := (mem_fiber p x y z).mp hz
    exact ⟨n, hn.trans (by rw [hy])⟩
  replace low := low _ h3
  replace h1' := h1' ((Host.argReduceFiber x y reducesTo_S4096x40960_S4096_d1 (ix1 p)).foldl
    (reducer_argmin_f32_i32 (F := Ideal)) ((⊤ : EReal), 0#32))
  replace h1 := h1.imp_right h1'
  clear h3 h1'
  generalize (Host.argReduceFiber x y reducesTo_S4096x40960_S4096_d1 (ix1 p)).foldl
    (reducer_argmin_f32_i32 (F := Ideal)) ((⊤ : EReal), 0#32) = z at h1 low ⊢
  have key (a : Fin 40960) (h : z = (x (ix2 p a), BitVec.ofNat 32 a.val)) :
      ∃ a : Fin 40960, z.2 = BitVec.ofNat 32 a.val ∧
      (∀ n : Fin 40960, x (ix2 p a) ≤ x (ix2 p n)) ∧ ∀ n : Fin 40960, n < a → x (ix2 p a) < x (ix2 p n) := by
    subst h
    refine ⟨a, rfl, fun n => ?_, fun n hn => ?_⟩
    · rcases low n with h | ⟨h, -⟩
      · exact le_of_lt h
      · exact le_of_eq h
    · rcases low n with h | ⟨-, h⟩
      · exact h
      · exfalso
        dsimp only at h
        rw [toInt_num a.isLt, toInt_num n.isLt] at h
        have : n.val < a.val := hn
        omega
  rcases h1 with h1 | ⟨a, ha⟩
  · refine key 0 ?_
    rcases low 0 with h | ⟨h, -⟩
    · exfalso
      rw [h1] at h
      exact absurd h not_top_lt
    · rw [h1] at h ⊢
      exact Prod.ext h rfl
  · exact key a ha

/-- A ray's distance to a triangle. -/
def W : EReal := res_main_v121 v (ix2 p n)

theorem iota_at : res_main_call3_v0 v (ix2 p n) = BitVec.ofNat 32 n.val := by
  pointwise [res_main_call3_v0]
theorem top_at : res_main_call3_cst v (Shape.Idx.first h_S_) = (⊤ : EReal) := by
  show (Ideal.ofBits FTy.f32 0x7F800000#32 : EReal) = ⊤
  simp [Ideal.ofBits, Ideal.ieee]
theorem zero_at : res_main_call3_c v (Shape.Idx.first h_S_) = 0#32 := by
  unfold res_main_call3_c
  rfl

/-- The reference's triangle is the first at the least distance. -/
theorem v122_first : ∃ a : Fin 40960, res_main_v122 v (ix1 p) = BitVec.ofNat 32 a.val ∧
    (∀ n : Fin 40960, W v p a ≤ W v p n) ∧ ∀ n : Fin 40960, n < a → W v p a < W v p n := by
  unfold res_main_v122 W
  exact argmin_first p (res_main_v121 v) (res_main_call3_v0 v) (res_main_call3_cst v) (res_main_call3_c v) (iota_at v p)
    (top_at v) (zero_at v)

/-- The number found, as the column read. -/
def col (w : IVec S4096x1 32) : IVec S4096x1x1 32 :=
  shapeCast _ (select (cmpi .slt w (broadcastInDim S4096x1 ![] bcast_S_S4096x1 (constantI S_ 32 0#32))) (addi w (broadcastInDim S4096x1 ![] bcast_S_S4096x1 (constantI S_ 32 40960#32))) w) shapeCasts_S4096x1_S4096x1x1
theorem col_at (w : IVec S4096x1 32) (a : Fin 40960) (h : w (ix2 p 0) = BitVec.ofNat 32 a.val) :
    col w (ix3 p 0 0) = BitVec.ofNat 32 a.val := by
  pointwise [col]
  rw [h]
  have : IntOp.cmpi .slt (BitVec.ofNat 32 a.val) 0#32 = 0#1 := by
    rw [show IntOp.cmpi .slt (BitVec.ofNat 32 a.val) 0#32 = BitVec.ofBool (decide ((BitVec.ofNat 32 a.val).toInt < (0#32).toInt)) from rfl,
      toInt_num a.isLt, decide_eq_false (by simp)]
    rfl
  rw [this]
  rfl
theorem v5_at (a : Fin 40960) (h : res_main_v122 v (ix1 p) = BitVec.ofNat 32 a.val) :
    res_main_call4_v5 v (ix3 p 0 0) = BitVec.ofNat 32 a.val := by
  refine col_at p (res_main_v123 v) a ?_
  rw [← h]
  pointwise [res_main_v123]
/-- Whether the column is one of the array. -/
def within (w : IVec S4096x1x1 32) : IVec S4096x1 1 :=
  Host.reduce IntOp.andi (andi (cmpi .sge w (broadcastInDim S4096x1x1 ![] bcast_S_S4096x1x1 (constantI S_ 32 0#32))) (cmpi .sle w (broadcastInDim S4096x1x1 ![0, 1, 2] bcast_S1x1x1_S4096x1x1_0_1_2 (broadcastInDim S1x1x1 ![2] bcast_S1_S1x1x1_2 (constantI S1 32 40959#32))))) (constantI S_ 1 1#1) reducesTo_S4096x1x1_S4096x1_d2 h_S_
theorem within_at (w : IVec S4096x1x1 32) (a : Fin 40960) (h : w (ix3 p 0 0) = BitVec.ofNat 32 a.val) :
    within w (ix2 p 0) = 1#1 := by
  pointwise [within]
  rw [Finset.univ_unique, Finset.fold_singleton, show (default : Fin 1) = 0 from rfl, h]
  have e : IntOp.cmpi .sge (BitVec.ofNat 32 a.val) 0#32 = 1#1 := by
    rw [show IntOp.cmpi .sge (BitVec.ofNat 32 a.val) 0#32 = BitVec.ofBool (decide ((0#32).toInt ≤ (BitVec.ofNat 32 a.val).toInt)) from rfl,
      toInt_num a.isLt, decide_eq_true (by simp)]
    rfl
  have e' : IntOp.cmpi .sle (BitVec.ofNat 32 a.val) 40959#32 = 1#1 := by
    have := a.isLt
    rw [show IntOp.cmpi .sle (BitVec.ofNat 32 a.val) 40959#32 = BitVec.ofBool (decide ((BitVec.ofNat 32 a.val).toInt ≤ (40959#32).toInt)) from rfl,
      toInt_num a.isLt, decide_eq_true (by show (a.val : Int) ≤ 40959; omega)]
    rfl
  rw [e, e']
  rfl
theorem gather_at (x : FVec Ideal S4096x40960 .f32) (w : IVec S4096x1x1 32) (a : Fin 40960) (h : w (ix3 p 0 0) = BitVec.ofNat 32 a.val) :
    Host.gather gather_S4096x40960_S4096x1x1_S4096x1_n_1_0_0_1_2_11 x w (ix2 p 0) = x (ix2 p a) := by
  unfold Host.gather
  refine congrArg x (funext fun b => Fin.ext ?_)
  have hb : b = 0 ∨ b = 1 := by
    match b with
    | ⟨0, _⟩ => exact Or.inl rfl
    | ⟨1, _⟩ => exact Or.inr rfl
  show GatherDims.start _ _ w b + GatherDims.batchCoord _ _ b + GatherDims.offCoord _ _ b = _
  rcases hb with rfl | rfl
  · rw [GatherDims.start_batching _ _ _ _ (List.mem_singleton.mpr rfl),
      GatherDims.offCoord_eq_zero _ _ _ (fun h => ((GatherDims.mem_sKept _ _).mp h).2 (List.mem_singleton.mpr rfl))]
    unfold GatherDims.batchCoord
    rw [dif_pos (show (0 : Fin 2) ∈ GatherDims.operandBatchingDims gather_S4096x40960_S4096x1x1_S4096x1_n_1_0_0_1_2_11 from List.mem_singleton.mpr rfl)]
    show 0 + p.val + 0 = p.val
    omega
  · rw [GatherDims.batchCoord_eq_zero _ _ _ (fun h => absurd (List.mem_singleton.mp h) (by decide)),
      GatherDims.offCoord_eq_zero _ _ _ (fun h => ((GatherDims.mem_sKept _ _).mp h).1 (List.mem_singleton.mpr rfl))]
    unfold GatherDims.start
    rw [dif_pos (show (1 : Fin 2) ∈ GatherDims.startIndexMap gather_S4096x40960_S4096x1x1_S4096x1_n_1_0_0_1_2_11 from List.mem_singleton.mpr rfl)]
    have hsi (k) : GatherDims.siIdx gather_S4096x40960_S4096x1x1_S4096x1_n_1_0_0_1_2_11 (ix2 p 0) k = ix3 p 0 0 := by
      funext b
      refine Fin.ext ?_
      match b with
      | ⟨0, _⟩ => rfl
      | ⟨1, _⟩ => rfl
      | ⟨2, _⟩ => exact congrArg Fin.val (Subsingleton.elim (α := Fin 1) _ _)
    rw [hsi, h, toInt_num a.isLt]
    show min a.val 40959 + 0 + 0 = a.val
    omega
/-- The distances read back, where in range. -/
def back (c : IVec S4096x1 1) (x : FVec Ideal S4096x1 .f32) : FVec Ideal S4096 .f32 :=
  shapeCast _ (select c x (broadcastInDim S4096x1 ![] bcast_S_S4096x1 (constant S_ .f32 0x7FC00000#32))) shapeCasts_S4096x1_S4096
theorem back_at (c : IVec S4096x1 1) (x : FVec Ideal S4096x1 .f32) (h : c (ix2 p 0) = 1#1) : back c x (ix1 p) = x (ix2 p 0) := by
  pointwise [back]
  rw [h]
  rfl
theorem v125_at (a : Fin 40960) (h : res_main_v122 v (ix1 p) = BitVec.ofNat 32 a.val) :
    res_main_v125 v (ix1 p) = W v p a := by
  have h5 := v5_at v p a h
  exact (back_at p (within (res_main_call4_v5 v)) _ (within_at p _ a h5)).trans (gather_at p _ _ a h5)
theorem v127_at (a : Fin 40960) (h : res_main_v122 v (ix1 p) = BitVec.ofNat 32 a.val) :
    res_main_v127 v (ix1 p) = Scalar.cmpf (F := Ideal) .olt (W v p a) (Scalar.ofBits .f32 0x40A00000#32) := by
  rw [← v125_at v p a h]
  pointwise [res_main_v127]

end Cert.Proof.Inter.Ref
-- ==== Proof.InterMain.lean ====
module
public import proofs.«01_k».proof.Proof.InterArr
public import proofs.«01_k».proof.Proof.InterSearch
/-! The nearest-hit kernel's results after its run are the reference's. -/
@[expose] public section
noncomputable section
namespace Cert.Proof.Inter
open Idealize.ShloMosaic Idealize.ShloMosaic.TcCoe Idealize.SL.Sem Cert.IntersectIdeal Cert.IntersectIdeal.Gen

section Host
variable (W : Valuation τ sig (Elt Ideal))
theorem h0_v3 : StableHlo.after hostOps0 W (Proc.devRef .tc main_v3) = concatenate S4096x8 1
    [⟨S4096x3, (shapeCast _ (W (Proc.devRef .tc main_arg0)) shapeCasts_S1x4096x3_S4096x3 : FVec Ideal S4096x3 .f32)⟩,
     ⟨S4096x3, (shapeCast _ (W (Proc.devRef .tc main_arg1)) shapeCasts_S1x4096x3_S4096x3 : FVec Ideal S4096x3 .f32)⟩,
     ⟨S4096x2, (broadcastInDim S4096x2 ![] bcast_S_S4096x2 (constant S_ .f32 0x00000000#32) : FVec Ideal S4096x2 .f32)⟩] concatenates_S4096x3_S4096x3_S4096x2_S4096x8_d1 := by
  unfold hostOps0; after_results_simp; rfl
/-- Where a distance is below the bound of the march. -/
def near (x : FVec Ideal S4096 .f32) : IVec S4096 1 := cmpf .olt x (broadcastInDim S4096 ![] bcast_S_S4096 (constant S_ .f32 0x40A00000#32))
/-- The distance kept of a ray: its least one where below the bound. -/
def kept (x : FVec Ideal S4096 .f32) : FVec Ideal S4096 .f32 :=
  select (near x) x (broadcastInDim S4096 ![] bcast_S_S4096 (id (constant S_ .f32 0x00000000#32)))
/-- The triangle kept of a ray. -/
def keptAt (x : FVec Ideal S4096 .f32) (y : IVec S4096 32) : IVec S4096 32 :=
  select (near x) y (broadcastInDim S4096 ![] bcast_S_S4096 (id (constantI S_ 32 4294967295#32)))
theorem h1_v7 : StableHlo.after (List.flatten [hostOps1, hostOps1_1, hostOps1_2, hostOps1_3]) W (Proc.devRef .tc main_v7) =
    kept (W (Proc.devRef .tc main_v4_0)) := by
  unfold hostOps1 hostOps1_1 hostOps1_2 hostOps1_3 kept near
  simp only [List.flatten_cons, List.flatten_nil, List.append_nil, List.cons_append, List.nil_append]
  after_results_simp; rfl
theorem h1_v8 : StableHlo.after (List.flatten [hostOps1, hostOps1_1, hostOps1_2, hostOps1_3]) W (Proc.devRef .tc main_v8) =
    keptAt (W (Proc.devRef .tc main_v4_0)) (W (Proc.devRef .tc main_v4_1)) := by
  unfold hostOps1 hostOps1_1 hostOps1_2 hostOps1_3 keptAt near
  simp only [List.flatten_cons, List.flatten_nil, List.append_nil, List.cons_append, List.nil_append]
  after_results_simp; rfl
end Host

variable (m : (ℓ : Loc nD τ sig) → Buf (Elt Ideal) ℓ) (c : Dev nD) (v : Valuation Cert.IntersectReferenceIdeal.τ Cert.IntersectReferenceIdeal.sig (Elt Ideal))
  (p : Fin 4096) (n : Fin 40960)

/-- The two programs' arguments agree. -/
structure Same : Prop where
  e0 : v (Proc.devRef .tc Cert.IntersectReferenceIdeal.main_arg0) = m ((c.tc : Thread nD τ).loc main_arg0)
  e1 : v (Proc.devRef .tc Cert.IntersectReferenceIdeal.main_arg1) = m ((c.tc : Thread nD τ).loc main_arg1)
  e2 : v (Proc.devRef .tc Cert.IntersectReferenceIdeal.main_arg2) = m ((c.tc : Thread nD τ).loc main_arg2)

/-- The rays' array, of the two arguments. -/
def rays (x0 x1 : FVec Ideal S1x4096x3 .f32) : FVec Ideal S4096x8 .f32 := concatenate S4096x8 1
    [⟨S4096x3, (shapeCast _ x0 shapeCasts_S1x4096x3_S4096x3 : FVec Ideal S4096x3 .f32)⟩, ⟨S4096x3, (shapeCast _ x1 shapeCasts_S1x4096x3_S4096x3 : FVec Ideal S4096x3 .f32)⟩,
     ⟨S4096x2, (broadcastInDim S4096x2 ![] bcast_S_S4096x2 (constant S_ .f32 0x00000000#32) : FVec Ideal S4096x2 .f32)⟩] concatenates_S4096x3_S4096x3_S4096x2_S4096x8_d1
theorem od_eq : od m c = rays (m ((c.tc : Thread nD τ).loc main_arg0)) (m ((c.tc : Thread nD τ).loc main_arg1)) :=
  h0_v3 (fun b => m (c, b))
theorem rays_0 (x0 x1 : FVec Ideal S1x4096x3 .f32) : rays x0 x1 (ix2 p 0) = x0 (ix3 0 p 0) := by pointwise [rays]
theorem rays_1 (x0 x1 : FVec Ideal S1x4096x3 .f32) : rays x0 x1 (ix2 p 1) = x0 (ix3 0 p 1) := by pointwise [rays]
theorem rays_2 (x0 x1 : FVec Ideal S1x4096x3 .f32) : rays x0 x1 (ix2 p 2) = x0 (ix3 0 p 2) := by pointwise [rays]
theorem rays_3 (x0 x1 : FVec Ideal S1x4096x3 .f32) : rays x0 x1 (ix2 p 3) = x1 (ix3 0 p 0) := by pointwise [rays]
theorem rays_4 (x0 x1 : FVec Ideal S1x4096x3 .f32) : rays x0 x1 (ix2 p 4) = x1 (ix3 0 p 1) := by pointwise [rays]
theorem rays_5 (x0 x1 : FVec Ideal S1x4096x3 .f32) : rays x0 x1 (ix2 p 5) = x1 (ix3 0 p 2) := by pointwise [rays]

section Eq
variable {m c v} (h : Same m c v)
include h
/-- The kernel's distance from a ray to a triangle is the reference's. -/
theorem far_eq : far (od m c) (td m c) p n = Ref.W v p n := by
  have ho (k : Fin 3) : Ref.o v p k = m ((c.tc : Thread nD τ).loc main_arg0) (ix3 0 p k) := congrFun h.e0 (ix3 0 p k)
  have hd (k : Fin 3) : Ref.d v p k = m ((c.tc : Thread nD τ).loc main_arg1) (ix3 0 p k) := congrFun h.e1 (ix3 0 p k)
  have hg (s : Fin 16) : Ref.g v n s = td m c (ix2 s n) :=
    (congrFun h.e2 (ix2 s n)).trans (congrFun (V_main_arg2 m c) (ix2 s n)).symm
  unfold far Ref.W
  rw [Ref.v121_at, ← Ref.meet_at, ho, ho, ho, hd, hd, hd, hg, hg, hg, hg, hg, hg, hg, hg, hg, od_eq, rays_0, rays_1, rays_2,
    rays_3, rays_4, rays_5]
theorem farN_eq : farN (od m c) (td m c) p n.val = Ref.W v p n := (dif_pos n.isLt).trans (far_eq p n h)

end Eq

/-- The bound of the march is below the start of the search. -/
theorem bound_le : (Scalar.ofBits (F := Ideal) .f32 0x40A00000#32 : EReal) ≤ Scalar.ofBits (F := Ideal) .f32 0x501502F9#32 := by
  show (Ideal.ofBits FTy.f32 0x40A00000#32 : EReal) ≤ Ideal.ofBits FTy.f32 0x501502F9#32
  simp [Ideal.ofBits, Ideal.ieee]
  exact_mod_cast (by norm_num : (10485760 : ℝ) * (2 ^ 21)⁻¹ ≤ 9765625 * 2 ^ 10)
/-- The bound of the march. -/
def bound : EReal := Scalar.ofBits (F := Ideal) .f32 0x40A00000#32
theorem kept_at (x : FVec Ideal S4096 .f32) : kept x (ix1 p) = if (x (ix1 p) : EReal) < bound then (x (ix1 p) : EReal) else 0 := by
  unfold kept near
  simp only [id_eq]
  pointwise [bound]
theorem keptAt_at (x : FVec Ideal S4096 .f32) (y : IVec S4096 32) :
    keptAt x y (ix1 p) = if (x (ix1 p) : EReal) < bound then y (ix1 p) else 4294967295#32 := by
  unfold keptAt near
  simp only [id_eq]
  pointwise [bound]
theorem eta1 {n : ℕ} (y : (⟨1, ![n]⟩ : Shape).Idx) : ∃ p : Fin n, y = ix1 p :=
  ⟨y 0, by funext a; match a with | ⟨0, _⟩ => rfl⟩

/-- The reference's least distance and its triangle. -/
def leastR : EReal := Cert.IntersectReferenceIdeal.Value.res_main_v125 v (ix1 p)
def whichR : BitVec 32 := Cert.IntersectReferenceIdeal.Value.res_main_v122 v (ix1 p)

section Eq
variable {m c v} (h : Same m c v)
include h
/-- The run's least distance and its triangle against the reference's. -/
theorem found_at : (least m c p < bound ↔ leastR v p < bound) ∧
    (least m c p < bound → least m c p = leastR v p ∧ which m c p = whichR v p) := by
  obtain ⟨a, ha, hle, hlt⟩ := Ref.v122_first v p
  unfold leastR whichR
  rw [Ref.v125_at v p a ha, ha, ← farN_eq p a h]
  obtain ⟨b, r, rfl⟩ : ∃ (b : Fin 16) (r : Fin 256), p = ray b r :=
    ⟨⟨p.val / 256, by have := p.isLt; omega⟩, ⟨p.val % 256, Nat.mod_lt _ (by decide)⟩, Fin.ext (by show p.val = 256 * (p.val / 256) + p.val % 256; omega)⟩
  refine found m c b r bound_le a.isLt (fun n hn => ?_) (fun n hn => ?_)
  · rw [farN_eq _ a h, farN_eq _ ⟨n, hn⟩ h]
    exact hle _
  · rw [farN_eq _ a h, farN_eq _ ⟨n, hn.trans a.isLt⟩ h]
    exact hlt _ hn

/-- The results after the run's last operations. -/
theorem r0 : Pipeline.afterTail₀ cfgs (dats m) 0 (V0 m) [hostOps1, hostOps1_1, hostOps1_2, hostOps1_3] c main_v7 =
    kept (Cert.IntersectReferenceIdeal.Value.res_main_v125 v) := by
  funext y
  obtain ⟨p, rfl⟩ := eta1 y
  unfold Pipeline.afterTail₀
  refine (congrFun (h1_v7 _) (ix1 p)).trans ?_
  rw [Pipeline.withArrays_arr spec0 launch0.win.arr_inj c (V0 m c) (fun w => (dats m 0 c).arrAt w cfg0.N) 2]
  refine (kept_at p _).trans (Eq.trans ?_ (kept_at p _).symm)
  obtain ⟨h1, h2⟩ := found_at p h
  change (if least m c p < bound then least m c p else 0) = if leastR v p < bound then leastR v p else 0
  by_cases g : least m c p < bound
  · rw [if_pos g, if_pos (h1.mp g), (h2 g).1]
  · rw [if_neg g, if_neg (fun g' => g (h1.mpr g'))]
theorem r1 : Pipeline.afterTail₀ cfgs (dats m) 0 (V0 m) [hostOps1, hostOps1_1, hostOps1_2, hostOps1_3] c main_v8 =
    keptAt (Cert.IntersectReferenceIdeal.Value.res_main_v125 v) (Cert.IntersectReferenceIdeal.Value.res_main_v122 v) := by
  funext y
  obtain ⟨p, rfl⟩ := eta1 y
  unfold Pipeline.afterTail₀
  refine (congrFun (h1_v8 _) (ix1 p)).trans ?_
  rw [Pipeline.withArrays_arr spec0 launch0.win.arr_inj c (V0 m c) (fun w => (dats m 0 c).arrAt w cfg0.N) 2,
    Pipeline.withArrays_arr spec0 launch0.win.arr_inj c (V0 m c) (fun w => (dats m 0 c).arrAt w cfg0.N) 3]
  refine (keptAt_at p _ _).trans (Eq.trans ?_ (keptAt_at p _ _).symm)
  obtain ⟨h1, h2⟩ := found_at p h
  change (if least m c p < bound then which m c p else 4294967295#32) = if leastR v p < bound then whichR v p else 4294967295#32
  by_cases g : least m c p < bound
  · rw [if_pos g, if_pos (h1.mp g), (h2 g).2]
  · rw [if_neg g, if_neg (fun g' => g (h1.mpr g'))]
end Eq

/-- The run's results are the reference's, from equal arguments. -/
theorem run (m : (ℓ : Loc nD τ sig) → Buf (Elt Ideal) ℓ) (ρ : Dev nD → PrngReg) (v : Dev nD → Valuation Cert.IntersectReferenceIdeal.τ Cert.IntersectReferenceIdeal.sig (Elt Ideal))
    (h : ∀ c, Same m c (v c)) : θ_run defs (onTc (τ := τ) (main (F := Ideal))) ⟨m, fun _ => 0, ρ⟩ (fun r => ∀ c : Dev nD,
      r.2.mem ((c.tc : Thread nD τ).loc main_v7) = kept (Cert.IntersectReferenceIdeal.Value.res_main_v125 (v c))
      ∧ r.2.mem ((c.tc : Thread nD τ).loc main_v8) = keptAt (Cert.IntersectReferenceIdeal.Value.res_main_v125 (v c)) (Cert.IntersectReferenceIdeal.Value.res_main_v122 (v c))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ q c => ⟨
      ((q.1 c).2 main_v7 (Pipeline.mem_restRefs_of main_v7 (by decide) (by decide))).trans (r0 (h c)),
      ((q.1 c).2 main_v8 (Pipeline.mem_restRefs_of main_v8 (by decide) (by decide))).trans (r1 (h c)), q.2 c⟩)
    (θ_run_and (run_main m ρ) (unchanged m ρ))
end Cert.Proof.Inter

namespace Cert.Proof.Inter
open Idealize.ShloMosaic Idealize.ShloMosaic.TcCoe Idealize.SL.Sem Cert.IntersectReferenceIdeal Cert.IntersectReferenceIdeal.Gen Cert.IntersectReferenceIdeal.Value
variable (v : Valuation τ sig (Elt Ideal))
/-- The reference's own terms for its results. -/
theorem kept_term (x : FVec Ideal S4096 .f32) :
    select (cmpf .olt x (broadcastInDim S4096 ![] bcast_S_S4096 (constant S_ .f32 0x40A00000#32))) x
      (broadcastInDim S4096 ![] bcast_S_S4096 (id (constant S_ .f32 0x00000000#32))) = kept x := rfl
theorem keptAt_term (x : FVec Ideal S4096 .f32) (y : IVec S4096 32) :
    select (cmpf .olt x (broadcastInDim S4096 ![] bcast_S_S4096 (constant S_ .f32 0x40A00000#32))) y
      (broadcastInDim S4096 ![] bcast_S_S4096 (id (constantI S_ 32 4294967295#32))) = keptAt x y := rfl
theorem kept_ref : select (res_main_v127 v) (res_main_v125 v : FVec Ideal S4096 .f32)
    (broadcastInDim S4096 ![] bcast_S_S4096 (id (constant S_ .f32 0x00000000#32)) : FVec Ideal S4096 .f32) = kept (res_main_v125 v) :=
  kept_term (res_main_v125 v)
theorem keptAt_ref : select (res_main_v127 v) (res_main_v122 v : IVec S4096 32)
    (broadcastInDim S4096 ![] bcast_S_S4096 (id (constantI S_ 32 4294967295#32)) : IVec S4096 32) = keptAt (res_main_v125 v) (res_main_v122 v) :=
  keptAt_term (res_main_v125 v) (res_main_v122 v)
end Cert.Proof.Inter
-- ==== Proof.lean ====
module

public import proofs.«01_k».proof.Defs
public import proofs.«01_k».proof.Proof.Gen.Kernel
public import proofs.«01_k».proof.Proof.Gen.Kernel.Skeleton
public import proofs.«01_k».proof.Proof.Gen.KernelIdeal
public import proofs.«01_k».proof.Proof.Gen.KernelIdeal.Skeleton
public import proofs.«01_k».proof.Proof.Gen.ReferenceIdeal
public import proofs.«01_k».proof.Proof.Gen.ReferenceIdeal.Run
public import proofs.«01_k».proof.Proof.Gen.Pre_in_range
public import proofs.«01_k».proof.Proof.Gen.Sampler
public import proofs.«01_k».proof.Proof.Gen.Sampler.Skeleton
public import proofs.«01_k».proof.Proof.Gen.Sampler.Launch
public import proofs.«01_k».proof.Proof.Gen.Sampler.Points
public import proofs.«01_k».proof.Proof.Gen.Sampler.Frame
public import proofs.«01_k».proof.Proof.Gen.SamplerIdeal
public import proofs.«01_k».proof.Proof.Gen.SamplerIdeal.Skeleton
public import proofs.«01_k».proof.Proof.Gen.SamplerIdeal.Launch
public import proofs.«01_k».proof.Proof.Gen.SamplerIdeal.Points
public import proofs.«01_k».proof.Proof.Gen.SamplerIdeal.Frame
public import proofs.«01_k».proof.Proof.Gen.SamplerReferenceIdeal
public import proofs.«01_k».proof.Proof.Gen.SamplerReferenceIdeal.Run
public import proofs.«01_k».proof.Proof.Gen.Intersect
public import proofs.«01_k».proof.Proof.Gen.Intersect.Skeleton
public import proofs.«01_k».proof.Proof.Gen.Intersect.Launch
public import proofs.«01_k».proof.Proof.Gen.Intersect.Points
public import proofs.«01_k».proof.Proof.Gen.Intersect.Frame
public import proofs.«01_k».proof.Proof.Gen.IntersectIdeal
public import proofs.«01_k».proof.Proof.Gen.IntersectIdeal.Skeleton
public import proofs.«01_k».proof.Proof.Gen.IntersectIdeal.Launch
public import proofs.«01_k».proof.Proof.Gen.IntersectIdeal.Points
public import proofs.«01_k».proof.Proof.Gen.IntersectIdeal.Frame
public import proofs.«01_k».proof.Proof.Gen.IntersectReferenceIdeal
public import proofs.«01_k».proof.Proof.InterRun
public import proofs.«01_k».proof.Proof.B.Main
public import proofs.«01_k».proof.Proof.I.Main
public import proofs.«01_k».proof.Proof.RefValue
public import proofs.«01_k».proof.Proof.SampMain
public import proofs.«01_k».proof.Proof.InterMain
/-! The claims. The kernel's run ends with its three results at closed terms of the arguments (`run_main`), at either reading of the
    floats; the reference's run ends with its results at its own operations' terms, which are those closed terms when the
    arguments' words are in range. -/
@[expose] public section
noncomputable section
namespace Cert.Proof
open Idealize.ShloMosaic Idealize.SL.Sem

section Range
variable {F : FTy → Type} [FloatOps F]

/-- What the precondition says of the three integer arguments. -/
theorem in_range (x0 : FVec F Cert.KernelIdeal.S1x8000x3 .f32) (x1 : IVec Cert.KernelIdeal.S10000x4x3 32) (x2 : IVec Cert.KernelIdeal.S40000 32)
    (x3 : IVec Cert.KernelIdeal.S4096 32)
    (h : (Cert.Pre_in_range.fn (F := F) x0 x1 x2 x3).1 = (fun _ => 1#1) ∧ (Cert.Pre_in_range.fn (F := F) x0 x1 x2 x3).2.1 = (fun _ => 1#1)
      ∧ (Cert.Pre_in_range.fn (F := F) x0 x1 x2 x3).2.2 = (fun _ => 1#1)) :
    (∀ y, (x1 y).toNat < 8000) ∧ (∀ y, (x2 y).toNat < 10000) ∧ ∀ y, (x3 y).toNat < 40000 := by
  have both (p q : Bool) : IntOp.andi (BitVec.ofBool p) (BitVec.ofBool q) = BitVec.ofBool (p && q) := by cases p <;> cases q <;> decide
  have isOne (p : Bool) : (BitVec.ofBool p = 1#1) ↔ p = true := by cases p <;> decide
  have key (n : ℕ) (hn : n < 2 ^ 31) (v : BitVec 32) (e : IntOp.andi (IntOp.cmpi .sge v 0#32) (IntOp.cmpi .slt v (BitVec.ofNat 32 n)) = 1#1) : v.toNat < n := by
    simp only [IntOp.cmpi, both, isOne, Bool.and_eq_true, BitVec.sle_eq_decide, BitVec.slt_eq_decide, decide_eq_true_eq,
      BitVec.toInt_eq_toNat_cond, BitVec.toNat_ofNat, Nat.reducePow, Nat.reduceMod] at e hn
    omega
  obtain ⟨h1, h2, h3⟩ := h
  exact ⟨fun y => key 8000 (by decide) _ (congrFun h1 y), fun y => key 10000 (by decide) _ (congrFun h2 y), fun y => key 40000 (by decide) _ (congrFun h3 y)⟩

end Range

theorem ok_P (m : (ℓ : Loc Cert.Kernel.nD Cert.Kernel.τ Cert.Kernel.sig) → Buf (Elt Bits) ℓ) (h : Cert.Pre_Kernel m) : B.PreOK m :=
  fun d => in_range _ _ _ _ (h d)

theorem ok_PI (m : (ℓ : Loc Cert.KernelIdeal.nD Cert.KernelIdeal.τ Cert.KernelIdeal.sig) → Buf (Elt Ideal) ℓ) (h : Cert.Pre_KernelIdeal m) : I.PreOK m :=
  fun d => in_range _ _ _ _ (h d)

theorem frame_P : Cert.quiescent_Kernel := fun m ρ hpre =>
  (θ_run Cert.Kernel.defs _ _).mono (fun _ h => ⟨fun c => (h.1 c).1, h.2⟩) (B.run_main (F := Bits) m ρ (ok_P m hpre))

theorem frame_PI : Cert.quiescent_KernelIdeal := fun m ρ hpre =>
  (θ_run Cert.KernelIdeal.defs _ _).mono (fun _ h => ⟨fun c => (h.1 c).1, h.2⟩) (I.run_main (F := Ideal) m ρ (ok_PI m hpre))

theorem frame_RI : Cert.quiescent_ReferenceIdeal := fun m ρ _ =>
  (θ_run Cert.ReferenceIdeal.defs _ _).mono (fun r h => ⟨fun c => (h c).2.2.2, sem_eq_zero_of_no_sems (by decide) r.2⟩)
    (Cert.ReferenceIdeal.Value.run (F := Ideal) m ρ)

theorem frame_RI_pre : Cert.quiescent_ReferenceIdeal_pre_in_range := fun m ρ _ => frame_RI m ρ trivial

section Values
open Cert.ReferenceIdeal Cert.ReferenceIdeal.Gen
variable {F : FTy → Type} [FloatOps F] (m : (ℓ : Loc Cert.KernelIdeal.nD Cert.KernelIdeal.τ Cert.KernelIdeal.sig) → Buf (Elt F) ℓ) (d : Dev Cert.KernelIdeal.nD)

/-- The faces' records, as the reference computes them. -/
theorem res0_eq (h : ∀ y, (I.a1 m d y).toNat < 8000) : R.triR (R.gatR (I.a0 m d) (I.a1 m d)) = I.res0 m d := by
  funext y
  obtain ⟨r, j, rfl⟩ := R.eta2 (m := 9) (n := 40000) y
  exact R.triR_eq (I.a0 m d) (I.a1 m d) h r j (by decide)

theorem ix1_eq {n : ℕ} (p : Fin n) : (I.ix1 p : (⟨1, ![n]⟩ : Shape).Idx) = ix1 p := by
  funext a
  match a with
  | ⟨0, _⟩ => rfl

theorem res1_apply (p : Fin 4096) : I.res1 m d (ix1 p) = I.tetOf (F := F) (I.a2 m d) (I.a3 m d (ix1 p)) := by
  unfold I.res1 I.tetG
  exact congrArg (fun i => I.tetOf (F := F) (I.a2 m d) (I.a3 m d i)) (ix1_eq p)

theorem res2_apply (p : Fin 4096) (q : Fin 12) : I.res2 m d (ix2 p q)
    = I.crd (I.cageV (I.a0 m d)) (I.tvidV (I.a1 m d)) (I.a2 m d) (I.a3 m d (ix1 p)) (q.val / 3) (q.val % 3) := by
  unfold I.res2
  exact congrArg (fun i => I.crd (I.cageV (I.a0 m d)) (I.tvidV (I.a1 m d)) (I.a2 m d) (I.a3 m d i) (q.val / 3) (q.val % 3)) (ix1_eq p)

/-- The rays' tetrahedra. -/
theorem res1_eq (h : ∀ y, (I.a3 m d y).toNat < 40000) : R.closestR (I.a2 m d) (I.a3 m d) = I.res1 m d := by
  funext y
  obtain ⟨p, rfl⟩ := R.eta1 (m := 4096) y
  rw [R.closestR_apply (F := F) _ _ h, res1_apply]

/-- Their corners. -/
theorem res2_eq (h1 : ∀ y, (I.a1 m d y).toNat < 8000) (h2 : ∀ y, (I.a2 m d y).toNat < 10000) (h3 : ∀ y, (I.a3 m d y).toNat < 40000) :
    R.vertR (I.a0 m d) (R.hitT (I.a1 m d) (R.closestR (I.a2 m d) (I.a3 m d))) = I.res2 m d := by
  have hc (y : S4096.Idx) : (R.closestR (I.a2 m d) (I.a3 m d) y).toNat < 10000 := by
    rw [res1_eq m d h3]
    exact h2 _
  funext y
  obtain ⟨p, q, rfl⟩ := R.eta2 (m := 4096) (n := 12) y
  rw [R.vertR_apply _ _ (R.hitT_lt _ h1 _), R.hitT_apply (F := F) _ _ hc, R.closestR_apply (F := F) _ _ h3, res2_apply]
  unfold I.crd
  rfl

end Values

theorem algebraic_PI_RI : Cert.algebraic_KernelIdeal_ReferenceIdeal := by
  intro m g m' g' hpre hargs
  refine ⟨I.res0 m, I.res1 m, I.res2 m,
    (θ_run Cert.KernelIdeal.defs _ _).mono (fun _ h c => ⟨(h.1 c).2.1, (h.1 c).2.2.1, (h.1 c).2.2.2, (h.1 c).1⟩) (I.run_main (F := Ideal) m g (ok_PI m hpre)),
    (θ_run Cert.ReferenceIdeal.defs _ _).mono (fun _ h c => ⟨(h c).1.trans ?_, (h c).2.1.trans ?_, (h c).2.2.1.trans ?_, (h c).2.2.2⟩)
      (Cert.ReferenceIdeal.Value.run (F := Ideal) m' g')⟩
  all_goals
    obtain ⟨e0, e1, e2, e3⟩ := hargs c
    obtain ⟨h1, h2, h3⟩ := ok_PI m hpre c
  · unfold Cert.ReferenceIdeal.Value.res_main_v57
    rw [e0, e1]
    exact res0_eq m c h1
  · rw [e2, e3]
    exact res1_eq m c h3
  · unfold Cert.ReferenceIdeal.Value.res_main_v58
    rw [e0, e1, e2, e3]
    exact res2_eq m c h1 h2 h3

/-! The sampler by itself. -/
theorem frame_S : Cert.quiescent_Sampler := fun m ρ _ => Cert.Sampler.Gen.frame m ρ

theorem frame_SI : Cert.quiescent_SamplerIdeal := fun m ρ _ => Cert.SamplerIdeal.Gen.frame m ρ

theorem frame_RSI : Cert.quiescent_SamplerReferenceIdeal := fun m ρ _ =>
  (θ_run Cert.SamplerReferenceIdeal.defs _ _).mono (fun r h => ⟨fun c => (h c).2.2.2.2.2.2, sem_eq_zero_of_no_sems (by decide) r.2⟩)
    (Cert.SamplerReferenceIdeal.Value.run (F := Ideal) m ρ)

theorem algebraic_SI_RSI : Cert.algebraic_SamplerIdeal_SamplerReferenceIdeal := fun m g m' g' _ hargs =>
  ⟨fun c => Samp.Ref.o0 (StableHlo.launchContents m' c), fun c => Samp.Ref.o1 (StableHlo.launchContents m' c), fun c => Samp.Ref.o2 (StableHlo.launchContents m' c),
    fun c => Cert.SamplerReferenceIdeal.Value.res_main_v4 (StableHlo.launchContents m' c), fun c => Samp.Ref.o4 (StableHlo.launchContents m' c),
    fun c => Samp.Ref.o5 (StableHlo.launchContents m' c),
    Samp.run m g (fun c => StableHlo.launchContents m' c) (fun c => ⟨(hargs c).1, (hargs c).2.1, (hargs c).2.2.1, (hargs c).2.2.2.1, (hargs c).2.2.2.2⟩),
    Cert.SamplerReferenceIdeal.Value.run (F := Ideal) m' g'⟩

/-! The nearest-hit search by itself. -/
theorem frame_T : Cert.quiescent_Intersect := fun m ρ _ => Cert.Intersect.Gen.frame m ρ

theorem frame_TI : Cert.quiescent_IntersectIdeal := fun m ρ _ => Cert.IntersectIdeal.Gen.frame m ρ

theorem frame_RTI : Cert.quiescent_IntersectReferenceIdeal := fun m ρ _ =>
  (θ_run Cert.IntersectReferenceIdeal.defs _ _).mono (fun r h => ⟨fun c => (h c).2.2, sem_eq_zero_of_no_sems (by decide) r.2⟩)
    (Cert.IntersectReferenceIdeal.Value.run (F := Ideal) m ρ)

theorem algebraic_TI_RTI : Cert.algebraic_IntersectIdeal_IntersectReferenceIdeal := fun m g m' g' _ hargs =>
  ⟨fun c => Inter.kept (Cert.IntersectReferenceIdeal.Value.res_main_v125 (StableHlo.launchContents m' c)),
    fun c => Inter.keptAt (Cert.IntersectReferenceIdeal.Value.res_main_v125 (StableHlo.launchContents m' c))
      (Cert.IntersectReferenceIdeal.Value.res_main_v122 (StableHlo.launchContents m' c)),
    Inter.run m g (fun c => StableHlo.launchContents m' c) (fun c => ⟨(hargs c).1, (hargs c).2.1, (hargs c).2.2⟩),
    (θ_run Cert.IntersectReferenceIdeal.defs _ _).mono (fun _ h c =>
        ⟨(h c).1.trans (Inter.kept_ref _), (h c).2.1.trans (Inter.keptAt_ref _), (h c).2.2⟩)
      (Cert.IntersectReferenceIdeal.Value.run (F := Ideal) m' g')⟩

/-- Every claim. -/
theorem claim : Cert.Claim :=
  ⟨Cert.Kernel.Gen.facts, Cert.KernelIdeal.Gen.facts, Cert.ReferenceIdeal.Gen.facts, Cert.Sampler.Gen.facts, Cert.SamplerIdeal.Gen.facts,
    Cert.SamplerReferenceIdeal.Gen.facts, Cert.Intersect.Gen.facts, Cert.IntersectIdeal.Gen.facts,
    Cert.IntersectReferenceIdeal.Gen.facts, Cert.Pre_in_range.Gen.facts,
    frame_P, frame_PI, frame_RI, frame_RI_pre, frame_S, frame_SI, frame_RSI, frame_T, frame_TI, frame_RTI,
    trivial, algebraic_PI_RI, trivial, algebraic_SI_RSI, trivial, algebraic_TI_RTI⟩

end Cert.Proof
end
